-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_v95) = v2 c
          ∧ r.2.mem ((c.tc : Thread Cert.Reference6Ideal.nD Cert.Reference6Ideal.τ).loc Cert.Reference6Ideal.main_v84) = v3 c
          ∧ r.2.mem ((c.tc : Thread Cert.Reference6Ideal.nD Cert.Reference6Ideal.τ).loc Cert.Reference6Ideal.main_v106) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x1024x4096 : Shape := ⟨3, ![4, 1024, 4096]⟩
abbrev S4x4096x256 : Shape := ⟨3, ![4, 4096, 256]⟩
abbrev S4x2x128x4096 : Shape := ⟨4, ![4, 2, 128, 4096]⟩
abbrev S4x24x4096 : Shape := ⟨3, ![4, 24, 4096]⟩
abbrev S4x4096x128 : Shape := ⟨3, ![4, 4096, 128]⟩
abbrev S_ : Shape := ⟨0, ![]⟩
abbrev S4x4096x512 : Shape := ⟨3, ![4, 4096, 512]⟩
abbrev S4x8x512x2x128 : Shape := ⟨5, ![4, 8, 512, 2, 128]⟩
abbrev S4x2x8x128x512 : Shape := ⟨5, ![4, 2, 8, 128, 512]⟩
abbrev S4x2x8x16x512 : Shape := ⟨5, ![4, 2, 8, 16, 512]⟩
abbrev S4x2x8x144x512 : Shape := ⟨5, ![4, 2, 8, 144, 512]⟩
abbrev S4x16x256x2x128 : Shape := ⟨5, ![4, 16, 256, 2, 128]⟩
abbrev S4x2x16x128x256 : Shape := ⟨5, ![4, 2, 16, 128, 256]⟩
abbrev S4x2x16x16x256 : Shape := ⟨5, ![4, 2, 16, 16, 256]⟩
abbrev S4x2x16x144x256 : Shape := ⟨5, ![4, 2, 16, 144, 256]⟩
abbrev S2x256x1024 : Shape := ⟨3, ![2, 256, 1024]⟩
abbrev S4x4096x1024 : Shape := ⟨3, ![4, 4096, 1024]⟩
abbrev S1x1024x256 : Shape := ⟨3, ![1, 1024, 256]⟩
abbrev S1x2x128x256 : Shape := ⟨4, ![1, 2, 128, 256]⟩
abbrev S1x4096x512 : Shape := ⟨3, ![1, 4096, 512]⟩
abbrev S1x2x8x144x512 : Shape := ⟨5, ![1, 2, 8, 144, 512]⟩
abbrev S1x4096x256 : Shape := ⟨3, ![1, 4096, 256]⟩
abbrev S1x2x16x144x256 : Shape := ⟨5, ![1, 2, 16, 144, 256]⟩
abbrev S1x24x256 : Shape := ⟨3, ![1, 24, 256]⟩
abbrev S1x256x1024 : Shape := ⟨3, ![1, 256, 1024]⟩
abbrev S2x2x512x1024 : Shape := ⟨4, ![2, 2, 512, 1024]⟩
abbrev S2x1x1024 : Shape := ⟨3, ![2, 1, 1024]⟩
abbrev S2x144x1024 : Shape := ⟨3, ![2, 144, 1024]⟩
abbrev S2x3x256x1024 : Shape := ⟨4, ![2, 3, 256, 1024]⟩
abbrev S2x768x1024 : Shape := ⟨3, ![2, 768, 1024]⟩
abbrev S1x128x256 : Shape := ⟨3, ![1, 128, 256]⟩
abbrev S128x256 : Shape := ⟨2, ![128, 256]⟩
abbrev S1x1x128x256 : Shape := ⟨4, ![1, 1, 128, 256]⟩
abbrev S1x1024 : Shape := ⟨2, ![1, 1024]⟩
abbrev S1x512x256 : Shape := ⟨3, ![1, 512, 256]⟩
abbrev S512x256 : Shape := ⟨2, ![512, 256]⟩
abbrev S256x1024 : Shape := ⟨2, ![256, 1024]⟩
abbrev S512x1024 : Shape := ⟨2, ![512, 1024]⟩
abbrev S1x1x512x1024 : Shape := ⟨4, ![1, 1, 512, 1024]⟩
abbrev S1x128x1024 : Shape := ⟨3, ![1, 128, 1024]⟩
abbrev S128x1024 : Shape := ⟨2, ![128, 1024]⟩
abbrev S1x256x128 : Shape := ⟨3, ![1, 256, 128]⟩
abbrev S256x128 : Shape := ⟨2, ![256, 128]⟩
abbrev S1x1x256x1024 : Shape := ⟨4, ![1, 1, 256, 1024]⟩
abbrev S512x1 : Shape := ⟨2, ![512, 1]⟩
abbrev S1x1x1024 : Shape := ⟨3, ![1, 1, 1024]⟩
abbrev S1024 : Shape := ⟨1, ![1024]⟩
abbrev S1x144x1024 : Shape := ⟨3, ![1, 144, 1024]⟩
abbrev S144x1024 : Shape := ⟨2, ![144, 1024]⟩
abbrev S1x1x1x144x512 : Shape := ⟨5, ![1, 1, 1, 144, 512]⟩
abbrev S144x512 : Shape := ⟨2, ![144, 512]⟩
abbrev S1x1x1x144x256 : Shape := ⟨5, ![1, 1, 1, 144, 256]⟩
abbrev S144x256 : Shape := ⟨2, ![144, 256]⟩
abbrev S144x768 : Shape := ⟨2, ![144, 768]⟩
abbrev S1x768x1024 : Shape := ⟨3, ![1, 768, 1024]⟩
abbrev S768x1024 : Shape := ⟨2, ![768, 1024]⟩
abbrev S1x4x256 : Shape := ⟨3, ![1, 4, 256]⟩
abbrev S4x256 : Shape := ⟨2, ![4, 256]⟩
abbrev S1x256 : Shape := ⟨2, ![1, 256]⟩

abbrev nBuf : Space → Nat
  | .hbm => 73
  | .vmem => 25
  | .smem => 0
  | _ => 0

abbrev bufTy : (tb : Table) → Fin (tcTables nBuf tb) → BufTy
  | .hbm, ⟨0, _⟩ => ⟨S4x1024x4096, .bf16⟩
  | .hbm, ⟨1, _⟩ => ⟨S4x4096x256, .bf16⟩
  | .hbm, ⟨2, _⟩ => ⟨S4x4096x256, .bf16⟩
  | .hbm, ⟨3, _⟩ => ⟨S4x2x128x4096, .bf16⟩
  | .hbm, ⟨4, _⟩ => ⟨S4x4096x256, .bf16⟩
  | .hbm, ⟨5, _⟩ => ⟨S4x4096x256, .bf16⟩
  | .hbm, ⟨6, _⟩ => ⟨S4x24x4096, .f32⟩
  | .hbm, ⟨7, _⟩ => ⟨S4x4096x128, .i32⟩
  | .hbm, ⟨8, _⟩ => ⟨S4x4096x128, .i32⟩
  | .hbm, ⟨9, _⟩ => ⟨S_, .i32⟩
  | .hbm, ⟨10, _⟩ => ⟨S4x4096x128, .i32⟩
  | .hbm, ⟨11, _⟩ => ⟨S4x4096x128, .i32⟩
  | .hbm, ⟨12, _⟩ => ⟨S4x4096x128, .i1⟩
  | .hbm, ⟨13, _⟩ => ⟨S_, .f32⟩
  | .hbm, ⟨14, _⟩ => ⟨S_, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S4x4096x128, .bf16⟩
  | .hbm, ⟨19, _⟩ => ⟨S4x4096x128, .bf16⟩
  | .hbm, ⟨20, _⟩ => ⟨S4x4096x128, .bf16⟩
  | .hbm, ⟨21, _⟩ => ⟨S4x4096x512, .bf16⟩
  | .hbm, ⟨22, _⟩ => ⟨S4x8x512x2x128, .bf16⟩
  | .hbm, ⟨23, _⟩ => ⟨S4x2x8x128x512, .bf16⟩
  | .hbm, ⟨24, _⟩ => ⟨S4x2x8x16x512, .i32⟩
  | .hbm, ⟨25, _⟩ => ⟨S_, .i32⟩
  | .hbm, ⟨26, _⟩ => ⟨S4x2x8x16x512, .i32⟩
  | .hbm, ⟨27, _⟩ => ⟨S4x2x8x16x512, .i1⟩
  | .hbm, ⟨28, _⟩ => ⟨S_, .f32⟩
  | .hbm, ⟨29, _⟩ => ⟨S_, .f32⟩
  | .hbm, ⟨30, _⟩ => ⟨S4x2x8x16x512, .f32⟩
  | .hbm, ⟨31, _⟩ => ⟨S4x2x8x16x512, .f32⟩
  | .hbm, ⟨32, _⟩ => ⟨S4x2x8x16x512, .f32⟩
  | .hbm, ⟨33, _⟩ => ⟨S4x2x8x16x512, .bf16⟩
  | .hbm, ⟨34, _⟩ => ⟨S4x2x8x144x512, .bf16⟩
  | .hbm, ⟨35, _⟩ => ⟨S4x16x256x2x128, .bf16⟩
  | .hbm, ⟨36, _⟩ => ⟨S4x2x16x128x256, .bf16⟩
  | .hbm, ⟨37, _⟩ => ⟨S4x2x16x16x256, .i32⟩
  | .hbm, ⟨38, _⟩ => ⟨S_, .i32⟩
  | .hbm, ⟨39, _⟩ => ⟨S4x2x16x16x256, .i32⟩
  | .hbm, ⟨40, _⟩ => ⟨S4x2x16x16x256, .i1⟩
  | .hbm, ⟨41, _⟩ => ⟨S_, .f32⟩
  | .hbm, ⟨42, _⟩ => ⟨S_, .f32⟩
  | .hbm, ⟨43, _⟩ => ⟨S4x2x16x16x256, .f32⟩
  | .hbm, ⟨44, _⟩ => ⟨S4x2x16x16x256, .f32⟩
  | .hbm, ⟨45, _⟩ => ⟨S4x2x16x16x256, .f32⟩
  | .hbm, ⟨46, _⟩ => ⟨S4x2x16x16x256, .bf16⟩
  | .hbm, ⟨47, _⟩ => ⟨S4x2x16x144x256, .bf16⟩
  | .hbm, ⟨48, _⟩ => ⟨S2x256x1024, .i32⟩
  | .hbm, ⟨49, _⟩ => ⟨S2x256x1024, .i32⟩
  | .hbm, ⟨50, _⟩ => ⟨S_, .i32⟩
  | .hbm, ⟨51, _⟩ => ⟨S2x256x1024, .i32⟩
  | .hbm, ⟨52, _⟩ => ⟨S2x256x1024, .i32⟩
  | .hbm, ⟨53, _⟩ => ⟨S2x256x1024, .i32⟩
  | .hbm, ⟨54, _⟩ => ⟨S_, .i32⟩
  | .hbm, ⟨55, _⟩ => ⟨S2x256x1024, .i32⟩
  | .hbm, ⟨56, _⟩ => ⟨S2x256x1024, .i1⟩
  | .hbm, ⟨57, _⟩ => ⟨S2x256x1024, .i1⟩
  | .hbm, ⟨58, _⟩ => ⟨S_, .f32⟩
  | .hbm, ⟨59, _⟩ => ⟨S_, .f32⟩
  | .hbm, ⟨60, _⟩ => ⟨S2x256x1024, .f32⟩
  | .hbm, ⟨61, _⟩ => ⟨S2x256x1024, .f32⟩
  | .hbm, ⟨62, _⟩ => ⟨S2x256x1024, .f32⟩
  | .hbm, ⟨63, _⟩ => ⟨S2x256x1024, .i1⟩
  | .hbm, ⟨64, _⟩ => ⟨S_, .f32⟩
  | .hbm, ⟨65, _⟩ => ⟨S_, .f32⟩
  | .hbm, ⟨66, _⟩ => ⟨S2x256x1024, .f32⟩
  | .hbm, ⟨67, _⟩ => ⟨S2x256x1024, .f32⟩
  | .hbm, ⟨68, _⟩ => ⟨S2x256x1024, .f32⟩
  | .hbm, ⟨69, _⟩ => ⟨S2x256x1024, .f32⟩
  | .hbm, ⟨70, _⟩ => ⟨S2x256x1024, .f32⟩
  | .hbm, ⟨71, _⟩ => ⟨S4x4096x1024, .bf16⟩
  | .hbm, ⟨72, _⟩ => ⟨S4x4096x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2x128x256, .bf16⟩
  | .local _ .vmem, ⟨3, _⟩ => ⟨S1x2x128x256, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x2x8x144x512, .bf16⟩
  | .local _ .vmem, ⟨7, _⟩ => ⟨S1x2x8x144x512, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x2x16x144x256, .bf16⟩
  | .local _ .vmem, ⟨11, _⟩ => ⟨S1x2x16x144x256, .bf16⟩
  | .local _ .vmem, ⟨12, _⟩ => ⟨S2x256x1024, .f32⟩
  | .local _ .vmem, ⟨13, _⟩ => ⟨S1x24x256, .f32⟩
  | .local _ .vmem, ⟨14, _⟩ => ⟨S1x24x256, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S2x256x1024, .bf16⟩
  | .local _ .vmem, ⟨20, _⟩ => ⟨S2x2x512x1024, .f32⟩
  | .local _ .vmem, ⟨21, _⟩ => ⟨S2x1x1024, .f32⟩
  | .local _ .vmem, ⟨22, _⟩ => ⟨S2x144x1024, .f32⟩
  | .local _ .vmem, ⟨23, _⟩ => ⟨S2x3x256x1024, .f32⟩
  | .local _ .vmem, ⟨24, _⟩ => ⟨S2x768x1024, .bf16⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_v34 : Ref sig .tc := ⟨.hbm, 62, rfl⟩
abbrev main_v35 : Ref sig .tc := ⟨.hbm, 63, rfl⟩
abbrev main_cst_11 : Ref sig .tc := ⟨.hbm, 64, rfl⟩
abbrev main_cst_12 : Ref sig .tc := ⟨.hbm, 65, rfl⟩
abbrev main_call4_v0 : Ref sig .tc := ⟨.hbm, 66, rfl⟩
abbrev main_call4_v1 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39_0 : Ref sig .tc := ⟨.hbm, 71, rfl⟩
abbrev main_v39_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c512_i32_113 : BitVec 32 := 512#32
  let v119 : BitVec 32 := Scalar.muli v110 c512_i32_113
  v119
def k0_off1 (i : grid0.Coords) : Fin 3 → Nat :=
  let c0_114 : Index := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c512_i32_113 : BitVec 32 := 512#32
  let v119 : BitVec 32 := Scalar.muli v110 c512_i32_113
  let v120 : BitVec 32 := v119
  let v121 : Index := Scalar.indexCast v120
  let c0_115 : Index := 0#32
  ![0, v121.toNat, 0]
def k0_off2 (i : grid0.Coords) : Fin 3 → Nat :=
  let c0_124 : Index := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c512_i32_113 : BitVec 32 := 512#32
  let v119 : BitVec 32 := Scalar.muli v110 c512_i32_113
  let v120 : BitVec 32 := v119
  let v130 : Index := Scalar.indexCast v120
  let c256_125 : Index := 256#32
  ![0, v130.toNat, 256]
def k0_mult2 (i : grid0.Coords) : BitVec 32 :=
  let arg1 : BitVec 32 := BitVec.ofNat 32 (i 1).val
  let c0_i32_108 : BitVec 32 := 0#32
  let v113 : BitVec 32 := Scalar.subi arg1 c0_i32_108
  let c0_i32_109 : BitVec 32 := 0#32
  let v114 : BitVec 32 := Scalar.maxsi v113 c0_i32_109
  let c256_i32_137 : BitVec 32 := 256#32
  let v141 : BitVec 32 := Scalar.muli v114 c256_i32_137
  v141
def k0_off3 (i : grid0.Coords) (c0_i32_108 : BitVec 32) : Fin 3 → Nat :=
  let c0_138 : Index := 0#32
  let arg1 : BitVec 32 := BitVec.ofNat 32 (i 1).val
  let v113 : BitVec 32 := Scalar.subi arg1 c0_i32_108
  let c0_i32_109 : BitVec 32 := 0#32
  let v114 : BitVec 32 := Scalar.maxsi v113 c0_i32_109
  let c256_i32_137 : BitVec 32 := 256#32
  let v141 : BitVec 32 := Scalar.muli v114 c256_i32_137
  let v142 : BitVec 32 := v141
  let v143 : Index := Scalar.indexCast v142
  let c0_139 : Index := 0#32
  ![0, v143.toNat, 0]
def k0_mult3 (i : grid0.Coords) : BitVec 32 :=
  let arg1 : BitVec 32 := BitVec.ofNat 32 (i 1).val
  let c1_i32_110 : BitVec 32 := 1#32
  let v115 : BitVec 32 := Scalar.subi arg1 c1_i32_110
  let c0_i32_111 : BitVec 32 := 0#32
  let v116 : BitVec 32 := Scalar.maxsi v115 c0_i32_111
  let c256_i32_145 : BitVec 32 := 256#32
  let v150 : BitVec 32 := Scalar.muli v116 c256_i32_145
  v150
def k0_mult4 (i : grid0.Coords) : BitVec 32 :=
  let arg1 : BitVec 32 := BitVec.ofNat 32 (i 1).val
  let c2_i32 : BitVec 32 := 2#32
  let v117 : BitVec 32 := Scalar.subi arg1 c2_i32
  let c0_i32_112 : BitVec 32 := 0#32
  let v118 : BitVec 32 := Scalar.maxsi v117 c0_i32_112
  let c256_i32_153 : BitVec 32 := 256#32
  let v159 : BitVec 32 := Scalar.muli v118 c256_i32_153
  v159
def k0_off4 (i : grid0.Coords) : Fin 5 → Nat :=
  let c0_173 : Index := 0#32
  let c0_174 : Index := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let v193 : Index := Scalar.indexCast v110
  let c0_175 : Index := 0#32
  let c0_176 : Index := 0#32
  ![0, 0, v193.toNat, 0, 0]
def k0_off5 (i : grid0.Coords) : Fin 5 → Nat :=
  let c0_196 : Index := 0#32
  let c1_197 : Index := 1#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let v223 : Index := Scalar.indexCast v110
  let c0_198 : Index := 0#32
  let c0_199 : Index := 0#32
  ![0, 1, v223.toNat, 0, 0]
def k0_mult5 (i : grid0.Coords) : BitVec 32 :=
  let arg1 : BitVec 32 := BitVec.ofNat 32 (i 1).val
  let c0_i32_108 : BitVec 32 := 0#32
  let v113 : BitVec 32 := Scalar.subi arg1 c0_i32_108
  let c0_i32_109 : BitVec 32 := 0#32
  let v114 : BitVec 32 := Scalar.maxsi v113 c0_i32_109
  let c256_i32_210 : BitVec 32 := 256#32
  let v237 : BitVec 32 := Scalar.muli v114 c256_i32_210
  v237
def k0_off6 (i : grid0.Coords) (c0_i32_108 : BitVec 32) : Fin 3 → Nat :=
  let c0_211 : Index := 0#32
  let arg1 : BitVec 32 := BitVec.ofNat 32 (i 1).val
  let v113 : BitVec 32 := Scalar.subi arg1 c0_i32_108
  let c0_i32_109 : BitVec 32 := 0#32
  let v114 : BitVec 32 := Scalar.maxsi v113 c0_i32_109
  let c256_i32_210 : BitVec 32 := 256#32
  let v237 : BitVec 32 := Scalar.muli v114 c256_i32_210
  let v238 : BitVec 32 := v237
  let v239 : Index := Scalar.indexCast v238
  let c128_212 : Index := 128#32
  ![0, v239.toNat, 128]
def k0_mult6 (i : grid0.Coords) : BitVec 32 :=
  let arg1 : BitVec 32 := BitVec.ofNat 32 (i 1).val
  let c1_i32_110 : BitVec 32 := 1#32
  let v115 : BitVec 32 := Scalar.subi arg1 c1_i32_110
  let c0_i32_111 : BitVec 32 := 0#32
  let v116 : BitVec 32 := Scalar.maxsi v115 c0_i32_111
  let c256_i32_218 : BitVec 32 := 256#32
  let v246 : BitVec 32 := Scalar.muli v116 c256_i32_218
  v246
def k0_mult7 (i : grid0.Coords) : BitVec 32 :=
  let arg1 : BitVec 32 := BitVec.ofNat 32 (i 1).val
  let c2_i32 : BitVec 32 := 2#32
  let v117 : BitVec 32 := Scalar.subi arg1 c2_i32
  let c0_i32_112 : BitVec 32 := 0#32
  let v118 : BitVec 32 := Scalar.maxsi v117 c0_i32_112
  let c256_i32_226 : BitVec 32 := 256#32
  let v255 : BitVec 32 := Scalar.muli v118 c256_i32_226
  v255
def k0_off7 (i : grid0.Coords) (c0_i32_108 : BitVec 32) : Fin 5 → Nat :=
  let c0_290 : Index := 0#32
  let c0_291 : Index := 0#32
  let arg1 : BitVec 32 := BitVec.ofNat 32 (i 1).val
  let v113 : BitVec 32 := Scalar.subi arg1 c0_i32_108
  let c0_i32_109 : BitVec 32 := 0#32
  let v114 : BitVec 32 := Scalar.maxsi v113 c0_i32_109
  let v329 : Index := Scalar.indexCast v114
  let c0_292 : Index := 0#32
  let c0_293 : Index := 0#32
  ![0, 0, v329.toNat, 0, 0]
def k0_mult8 : BitVec 32 :=
  let c0_i32_324 : BitVec 32 := 0#32
  c0_i32_324
def k0_off8 (i : grid0.Coords) (c0_i32_108 : BitVec 32) : Fin 5 → Nat :=
  let c0_401 : Index := 0#32
  let c1_402 : Index := 1#32
  let arg1 : BitVec 32 := BitVec.ofNat 32 (i 1).val
  let v113 : BitVec 32 := Scalar.subi arg1 c0_i32_108
  let c0_i32_109 : BitVec 32 := 0#32
  let v114 : BitVec 32 := Scalar.maxsi v113 c0_i32_109
  let v472 : Index := Scalar.indexCast v114
  let c0_403 : Index := 0#32
  let c0_404 : Index := 0#32
  ![0, 1, v472.toNat, 0, 0]
@[reducible] def k0_t1_loop (i : grid0.Coords) : Scf.Loop 32 :=
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_445 : BitVec 32 := 1#32
  ⟨c0_i32_443, v552, c1_i32_445⟩
def k0_mult9 (i : grid0.Coords) (k0_t1 : Fin (k0_t1_loop i).trips) : BitVec 32 :=
  let c2_i32_503 : BitVec 32 := 2#32
  let c0_i32_443 : BitVec 32 := 0#32
  let c1_i32_445 : BitVec 32 := 1#32
  let arg18 : BitVec 32 := Scf.iv c0_i32_443 c1_i32_445 k0_t1
  let v662 : BitVec 32 := Scalar.muli c2_i32_503 arg18
  let c1_i32_504 : BitVec 32 := 1#32
  let v663 : BitVec 32 := Scalar.addi v662 c1_i32_504
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c1_i32_106 : BitVec 32 := 1#32
  let v111 : BitVec 32 := Scalar.subi v110 c1_i32_106
  let c0_i32_107 : BitVec 32 := 0#32
  let v112 : BitVec 32 := Scalar.maxsi v111 c0_i32_107
  let v664 : BitVec 32 := Scalar.minsi v663 v112
  let c512_i32_505 : BitVec 32 := 512#32
  let v665 : BitVec 32 := Scalar.muli v664 c512_i32_505
  v665
def k0_off9 (i : grid0.Coords) (k0_t1 : Fin (k0_t1_loop i).trips) (c1_i32_504 : BitVec 32) : Fin 3 → Nat :=
  let c0_506 : Index := 0#32
  let c2_i32_503 : BitVec 32 := 2#32
  let c0_i32_443 : BitVec 32 := 0#32
  let c1_i32_445 : BitVec 32 := 1#32
  let arg18 : BitVec 32 := Scf.iv c0_i32_443 c1_i32_445 k0_t1
  let v662 : BitVec 32 := Scalar.muli c2_i32_503 arg18
  let v663 : BitVec 32 := Scalar.addi v662 c1_i32_504
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c1_i32_106 : BitVec 32 := 1#32
  let v111 : BitVec 32 := Scalar.subi v110 c1_i32_106
  let c0_i32_107 : BitVec 32 := 0#32
  let v112 : BitVec 32 := Scalar.maxsi v111 c0_i32_107
  let v664 : BitVec 32 := Scalar.minsi v663 v112
  let c512_i32_505 : BitVec 32 := 512#32
  let v665 : BitVec 32 := Scalar.muli v664 c512_i32_505
  let v666 : BitVec 32 := v665
  let v667 : Index := Scalar.indexCast v666
  let c0_507 : Index := 0#32
  ![0, v667.toNat, 0]
def k0_off10 (i : grid0.Coords) (k0_t1 : Fin (k0_t1_loop i).trips) (c1_i32_504 : BitVec 32) : Fin 3 → Nat :=
  let c0_516 : Index := 0#32
  let c2_i32_503 : BitVec 32 := 2#32
  let c0_i32_443 : BitVec 32 := 0#32
  let c1_i32_445 : BitVec 32 := 1#32
  let arg18 : BitVec 32 := Scf.iv c0_i32_443 c1_i32_445 k0_t1
  let v662 : BitVec 32 := Scalar.muli c2_i32_503 arg18
  let v663 : BitVec 32 := Scalar.addi v662 c1_i32_504
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c1_i32_106 : BitVec 32 := 1#32
  let v111 : BitVec 32 := Scalar.subi v110 c1_i32_106
  let c0_i32_107 : BitVec 32 := 0#32
  let v112 : BitVec 32 := Scalar.maxsi v111 c0_i32_107
  let v664 : BitVec 32 := Scalar.minsi v663 v112
  let c512_i32_505 : BitVec 32 := 512#32
  let v665 : BitVec 32 := Scalar.muli v664 c512_i32_505
  let v666 : BitVec 32 := v665
  let v676 : Index := Scalar.indexCast v666
  let c256_517 : Index := 256#32
  ![0, v676.toNat, 256]
def k0_off11 (i : grid0.Coords) (k0_t1 : Fin (k0_t1_loop i).trips) : Fin 5 → Nat :=
  let c0_538 : Index := 0#32
  let c0_539 : Index := 0#32
  let c2_i32_526 : BitVec 32 := 2#32
  let c0_i32_443 : BitVec 32 := 0#32
  let c1_i32_445 : BitVec 32 := 1#32
  let arg18 : BitVec 32 := Scf.iv c0_i32_443 c1_i32_445 k0_t1
  let v685 : BitVec 32 := Scalar.muli c2_i32_526 arg18
  let v702 : Index := Scalar.indexCast v685
  let c0_540 : Index := 0#32
  let c0_541 : Index := 0#32
  ![0, 0, v702.toNat, 0, 0]
def k0_off12 (i : grid0.Coords) (k0_t1 : Fin (k0_t1_loop i).trips) : Fin 5 → Nat :=
  let c0_560 : Index := 0#32
  let c1_561 : Index := 1#32
  let c2_i32_526 : BitVec 32 := 2#32
  let c0_i32_443 : BitVec 32 := 0#32
  let c1_i32_445 : BitVec 32 := 1#32
  let arg18 : BitVec 32 := Scf.iv c0_i32_443 c1_i32_445 k0_t1
  let v685 : BitVec 32 := Scalar.muli c2_i32_526 arg18
  let v730 : Index := Scalar.indexCast v685
  let c0_562 : Index := 0#32
  let c0_563 : Index := 0#32
  ![0, 1, v730.toNat, 0, 0]
def k0_mult10 (i : grid0.Coords) (k0_t1 : Fin (k0_t1_loop i).trips) : BitVec 32 :=
  let c2_i32_571 : BitVec 32 := 2#32
  let c0_i32_443 : BitVec 32 := 0#32
  let c1_i32_445 : BitVec 32 := 1#32
  let arg18 : BitVec 32 := Scf.iv c0_i32_443 c1_i32_445 k0_t1
  let v742 : BitVec 32 := Scalar.muli c2_i32_571 arg18
  let c2_i32_572 : BitVec 32 := 2#32
  let v743 : BitVec 32 := Scalar.addi v742 c2_i32_572
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c1_i32_106 : BitVec 32 := 1#32
  let v111 : BitVec 32 := Scalar.subi v110 c1_i32_106
  let c0_i32_107 : BitVec 32 := 0#32
  let v112 : BitVec 32 := Scalar.maxsi v111 c0_i32_107
  let v744 : BitVec 32 := Scalar.minsi v743 v112
  let c512_i32_573 : BitVec 32 := 512#32
  let v745 : BitVec 32 := Scalar.muli v744 c512_i32_573
  v745
def k0_off13 (i : grid0.Coords) (k0_t1 : Fin (k0_t1_loop i).trips) : Fin 5 → Nat :=
  let c0_607 : Index := 0#32
  let c0_608 : Index := 0#32
  let c2_i32_594 : BitVec 32 := 2#32
  let c0_i32_443 : BitVec 32 := 0#32
  let c1_i32_445 : BitVec 32 := 1#32
  let arg18 : BitVec 32 := Scf.iv c0_i32_443 c1_i32_445 k0_t1
  let v765 : BitVec 32 := Scalar.muli c2_i32_594 arg18
  let c1_i32_595 : BitVec 32 := 1#32
  let v766 : BitVec 32 := Scalar.addi v765 c1_i32_595
  let v783 : Index := Scalar.indexCast v766
  let c0_609 : Index := 0#32
  let c0_610 : Index := 0#32
  ![0, 0, v783.toNat, 0, 0]
def k0_off14 (i : grid0.Coords) (k0_t1 : Fin (k0_t1_loop i).trips) : Fin 5 → Nat :=
  let c0_629 : Index := 0#32
  let c1_630 : Index := 1#32
  let c2_i32_594 : BitVec 32 := 2#32
  let c0_i32_443 : BitVec 32 := 0#32
  let c1_i32_445 : BitVec 32 := 1#32
  let arg18 : BitVec 32 := Scf.iv c0_i32_443 c1_i32_445 k0_t1
  let v765 : BitVec 32 := Scalar.muli c2_i32_594 arg18
  let c1_i32_595 : BitVec 32 := 1#32
  let v766 : BitVec 32 := Scalar.addi v765 c1_i32_595
  let v811 : Index := Scalar.indexCast v766
  let c0_631 : Index := 0#32
  let c0_632 : Index := 0#32
  ![0, 1, v811.toNat, 0, 0]
@[reducible] def k0_t2_loop (i : grid0.Coords) : Scf.Loop 32 :=
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let v549 : BitVec 32 := Scalar.addi c0_i32_443 v548
  let c1_i32_446 : BitVec 32 := 1#32
  ⟨v552, v549, c1_i32_446⟩
def k0_mult11 (i : grid0.Coords) (k0_t2 : Fin (k0_t2_loop i).trips) : BitVec 32 :=
  let c2_i32_503 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v662 : BitVec 32 := Scalar.muli c2_i32_503 arg18
  let c1_i32_504 : BitVec 32 := 1#32
  let v663 : BitVec 32 := Scalar.addi v662 c1_i32_504
  let c1_i32_106 : BitVec 32 := 1#32
  let v111 : BitVec 32 := Scalar.subi v110 c1_i32_106
  let c0_i32_107 : BitVec 32 := 0#32
  let v112 : BitVec 32 := Scalar.maxsi v111 c0_i32_107
  let v664 : BitVec 32 := Scalar.minsi v663 v112
  let c512_i32_505 : BitVec 32 := 512#32
  let v665 : BitVec 32 := Scalar.muli v664 c512_i32_505
  v665
def k0_off15 (i : grid0.Coords) (k0_t2 : Fin (k0_t2_loop i).trips) (c1_i32_504 : BitVec 32) : Fin 3 → Nat :=
  let c0_506 : Index := 0#32
  let c2_i32_503 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v662 : BitVec 32 := Scalar.muli c2_i32_503 arg18
  let v663 : BitVec 32 := Scalar.addi v662 c1_i32_504
  let c1_i32_106 : BitVec 32 := 1#32
  let v111 : BitVec 32 := Scalar.subi v110 c1_i32_106
  let c0_i32_107 : BitVec 32 := 0#32
  let v112 : BitVec 32 := Scalar.maxsi v111 c0_i32_107
  let v664 : BitVec 32 := Scalar.minsi v663 v112
  let c512_i32_505 : BitVec 32 := 512#32
  let v665 : BitVec 32 := Scalar.muli v664 c512_i32_505
  let v666 : BitVec 32 := v665
  let v667 : Index := Scalar.indexCast v666
  let c0_507 : Index := 0#32
  ![0, v667.toNat, 0]
def k0_off16 (i : grid0.Coords) (k0_t2 : Fin (k0_t2_loop i).trips) (c1_i32_504 : BitVec 32) : Fin 3 → Nat :=
  let c0_516 : Index := 0#32
  let c2_i32_503 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v662 : BitVec 32 := Scalar.muli c2_i32_503 arg18
  let v663 : BitVec 32 := Scalar.addi v662 c1_i32_504
  let c1_i32_106 : BitVec 32 := 1#32
  let v111 : BitVec 32 := Scalar.subi v110 c1_i32_106
  let c0_i32_107 : BitVec 32 := 0#32
  let v112 : BitVec 32 := Scalar.maxsi v111 c0_i32_107
  let v664 : BitVec 32 := Scalar.minsi v663 v112
  let c512_i32_505 : BitVec 32 := 512#32
  let v665 : BitVec 32 := Scalar.muli v664 c512_i32_505
  let v666 : BitVec 32 := v665
  let v676 : Index := Scalar.indexCast v666
  let c256_517 : Index := 256#32
  ![0, v676.toNat, 256]
def k0_off17 (i : grid0.Coords) (k0_t2 : Fin (k0_t2_loop i).trips) : Fin 5 → Nat :=
  let c0_538 : Index := 0#32
  let c0_539 : Index := 0#32
  let c2_i32_526 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v685 : BitVec 32 := Scalar.muli c2_i32_526 arg18
  let v702 : Index := Scalar.indexCast v685
  let c0_540 : Index := 0#32
  let c0_541 : Index := 0#32
  ![0, 0, v702.toNat, 0, 0]
def k0_off18 (i : grid0.Coords) (k0_t2 : Fin (k0_t2_loop i).trips) : Fin 5 → Nat :=
  let c0_560 : Index := 0#32
  let c1_561 : Index := 1#32
  let c2_i32_526 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v685 : BitVec 32 := Scalar.muli c2_i32_526 arg18
  let v730 : Index := Scalar.indexCast v685
  let c0_562 : Index := 0#32
  let c0_563 : Index := 0#32
  ![0, 1, v730.toNat, 0, 0]
def k0_mult12 (i : grid0.Coords) (k0_t2 : Fin (k0_t2_loop i).trips) : BitVec 32 :=
  let c2_i32_571 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v742 : BitVec 32 := Scalar.muli c2_i32_571 arg18
  let c2_i32_572 : BitVec 32 := 2#32
  let v743 : BitVec 32 := Scalar.addi v742 c2_i32_572
  let c1_i32_106 : BitVec 32 := 1#32
  let v111 : BitVec 32 := Scalar.subi v110 c1_i32_106
  let c0_i32_107 : BitVec 32 := 0#32
  let v112 : BitVec 32 := Scalar.maxsi v111 c0_i32_107
  let v744 : BitVec 32 := Scalar.minsi v743 v112
  let c512_i32_573 : BitVec 32 := 512#32
  let v745 : BitVec 32 := Scalar.muli v744 c512_i32_573
  v745
def k0_off19 (i : grid0.Coords) (k0_t2 : Fin (k0_t2_loop i).trips) : Fin 5 → Nat :=
  let c0_607 : Index := 0#32
  let c0_608 : Index := 0#32
  let c2_i32_594 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v765 : BitVec 32 := Scalar.muli c2_i32_594 arg18
  let c1_i32_595 : BitVec 32 := 1#32
  let v766 : BitVec 32 := Scalar.addi v765 c1_i32_595
  let v783 : Index := Scalar.indexCast v766
  let c0_609 : Index := 0#32
  let c0_610 : Index := 0#32
  ![0, 0, v783.toNat, 0, 0]
def k0_off20 (i : grid0.Coords) (k0_t2 : Fin (k0_t2_loop i).trips) : Fin 5 → Nat :=
  let c0_629 : Index := 0#32
  let c1_630 : Index := 1#32
  let c2_i32_594 : BitVec 32 := 2#32
  let c0_i32_443 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c0_i32_436 : BitVec 32 := 0#32
  let v532 : BitVec 1 := Scalar.cmpi .sgt v110 c0_i32_436
  let v533 : BitVec 32 := Scalar.extui v532
  let c0_i32_437 : BitVec 32 := 0#32
  let v534 : BitVec 1 := Scalar.cmpi .slt v110 c0_i32_437
  let v535 : BitVec 32 := Scalar.extui v534
  let v536 : BitVec 32 := Scalar.subi v533 v535
  let c2_i32_435 : BitVec 32 := 2#32
  let c0_i32_438 : BitVec 32 := 0#32
  let v537 : BitVec 1 := Scalar.cmpi .sgt c2_i32_435 c0_i32_438
  let v538 : BitVec 32 := Scalar.extui v537
  let c0_i32_439 : BitVec 32 := 0#32
  let v539 : BitVec 1 := Scalar.cmpi .slt c2_i32_435 c0_i32_439
  let v540 : BitVec 32 := Scalar.extui v539
  let v541 : BitVec 32 := Scalar.subi v538 v540
  let v542 : BitVec 1 := Scalar.cmpi .ne v536 v541
  let v543 : BitVec 32 := Scalar.remsi v110 c2_i32_435
  let c0_i32_440 : BitVec 32 := 0#32
  let v544 : BitVec 1 := Scalar.cmpi .ne v543 c0_i32_440
  let v545 : BitVec 1 := Scalar.andi v542 v544
  let v531 : BitVec 32 := Scalar.divsi v110 c2_i32_435
  let c1_i32_441 : BitVec 32 := 1#32
  let v546 : BitVec 32 := Scalar.subi v531 c1_i32_441
  let v547 : BitVec 32 := Scalar.select v545 v546 v531
  let v548 : BitVec 32 := Scalar.subi v547 c0_i32_443
  let c1_i32_444 : BitVec 32 := 1#32
  let v550 : BitVec 32 := Scalar.divsi v548 c1_i32_444
  let v551 : BitVec 32 := Scalar.muli v550 c1_i32_444
  let v552 : BitVec 32 := Scalar.addi c0_i32_443 v551
  let c1_i32_446 : BitVec 32 := 1#32
  let arg18 : BitVec 32 := Scf.iv v552 c1_i32_446 k0_t2
  let v765 : BitVec 32 := Scalar.muli c2_i32_594 arg18
  let c1_i32_595 : BitVec 32 := 1#32
  let v766 : BitVec 32 := Scalar.addi v765 c1_i32_595
  let v811 : Index := Scalar.indexCast v766
  let c0_631 : Index := 0#32
  let c0_632 : Index := 0#32
  ![0, 1, v811.toNat, 0, 0]
def k0_cond1 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c2_i32_447 : BitVec 32 := 2#32
  let c0_i32_448 : BitVec 32 := 0#32
  let v553 : BitVec 1 := Scalar.cmpi .eq c2_i32_447 c0_i32_448
  let c1_i32_449 : BitVec 32 := 1#32
  let v554 : BitVec 32 := Scalar.select v553 c1_i32_449 c2_i32_447
  let v555 : BitVec 32 := Scalar.remsi v110 v554
  let c0_i32_451 : BitVec 32 := 0#32
  let v557 : BitVec 1 := Scalar.cmpi .slt v555 c0_i32_451
  let c0_i32_452 : BitVec 32 := 0#32
  let v558 : BitVec 1 := Scalar.cmpi .slt v554 c0_i32_452
  let v559 : BitVec 1 := Scalar.xori v557 v558
  let c0_i32_450 : BitVec 32 := 0#32
  let v556 : BitVec 1 := Scalar.cmpi .ne v555 c0_i32_450
  let v560 : BitVec 1 := Scalar.andi v559 v556
  let v561 : BitVec 32 := Scalar.addi v555 v554
  let v562 : BitVec 32 := Scalar.select v560 v561 v555
  let c1_i32_453 : BitVec 32 := 1#32
  let v563 : BitVec 1 := Scalar.cmpi .eq v562 c1_i32_453
  let v564 : BitVec 32 := Scalar.extui v563
  let c0_i32_454 : BitVec 32 := 0#32
  let v565 : BitVec 1 := Scalar.cmpi .ne v564 c0_i32_454
  v565

def k0_off21 (i : grid0.Coords) : Fin 5 → Nat :=
  let c0_515 : Index := 0#32
  let c0_516 : Index := 0#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c1_i32_503 : BitVec 32 := 1#32
  let v662 : BitVec 32 := Scalar.subi v110 c1_i32_503
  let v679 : Index := Scalar.indexCast v662
  let c0_517 : Index := 0#32
  let c0_518 : Index := 0#32
  ![0, 0, v679.toNat, 0, 0]
def k0_off22 (i : grid0.Coords) : Fin 5 → Nat :=
  let c0_537 : Index := 0#32
  let c1_538 : Index := 1#32
  let arg1 : BitVec 32 := BitVec.ofNat 32 (i 1).val
  let c256_i32 : BitVec 32 := 256#32
  let v0 : BitVec 32 := Scalar.muli arg1 c256_i32
  let c0_i32 : BitVec 32 := 0#32
  let v95 : BitVec 1 := Scalar.cmpi .sgt v0 c0_i32
  let v96 : BitVec 32 := Scalar.extui v95
  let c0_i32_102 : BitVec 32 := 0#32
  let v97 : BitVec 1 := Scalar.cmpi .slt v0 c0_i32_102
  let v98 : BitVec 32 := Scalar.extui v97
  let v99 : BitVec 32 := Scalar.subi v96 v98
  let c512_i32 : BitVec 32 := 512#32
  let c0_i32_103 : BitVec 32 := 0#32
  let v100 : BitVec 1 := Scalar.cmpi .sgt c512_i32 c0_i32_103
  let v101 : BitVec 32 := Scalar.extui v100
  let c0_i32_104 : BitVec 32 := 0#32
  let v102 : BitVec 1 := Scalar.cmpi .slt c512_i32 c0_i32_104
  let v103 : BitVec 32 := Scalar.extui v102
  let v104 : BitVec 32 := Scalar.subi v101 v103
  let v105 : BitVec 1 := Scalar.cmpi .ne v99 v104
  let v106 : BitVec 32 := Scalar.remsi v0 c512_i32
  let c0_i32_105 : BitVec 32 := 0#32
  let v107 : BitVec 1 := Scalar.cmpi .ne v106 c0_i32_105
  let v108 : BitVec 1 := Scalar.andi v105 v107
  let v94 : BitVec 32 := Scalar.divsi v0 c512_i32
  let c1_i32 : BitVec 32 := 1#32
  let v109 : BitVec 32 := Scalar.subi v94 c1_i32
  let v110 : BitVec 32 := Scalar.select v108 v109 v94
  let c1_i32_503 : BitVec 32 := 1#32
  let v662 : BitVec 32 := Scalar.subi v110 c1_i32_503
  let v707 : Index := Scalar.indexCast v662
  let c0_539 : Index := 0#32
  let c0_540 : Index := 0#32
  ![0, 1, v707.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x16x144x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x24x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x1024x4096 : Shape := ⟨3, ![4, 1024, 4096]⟩
abbrev S4x4096x256 : Shape := ⟨3, ![4, 4096, 256]⟩
abbrev S4x2x128x4096 : Shape := ⟨4, ![4, 2, 128, 4096]⟩
abbrev S4x24x4096 : Shape := ⟨3, ![4, 24, 4096]⟩
abbrev S4x2x4x128x4096 : Shape := ⟨5, ![4, 2, 4, 128, 4096]⟩
abbrev S_ : Shape := ⟨0, ![]⟩
abbrev S4x3x2x4x4096 : Shape := ⟨5, ![4, 3, 2, 4, 4096]⟩
abbrev S4096x4096 : Shape := ⟨2, ![4096, 4096]⟩
abbrev S4x2x64x4096 : Shape := ⟨4, ![4, 2, 64, 4096]⟩
abbrev S4x2x64x1x4096 : Shape := ⟨5, ![4, 2, 64, 1, 4096]⟩
abbrev S4x2x64x64x4096 : Shape := ⟨5, ![4, 2, 64, 64, 4096]⟩
abbrev S4x2x1x4096x4096 : Shape := ⟨5, ![4, 2, 1, 4096, 4096]⟩
abbrev S4x1x2x4x4096 : Shape := ⟨5, ![4, 1, 2, 4, 4096]⟩
abbrev S4x2x4x4096 : Shape := ⟨4, ![4, 2, 4, 4096]⟩
abbrev S4x4096x2x128 : Shape := ⟨4, ![4, 4096, 2, 128]⟩
abbrev S4x2x4x4096x4096 : Shape := ⟨5, ![4, 2, 4, 4096, 4096]⟩
abbrev S4x2x4x4096x1 : Shape := ⟨5, ![4, 2, 4, 4096, 1]⟩
abbrev S4x2x4x4096x128 : Shape := ⟨5, ![4, 2, 4, 4096, 128]⟩
abbrev S4x4096x2x4x128 : Shape := ⟨5, ![4, 4096, 2, 4, 128]⟩
abbrev S4x4096x1024 : Shape := ⟨3, ![4, 4096, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x4096x256, .bf16⟩
  | .hbm, ⟨2, _⟩ => ⟨S4x4096x256, .bf16⟩
  | .hbm, ⟨3, _⟩ => ⟨S4x2x128x4096, .bf16⟩
  | .hbm, ⟨4, _⟩ => ⟨S4x4096x256, .bf16⟩
  | .hbm, ⟨5, _⟩ => ⟨S4x4096x256, .bf16⟩
  | .hbm, ⟨6, _⟩ => ⟨S4x24x4096, .f32⟩
  | .hbm, ⟨7, _⟩ => ⟨S4x1024x4096, .f32⟩
  | .hbm, ⟨8, _⟩ => ⟨S4x2x4x128x4096, .f32⟩
  | .hbm, ⟨9, _⟩ => ⟨S4x24x4096, .f32⟩
  | .hbm, ⟨10, _⟩ => ⟨S4x24x4096, .f32⟩
  | .hbm, ⟨11, _⟩ => ⟨S_, .f32⟩
  | .hbm, ⟨12, _⟩ => ⟨S4x24x4096, .f32⟩
  | .hbm, ⟨13, _⟩ => ⟨S4x24x4096, .f32⟩
  | .hbm, ⟨14, _⟩ => ⟨S_, .f32⟩
  | .hbm, ⟨15, _⟩ => ⟨S4x24x4096, .f32⟩
  | .hbm, ⟨16, _⟩ => ⟨S4x24x4096, .f32⟩
  | .hbm, ⟨17, _⟩ => ⟨S4x3x2x4x4096, .f32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S4096x4096, .i1⟩
  | .hbm, ⟨26, _⟩ => ⟨S4x2x64x4096, .bf16⟩
  | .hbm, ⟨27, _⟩ => ⟨S4x2x64x4096, .f32⟩
  | .hbm, ⟨28, _⟩ => ⟨S4x2x64x1x4096, .f32⟩
  | .hbm, ⟨29, _⟩ => ⟨S4x2x64x64x4096, .f32⟩
  | .hbm, ⟨30, _⟩ => ⟨S4x2x1x4096x4096, .f32⟩
  | .hbm, ⟨31, _⟩ => ⟨S4x2x1x4096x4096, .f32⟩
  | .hbm, ⟨32, _⟩ => ⟨S4x1x2x4x4096, .f32⟩
  | .hbm, ⟨33, _⟩ => ⟨S4x2x4x4096, .f32⟩
  | .hbm, ⟨34, _⟩ => ⟨S4x4096x256, .f32⟩
  | .hbm, ⟨35, _⟩ => ⟨S4x4096x2x128, .f32⟩
  | .hbm, ⟨36, _⟩ => ⟨S4x2x4x4096x4096, .f32⟩
  | .hbm, ⟨37, _⟩ => ⟨S4x2x4x4096x4096, .f32⟩
  | .hbm, ⟨38, _⟩ => ⟨S4x2x4x4096x4096, .f32⟩
  | .hbm, ⟨39, _⟩ => ⟨S_, .f32⟩
  | .hbm, ⟨40, _⟩ => ⟨S_, .f32⟩
  | .hbm, ⟨41, _⟩ => ⟨S4x2x4x4096x4096, .i1⟩
  | .hbm, ⟨42, _⟩ => ⟨S4x2x4x4096x4096, .f32⟩
  | .hbm, ⟨43, _⟩ => ⟨S4x2x4x4096x4096, .f32⟩
  | .hbm, ⟨44, _⟩ => ⟨S_, .f32⟩
  | .hbm, ⟨45, _⟩ => ⟨S4x2x4x4096, .f32⟩
  | .hbm, ⟨46, _⟩ => ⟨S4x2x4x4096x1, .f32⟩
  | .hbm, ⟨47, _⟩ => ⟨S_, .f32⟩
  | .hbm, ⟨48, _⟩ => ⟨S4x2x4x4096x1, .f32⟩
  | .hbm, ⟨49, _⟩ => ⟨S4x2x4x4096x1, .i1⟩
  | .hbm, ⟨50, _⟩ => ⟨S_, .f32⟩
  | .hbm, ⟨51, _⟩ => ⟨S_, .f32⟩
  | .hbm, ⟨52, _⟩ => ⟨S4x2x4x4096x1, .f32⟩
  | .hbm, ⟨53, _⟩ => ⟨S4x2x4x4096x1, .f32⟩
  | .hbm, ⟨54, _⟩ => ⟨S4x2x4x4096x4096, .f32⟩
  | .hbm, ⟨55, _⟩ => ⟨S4x2x4x4096x4096, .f32⟩
  | .hbm, ⟨56, _⟩ => ⟨S_, .f32⟩
  | .hbm, ⟨57, _⟩ => ⟨S4x2x4x4096x4096, .f32⟩
  | .hbm, ⟨58, _⟩ => ⟨S4x2x4x4096x4096, .f32⟩
  | .hbm, ⟨59, _⟩ => ⟨S_, .f32⟩
  | .hbm, ⟨60, _⟩ => ⟨S4x2x4x4096, .f32⟩
  | .hbm, ⟨61, _⟩ => ⟨S4x2x4x4096x1, .f32⟩
  | .hbm, ⟨62, _⟩ => ⟨S_, .f32⟩
  | .hbm, ⟨63, _⟩ => ⟨S4x2x4x4096x1, .f32⟩
  | .hbm, ⟨64, _⟩ => ⟨S4x2x4x4096x1, .f32⟩
  | .hbm, ⟨65, _⟩ => ⟨S4x2x4x4096x4096, .f32⟩
  | .hbm, ⟨66, _⟩ => ⟨S4x2x4x4096x4096, .f32⟩
  | .hbm, ⟨67, _⟩ => ⟨S4x4096x256, .f32⟩
  | .hbm, ⟨68, _⟩ => ⟨S4x4096x2x128, .f32⟩
  | .hbm, ⟨69, _⟩ => ⟨S4x2x4x4096x128, .f32⟩
  | .hbm, ⟨70, _⟩ => ⟨S4x2x4x4096x1, .f32⟩
  | .hbm, ⟨71, _⟩ => ⟨S4x2x4x4096x128, .f32⟩
  | .hbm, ⟨72, _⟩ => ⟨S4x2x4x4096x128, .f32⟩
  | .hbm, ⟨73, _⟩ => ⟨S4x4096x2x4x128, .f32⟩
  | .hbm, ⟨74, _⟩ => ⟨S4x4096x1024, .f32⟩
  | .hbm, ⟨75, _⟩ => ⟨S4x4096x1024, .bf16⟩
  | .hbm, ⟨76, _⟩ => ⟨S4x1x2x4x4096, .f32⟩
  | .hbm, ⟨77, _⟩ => ⟨S4x2x4x4096, .f32⟩
  | .hbm, ⟨78, _⟩ => ⟨S4x4096x256, .f32⟩
  | .hbm, ⟨79, _⟩ => ⟨S4x4096x2x128, .f32⟩
  | .hbm, ⟨80, _⟩ => ⟨S4x2x4x4096x4096, .f32⟩
  | .hbm, ⟨81, _⟩ => ⟨S_, .f32⟩
  | .hbm, ⟨82, _⟩ => ⟨S_, .f32⟩
  | .hbm, ⟨83, _⟩ => ⟨S4x2x4x4096x4096, .i1⟩
  | .hbm, ⟨84, _⟩ => ⟨S4x2x4x4096x4096, .f32⟩
  | .hbm, ⟨85, _⟩ => ⟨S4x2x4x4096x4096, .f32⟩
  | .hbm, ⟨86, _⟩ => ⟨S_, .f32⟩
  | .hbm, ⟨87, _⟩ => ⟨S4x2x4x4096, .f32⟩
  | .hbm, ⟨88, _⟩ => ⟨S4x2x4x4096x1, .f32⟩
  | .hbm, ⟨89, _⟩ => ⟨S_, .f32⟩
  | .hbm, ⟨90, _⟩ => ⟨S4x2x4x4096x1, .f32⟩
  | .hbm, ⟨91, _⟩ => ⟨S4x2x4x4096x1, .i1⟩
  | .hbm, ⟨92, _⟩ => ⟨S_, .f32⟩
  | .hbm, ⟨93, _⟩ => ⟨S_, .f32⟩
  | .hbm, ⟨94, _⟩ => ⟨S4x2x4x4096x1, .f32⟩
  | .hbm, ⟨95, _⟩ => ⟨S4x2x4x4096x1, .f32⟩
  | .hbm, ⟨96, _⟩ => ⟨S4x2x4x4096x4096, .f32⟩
  | .hbm, ⟨97, _⟩ => ⟨S4x2x4x4096x4096, .f32⟩
  | .hbm, ⟨98, _⟩ => ⟨S_, .f32⟩
  | .hbm, ⟨99, _⟩ => ⟨S4x2x4x4096x4096, .f32⟩
  | .hbm, ⟨100, _⟩ => ⟨S4x2x4x4096x4096, .f32⟩
  | .hbm, ⟨101, _⟩ => ⟨S_, .f32⟩
  | .hbm, ⟨102, _⟩ => ⟨S4x2x4x4096, .f32⟩
  | .hbm, ⟨103, _⟩ => ⟨S4x2x4x4096x1, .f32⟩
  | .hbm, ⟨104, _⟩ => ⟨S_, .f32⟩
  | .hbm, ⟨105, _⟩ => ⟨S4x2x4x4096x1, .f32⟩
  | .hbm, ⟨106, _⟩ => ⟨S4x2x4x4096x1, .f32⟩
  | .hbm, ⟨107, _⟩ => ⟨S4x2x4x4096x4096, .f32⟩
  | .hbm, ⟨108, _⟩ => ⟨S4x2x4x4096x4096, .f32⟩
  | .hbm, ⟨109, _⟩ => ⟨S4x4096x256, .f32⟩
  | .hbm, ⟨110, _⟩ => ⟨S4x4096x2x128, .f32⟩
  | .hbm, ⟨111, _⟩ => ⟨S4x2x4x4096x128, .f32⟩
  | .hbm, ⟨112, _⟩ => ⟨S4x2x4x4096x1, .f32⟩
  | .hbm, ⟨113, _⟩ => ⟨S4x2x4x4096x128, .f32⟩
  | .hbm, ⟨114, _⟩ => ⟨S4x2x4x4096x128, .f32⟩
  | .hbm, ⟨115, _⟩ => ⟨S4x4096x2x4x128, .f32⟩
  | .hbm, ⟨116, _⟩ => ⟨S4x4096x1024, .f32⟩
  | .hbm, ⟨117, _⟩ => ⟨S4x4096x1024, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_call3_v0 : Ref sig .tc := ⟨.hbm, 93, rfl⟩
abbrev main_call3_v1 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x3584 : Shape := ⟨2, ![1024, 3584]⟩
abbrev S4x4096x3072 : Shape := ⟨3, ![4, 4096, 3072]⟩
abbrev S4x4096x512 : Shape := ⟨3, ![4, 4096, 512]⟩
abbrev S1x512x1024 : Shape := ⟨3, ![1, 512, 1024]⟩
abbrev S1x512x3072 : Shape := ⟨3, ![1, 512, 3072]⟩
abbrev S1x512x512 : Shape := ⟨3, ![1, 512, 512]⟩
abbrev S512x1024 : Shape := ⟨2, ![512, 1024]⟩
abbrev S512x3584 : Shape := ⟨2, ![512, 3584]⟩
abbrev S512x3072 : Shape := ⟨2, ![512, 3072]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S1024x3584, .bf16⟩
  | .hbm, ⟨2, _⟩ => ⟨S4x4096x3072, .bf16⟩
  | .hbm, ⟨3, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x3584, .bf16⟩
  | .local _ .vmem, ⟨3, _⟩ => ⟨S1x512x3072, .bf16⟩
  | .local _ .vmem, ⟨4, _⟩ => ⟨S1x512x3072, .bf16⟩
  | .local _ .vmem, ⟨5, _⟩ => ⟨S1x512x512, .f32⟩
  | .local _ .vmem, ⟨6, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x1024 : Shape := ⟨3, ![4, 4096, 1024]⟩
abbrev S1024x3584 : Shape := ⟨2, ![1024, 3584]⟩
abbrev S4x4096x3584 : Shape := ⟨3, ![4, 4096, 3584]⟩
abbrev S4x4096x3072 : Shape := ⟨3, ![4, 4096, 3072]⟩
abbrev S4x4096x512 : Shape := ⟨3, ![4, 4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3584, .bf16⟩
  | .hbm, ⟨2, _⟩ => ⟨S1024x3584, .f32⟩
  | .hbm, ⟨3, _⟩ => ⟨S4x4096x3584, .f32⟩
  | .hbm, ⟨4, _⟩ => ⟨S4x4096x3072, .f32⟩
  | .hbm, ⟨5, _⟩ => ⟨S4x4096x3072, .bf16⟩
  | .hbm, ⟨6, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S8x1024x128 : Shape := ⟨3, ![8, 1024, 128]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024x128, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S16x128x8x2816 : Shape := ⟨4, ![16, 128, 8, 2816]⟩
abbrev S16x8x128x2816 : Shape := ⟨4, ![16, 8, 128, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x2816, .f32⟩
  | .hbm, ⟨6, _⟩ => ⟨S16x128x8x2816, .f32⟩
  | .hbm, ⟨7, _⟩ => ⟨S16x8x128x2816, .f32⟩
  | .hbm, ⟨8, _⟩ => ⟨S16384x2816, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S16384x1024 : Shape := ⟨2, ![16384, 1024]⟩
abbrev S16384x3072 : Shape := ⟨2, ![16384, 3072]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .bf16⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S16384x3072 : Shape := ⟨2, ![16384, 3072]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .bf16⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16384x1024, .bf16⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel5.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S1x5632 : Shape := ⟨2, ![1, 5632]⟩
abbrev S16384x2816 : Shape := ⟨2, ![16384, 2816]⟩
abbrev S1024x1024 : Shape := ⟨2, ![1024, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S8x1024x128 : Shape := ⟨3, ![8, 1024, 128]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩
abbrev S8x1 : Shape := ⟨2, ![8, 1]⟩
abbrev S8x1408 : Shape := ⟨2, ![8, 1408]⟩
abbrev S1016x1408 : Shape := ⟨2, ![1016, 1408]⟩
abbrev S1008x1408 : Shape := ⟨2, ![1008, 1408]⟩

abbrev nBuf : Space → Nat
  | .hbm => 7
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x5632, .bf16⟩
  | .hbm, ⟨5, _⟩ => ⟨S1x5632, .f32⟩
  | .hbm, ⟨6, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S1024x1408, .bf16⟩
  | .local _ .vmem, ⟨17, _⟩ => ⟨S1024x1408, .bf16⟩
  | .local _ .vmem, ⟨18, _⟩ => ⟨S8x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S4x4096x1024 : Shape := ⟨3, ![4, 4096, 1024]⟩
abbrev S4x4096x5632 : Shape := ⟨3, ![4, 4096, 5632]⟩
abbrev S_ : Shape := ⟨0, ![]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S16x8x128x2816 : Shape := ⟨4, ![16, 8, 128, 2816]⟩
abbrev S16x128x8x2816 : Shape := ⟨4, ![16, 128, 8, 2816]⟩
abbrev S16384x2816 : Shape := ⟨2, ![16384, 2816]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4x4096x1024, .f32⟩
  | .hbm, ⟨5, _⟩ => ⟨S4x4096x5632, .f32⟩
  | .hbm, ⟨6, _⟩ => ⟨S_, .i32⟩
  | .hbm, ⟨7, _⟩ => ⟨S_, .f32⟩
  | .hbm, ⟨8, _⟩ => ⟨S4x4098x5632, .f32⟩
  | .hbm, ⟨9, _⟩ => ⟨S4x4096x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S4x4096x5632, .f32⟩
  | .hbm, ⟨14, _⟩ => ⟨S4x4096x5632, .f32⟩
  | .hbm, ⟨15, _⟩ => ⟨S4x4096x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S4x4096x5632, .f32⟩
  | .hbm, ⟨20, _⟩ => ⟨S4x4096x5632, .f32⟩
  | .hbm, ⟨21, _⟩ => ⟨S4x4096x5632, .f32⟩
  | .hbm, ⟨22, _⟩ => ⟨S4x4096x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S1x1x5632, .f32⟩
  | .hbm, ⟨30, _⟩ => ⟨S4x4096x5632, .f32⟩
  | .hbm, ⟨31, _⟩ => ⟨S4x4096x5632, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S_, .f32⟩
  | .hbm, ⟨36, _⟩ => ⟨S4x4096x2816, .f32⟩
  | .hbm, ⟨37, _⟩ => ⟨S4x4096x2816, .f32⟩
  | .hbm, ⟨38, _⟩ => ⟨S_, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S4x4096x2816, .bf16⟩
  | .hbm, ⟨45, _⟩ => ⟨S16x8x128x2816, .bf16⟩
  | .hbm, ⟨46, _⟩ => ⟨S16x128x8x2816, .bf16⟩
  | .hbm, ⟨47, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024x2048 : Shape := ⟨2, ![1024, 2048]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S4x1024x4096 : Shape := ⟨3, ![4, 1024, 4096]⟩
abbrev S4x4096x512 : Shape := ⟨3, ![4, 4096, 512]⟩
abbrev S4x2x8x144x512 : Shape := ⟨5, ![4, 2, 8, 144, 512]⟩
abbrev S4x4096x256 : Shape := ⟨3, ![4, 4096, 256]⟩
abbrev S4x2x16x144x256 : Shape := ⟨5, ![4, 2, 16, 144, 256]⟩
abbrev S1x512x1024 : Shape := ⟨3, ![1, 512, 1024]⟩
abbrev S512x128 : Shape := ⟨2, ![512, 128]⟩
abbrev S1x1024x512 : Shape := ⟨3, ![1, 1024, 512]⟩
abbrev S1x512x512 : Shape := ⟨3, ![1, 512, 512]⟩
abbrev S1x2x1x144x512 : Shape := ⟨5, ![1, 2, 1, 144, 512]⟩
abbrev S1x512x256 : Shape := ⟨3, ![1, 512, 256]⟩
abbrev S1x2x2x144x256 : Shape := ⟨5, ![1, 2, 2, 144, 256]⟩
abbrev S512x1024 : Shape := ⟨2, ![512, 1024]⟩
abbrev S512x2048 : Shape := ⟨2, ![512, 2048]⟩
abbrev S128x512 : Shape := ⟨2, ![128, 512]⟩
abbrev S1x128x512 : Shape := ⟨3, ![1, 128, 512]⟩
abbrev S1x512x128 : Shape := ⟨3, ![1, 512, 128]⟩
abbrev S16x512 : Shape := ⟨2, ![16, 512]⟩
abbrev S144x512 : Shape := ⟨2, ![144, 512]⟩
abbrev S1x1x1x144x512 : Shape := ⟨5, ![1, 1, 1, 144, 512]⟩
abbrev S16x256 : Shape := ⟨2, ![16, 256]⟩
abbrev S128x256 : Shape := ⟨2, ![128, 256]⟩
abbrev S144x256 : Shape := ⟨2, ![144, 256]⟩
abbrev S1x1x1x144x256 : Shape := ⟨5, ![1, 1, 1, 144, 256]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x2048, .bf16⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x96, .f32⟩
  | .hbm, ⟨6, _⟩ => ⟨S4096x128, .f32⟩
  | .hbm, ⟨7, _⟩ => ⟨S4096x16, .f32⟩
  | .hbm, ⟨8, _⟩ => ⟨S_, .f32⟩
  | .hbm, ⟨9, _⟩ => ⟨S4096x96, .f32⟩
  | .hbm, ⟨10, _⟩ => ⟨S4096x128, .f32⟩
  | .hbm, ⟨11, _⟩ => ⟨S4x1024x4096, .bf16⟩
  | .hbm, ⟨12, _⟩ => ⟨S4x4096x512, .bf16⟩
  | .hbm, ⟨13, _⟩ => ⟨S4x2x8x144x512, .bf16⟩
  | .hbm, ⟨14, _⟩ => ⟨S4x4096x256, .bf16⟩
  | .hbm, ⟨15, _⟩ => ⟨S4x2x16x144x256, .bf16⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x1024x512, .bf16⟩
  | .local _ .vmem, ⟨8, _⟩ => ⟨S1x1024x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x2x1x144x512, .bf16⟩
  | .local _ .vmem, ⟨12, _⟩ => ⟨S1x2x1x144x512, .bf16⟩
  | .local _ .vmem, ⟨13, _⟩ => ⟨S1x512x256, .bf16⟩
  | .local _ .vmem, ⟨14, _⟩ => ⟨S1x512x256, .bf16⟩
  | .local _ .vmem, ⟨15, _⟩ => ⟨S1x2x2x144x256, .bf16⟩
  | .local _ .vmem, ⟨16, _⟩ => ⟨S1x2x2x144x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x144x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x2x144x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4x4096x1024 : Shape := ⟨3, ![4, 4096, 1024]⟩
abbrev S1024x2048 : Shape := ⟨2, ![1024, 2048]⟩
abbrev S4096x16 : Shape := ⟨2, ![4096, 16]⟩
abbrev S4x4096x2048 : Shape := ⟨3, ![4, 4096, 2048]⟩
abbrev S4x4096x8x128 : Shape := ⟨4, ![4, 4096, 8, 128]⟩
abbrev S4096x1x16 : Shape := ⟨3, ![4096, 1, 16]⟩
abbrev S4x4096x8x16 : Shape := ⟨4, ![4, 4096, 8, 16]⟩
abbrev S4x4096x8x96 : Shape := ⟨4, ![4, 4096, 8, 96]⟩
abbrev S1x4096x1x16 : Shape := ⟨4, ![1, 4096, 1, 16]⟩
abbrev S_ : Shape := ⟨0, ![]⟩
abbrev S4x8x128x4096 : Shape := ⟨4, ![4, 8, 128, 4096]⟩
abbrev S4x1024x4096 : Shape := ⟨3, ![4, 1024, 4096]⟩
abbrev S4x4096x2x128 : Shape := ⟨4, ![4, 4096, 2, 128]⟩
abbrev S4x4096x256 : Shape := ⟨3, ![4, 4096, 256]⟩
abbrev S4x4096x2x16 : Shape := ⟨4, ![4, 4096, 2, 16]⟩
abbrev S4x4096x2x96 : Shape := ⟨4, ![4, 4096, 2, 96]⟩
abbrev S4x4096x2x256 : Shape := ⟨4, ![4, 4096, 2, 256]⟩
abbrev S4x4096x512 : Shape := ⟨3, ![4, 4096, 512]⟩
abbrev S4x8x512x2x128 : Shape := ⟨5, ![4, 8, 512, 2, 128]⟩
abbrev S4x2x8x128x512 : Shape := ⟨5, ![4, 2, 8, 128, 512]⟩
abbrev S4x2x8x16x512 : Shape := ⟨5, ![4, 2, 8, 16, 512]⟩
abbrev S4x2x8x144x512 : Shape := ⟨5, ![4, 2, 8, 144, 512]⟩
abbrev S4x16x256x2x128 : Shape := ⟨5, ![4, 16, 256, 2, 128]⟩
abbrev S4x2x16x128x256 : Shape := ⟨5, ![4, 2, 16, 128, 256]⟩
abbrev S4x2x16x16x256 : Shape := ⟨5, ![4, 2, 16, 16, 256]⟩
abbrev S4x2x16x144x256 : Shape := ⟨5, ![4, 2, 16, 144, 256]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2048, .bf16⟩
  | .hbm, ⟨2, _⟩ => ⟨S4096x16, .f32⟩
  | .hbm, ⟨3, _⟩ => ⟨S4096x16, .f32⟩
  | .hbm, ⟨4, _⟩ => ⟨S1024x2048, .f32⟩
  | .hbm, ⟨5, _⟩ => ⟨S4x4096x2048, .f32⟩
  | .hbm, ⟨6, _⟩ => ⟨S4x4096x1024, .f32⟩
  | .hbm, ⟨7, _⟩ => ⟨S4x4096x8x128, .f32⟩
  | .hbm, ⟨8, _⟩ => ⟨S4096x1x16, .f32⟩
  | .hbm, ⟨9, _⟩ => ⟨S4096x1x16, .f32⟩
  | .hbm, ⟨10, _⟩ => ⟨S4x4096x8x16, .f32⟩
  | .hbm, ⟨11, _⟩ => ⟨S4x4096x8x16, .f32⟩
  | .hbm, ⟨12, _⟩ => ⟨S4x4096x8x96, .f32⟩
  | .hbm, ⟨13, _⟩ => ⟨S1x4096x1x16, .f32⟩
  | .hbm, ⟨14, _⟩ => ⟨S4x4096x8x16, .f32⟩
  | .hbm, ⟨15, _⟩ => ⟨S4x4096x8x16, .f32⟩
  | .hbm, ⟨16, _⟩ => ⟨S1x4096x1x16, .f32⟩
  | .hbm, ⟨17, _⟩ => ⟨S4x4096x8x16, .f32⟩
  | .hbm, ⟨18, _⟩ => ⟨S4x4096x8x16, .f32⟩
  | .hbm, ⟨19, _⟩ => ⟨S4x4096x8x16, .f32⟩
  | .hbm, ⟨20, _⟩ => ⟨S1x4096x1x16, .f32⟩
  | .hbm, ⟨21, _⟩ => ⟨S4x4096x8x16, .f32⟩
  | .hbm, ⟨22, _⟩ => ⟨S4x4096x8x16, .f32⟩
  | .hbm, ⟨23, _⟩ => ⟨S1x4096x1x16, .f32⟩
  | .hbm, ⟨24, _⟩ => ⟨S4x4096x8x16, .f32⟩
  | .hbm, ⟨25, _⟩ => ⟨S4x4096x8x16, .f32⟩
  | .hbm, ⟨26, _⟩ => ⟨S4x4096x8x16, .f32⟩
  | .hbm, ⟨27, _⟩ => ⟨S4x4096x8x128, .f32⟩
  | .hbm, ⟨28, _⟩ => ⟨S_, .f32⟩
  | .hbm, ⟨29, _⟩ => ⟨S4x4096x8x128, .f32⟩
  | .hbm, ⟨30, _⟩ => ⟨S4x4096x8x128, .f32⟩
  | .hbm, ⟨31, _⟩ => ⟨S4x8x128x4096, .f32⟩
  | .hbm, ⟨32, _⟩ => ⟨S4x1024x4096, .f32⟩
  | .hbm, ⟨33, _⟩ => ⟨S4x1024x4096, .bf16⟩
  | .hbm, ⟨34, _⟩ => ⟨S4x4096x2x128, .i32⟩
  | .hbm, ⟨35, _⟩ => ⟨S_, .i32⟩
  | .hbm, ⟨36, _⟩ => ⟨S4x4096x2x128, .i32⟩
  | .hbm, ⟨37, _⟩ => ⟨S4x4096x2x128, .i32⟩
  | .hbm, ⟨38, _⟩ => ⟨S4x4096x2x128, .i32⟩
  | .hbm, ⟨39, _⟩ => ⟨S4x4096x2x128, .i1⟩
  | .hbm, ⟨40, _⟩ => ⟨S_, .f32⟩
  | .hbm, ⟨41, _⟩ => ⟨S_, .f32⟩
  | .hbm, ⟨42, _⟩ => ⟨S4x4096x2x128, .f32⟩
  | .hbm, ⟨43, _⟩ => ⟨S4x4096x2x128, .f32⟩
  | .hbm, ⟨44, _⟩ => ⟨S4x4096x2x128, .f32⟩
  | .hbm, ⟨45, _⟩ => ⟨S4x4096x2x128, .bf16⟩
  | .hbm, ⟨46, _⟩ => ⟨S4x4096x256, .f32⟩
  | .hbm, ⟨47, _⟩ => ⟨S4x4096x2x128, .f32⟩
  | .hbm, ⟨48, _⟩ => ⟨S4096x1x16, .f32⟩
  | .hbm, ⟨49, _⟩ => ⟨S4096x1x16, .f32⟩
  | .hbm, ⟨50, _⟩ => ⟨S4x4096x2x16, .f32⟩
  | .hbm, ⟨51, _⟩ => ⟨S4x4096x2x16, .f32⟩
  | .hbm, ⟨52, _⟩ => ⟨S4x4096x2x96, .f32⟩
  | .hbm, ⟨53, _⟩ => ⟨S1x4096x1x16, .f32⟩
  | .hbm, ⟨54, _⟩ => ⟨S4x4096x2x16, .f32⟩
  | .hbm, ⟨55, _⟩ => ⟨S4x4096x2x16, .f32⟩
  | .hbm, ⟨56, _⟩ => ⟨S1x4096x1x16, .f32⟩
  | .hbm, ⟨57, _⟩ => ⟨S4x4096x2x16, .f32⟩
  | .hbm, ⟨58, _⟩ => ⟨S4x4096x2x16, .f32⟩
  | .hbm, ⟨59, _⟩ => ⟨S4x4096x2x16, .f32⟩
  | .hbm, ⟨60, _⟩ => ⟨S1x4096x1x16, .f32⟩
  | .hbm, ⟨61, _⟩ => ⟨S4x4096x2x16, .f32⟩
  | .hbm, ⟨62, _⟩ => ⟨S4x4096x2x16, .f32⟩
  | .hbm, ⟨63, _⟩ => ⟨S1x4096x1x16, .f32⟩
  | .hbm, ⟨64, _⟩ => ⟨S4x4096x2x16, .f32⟩
  | .hbm, ⟨65, _⟩ => ⟨S4x4096x2x16, .f32⟩
  | .hbm, ⟨66, _⟩ => ⟨S4x4096x2x16, .f32⟩
  | .hbm, ⟨67, _⟩ => ⟨S4x4096x2x128, .f32⟩
  | .hbm, ⟨68, _⟩ => ⟨S4x4096x2x128, .bf16⟩
  | .hbm, ⟨69, _⟩ => ⟨S4x4096x2x256, .bf16⟩
  | .hbm, ⟨70, _⟩ => ⟨S4x4096x512, .bf16⟩
  | .hbm, ⟨71, _⟩ => ⟨S4x4096x256, .f32⟩
  | .hbm, ⟨72, _⟩ => ⟨S4x4096x2x128, .f32⟩
  | .hbm, ⟨73, _⟩ => ⟨S4096x1x16, .f32⟩
  | .hbm, ⟨74, _⟩ => ⟨S4096x1x16, .f32⟩
  | .hbm, ⟨75, _⟩ => ⟨S4x4096x2x16, .f32⟩
  | .hbm, ⟨76, _⟩ => ⟨S4x4096x2x16, .f32⟩
  | .hbm, ⟨77, _⟩ => ⟨S4x4096x2x96, .f32⟩
  | .hbm, ⟨78, _⟩ => ⟨S1x4096x1x16, .f32⟩
  | .hbm, ⟨79, _⟩ => ⟨S4x4096x2x16, .f32⟩
  | .hbm, ⟨80, _⟩ => ⟨S4x4096x2x16, .f32⟩
  | .hbm, ⟨81, _⟩ => ⟨S1x4096x1x16, .f32⟩
  | .hbm, ⟨82, _⟩ => ⟨S4x4096x2x16, .f32⟩
  | .hbm, ⟨83, _⟩ => ⟨S4x4096x2x16, .f32⟩
  | .hbm, ⟨84, _⟩ => ⟨S4x4096x2x16, .f32⟩
  | .hbm, ⟨85, _⟩ => ⟨S1x4096x1x16, .f32⟩
  | .hbm, ⟨86, _⟩ => ⟨S4x4096x2x16, .f32⟩
  | .hbm, ⟨87, _⟩ => ⟨S4x4096x2x16, .f32⟩
  | .hbm, ⟨88, _⟩ => ⟨S1x4096x1x16, .f32⟩
  | .hbm, ⟨89, _⟩ => ⟨S4x4096x2x16, .f32⟩
  | .hbm, ⟨90, _⟩ => ⟨S4x4096x2x16, .f32⟩
  | .hbm, ⟨91, _⟩ => ⟨S4x4096x2x16, .f32⟩
  | .hbm, ⟨92, _⟩ => ⟨S4x4096x2x128, .f32⟩
  | .hbm, ⟨93, _⟩ => ⟨S4x4096x2x128, .bf16⟩
  | .hbm, ⟨94, _⟩ => ⟨S4x4096x256, .bf16⟩
  | .hbm, ⟨95, _⟩ => ⟨S4x4096x256, .f32⟩
  | .hbm, ⟨96, _⟩ => ⟨S4x4096x2x128, .f32⟩
  | .hbm, ⟨97, _⟩ => ⟨S4x8x512x2x128, .f32⟩
  | .hbm, ⟨98, _⟩ => ⟨S4x2x8x128x512, .f32⟩
  | .hbm, ⟨99, _⟩ => ⟨S4x2x8x16x512, .i32⟩
  | .hbm, ⟨100, _⟩ => ⟨S4x2x8x128x512, .bf16⟩
  | .hbm, ⟨101, _⟩ => ⟨S_, .i32⟩
  | .hbm, ⟨102, _⟩ => ⟨S4x2x8x16x512, .i32⟩
  | .hbm, ⟨103, _⟩ => ⟨S4x2x8x16x512, .i1⟩
  | .hbm, ⟨104, _⟩ => ⟨S_, .f32⟩
  | .hbm, ⟨105, _⟩ => ⟨S_, .f32⟩
  | .hbm, ⟨106, _⟩ => ⟨S4x2x8x16x512, .f32⟩
  | .hbm, ⟨107, _⟩ => ⟨S4x2x8x16x512, .f32⟩
  | .hbm, ⟨108, _⟩ => ⟨S4x2x8x16x512, .f32⟩
  | .hbm, ⟨109, _⟩ => ⟨S4x2x8x16x512, .bf16⟩
  | .hbm, ⟨110, _⟩ => ⟨S4x2x8x144x512, .bf16⟩
  | .hbm, ⟨111, _⟩ => ⟨S4x4096x256, .f32⟩
  | .hbm, ⟨112, _⟩ => ⟨S4x4096x2x128, .f32⟩
  | .hbm, ⟨113, _⟩ => ⟨S4x16x256x2x128, .f32⟩
  | .hbm, ⟨114, _⟩ => ⟨S4x2x16x128x256, .f32⟩
  | .hbm, ⟨115, _⟩ => ⟨S4x2x16x16x256, .i32⟩
  | .hbm, ⟨116, _⟩ => ⟨S4x2x16x128x256, .bf16⟩
  | .hbm, ⟨117, _⟩ => ⟨S_, .i32⟩
  | .hbm, ⟨118, _⟩ => ⟨S4x2x16x16x256, .i32⟩
  | .hbm, ⟨119, _⟩ => ⟨S4x2x16x16x256, .i1⟩
  | .hbm, ⟨120, _⟩ => ⟨S_, .f32⟩
  | .hbm, ⟨121, _⟩ => ⟨S_, .f32⟩
  | .hbm, ⟨122, _⟩ => ⟨S4x2x16x16x256, .f32⟩
  | .hbm, ⟨123, _⟩ => ⟨S4x2x16x16x256, .f32⟩
  | .hbm, ⟨124, _⟩ => ⟨S4x2x16x16x256, .f32⟩
  | .hbm, ⟨125, _⟩ => ⟨S4x2x16x16x256, .bf16⟩
  | .hbm, ⟨126, _⟩ => ⟨S4x2x16x144x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_c_2 : Ref sig .tc := ⟨.hbm, 101, rfl⟩
abbrev main_v91 : Ref sig .tc := ⟨.hbm, 102, rfl⟩
abbrev main_v92 : Ref sig .tc := ⟨.hbm, 103, rfl⟩
abbrev main_cst_3 : Ref sig .tc := ⟨.hbm, 104, rfl⟩
abbrev main_cst_4 : Ref sig .tc := ⟨.hbm, 105, rfl⟩
abbrev main_call1_v0 : Ref sig .tc := ⟨.hbm, 106, rfl⟩
abbrev main_call1_v1 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_c_5 : Ref sig .tc := ⟨.hbm, 117, rfl⟩
abbrev main_v102 : Ref sig .tc := ⟨.hbm, 118, rfl⟩
abbrev main_v103 : Ref sig .tc := ⟨.hbm, 119, rfl⟩
abbrev main_cst_6 : Ref sig .tc := ⟨.hbm, 120, rfl⟩
abbrev main_cst_7 : Ref sig .tc := ⟨.hbm, 121, rfl⟩
abbrev main_call2_v0 : Ref sig .tc := ⟨.hbm, 122, rfl⟩
abbrev main_call2_v1 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩

abbrev nD : Nat := 1
abbrev τ : Topo := Topo.v7x

variable {F : FTy → Type} [FloatOps F]
-- ==== Proof.Attn.KernelIdealRun.Live.lean ====
/- The last part of the kernel's body, with a value that nothing reads taken out of it. The body reads a block of its
   second output just before it overwrites it, and hands what it read to the next part, which drops it. Here that part
   is given another value in its place, so that what the body leaves behind visibly does not depend on the output's
   prior contents. -/
module

public import proofs.«01_k».proof.Proof.Gen.KernelIdeal.Skeleton

@[expose] public section

set_option maxRecDepth 65536

noncomputable section

namespace Cert.KernelIdeal.Gen

open Idealize.ShloMosaic Idealize.SL.Sem

variable {F : FTy → Type} [FloatOps F]

/-- The value the part drops may be any. -/
theorem k0_part29_any (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 v112 : BitVec 32) (v506 : FVec F S128x1024 .f32) (v521 : FVec F S256x128 .bf16) (v w : Vec F S1x256x128 .bf16) :
    k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v = k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 w := rfl

/-- The last part of the body, as memory operations over payloads. -/
noncomputable def k0_part32_live_skel (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) :
    Prog (TpuEff nD τ sig (Elt F) Λ₀ .tc) (FVec F S256x128 .bf16) := do
  let ⟨arg1, v0, v22⟩ : Σ' (arg1 : BitVec 32) (v0 : BitVec 32), FVec F S128x256 .bf16 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v22
  k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v93, c512_i32, v94, v99, v101⟩ : Σ' (v93 : IVec S1x1024 32) (c512_i32 : BitVec 32) (v94 : BitVec 32) (v99 : BitVec 32), BitVec 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0
  let ⟨v110, v112, v114, v116, v118, v132, v133⟩ : Σ' (v110 : BitVec 32) (v112 : BitVec 32) (v114 : BitVec 32) (v116 : BitVec 32) (v118 : BitVec 32) (v132 : FVec F S512x256 .bf16), Vec F S1x256x1024 .bf16 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 c512_i32 v94 v99 v101
  let ⟨v140, v163⟩ : Σ' (v140 : FVec F S128x1024 .bf16), FVec F S256x128 .bf16 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 v116 v118 v132 v133
  let ⟨v174, v183, v198⟩ : Σ' (v174 : IVec S512x1024 1) (v183 : FVec F S1x1024 .f32), FVec F S144x1024 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v93 v110 v140 v163
  let ⟨v213, v231⟩ : Σ' (v213 : FVec F S1x1024 .f32), FVec F S1x144x1024 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v174 v183 v198
  let v260 : FVec F S256x1024 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 v116 v118 v213 v231
  let v289 : FVec F S1x1024 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v260
  let ⟨v318, v321⟩ : Σ' (v318 : FVec F S256x1024 .f32), FVec F S1x1024 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v289
  let ⟨v347, v354, cst_311⟩ : Σ' (v347 : FVec F S128x1024 .f32) (v354 : FVec F S4x256 .f32), F .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v114 v116 v118 v318 v321
  let ⟨v388, v391, v392⟩ : Σ' (v388 : BitVec 32) (v391 : FVec F S512x256 .bf16), Vec F S1x256x1024 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v347 v354 cst_311
  let ⟨v413, v420⟩ : Σ' (v413 : FVec F S1x1024 .f32), FVec F S1x1024 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v388 v391 v392
  let ⟨v432, v453⟩ : Σ' (v432 : FVec F S1x1024 .f32), FVec F S256x1024 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v413 v420
  let v481 : FVec F S144x768 .bf16 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v114 v116 v118 v432 v453
  let ⟨v506, v521, v522⟩ : Σ' (v506 : FVec F S128x1024 .f32) (v521 : FVec F S256x128 .bf16), Vec F S1x256x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v481
  let ⟨v554, v555, v556, v557, c0_i32_452⟩ : Σ' (v554 : BitVec 32) (v555 : BitVec 32) (v556 : BitVec 1) (v557 : BitVec 1), BitVec 32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 (k0_pay135 v521)
  let ⟨v589, v597⟩ : Σ' (v589 : FVec F S128x1024 .f32), FVec F S256x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v554 v555 v556 v557 c0_i32_452
  let ⟨v621, v630, v631, v632⟩ : Σ' (v621 : FVec F S128x1024 .f32) (v630 : FVec F S4x256 .f32) (v631 : FVec F S1x256 .f32), FVec F S1x256 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v589 v597
  let v641 : Vec F S1x256x128 .bf16 ← Prog.lift (.load arg10 (Rect.unit (s := S1x256x1024) ![0, 0, 512] S1x256x128.size inb_S1x256x1024_S1x256x128_0_0_512).toLoadRect (View.loadsAt_vmem h_S1x256x128))
  Prog.lift (.store arg10 (Rect.unit (s := S1x256x1024) ![0, 0, 512] S1x256x128.size inb_S1x256x1024_S1x256x128_0_0_512) (k0_pay156 v621 v630 v631 v632) Finset.univ (View.stores_vmem h_S1x256x128 (harg10.storeExact_slice rfl _ packedbf16_S1x256x1024_S1x256x128_0_0_512) (fun _ => rfl)) (.inl rfl))
  let v647 : Vec F S1x256x128 .bf16 ← Prog.lift (.load arg10 (Rect.unit (s := S1x256x1024) ![0, 0, 640] S1x256x128.size inb_S1x256x1024_S1x256x128_0_0_640).toLoadRect (View.loadsAt_vmem h_S1x256x128))
  Prog.lift (.store arg10 (Rect.unit (s := S1x256x1024) ![0, 0, 640] S1x256x128.size inb_S1x256x1024_S1x256x128_0_0_640) (k0_pay157 v621 v630 v631 v632) Finset.univ (View.stores_vmem h_S1x256x128 (harg10.storeExact_slice rfl _ packedbf16_S1x256x1024_S1x256x128_0_0_640) (fun _ => rfl)) (.inl rfl))
  let v653 : Vec F S1x256x128 .bf16 ← Prog.lift (.load arg10 (Rect.unit (s := S1x256x1024) ![0, 0, 768] S1x256x128.size inb_S1x256x1024_S1x256x128_0_0_768).toLoadRect (View.loadsAt_vmem h_S1x256x128))
  Prog.lift (.store arg10 (Rect.unit (s := S1x256x1024) ![0, 0, 768] S1x256x128.size inb_S1x256x1024_S1x256x128_0_0_768) (k0_pay158 v621 v630 v631 v632) Finset.univ (View.stores_vmem h_S1x256x128 (harg10.storeExact_slice rfl _ packedbf16_S1x256x1024_S1x256x128_0_0_768) (fun _ => rfl)) (.inl rfl))
  pure (k0_pay159 v621 v630 v631 v632)

/-- The last part is the printed one. -/
theorem k0_part32_eq_live_skeleton : k0_part32 (F := F) = k0_part32_live_skel (F := F) := rfl

end Cert.KernelIdeal.Gen

end
-- ==== Proof.Attn.KernelIdealRun.RunA.lean ====
/- The run of the body at the grid points without an odd last tile. -/
module

public import proofs.«01_k».proof.Proof.Gen.KernelIdeal.Frame.Runs
public import proofs.«01_k».proof.Proof.Attn.KernelIdealRun.Live

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 not taken: points 0, 1, … 61: 32 of 64), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) :
    Σ' (L8 : List (View.Piece (Elt F) S1x256x1024 .bf16)), Σ' (L9 : List (View.Piece (Elt F) S1x256x1024 .bf16)), Σ' (LT0 : List (View.Piece (Elt F) S2x256x1024 .bf16)), Σ' (LT4 : List (View.Piece (Elt F) S2x3x256x1024 .f32)), { LT5 : List (View.Piece (Elt F) S2x768x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5)) -∗ K ⟨⟩))
          ⊢ wp frame (wpE (defs₀ (F := F)) Variants.none c none) E (cc0_flash i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_flash_eq_skeleton]; unfold cc0_flash_skel
    simp only [k0_part32_eq_live_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    iexists _; iexact HS5

end Cert.KernelIdeal.Gen

end
-- ==== Proof.Attn.KernelIdealRun.RunB.lean ====
/- The run of the body at the grid points with an odd last tile. -/
module

public import proofs.«01_k».proof.Proof.Attn.KernelIdealRun.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 taken: points 2, 3, … 63: 32 of 64), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) :
    Σ' (L8 : List (View.Piece (Elt F) S1x256x1024 .bf16)), Σ' (L9 : List (View.Piece (Elt F) S1x256x1024 .bf16)), Σ' (LT0 : List (View.Piece (Elt F) S2x256x1024 .bf16)), Σ' (LT4 : List (View.Piece (Elt F) S2x3x256x1024 .f32)), { LT5 : List (View.Piece (Elt F) S2x768x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5)) -∗ K ⟨⟩))
          ⊢ wp frame (wpE (defs₀ (F := F)) Variants.none c none) E (cc0_flash i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_flash_eq_skeleton]; unfold cc0_flash_skel
    simp only [k0_part32_eq_live_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part11_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    iexists _; iexact HS5

end Cert.KernelIdeal.Gen

end
-- ==== Proof.Attn.KernelIdealRun.Frame.lean ====
/- What the outputs hold point by point, the body obligation, the run of the program, and its frame. -/
module

public import proofs.«01_k».proof.Proof.Attn.KernelIdealRun.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (8 stores of `S1x256x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 S1x256x128.size (by sl_kernel_rfl) y

/-- What case A leaves in output 8's staging buffer: its pieces read back over junk. -/
def out0_A_8 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) : Vec F S1x256x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1)

/-- Case A's pieces for output 9 tile its block (8 stores of `S1x256x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1 S1x256x128.size (by sl_kernel_rfl) y

/-- What case A leaves in output 9's staging buffer: its pieces read back over junk. -/
def out0_A_9 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) : Vec F S1x256x1024 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1)

/-- Case B's pieces for output 8 tile its block (8 stores of `S1x256x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 S1x256x128.size (by sl_kernel_rfl) y

/-- What case B leaves in output 8's staging buffer: its pieces read back over junk. -/
def out0_B_8 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) : Vec F S1x256x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1)

/-- Case B's pieces for output 9 tile its block (8 stores of `S1x256x128`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1 S1x256x128.size (by sl_kernel_rfl) y

/-- What case B leaves in output 9's staging buffer: its pieces read back over junk. -/
def out0_B_9 (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec F S1x1024x256 .bf16) (x1 : Vec F S1x2x128x256 .bf16) (x2 : Vec F S1x4096x512 .bf16) (x3 : Vec F S1x2x8x144x512 .bf16) (x4 : Vec F S1x4096x256 .bf16) (x5 : Vec F S1x2x16x144x256 .bf16) (x6 : Vec F S2x256x1024 .f32) (x7 : Vec F S1x24x256 .f32) : Vec F S1x256x1024 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .bf16 × Vec F S1x256x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : ((n + 1) % 4 = 2 ∨ (n + 1) % 4 = 3) then
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))

/-- `outsAt0` at a point of case A: that case's contents. -/
theorem outsAt0_A (c : Dev nD) (t : Fin cfg0.N) (h0 : ¬(t.val % 4 = 2 ∨ t.val % 4 = 3)) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_neg h0).trans rfl

/-- `outsAt0` at a point of case B: that case's contents. -/
theorem outsAt0_B (c : Dev nD) (t : Fin cfg0.N) (h0 : (t.val % 4 = 2 ∨ t.val % 4 = 3)) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact (by exfalso; (try dsimp only at h0); exact by omega)
  | succ n => exact (dif_pos h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 64 := lt_of_lt_of_eq t.isLt (show cfg0.N = 64 from N_0)
  by_cases h0 : (t.val % 4 = 2 ∨ t.val % 4 = 3)
  · rw [outsAt0_B m c t h0]
    unfold out0_B_8 out0_B_9; (try dsimp only)
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, ⟨%e8, H8⟩, ⟨%e9, H9⟩, ⟨%fT0, HS0⟩, HS1, HS2, HS3, ⟨%fT4, HS4⟩, ⟨%fT5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexact HS1
        isplitl [HS2]
        · iexact HS2
        isplitl [HS3]
        · iexact HS3
        isplitl [HS4]
        · iexists _; unfold owns; iexists _; isplitr
          swap; · iexact HS4
          ipureintro; rfl
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _ _ _ _ _ _ _ _ _ _)
  · rw [outsAt0_A m c t h0]
    unfold out0_A_8 out0_A_9; (try dsimp only)
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, ⟨%e8, H8⟩, ⟨%e9, H9⟩, ⟨%fT0, HS0⟩, HS1, HS2, HS3, ⟨%fT4, HS4⟩, ⟨%fT5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexact HS1
        isplitl [HS2]
        · iexact HS2
        isplitl [HS3]
        · iexact HS3
        isplitl [HS4]
        · iexists _; unfold owns; iexists _; isplitr
          swap; · iexact HS4
          ipureintro; rfl
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Attn.KernelIdealRun.Value.lean ====
/- The output arrays of the run, read off block by block. -/
module

public import proofs.«01_k».proof.Proof.Attn.KernelIdealRun.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : ¬(t.val % 4 = 2 ∨ t.val % 4 = 3)) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : (t.val % 4 = 2 ∨ t.val % 4 = 3)) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_B m c t h0]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x4096x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : ¬(t.val % 4 = 2 ∨ t.val % 4 = 3)) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : (t.val % 4 = 2 ∨ t.val % 4 = 3)) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_B m c t h0]

/-- The index map sends distinct grid points to distinct block indices (decided over the 64 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S4x4096x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v39_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v39_1) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 1 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v39_0) = (dats m 0 c).arrAt 8 cfg0.N
      ∧ r.2.mem ((c : Thread nD τ).loc main_v39_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.Attn.Alg.lean ====
/-
  The mathematics of a softmax taken piece by piece, over the extended reals. Nothing here mentions a program: `s` are
  the scores of one query (base-two logarithms, a key outside the mask scoring `-∞`), `v` one coordinate of the values.

  `mass s v S` is the sum over the keys of `S` of `2 ^ (s - max of S) * v`. A kernel keeps the maximum and the mass of the
  keys it has seen, and rescales the mass when the maximum grows (`mass_union`); at the end it divides by the mass of the
  constant one. A softmax written plainly divides every term first. The two agree (`attend_eq`), also where every key is
  masked (both give 0) and where a score is infinite.
-/
module

public import Idealize.ShloMosaic.PureOps.Ideal
public import Mathlib.Tactic.Linarith
public import Mathlib.Tactic.Positivity
public import Mathlib.Tactic.FieldSimp
public import Mathlib.Tactic.Ring

@[expose] public section

noncomputable section

namespace Cert.Attn

open Idealize.ShloMosaic

variable {ι κ : Type*}

/-- `2 ^ x` is never negative. -/
theorem exp2_nonneg (x : EReal) : 0 ≤ Ideal.exp2 x := by
  induction x using EReal.rec with
  | bot => simp
  | top => simp
  | coe r => rw [Ideal.exp2_coe]; exact_mod_cast (Real.rpow_nonneg (by norm_num) r)

/-- The difference of a score and a maximum above it: its power of two is a real number. -/
theorem exp2_sub_real {a b : EReal} (h : a ≤ b) : ∃ r : ℝ, 0 ≤ r ∧ Ideal.exp2 (a - b) = (r : EReal) := by
  induction b using EReal.rec with
  | bot =>
    obtain rfl : a = ⊥ := le_bot_iff.mp h
    exact ⟨0, le_refl _, by simp⟩
  | top => exact ⟨0, le_refl _, by rw [EReal.sub_top]; simp⟩
  | coe b =>
    induction a using EReal.rec with
    | bot => exact ⟨0, le_refl _, by rw [EReal.bot_sub]; simp⟩
    | top => exact absurd h (by simp)
    | coe a => exact ⟨Real.rpow 2 (a - b), Real.rpow_nonneg (by norm_num) _, by rw [← EReal.coe_sub, Ideal.exp2_coe]⟩

theorem exp2_sub_ne_top {a b : EReal} (h : a ≤ b) : Ideal.exp2 (a - b) ≠ ⊤ := by
  obtain ⟨r, -, hr⟩ := exp2_sub_real h
  rw [hr]; exact EReal.coe_ne_top r

/-- Going from one maximum to a greater one is a factor. -/
theorem exp2_chain {s a b : EReal} (h : s ≤ a) (h' : a ≤ b) :
    Ideal.exp2 (a - b) * Ideal.exp2 (s - a) = Ideal.exp2 (s - b) := by
  induction b using EReal.rec with
  | bot =>
    obtain rfl : a = ⊥ := le_bot_iff.mp h'
    obtain rfl : s = ⊥ := le_bot_iff.mp h
    simp
  | top => rw [EReal.sub_top, EReal.sub_top]; simp
  | coe b =>
    induction a using EReal.rec with
    | bot =>
      obtain rfl : s = ⊥ := le_bot_iff.mp h
      simp
    | top => exact absurd h' (by simp)
    | coe a =>
      induction s using EReal.rec with
      | bot => simp [EReal.bot_sub]
      | top => exact absurd h (by simp)
      | coe s =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (s - a) = (2 : ℝ) ^ (s - b)
        rw [← Real.rpow_add (by norm_num)]
        congr 1; ring

/-- A factor that is neither negative nor infinite goes into a finite sum. -/
theorem mul_sum {c : EReal} (h : 0 ≤ c) (h' : c ≠ ⊤) (S : Finset ι) (f : ι → EReal) :
    c * ∑ k ∈ S, f k = ∑ k ∈ S, c * f k := by
  classical
  induction S using Finset.induction_on with
  | empty => simp
  | insert a S ha ih =>
    rw [Finset.sum_insert ha, Finset.sum_insert ha, EReal.left_distrib_of_nonneg_of_ne_top h h', ih]

/-- The sum over the keys of `S` of `2 ^ (score - maximum over S)` times the value. -/
def mass (s v : ι → EReal) (S : Finset ι) : EReal := ∑ k ∈ S, Ideal.exp2 (s k - S.sup s) * v k

@[simp] theorem mass_empty (s v : ι → EReal) : mass s v ∅ = 0 := by simp [mass]

/-- The mass of `S`, rescaled to a greater maximum. -/
theorem mass_rescale (s v : ι → EReal) (S : Finset ι) {b : EReal} (hb : S.sup s ≤ b) :
    Ideal.exp2 (S.sup s - b) * mass s v S = ∑ k ∈ S, Ideal.exp2 (s k - b) * v k := by
  rw [mass, mul_sum (exp2_nonneg _) (exp2_sub_ne_top hb)]
  refine Finset.sum_congr rfl fun k hk => ?_
  rw [← mul_assoc, exp2_chain (Finset.le_sup hk) hb]

/-- ONE STEP of the running softmax: the mass of the keys seen, rescaled, and the new keys' terms, is the mass of
    their union. -/
theorem mass_union [DecidableEq ι] (s v : ι → EReal) {S T : Finset ι} (h : Disjoint S T) :
    Ideal.exp2 (S.sup s - max (S.sup s) (T.sup s)) * mass s v S
        + ∑ k ∈ T, Ideal.exp2 (s k - max (S.sup s) (T.sup s)) * v k = mass s v (S ∪ T) := by
  rw [mass_rescale s v S (le_max_left _ _), ← Finset.sum_union h, mass, Finset.sup_union]

/-- A masked key adds nothing, so the keys outside the mask may be left out. -/
theorem sup_of_masked [Fintype ι] (s : ι → EReal) (S : Finset ι) (h : ∀ k, k ∉ S → s k = ⊥) :
    S.sup s = Finset.univ.sup s := by
  refine le_antisymm (Finset.sup_mono (Finset.subset_univ S)) (Finset.sup_le fun k _ => ?_)
  by_cases hk : k ∈ S
  · exact Finset.le_sup hk
  · rw [h k hk]; exact bot_le

theorem mass_of_masked [Fintype ι] (s v : ι → EReal) (S : Finset ι) (h : ∀ k, k ∉ S → s k = ⊥) :
    mass s v S = mass s v Finset.univ := by
  classical
  rw [mass, mass, sup_of_masked s S h]
  refine Finset.sum_subset (Finset.subset_univ S) fun k _ hk => ?_
  rw [h k hk, EReal.bot_sub]; simp

/-- Dividing by a positive real goes into the sum. -/
theorem div_sum {c : ℝ} (hc : 0 < c) (S : Finset ι) (f : ι → EReal) :
    Ideal.div (∑ k ∈ S, f k) (c : EReal) = ∑ k ∈ S, Ideal.div (f k) (c : EReal) := by
  have h0 : (c : EReal) ≠ 0 := by exact_mod_cast hc.ne'
  simp only [Ideal.div, if_neg h0, ← EReal.coe_inv]
  rw [mul_comm, mul_sum (by exact_mod_cast (inv_nonneg.mpr hc.le)) (EReal.coe_ne_top _)]
  exact Finset.sum_congr rfl fun k _ => mul_comm _ _

theorem div_mul {c : ℝ} (hc : 0 < c) (x v : EReal) : Ideal.div (x * v) (c : EReal) = Ideal.div x (c : EReal) * v := by
  have h0 : (c : EReal) ≠ 0 := by exact_mod_cast hc.ne'
  simp only [Ideal.div, if_neg h0]
  rw [mul_assoc, mul_comm v, mul_assoc]

/-- The mass of the constant one is a real number. -/
theorem mass_one_real (s : ι → EReal) (S : Finset ι) : ∃ r : ℝ, 0 ≤ r ∧ mass s (fun _ => 1) S = (r : EReal) := by
  classical
  have : ∀ T : Finset ι, T ⊆ S →
      ∃ r : ℝ, 0 ≤ r ∧ ∑ k ∈ T, Ideal.exp2 (s k - S.sup s) * (1 : EReal) = (r : EReal) := by
    intro T
    induction T using Finset.induction_on with
    | empty => exact fun _ => ⟨0, le_refl _, by simp⟩
    | insert a T ha ih =>
      intro hT
      obtain ⟨r, hr, he⟩ := ih ((Finset.subset_insert a T).trans hT)
      obtain ⟨q, hq, hqe⟩ := exp2_sub_real (Finset.le_sup (f := s) (hT (Finset.mem_insert_self a T)))
      exact ⟨q + r, add_nonneg hq hr, by rw [Finset.sum_insert ha, he, hqe, mul_one, EReal.coe_add]⟩
  exact this S (Finset.Subset.refl S)

/-- What the running softmax ends with: the mass of the values over the mass of one (kept away from zero by `tiny`). -/
def attend (tiny : EReal) (s v : ι → EReal) (S : Finset ι) : EReal :=
  Ideal.div (mass s v S) (max (mass s (fun _ => 1) S) tiny)

/-- The maximum, as the plain softmax takes it: zero where every key is masked. -/
def top (s : ι → EReal) (S : Finset ι) : EReal := if ⊥ < S.sup s then S.sup s else 0

/-- Where every key is masked the two maxima differ, but every power of two is zero. -/
theorem exp2_top_eq (s : ι → EReal) (S : Finset ι) {k : ι} (hk : k ∈ S) :
    Ideal.exp2 (s k - top s S) = Ideal.exp2 (s k - S.sup s) := by
  unfold top
  split_ifs with h
  · rfl
  · have hb : S.sup s = ⊥ := by simpa using h
    have : s k = ⊥ := le_bot_iff.mp (hb ▸ Finset.le_sup hk)
    rw [this, EReal.bot_sub, EReal.bot_sub]

/-- THE PLAIN SOFTMAX: each power of two over their sum, times the value, summed. It is what the running one ends with. -/
theorem attend_eq {tiny : ℝ} (ht : 0 < tiny) (s v : ι → EReal) (S : Finset ι) :
    ∑ k ∈ S, Ideal.div (Ideal.exp2 (s k - top s S))
        (max (∑ k ∈ S, Ideal.exp2 (s k - top s S)) (tiny : EReal)) * v k = attend (tiny : EReal) s v S := by
  have hsum : ∑ k ∈ S, Ideal.exp2 (s k - top s S) = mass s (fun _ => 1) S := by
    rw [mass]; exact Finset.sum_congr rfl fun k hk => by rw [mul_one, exp2_top_eq s S hk]
  obtain ⟨r, hr, he⟩ := mass_one_real s S
  have hm : max (mass s (fun _ => 1) S) (tiny : EReal) = ((max r tiny : ℝ) : EReal) := by
    rw [he]; exact (EReal.coe_strictMono.monotone.map_max (a := r) (b := tiny)).symm
  have hpos : 0 < max r tiny := lt_max_of_lt_right ht
  rw [hsum, attend, hm, mass, div_sum hpos]
  exact Finset.sum_congr rfl fun k hk => by rw [div_mul hpos, exp2_top_eq s S hk]

/-- The logistic function by the hyperbolic tangent of the half argument. -/
theorem half_tanh (x : EReal) :
    ((0.5 : ℝ) : EReal) * Ideal.tanh (((0.5 : ℝ) : EReal) * x) + ((0.5 : ℝ) : EReal) = Ideal.logistic x := by
  induction x using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(0.5 * r)) * Real.exp (-(0.5 * r)) := by rw [← Real.exp_add]; congr 1; ring
    have h2 : Real.exp (0.5 * r) * Real.exp (-(0.5 * r)) = 1 := by rw [← Real.exp_add]; simp
    have hp := Real.exp_pos (-(0.5 * r))
    have hq := Real.exp_pos (0.5 * r)
    rw [h1]
    generalize Real.exp (-(0.5 * r)) = b at *
    generalize Real.exp (0.5 * r) = a at *
    have : 1 + b * b ≠ 0 := by positivity
    have : a + b ≠ 0 := by positivity
    field_simp
    ring_nf
    nlinarith [h2]

end Cert.Attn
-- ==== Proof.Attn.Consts.lean ====
/-
  The literals of the two programs read as extended reals, and small facts on masks held as one-bit words.
-/
module

public import proofs.«01_k».proof.Proof.Attn.Alg
public import Idealize.ShloMosaic.Lib.Pointwise
public import Idealize.ShloMosaic.Lib.WordCmp
public import Idealize.ShloMosaic.Lib.IdealHost
public import Mathlib.Tactic.NormNum

@[expose] public section

noncomputable section

namespace Cert.Attn

open Idealize.ShloMosaic Idealize.ShloMosaic.WordCmp

/-- The literal `-∞`. -/
theorem lit_neg_inf : Ideal.ofBits .f32 0xFF800000#32 = ⊥ := by simp [Ideal.ofBits, Ideal.ieee]

/-- The literal `+∞`. -/
theorem lit_inf : Ideal.ofBits .f32 0x7F800000#32 = ⊤ := by simp [Ideal.ofBits, Ideal.ieee]

/-- The literal one half. -/
theorem lit_half : Ideal.ofBits .f32 0x3F000000#32 = ((0.5 : ℝ) : EReal) := by
  simp [Ideal.ofBits, Ideal.ieee, -EReal.coe_mul]; norm_num

/-- The literal two. -/
theorem lit_two : Ideal.ofBits .f32 0x40000000#32 = ((2 : ℝ) : EReal) := by
  simp [Ideal.ofBits, Ideal.ieee, -EReal.coe_mul]; norm_num

/-- The smallest normal number, which both programs divide by when a sum is smaller. -/
abbrev tiny : EReal := Ideal.ofBits .f32 0x00800000#32

/-- It is a positive real. -/
theorem tiny_pos : ∃ r : ℝ, 0 < r ∧ tiny = (r : EReal) := by
  refine ⟨2 ^ (-126 : ℤ), by positivity, ?_⟩
  simp [tiny, Ideal.ofBits, Ideal.ieee, -EReal.coe_mul]; try norm_num

/-- A power of two. -/
theorem pow_two (x : EReal) : Ideal.pow (Ideal.ofBits .f32 0x40000000#32) x = Ideal.exp2 x := by
  rw [lit_two]
  induction x using EReal.rec with
  | bot => show (if (2:ℝ) < 0 then (⊥:EReal) else if (1:ℝ) < 2 then 0 else if (2:ℝ) = 1 then 1 else ⊤) = 0; norm_num
  | top => show (if (2:ℝ) < 0 then (⊥:EReal) else if (1:ℝ) < 2 then ⊤ else if (2:ℝ) = 1 then 1 else 0) = ⊤; norm_num
  | coe r => rfl

/-- The maximum from `-∞` up is the supremum. -/
theorem fold_max {ι : Type*} [Fintype ι] (f : ι → EReal) :
    Finset.fold max (Ideal.ofBits .f32 0xFF800000#32) f Finset.univ = Finset.univ.sup f := by
  rw [lit_neg_inf]; rfl

/-- A value kept where the first position is at most the second. -/
theorem select_le {α : Type} (k t : Nat) (hk : k < 4096) (ht : t < 4096) (x y : α) :
    Scalar.select (IntOp.cmpi .sle (BitVec.ofNat 32 k) (BitVec.ofNat 32 t)) x y = if k ≤ t then x else y := by
  rw [cmpi_sle_ofNat (by omega) (by omega)]
  by_cases h : k ≤ t <;> simp [Scalar.select, h]

/-- A value kept where the first position is at most the second and closer than 512. -/
theorem select_near {α : Type} (k t : Nat) (hk : k < 4096) (ht : t < 4096) (x y : α) :
    Scalar.select (IntOp.andi (IntOp.cmpi .sle (BitVec.ofNat 32 k) (BitVec.ofNat 32 t))
      (IntOp.cmpi .slt (IntOp.subi (BitVec.ofNat 32 t) (BitVec.ofNat 32 k)) 512#32)) x y
      = if k ≤ t ∧ t - k < 512 then x else y := by
  rw [cmpi_sle_ofNat (by omega) (by omega)]
  by_cases h : k ≤ t
  · have : IntOp.subi (BitVec.ofNat 32 t) (BitVec.ofNat 32 k) = BitVec.ofNat 32 (t - k) := by
      simp only [IntOp.subi]
      apply BitVec.eq_of_toNat_eq
      simp; omega
    rw [this, cmpi_slt_ofNat (by omega) (by omega)]
    by_cases h2 : t - k < 512 <;> simp [Scalar.select, IntOp.andi, h, h2]
  · simp [Scalar.select, IntOp.andi, h]

end Cert.Attn
-- ==== Proof.Attn.Pay.lean ====
/-
  What the attention kernel's stored values are, entry by entry: scores, the running maximum and mass, the window's
  maximum and powers, the gate and the transposed rows of the results.
-/
module

public import proofs.«01_k».proof.Proof.Gen.KernelIdeal.Skeleton
public import proofs.«01_k».proof.Proof.Attn.Consts
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe

/-- A tile of scores. -/
theorem scores_apply (K : Vec Ideal S1x512x256 .bf16) (Q : Vec Ideal S1x256x1024 .bf16) (r : Fin 512) (c : Fin 1024) :
    k0_pay2 K Q (ix4 0 0 r c) = ∑ k : Fin 256, K (ix3 0 r k) * Q (ix3 0 k c) := by
  pointwise [k0_pay2]

theorem tile_apply (S : Vec Ideal S1x1x512x1024 .f32) (r : Fin 512) (c : Fin 1024) :
    k0_pay4 S (ix2 r c) = S (ix4 0 0 r c) := by
  pointwise [k0_pay4]

/-- The running maximum. -/
theorem max_apply (s : FVec Ideal S512x1024 .f32) (m : Vec Ideal S1x1x1024 .f32) (c : Fin 1024) :
    k0_pay6 s m (ix2 0 c) = max (m (ix3 0 0 c)) (Finset.univ.sup fun r : Fin 512 => s (ix2 r c)) := by
  pointwise [k0_pay6, k0_pay5]
  rw [Cert.Attn.fold_max]

theorem max_apply' (s : FVec Ideal S512x1024 .f32) (m : Vec Ideal S1x1x1024 .f32) (c : Fin 1024) :
    k0_pay8 s m (ix3 0 0 c) = max (m (ix3 0 0 c)) (Finset.univ.sup fun r : Fin 512 => s (ix2 r c)) := by
  rw [← max_apply]
  pointwise [k0_pay8]

/-- The running mass. -/
theorem mass_apply (s : FVec Ideal S512x1024 .f32) (m : Vec Ideal S1x1x1024 .f32) (a : Vec Ideal S1x144x1024 .f32)
    (v : Vec Ideal S1x1x1x144x512 .bf16) (d : Fin 144) (c : Fin 1024) :
    k0_pay7 s m a v (ix3 0 d c) = Ideal.exp2 (m (ix3 0 0 c) - k0_pay6 s m (ix2 0 c)) * a (ix3 0 d c)
      + ∑ k : Fin 512, v (ix5 0 0 0 d k) * Ideal.exp2 (s (ix2 k c) - k0_pay6 s m (ix2 0 c)) := by
  pointwise [k0_pay7, k0_pay5]
  rfl

/-- The positions of the queries of a column block. -/
theorem pos_apply (w : BitVec 32) (c : Fin 1024) : k0_pay81 w (ix2 0 c) = w + BitVec.ofNat 32 (c % 256) := by
  pointwise [k0_pay81]
  have : IntOp.andi (BitVec.ofNat 32 c) 255#32 = BitVec.ofNat 32 (c % 256) := by
    apply BitVec.eq_of_toNat_eq
    have h := Nat.and_two_pow_sub_one_eq_mod (c : Nat) 8
    have e1 : (c : Nat) % 4294967296 = c := by omega
    have e2 : (c : Nat) % 256 % 4294967296 = c % 256 := by omega
    simp only [IntOp.andi, BitVec.toNat_and, BitVec.toNat_ofNat, Nat.reducePow, Nat.reduceMod, e1, e2]
    exact h
  rw [this]; rfl

theorem mask_apply (p : IVec S1x1024 32) (w : BitVec 32) (r : Fin 512) (c : Fin 1024) :
    k0_pay90 p w (ix2 r c) = IntOp.cmpi .sle (w * 512#32 + BitVec.ofNat 32 r) (p (ix2 0 c)) := by
  pointwise [k0_pay90]
  rfl

theorem masked_apply (p : IVec S1x1024 32) (w : BitVec 32) (S : Vec Ideal S1x1x512x1024 .f32) (r : Fin 512) (c : Fin 1024) :
    k0_pay91 p w S (ix2 r c) = Scalar.select (k0_pay90 p w (ix2 r c)) (S (ix4 0 0 r c)) (⊥ : EReal) := by
  rw [← Cert.Attn.lit_neg_inf]
  pointwise [k0_pay91]

theorem masked_apply' (w : IVec S512x1024 1) (S : Vec Ideal S1x1x512x1024 .f32) (r : Fin 512) (c : Fin 1024) :
    k0_pay97 w S (ix2 r c) = Scalar.select (w (ix2 r c)) (S (ix4 0 0 r c)) (⊥ : EReal) := by
  rw [← Cert.Attn.lit_neg_inf]
  pointwise [k0_pay97]

/-- The window's maximum. -/
theorem wmax_apply (w : BitVec 32) (s0 : Vec Ideal S1x1x256x1024 .f32) (b0 : Vec Ideal S1x256x1024 .f32)
    (s1 s2 : Vec Ideal S1x1x256x1024 .f32) (b2 : Vec Ideal S1x256x1024 .f32) (c : Fin 1024) :
    k0_pay107 w s0 b0 s1 s2 b2 (ix2 0 c) =
      max (max (Finset.univ.sup fun r : Fin 256 => s0 (ix4 0 0 r c) + b0 (ix3 0 r c))
        (Scalar.select (Scalar.cmpi .sge w 1#32) (Finset.univ.sup fun r : Fin 256 => s1 (ix4 0 0 r c)) ⊥))
        (Scalar.select (Scalar.cmpi .sge w 2#32) (Finset.univ.sup fun r : Fin 256 => s2 (ix4 0 0 r c) + b2 (ix3 0 r c)) ⊥) := by
  pointwise [k0_pay107]
  simp only [Cert.Attn.fold_max]
  rw [Cert.Attn.lit_neg_inf]

theorem wpow0_apply (m : FVec Ideal S1x1024 .f32) (s : Vec Ideal S1x1x256x1024 .f32) (b : Vec Ideal S1x256x1024 .f32)
    (r : Fin 256) (c : Fin 1024) :
    k0_pay108 m s b (ix3 0 r c) = Ideal.exp2 (s (ix4 0 0 r c) + b (ix3 0 r c) - m (ix2 0 c)) := by
  pointwise [k0_pay108]
  rfl

theorem wpow1_apply (w : BitVec 32) (m : FVec Ideal S1x1024 .f32) (s : Vec Ideal S1x1x256x1024 .f32)
    (r : Fin 256) (c : Fin 1024) :
    k0_pay109 w m s (ix3 0 r c) =
      Ideal.exp2 (s (ix4 0 0 r c) - Scalar.select (Scalar.cmpi .sge w 1#32) (m (ix2 0 c)) (⊤ : EReal)) := by
  rw [← Cert.Attn.lit_inf]
  pointwise [k0_pay109]
  rfl

theorem wpow2_apply (w : BitVec 32) (m : FVec Ideal S1x1024 .f32) (s : Vec Ideal S1x1x256x1024 .f32) (b : Vec Ideal S1x256x1024 .f32)
    (r : Fin 256) (c : Fin 1024) :
    k0_pay112 (k0_pay110 s b) (k0_pay111 w m) (ix3 0 r c) =
      Ideal.exp2 (s (ix4 0 0 r c) + b (ix3 0 r c) - Scalar.select (Scalar.cmpi .sge w 2#32) (m (ix2 0 c)) (⊤ : EReal)) := by
  rw [← Cert.Attn.lit_inf]
  pointwise [k0_pay110, k0_pay111, k0_pay112]
  rfl

/-- The three value tiles side by side. -/
theorem cat_apply (v0 v1 v2 : Vec Ideal S1x1x1x144x256 .bf16) (d : Fin 144) (x : Fin 768) :
    k0_pay130 v0 v1 v2 (ix2 d x) = if h : (x : Nat) < 256 then v0 (ix5 0 0 0 d ⟨x, h⟩)
      else if h' : (x : Nat) < 512 then v1 (ix5 0 0 0 d ⟨x - 256, by omega⟩) else v2 (ix5 0 0 0 d ⟨x - 512, by omega⟩) := by
  pointwise [k0_pay130]
  by_cases h : (x : Nat) < 256
  · simp [h]
  · by_cases h' : (x : Nat) < 512
    · have h2 : (x : Nat) - 256 < 256 := by omega
      simp [h, h', h2]
    · have h2 : ¬(x : Nat) - 256 < 256 := by omega
      simp only [h, h', h2, dite_false]
      congr 2

/-- The gate of a head. -/
theorem gate_apply (v : FVec Ideal S128x1024 .f32) (x : Vec Ideal S1x4x256 .f32) (d : Fin 128) (c : Fin 1024) :
    k0_pay115 v (k0_pay114 x) (Scalar.ofBits .f32 0x3F000000#32) (ix2 d c) =
      v (ix2 d c) * Ideal.logistic (x (ix3 0 ⟨(c : Nat) / 256, by omega⟩ ⟨(c : Nat) % 256, by omega⟩)) := by
  pointwise [k0_pay115, k0_pay114]
  simp only [Cert.Attn.lit_half, Cert.Attn.half_tanh]
  have key : ∀ (n : Fin 4) (y : Fin 256), (c : Nat) = n * 256 + y →
      x (ix3 0 n y) = x (ix3 0 ⟨(c : Nat) / 256, by omega⟩ ⟨(c : Nat) % 256, by omega⟩) := fun n y e => by
    congr 2 <;> ext <;> dsimp only <;> omega
  by_cases h1 : (c : Nat) < 256
  · rw [dif_pos h1, ← key 0 ⟨c, h1⟩ (by simp)]
  rw [dif_neg h1]
  by_cases h2 : (c : Nat) - 256 < 256
  · rw [dif_pos h2, ← key 1 ⟨c - 256, h2⟩ (by show (c : Nat) = 1 * 256 + (c - 256); omega)]
  rw [dif_neg h2]
  by_cases h3 : (c : Nat) - 256 - 256 < 256
  · rw [dif_pos h3, ← key 2 ⟨c - 256 - 256, h3⟩ (by show (c : Nat) = 2 * 256 + (c - 256 - 256); omega)]
  · rw [dif_neg h3, ← key 3 ⟨c - 256 - 256 - 256, by omega⟩ (by show (c : Nat) = 3 * 256 + (c - 256 - 256 - 256); omega)]

/-- The rows of one head, transposed. -/
theorem store0_apply (v : FVec Ideal S128x1024 .f32) (x : FVec Ideal S4x256 .f32) (e : Ideal .f32) (q : Fin 256) (d : Fin 128) :
    k0_pay116 v x e (ix3 0 q d) = k0_pay115 v x e (ix2 d ⟨q, by omega⟩) := by
  pointwise [k0_pay116]

theorem store1_apply (v : FVec Ideal S128x1024 .f32) (x : FVec Ideal S4x256 .f32) (e : Ideal .f32) (q : Fin 256) (d : Fin 128) :
    k0_pay117 v x e (ix3 0 q d) = k0_pay115 v x e (ix2 d ⟨256 + q, by omega⟩) := by
  pointwise [k0_pay117]

theorem store2_apply (v : FVec Ideal S128x1024 .f32) (q : Fin 256) (d : Fin 128) :
    k0_pay149 v (ix3 0 q d) = v (ix2 d ⟨512 + q, by omega⟩) := by
  pointwise [k0_pay149]

theorem store3_apply (v : FVec Ideal S128x1024 .f32) (q : Fin 256) (d : Fin 128) :
    k0_pay150 v (ix3 0 q d) = v (ix2 d ⟨768 + q, by omega⟩) := by
  pointwise [k0_pay150]

/-- The window's weighted values, of the three tiles side by side. -/
def over (v338 : FVec Ideal S144x768 .bf16) (v339 : Vec Ideal S1x768x1024 .bf16) : FVec Ideal S128x1024 .f32 :=
  have v340 : FVec Ideal S768x1024 .bf16 := shapeCast S768x1024 v339 shapeCasts_S1x768x1024_S768x1024
  have cst_305 : FVec Ideal S144x1024 .f32 := constant S144x1024 .f32 0x00000000#32
  have v341 : FVec Ideal S144x1024 .f32 := matmul dot_S144x768_S768x1024_S144x1024_1_0_0_1_n_n none v338 v340 cst_305
  have v342 : FVec Ideal S128x1024 .f32 := extractStridedSlice S128x1024 ![0, 0] v341 slices_S144x1024_o0_0_S128x1024
  have v343 : FVec Ideal S1x1024 .f32 := extractStridedSlice S1x1024 ![128, 0] v341 slices_S144x1024_o128_0_S1x1024
  have v344 : FVec Ideal S1x1024 .f32 := broadcast S1x1024 (Scalar.ofBits .f32 0x00800000#32)
  have v345 : FVec Ideal S1x1024 .f32 := maximumf v343 v344
  have v346 : FVec Ideal S128x1024 .f32 := broadcastTo S128x1024 v345 broadcasts_S1x1024_S128x1024
  divf v342 v346

theorem wout_eq (v0 v1 v2 : Vec Ideal S1x1x1x144x256 .bf16) (p : Vec Ideal S1x768x1024 .bf16) :
    k0_pay113 v0 v1 v2 p = over (k0_pay130 v0 v1 v2) p := rfl

theorem over_apply (v : FVec Ideal S144x768 .bf16) (p : Vec Ideal S1x768x1024 .bf16) (d : Fin 128) (c : Fin 1024) :
    over v p (ix2 d c) = Ideal.div (∑ x : Fin 768, v (ix2 ⟨d, by omega⟩ x) * p (ix3 0 x c))
      (max (∑ x : Fin 768, v (ix2 128 x) * p (ix3 0 x c)) Cert.Attn.tiny) := by
  pointwise [over]

theorem wout1_eq (v0 v1 v2 : Vec Ideal S1x1x1x144x256 .bf16) (p : Vec Ideal S1x768x1024 .bf16) (x : Vec Ideal S1x4x256 .f32) :
    k0_pay131 (k0_pay130 v0 v1 v2) p x = k0_pay115 (over (k0_pay130 v0 v1 v2) p) (k0_pay114 x) (Scalar.ofBits .f32 0x3F000000#32) := rfl

/-- The selected keys' weighted values. -/
def sover (v566 : Vec Ideal S1x128x1024 .f32) (v568 : Vec Ideal S1x1x1024 .f32) : FVec Ideal S128x1024 .f32 :=
  have v567 : FVec Ideal S128x1024 .f32 := shapeCast S128x1024 v566 shapeCasts_S1x128x1024_S128x1024
  have v569 : FVec Ideal S1x1024 .f32 := shapeCast S1x1024 v568 shapeCasts_S1x1x1024_S1x1024
  have v570 : FVec Ideal S1x1024 .f32 := broadcast S1x1024 (Scalar.ofBits .f32 0x00800000#32)
  have v571 : FVec Ideal S1x1024 .f32 := maximumf v569 v570
  have v572 : FVec Ideal S128x1024 .f32 := broadcastTo S128x1024 v571 broadcasts_S1x1024_S128x1024
  divf v567 v572

theorem sout_eq (a : Vec Ideal S1x128x1024 .f32) (l : Vec Ideal S1x1x1024 .f32) (x : Vec Ideal S1x4x256 .f32) :
    k0_pay145 a l x = k0_pay115 (sover a l) (k0_pay114 x) (Scalar.ofBits .f32 0x3F000000#32) := rfl

theorem sover_apply (a : Vec Ideal S1x128x1024 .f32) (l : Vec Ideal S1x1x1024 .f32) (d : Fin 128) (c : Fin 1024) :
    sover a l (ix2 d c) = Ideal.div (a (ix3 0 d c)) (max (l (ix3 0 0 c)) Cert.Attn.tiny) := by
  pointwise [sover]

end Cert.KernelIdeal.Attn
-- ==== Proof.Attn.Reads.lean ====
/-
  What the stores of a grid point leave, read at an index: the general reading rules, the offsets of the loads, and the
  query tile.
-/
module

public import proofs.«01_k».proof.Proof.Attn.KernelIdealRun.Value
public import proofs.«01_k».proof.Proof.Attn.Pay
public import Idealize.ShloMosaic.Lib.Pipeline.ReadBack
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe

section Canon

variable {Val : EltTy → Type} {S : Shape} {e : EltTy} [∀ e, Nonempty (Val e)]

/-- An index inside the last store reads that store. -/
theorem canon_hit (off size : Fin S.rank → Nat) (inb) (w : (⟨S.rank, size⟩ : Shape).Idx → Val e) (L : List (View.Piece Val S e))
    (y : S.Idx) (x : (⟨S.rank, size⟩ : Shape).Idx) (h : ∀ a, (y a : Nat) = off a + x a) :
    View.canon (⟨Rect.unit off size inb, w⟩ :: L) y = w x := by
  have : y = (Rect.unit off size inb).emb x := funext fun a => Fin.ext (by
    rw [h a]; show _ = off a + 1 * (x a : Nat); omega)
  rw [this]; exact View.canon_cons_emb (Rect.unit off size inb) w L x

/-- An index outside the last store reads the earlier ones. -/
theorem canon_miss (off size : Fin S.rank → Nat) (inb) (w : (⟨S.rank, size⟩ : Shape).Idx → Val e) (L : List (View.Piece Val S e))
    (y : S.Idx) (a : Fin S.rank) (h : (y a : Nat) < off a ∨ off a + size a ≤ y a) :
    View.canon (⟨Rect.unit off size inb, w⟩ :: L) y = View.canon L y := by
  refine View.canon_cons_of_not_mem _ _ fun hm => ?_
  have := (Rect.mem_set_unit (inb := inb)).mp hm a
  omega

/-- A load of the stores, at an index. -/
theorem read_at {sig : RefSig} {κ : Kind} {sp : Space} (v : View sig κ sp S e) (L : List (View.Piece Val S e)) (off size : Fin S.rank → Nat) (inb)
    (x : (⟨S.rank, size⟩ : Shape).Idx) (y : S.Idx) (h : ∀ a, (y a : Nat) = off a + x a) :
    v.readCov L (Rect.unit off size inb).toLoadRect x = View.canon L y := by
  rw [View.readCov_eq_canon']
  exact congrArg (View.canon L) (funext fun a => Fin.ext ((Rect.idx_unit_val off size inb x a).trans (h a).symm))

end Canon

/-! ## The offsets of the loads -/

theorem off3 : ∀ (i : grid0.Coords) (r : Fin 3), k0_off3 i (BitVec.ofNat 32 r) = ![0, ((i 1).val - r) * 256, 0] := by decide +kernel
theorem off6 : ∀ (i : grid0.Coords) (r : Fin 3), k0_off6 i (BitVec.ofNat 32 r) = ![0, ((i 1).val - r) * 256, 128] := by decide +kernel
theorem off7 : ∀ (i : grid0.Coords) (r : Fin 3), k0_off7 i (BitVec.ofNat 32 r) = ![0, 0, (i 1).val - r, 0, 0] := by decide +kernel
theorem off8 : ∀ (i : grid0.Coords) (r : Fin 3), k0_off8 i (BitVec.ofNat 32 r) = ![0, 1, (i 1).val - r, 0, 0] := by decide +kernel

/-! ## The query tile -/

/-- The query tile: for each group 128 rows of queries and 128 rows of block biases, a column per head and position. -/
def qaug (x0 : Vec Ideal S1x1024x256 .bf16) (x1 : Vec Ideal S1x2x128x256 .bf16) (g : Fin 2) (k : Fin 256) (c : Fin 1024) : EReal :=
  if h : (k : Nat) < 128 then x0 (ix3 0 ⟨(g : Nat) * 512 + (c : Nat) / 256 * 128 + k, by omega⟩ ⟨(c : Nat) % 256, by omega⟩)
  else x1 (ix4 0 g ⟨(k : Nat) - 128, by omega⟩ ⟨(c : Nat) % 256, by omega⟩)

theorem qcast_apply (X : Vec Ideal S1x128x256 .bf16) (k : Fin 128) (c : Fin 256) :
    shapeCast S1x128x256 (shapeCast S128x256 X shapeCasts_S1x128x256_S128x256) shapeCasts_S128x256_S1x128x256 (ix3 0 k c) = X (ix3 0 k c) := by
  pointwise

theorem bcast_apply (X : Vec Ideal S1x1x128x256 .bf16) (k : Fin 128) (c : Fin 256) :
    shapeCast S1x128x256 (shapeCast S128x256 X shapeCasts_S1x1x128x256_S128x256) shapeCasts_S128x256_S1x128x256 (ix3 0 k c) = X (ix4 0 0 k c) := by
  pointwise

/-- A stored tile of queries is a block of the query tile. -/
theorem qtile (x0 : Vec Ideal S1x1024x256 .bf16) (x1 : Vec Ideal S1x2x128x256 .bf16) (o : Nat) (inb) (x : S1x128x256.Idx)
    (g : Fin 2) (k : Fin 256) (c : Fin 1024) (h : Nat) (ho : o = (g : Nat) * 512 + h * 128) (hh : h < 4)
    (h1 : (k : Nat) = x 1) (h2 : (c : Nat) = h * 256 + x 2) :
    shapeCast S1x128x256 (shapeCast S128x256 (View.ld x0 (Rect.unit (s := S1x1024x256) ![0, o, 0] S1x128x256.size inb)) shapeCasts_S1x128x256_S128x256)
      shapeCasts_S128x256_S1x128x256 x = qaug x0 x1 g k c := by
  obtain ⟨z, k', c', rfl⟩ : ∃ (z : Fin 1) (k' : Fin 128) (c' : Fin 256), x = ix3 z k' c' := ⟨x 0, x 1, x 2, eq_ix3 x⟩
  obtain rfl : z = 0 := Subsingleton.elim _ _
  change (k : Nat) = k' at h1
  change (c : Nat) = h * 256 + c' at h2
  refine (qcast_apply _ k' c').trans ?_
  have e1 : (c : Nat) / 256 = h := by omega
  have e2 : (c : Nat) % 256 = c' := by omega
  rw [qaug, dif_pos (by omega)]
  refine View.ld_unit_apply_of _ _ _ _ _ _ fun a => ?_
  fin_cases a
  · simp
  · simp [e1, ho, h1]
  · simp [e2]

/-- A stored tile of biases likewise. -/
theorem btile (x0 : Vec Ideal S1x1024x256 .bf16) (x1 : Vec Ideal S1x2x128x256 .bf16) (g : Fin 2) (o : Nat) (inb) (x : S1x128x256.Idx)
    (k : Fin 256) (c : Fin 1024) (h : Nat) (ho : o = (g : Nat))
    (h1 : (k : Nat) = 128 + x 1) (h2 : (c : Nat) = h * 256 + x 2) :
    shapeCast S1x128x256 (shapeCast S128x256 (View.ld x1 (Rect.unit (s := S1x2x128x256) ![0, o, 0, 0] S1x1x128x256.size inb)) shapeCasts_S1x1x128x256_S128x256)
      shapeCasts_S128x256_S1x128x256 x = qaug x0 x1 g k c := by
  obtain ⟨z, k', c', rfl⟩ : ∃ (z : Fin 1) (k' : Fin 128) (c' : Fin 256), x = ix3 z k' c' := ⟨x 0, x 1, x 2, eq_ix3 x⟩
  obtain rfl : z = 0 := Subsingleton.elim _ _
  change (k : Nat) = 128 + k' at h1
  change (c : Nat) = h * 256 + c' at h2
  refine (bcast_apply _ k' c').trans ?_
  have e2 : (c : Nat) % 256 = c' := by omega
  have e1 : (k : Nat) - 128 = k' := by omega
  rw [qaug, dif_neg (by omega)]
  refine View.ld_unit_apply_of _ _ _ _ _ _ fun a => ?_
  fin_cases a
  · simp
  · simp [ho]
  · simp [e1]
  · simp [e2]

abbrev qc (X : Vec Ideal S1x128x256 .bf16) : FVec Ideal S1x128x256 .bf16 :=
  shapeCast S1x128x256 (shapeCast S128x256 X shapeCasts_S1x128x256_S128x256) shapeCasts_S128x256_S1x128x256

abbrev bc (X : Vec Ideal S1x1x128x256 .bf16) : FVec Ideal S1x128x256 .bf16 :=
  shapeCast S1x128x256 (shapeCast S128x256 X shapeCasts_S1x1x128x256_S128x256) shapeCasts_S128x256_S1x128x256

/-- A group's stored tiles of queries and biases, all but the last. -/
abbrev qlist (x0 : Vec Ideal S1x1024x256 .bf16) (x1 : Vec Ideal S1x2x128x256 .bf16) (o q0 q1 q2 q3 : Nat)
    (i0 : ∀ a, (![o, 0, 0] : Fin 3 → Nat) a + S1x128x256.size a ≤ S2x256x1024.size a)
    (i1 : ∀ a, (![o, 0, 256] : Fin 3 → Nat) a + S1x128x256.size a ≤ S2x256x1024.size a)
    (i2 : ∀ a, (![o, 0, 512] : Fin 3 → Nat) a + S1x128x256.size a ≤ S2x256x1024.size a)
    (i3 : ∀ a, (![o, 0, 768] : Fin 3 → Nat) a + S1x128x256.size a ≤ S2x256x1024.size a)
    (j0 : ∀ a, (![o, 128, 0] : Fin 3 → Nat) a + S1x128x256.size a ≤ S2x256x1024.size a)
    (j1 : ∀ a, (![o, 128, 256] : Fin 3 → Nat) a + S1x128x256.size a ≤ S2x256x1024.size a)
    (j2 : ∀ a, (![o, 128, 512] : Fin 3 → Nat) a + S1x128x256.size a ≤ S2x256x1024.size a)
    (k0 : ∀ a, (![0, q0, 0] : Fin 3 → Nat) a + S1x128x256.size a ≤ S1x1024x256.size a)
    (k1 : ∀ a, (![0, q1, 0] : Fin 3 → Nat) a + S1x128x256.size a ≤ S1x1024x256.size a)
    (k2 : ∀ a, (![0, q2, 0] : Fin 3 → Nat) a + S1x128x256.size a ≤ S1x1024x256.size a)
    (k3 : ∀ a, (![0, q3, 0] : Fin 3 → Nat) a + S1x128x256.size a ≤ S1x1024x256.size a)
    (l : ∀ a, (![0, o, 0, 0] : Fin 4 → Nat) a + S1x1x128x256.size a ≤ S1x2x128x256.size a)
    (L : List (View.Piece (Elt Ideal) S2x256x1024 .bf16)) : List (View.Piece (Elt Ideal) S2x256x1024 .bf16) :=
  ⟨Rect.unit ![o, 0, 768] S1x128x256.size i3, qc (View.ld x0 (Rect.unit (s := S1x1024x256) ![0, q3, 0] S1x128x256.size k3))⟩ ::
  ⟨Rect.unit ![o, 128, 512] S1x128x256.size j2, bc (View.ld x1 (Rect.unit (s := S1x2x128x256) ![0, o, 0, 0] S1x1x128x256.size l))⟩ ::
  ⟨Rect.unit ![o, 0, 512] S1x128x256.size i2, qc (View.ld x0 (Rect.unit (s := S1x1024x256) ![0, q2, 0] S1x128x256.size k2))⟩ ::
  ⟨Rect.unit ![o, 128, 256] S1x128x256.size j1, bc (View.ld x1 (Rect.unit (s := S1x2x128x256) ![0, o, 0, 0] S1x1x128x256.size l))⟩ ::
  ⟨Rect.unit ![o, 0, 256] S1x128x256.size i1, qc (View.ld x0 (Rect.unit (s := S1x1024x256) ![0, q1, 0] S1x128x256.size k1))⟩ ::
  ⟨Rect.unit ![o, 128, 0] S1x128x256.size j0, bc (View.ld x1 (Rect.unit (s := S1x2x128x256) ![0, o, 0, 0] S1x1x128x256.size l))⟩ ::
  ⟨Rect.unit ![o, 0, 0] S1x128x256.size i0, qc (View.ld x0 (Rect.unit (s := S1x1024x256) ![0, q0, 0] S1x128x256.size k0))⟩ :: L

/-- All of a group's query rows, and its bias rows but the last head's. -/
theorem qlist_read (x0 : Vec Ideal S1x1024x256 .bf16) (x1 : Vec Ideal S1x2x128x256 .bf16) (o q0 q1 q2 q3 : Nat) (i0 i1 i2 i3 j0 j1 j2 k0 k1 k2 k3 l L)
    (g : Fin 2) (hg : (g : Nat) = o) (h0 : q0 = o * 512) (h1 : q1 = o * 512 + 128) (h2 : q2 = o * 512 + 256) (h3 : q3 = o * 512 + 384)
    (e : Fin 256) (c : Fin 1024) (hec : (e : Nat) < 128 ∨ (c : Nat) < 768) :
    View.canon (qlist x0 x1 o q0 q1 q2 q3 i0 i1 i2 i3 j0 j1 j2 k0 k1 k2 k3 l L) (ix3 g e c) = qaug x0 x1 g e c := by
  unfold qlist
  by_cases he : (e : Nat) < 128
  · by_cases c3 : 768 ≤ (c : Nat)
    · refine Eq.trans (canon_hit _ _ _ _ _ _ (ix3 (0 : Fin 1) (⟨e, he⟩ : Fin 128) (⟨c - 768, by omega⟩ : Fin 256)) ?_) ?_
      · intro a; fin_cases a <;> simp [hg]; omega
      · exact qtile x0 x1 _ _ _ g e c 3 (by omega) (by omega) rfl (by show (c : Nat) = 3 * 256 + (c - 768); omega)
    rw [canon_miss _ _ _ _ _ _ 2 (by left; simp; omega), canon_miss _ _ _ _ _ _ 1 (by left; simp; omega)]
    by_cases c2 : 512 ≤ (c : Nat)
    · refine Eq.trans (canon_hit _ _ _ _ _ _ (ix3 (0 : Fin 1) (⟨e, he⟩ : Fin 128) (⟨c - 512, by omega⟩ : Fin 256)) ?_) ?_
      · intro a; fin_cases a <;> simp [hg]; omega
      · exact qtile x0 x1 _ _ _ g e c 2 (by omega) (by omega) rfl (by show (c : Nat) = 2 * 256 + (c - 512); omega)
    rw [canon_miss _ _ _ _ _ _ 2 (by left; simp; omega), canon_miss _ _ _ _ _ _ 1 (by left; simp; omega)]
    by_cases c1 : 256 ≤ (c : Nat)
    · refine Eq.trans (canon_hit _ _ _ _ _ _ (ix3 (0 : Fin 1) (⟨e, he⟩ : Fin 128) (⟨c - 256, by omega⟩ : Fin 256)) ?_) ?_
      · intro a; fin_cases a <;> simp [hg]; omega
      · exact qtile x0 x1 _ _ _ g e c 1 (by omega) (by omega) rfl (by show (c : Nat) = 1 * 256 + (c - 256); omega)
    rw [canon_miss _ _ _ _ _ _ 2 (by left; simp; omega), canon_miss _ _ _ _ _ _ 1 (by left; simp; omega)]
    refine Eq.trans (canon_hit _ _ _ _ _ _ (ix3 (0 : Fin 1) (⟨e, he⟩ : Fin 128) (⟨c, by omega⟩ : Fin 256)) ?_) ?_
    · intro a; fin_cases a <;> simp [hg]
    · exact qtile x0 x1 _ _ _ g e c 0 (by omega) (by omega) rfl (by show (c : Nat) = 0 * 256 + c; omega)
  · rw [canon_miss _ _ _ _ _ _ 1 (by right; simp; omega)]
    by_cases c2 : 512 ≤ (c : Nat)
    · refine Eq.trans (canon_hit _ _ _ _ _ _ (ix3 (0 : Fin 1) (⟨e - 128, by omega⟩ : Fin 128) (⟨c - 512, by omega⟩ : Fin 256)) ?_) ?_
      · intro a; fin_cases a <;> simp [hg] <;> omega
      · exact btile x0 x1 g _ _ _ e c 2 (by omega) (by show (e : Nat) = 128 + (e - 128); omega) (by show (c : Nat) = 2 * 256 + (c - 512); omega)
    rw [canon_miss _ _ _ _ _ _ 2 (by left; simp; omega), canon_miss _ _ _ _ _ _ 1 (by right; simp; omega)]
    by_cases c1 : 256 ≤ (c : Nat)
    · refine Eq.trans (canon_hit _ _ _ _ _ _ (ix3 (0 : Fin 1) (⟨e - 128, by omega⟩ : Fin 128) (⟨c - 256, by omega⟩ : Fin 256)) ?_) ?_
      · intro a; fin_cases a <;> simp [hg] <;> omega
      · exact btile x0 x1 g _ _ _ e c 1 (by omega) (by show (e : Nat) = 128 + (e - 128); omega) (by show (c : Nat) = 1 * 256 + (c - 256); omega)
    rw [canon_miss _ _ _ _ _ _ 2 (by left; simp; omega), canon_miss _ _ _ _ _ _ 1 (by right; simp; omega)]
    refine Eq.trans (canon_hit _ _ _ _ _ _ (ix3 (0 : Fin 1) (⟨e - 128, by omega⟩ : Fin 128) (⟨c, by omega⟩ : Fin 256)) ?_) ?_
    · intro a; fin_cases a <;> simp [hg] <;> omega
    · exact btile x0 x1 g _ _ _ e c 0 (by omega) (by show (e : Nat) = 128 + (e - 128); omega) (by show (c : Nat) = 0 * 256 + c; omega)

end Cert.KernelIdeal.Attn
-- ==== Proof.Attn.Tiles.lean ====
/-
  The running softmax one tile of keys at a time, and a softmax over the keys of some tiles as one over all keys.
-/
module

public import proofs.«01_k».proof.Proof.Attn.Alg

@[expose] public section

noncomputable section

namespace Cert.Attn

open Idealize.ShloMosaic

variable {ι κ : Type*} [Fintype κ]

/-- The maximum after one more tile, whose keys are `e x`. -/
theorem sup_tile [DecidableEq ι] (s : ι → EReal) (S : Finset ι) (e : κ → ι) :
    max (S.sup s) (Finset.univ.sup fun x => s (e x)) = (S ∪ Finset.univ.image e).sup s := by
  rw [Finset.sup_union, Finset.sup_image]; rfl

/-- The mass after one more tile, none of whose keys was seen before. -/
theorem mass_tile [DecidableEq ι] (s v : ι → EReal) (S : Finset ι) (e : κ → ι) (he : Function.Injective e)
    (hd : ∀ x, e x ∉ S) :
    Ideal.exp2 (S.sup s - (S ∪ Finset.univ.image e).sup s) * mass s v S
        + ∑ x, v (e x) * Ideal.exp2 (s (e x) - (S ∪ Finset.univ.image e).sup s)
      = mass s v (S ∪ Finset.univ.image e) := by
  have hdis : Disjoint S (Finset.univ.image e) := by
    rw [Finset.disjoint_left]; intro k hk hk'
    obtain ⟨x, -, rfl⟩ := Finset.mem_image.mp hk'
    exact hd x hk
  rw [← mass_union s v hdis, Finset.sum_image (fun x _ y _ h => he h), Finset.sup_union]
  simp only [mul_comm (v _)]

/-- A mass over the keys of some tiles is the mass over all keys, when the other keys are masked. -/
theorem mass_transfer [Fintype ι] (s v : ι → EReal) (s' v' : κ → EReal) (S : Finset κ) (e : κ → ι)
    (hinj : Set.InjOn e S) (hoff : ∀ x, x ∉ S → s' x = ⊥) (hs : ∀ x ∈ S, s' x = s (e x)) (hv : ∀ x ∈ S, v' x = v (e x))
    (hall : ∀ k, s k ≠ ⊥ → ∃ x ∈ S, e x = k) : mass s' v' Finset.univ = mass s v Finset.univ := by
  classical
  have hoff' : ∀ k, k ∉ S.image e → s k = ⊥ := fun k hk => by
    by_contra h
    obtain ⟨x, hx, rfl⟩ := hall k h
    exact hk (Finset.mem_image_of_mem e hx)
  have hsup : S.sup s' = (S.image e).sup s := by
    rw [Finset.sup_image]; exact Finset.sup_congr rfl hs
  rw [← mass_of_masked s' v' S hoff, ← mass_of_masked s v (S.image e) hoff', mass, mass, hsup, Finset.sum_image hinj]
  exact Finset.sum_congr rfl fun x hx => by rw [hs x hx, hv x hx]

/-- The same for attention. -/
theorem attend_transfer [Fintype ι] (tiny : EReal) (s v : ι → EReal) (s' v' o' : κ → EReal) (S : Finset κ) (e : κ → ι)
    (hinj : Set.InjOn e S) (hoff : ∀ x, x ∉ S → s' x = ⊥) (hs : ∀ x ∈ S, s' x = s (e x)) (hv : ∀ x ∈ S, v' x = v (e x))
    (ho : ∀ x, o' x = 1) (hall : ∀ k, s k ≠ ⊥ → ∃ x ∈ S, e x = k) :
    Ideal.div (mass s' v' Finset.univ) (max (mass s' o' Finset.univ) tiny) = attend tiny s v Finset.univ := by
  rw [attend, mass_transfer s v s' v' S e hinj hoff hs hv hall,
    mass_transfer s (fun _ => 1) s' o' S e hinj hoff hs (fun x _ => ho x) hall]

end Cert.Attn
-- ==== Proof.Attn.Window.lean ====
/-
  The window: three tiles of 256 keys, their maximum, their powers and the weighted values, are attention over the last
  512 keys.
-/
module

public import proofs.«01_k».proof.Proof.Attn.Pay
public import proofs.«01_k».proof.Proof.Attn.Tiles

@[expose] public section

set_option maxRecDepth 16384

noncomputable section

namespace Cert.KernelIdeal.Attn

open Cert.KernelIdeal Cert.KernelIdeal.Gen Idealize.ShloMosaic Idealize.ShloMosaic.TcCoe

/-- A value kept at the blocks far enough from the start. -/
theorem select_ge {α : Type} (n i : Nat) (hn : n < 4096) (hi : i < 4096) (x y : α) :
    Scalar.select (Scalar.cmpi .sge (BitVec.ofNat 32 i) (BitVec.ofNat 32 n)) x y = if n ≤ i then x else y := by
  show Scalar.select (IntOp.cmpi .sge (BitVec.ofNat 32 i) (BitVec.ofNat 32 n)) x y = _
  rw [WordCmp.cmpi_sge_ofNat (by omega) (by omega)]
  by_cases h : n ≤ i <;> simp [Scalar.select, h]

/-- The key at row `x` of the three tiles of block `i`. -/
def wkey (i : Fin 16) (x : Fin 768) : Fin 4096 :=
  ⟨(i - (x : Nat) / 256) * 256 + x % 256, by have := Nat.sub_le i.val (x / 256); omega⟩

/-- The rows whose tile exists. -/
def wrows (i : Fin 16) : Finset (Fin 768) := Finset.univ.filter fun x => (x : Nat) / 256 ≤ i

/-- The scores of one query against the three tiles, masked. -/
def wsc (i : Fin 16) (q : Nat) (sc : Fin 4096 → EReal) (x : Fin 768) : EReal :=
  if (x : Nat) / 256 ≤ i then sc (wkey i x) + (if (x : Nat) / 256 = 0 then if (x : Nat) ≤ q then 0 else ⊥
    else if (x : Nat) / 256 = 1 then 0 else if q < (x : Nat) - 512 then 0 else ⊥) else ⊥

theorem wsup (i : Fin 16) (q : Nat) (sc : Fin 4096 → EReal) (f0 f1 f2 : Fin 256 → EReal)
    (h0 : ∀ r : Fin 256, f0 r = wsc i q sc ⟨r, by omega⟩) (h1 : ∀ r : Fin 256, 1 ≤ i.val → f1 r = wsc i q sc ⟨256 + r, by omega⟩)
    (h2 : ∀ r : Fin 256, 2 ≤ i.val → f2 r = wsc i q sc ⟨512 + r, by omega⟩) :
    max (max (Finset.univ.sup f0) (if 1 ≤ i.val then Finset.univ.sup f1 else ⊥)) (if 2 ≤ i.val then Finset.univ.sup f2 else ⊥)
      = Finset.univ.sup (wsc i q sc) := by
  apply le_antisymm
  · refine max_le (max_le (Finset.sup_le fun r _ => ?_) ?_) ?_
    · rw [h0]; exact Finset.le_sup (Finset.mem_univ _)
    · split_ifs with h
      · exact Finset.sup_le fun r _ => by rw [h1 r h]; exact Finset.le_sup (Finset.mem_univ _)
      · exact bot_le
    · split_ifs with h
      · exact Finset.sup_le fun r _ => by rw [h2 r h]; exact Finset.le_sup (Finset.mem_univ _)
      · exact bot_le
  · refine Finset.sup_le fun x _ => ?_
    by_cases hx : (x : Nat) < 256
    · refine le_trans ?_ (le_trans (le_max_left _ _) (le_max_left _ _))
      have := h0 ⟨x, hx⟩
      exact this ▸ Finset.le_sup (f := f0) (Finset.mem_univ _)
    by_cases hx' : (x : Nat) < 512
    · by_cases hi : 1 ≤ i.val
      · refine le_trans ?_ (le_trans (le_max_right _ _) (le_max_left _ _))
        rw [if_pos hi]
        have := h1 ⟨x - 256, by omega⟩ hi
        have e : (⟨256 + (x - 256), by omega⟩ : Fin 768) = x := by ext; simp; omega
        simp only [e] at this
        exact this ▸ Finset.le_sup (f := f1) (Finset.mem_univ _)
      · rw [wsc, if_neg (by omega)]; exact bot_le
    · by_cases hi : 2 ≤ i.val
      · refine le_trans ?_ (le_max_right _ _)
        rw [if_pos hi]
        have := h2 ⟨x - 512, by omega⟩ hi
        have e : (⟨512 + (x - 512), by omega⟩ : Fin 768) = x := by ext; simp; omega
        simp only [e] at this
        exact this ▸ Finset.le_sup (f := f2) (Finset.mem_univ _)
      · rw [wsc, if_neg (by omega)]; exact bot_le

/-- The window's weighted values of one query. -/
theorem window_value (i : Fin 16) (s0 s1 s2 : Vec Ideal S1x1x256x1024 .f32) (b0 b2 : Vec Ideal S1x256x1024 .f32)
    (v0 v1 v2 : Vec Ideal S1x1x1x144x256 .bf16) (p : Vec Ideal S1x768x1024 .bf16) (m : FVec Ideal S1x1024 .f32) (d : Fin 128) (c : Fin 1024)
    (sc vv : Fin 4096 → EReal)
    (hm : m = k0_pay107 (BitVec.ofNat 32 i) s0 b0 s1 s2 b2)
    (hp0 : ∀ r : Fin 256, p (ix3 0 ⟨r, by omega⟩ c) = k0_pay108 m s0 b0 (ix3 0 r c))
    (hp1 : ∀ r : Fin 256, p (ix3 0 ⟨256 + r, by omega⟩ c) = k0_pay109 (BitVec.ofNat 32 i) m s1 (ix3 0 r c))
    (hp2 : ∀ r : Fin 256, p (ix3 0 ⟨512 + r, by omega⟩ c) =
      k0_pay112 (k0_pay110 s2 b2) (k0_pay111 (BitVec.ofNat 32 i) m) (ix3 0 r c))
    (hs0 : ∀ r : Fin 256, s0 (ix4 0 0 r c) = sc ⟨i * 256 + r, by omega⟩)
    (hs1 : ∀ r : Fin 256, s1 (ix4 0 0 r c) = sc ⟨(i - 1) * 256 + r, by omega⟩)
    (hs2 : ∀ r : Fin 256, s2 (ix4 0 0 r c) = sc ⟨(i - 2) * 256 + r, by omega⟩)
    (hb0 : ∀ r : Fin 256, b0 (ix3 0 r c) = if (r : Nat) ≤ c % 256 then (0 : EReal) else ⊥)
    (hb2 : ∀ r : Fin 256, b2 (ix3 0 r c) = if (c : Nat) % 256 < r then (0 : EReal) else ⊥)
    (hv0 : ∀ r : Fin 256, v0 (ix5 0 0 0 ⟨d, by omega⟩ r) = vv ⟨i * 256 + r, by omega⟩)
    (hv1 : ∀ r : Fin 256, v1 (ix5 0 0 0 ⟨d, by omega⟩ r) = vv ⟨(i - 1) * 256 + r, by omega⟩)
    (hv2 : ∀ r : Fin 256, v2 (ix5 0 0 0 ⟨d, by omega⟩ r) = vv ⟨(i - 2) * 256 + r, by omega⟩)
    (ho0 : ∀ r : Fin 256, v0 (ix5 0 0 0 128 r) = (1 : EReal)) (ho1 : ∀ r : Fin 256, v1 (ix5 0 0 0 128 r) = (1 : EReal))
    (ho2 : ∀ r : Fin 256, v2 (ix5 0 0 0 128 r) = (1 : EReal)) :
    over (k0_pay130 v0 v1 v2) p (ix2 d c) =
      Cert.Attn.attend Cert.Attn.tiny (fun j : Fin 4096 => if (j : Nat) ≤ i * 256 + c % 256 ∧ i * 256 + (c : Nat) % 256 - j < 512 then sc j else ⊥)
        vv Finset.univ := by
  have key0 : ∀ r : Fin 256, wsc i (c % 256) sc ⟨r, by omega⟩ = s0 (ix4 0 0 r c) + b0 (ix3 0 r c) := fun r => by
    have h : (r : Nat) / 256 = 0 := by omega
    rw [hs0, hb0, wsc]
    simp only [h, Nat.zero_le, if_true, wkey, Nat.sub_zero]
    congr 3; omega
  have key1 : ∀ r : Fin 256, 1 ≤ i.val → wsc i (c % 256) sc ⟨256 + r, by omega⟩ = s1 (ix4 0 0 r c) := fun r hi => by
    have h : (256 + (r : Nat)) / 256 = 1 := by omega
    rw [hs1, wsc]
    simp only [h, hi, if_true, wkey, one_ne_zero, if_false, add_zero]
    congr 2; omega
  have key2 : ∀ r : Fin 256, 2 ≤ i.val → wsc i (c % 256) sc ⟨512 + r, by omega⟩ = s2 (ix4 0 0 r c) + b2 (ix3 0 r c) := fun r hi => by
    have h : (512 + (r : Nat)) / 256 = 2 := by omega
    rw [hs2, hb2, wsc]
    simp only [h, hi, if_true, wkey, OfNat.ofNat_ne_zero, OfNat.ofNat_ne_one, if_false, Nat.add_sub_cancel_left]
    congr 3; omega
  have hsup : m (ix2 0 c) = Finset.univ.sup (wsc i (c % 256) sc) := by
    rw [hm, wmax_apply, select_ge 1 i (by omega) (by omega), select_ge 2 i (by omega) (by omega)]
    exact wsup i (c % 256) sc _ _ _ (fun r => (key0 r).symm) (fun r h => (key1 r h).symm) (fun r h => (key2 r h).symm)
  have hp : ∀ x : Fin 768, p (ix3 0 x c) = Ideal.exp2 (wsc i (c % 256) sc x - Finset.univ.sup (wsc i (c % 256) sc)) := fun x => by
    by_cases hx : (x : Nat) < 256
    · have := hp0 ⟨x, hx⟩
      rw [wpow0_apply, ← key0, hsup] at this
      exact this
    by_cases hx' : (x : Nat) < 512
    · have := hp1 ⟨x - 256, by omega⟩
      have e : (⟨256 + (x - 256), by omega⟩ : Fin 768) = x := by ext; simp; omega
      simp only [e] at this
      rw [this, wpow1_apply, select_ge 1 i (by omega) (by omega)]
      by_cases hi : 1 ≤ i.val
      · rw [if_pos hi, ← key1 _ hi, hsup]; simp only [e]
      · rw [if_neg hi, wsc, if_neg (by omega)]; simp [sub_eq_add_neg]
    · have := hp2 ⟨x - 512, by omega⟩
      have e : (⟨512 + (x - 512), by omega⟩ : Fin 768) = x := by ext; simp; omega
      simp only [e] at this
      rw [this, wpow2_apply, select_ge 2 i (by omega) (by omega)]
      by_cases hi : 2 ≤ i.val
      · rw [if_pos hi, ← key2 _ hi, hsup]; simp only [e]
      · rw [if_neg hi, wsc, if_neg (by omega)]; simp [sub_eq_add_neg]
  have hv : ∀ x : Fin 768, k0_pay130 v0 v1 v2 (ix2 ⟨d, by omega⟩ x) = vv (wkey i x) := fun x => by
    rw [cat_apply]
    by_cases hx : (x : Nat) < 256
    · rw [dif_pos hx, hv0]; congr 1; ext; simp only [wkey]
      have : (x : Nat) / 256 = 0 := by omega
      rw [this]; omega
    rw [dif_neg hx]
    by_cases hx' : (x : Nat) < 512
    · rw [dif_pos hx', hv1]; congr 1; ext; simp only [wkey]
      have : (x : Nat) / 256 = 1 := by omega
      rw [this]; omega
    · rw [dif_neg hx', hv2]; congr 1; ext; simp only [wkey]
      have : (x : Nat) / 256 = 2 := by omega
      rw [this]; omega
  have ho : ∀ x : Fin 768, k0_pay130 v0 v1 v2 (ix2 128 x) = (1 : EReal) := fun x => by
    rw [cat_apply]; split_ifs
    · exact ho0 _
    · exact ho1 _
    · exact ho2 _
  have hmass : ∀ w : Fin 768 → EReal, ∑ x, w x * p (ix3 0 x c) = Cert.Attn.mass (wsc i (c % 256) sc) w Finset.univ := fun w =>
    Finset.sum_congr rfl fun x _ => by rw [hp x, mul_comm]
  rw [over_apply, hmass, hmass]
  refine Cert.Attn.attend_transfer _ _ vv _ _ _ (wrows i) (wkey i) ?_ ?_ ?_ (fun x _ => hv x) ho ?_
  · intro x hx y hy h
    simp only [wrows, Finset.coe_filter, Finset.mem_univ, true_and, Set.mem_setOf_eq] at hx hy
    have := congrArg Fin.val h
    simp only [wkey] at this
    ext; omega
  · intro x hx
    simp only [wrows, Finset.mem_filter, Finset.mem_univ, true_and] at hx
    rw [wsc, if_neg hx]
  · intro x hx
    simp only [wrows, Finset.mem_filter, Finset.mem_univ, true_and] at hx
    have h3 : (x : Nat) / 256 = 0 ∨ (x : Nat) / 256 = 1 ∨ (x : Nat) / 256 = 2 := by omega
    have hk : (wkey i x : Nat) = (i - (x : Nat) / 256) * 256 + x % 256 := rfl
    rw [wsc, if_pos hx]
    rcases h3 with h | h | h
    · rw [h] at hk hx
      have e : (wkey i x : Nat) ≤ i * 256 + c % 256 ∧ i * 256 + (c : Nat) % 256 - wkey i x < 512 ↔ (x : Nat) ≤ c % 256 := by omega
      simp only [h, if_true, e]
      split_ifs <;> simp
    · rw [h] at hk hx
      have e : (wkey i x : Nat) ≤ i * 256 + c % 256 ∧ i * 256 + (c : Nat) % 256 - wkey i x < 512 := by omega
      simp [h, e]
    · rw [h] at hk hx
      have e : (wkey i x : Nat) ≤ i * 256 + c % 256 ∧ i * 256 + (c : Nat) % 256 - wkey i x < 512 ↔ (c : Nat) % 256 < x - 512 := by omega
      simp only [h, OfNat.ofNat_ne_zero, OfNat.ofNat_ne_one, if_false, e]
      split_ifs <;> simp
  · intro k hk
    have hk' : (k : Nat) ≤ i * 256 + c % 256 ∧ i * 256 + (c : Nat) % 256 - k < 512 := by
      by_contra h; exact hk (if_neg h)
    refine ⟨⟨(i - (k : Nat) / 256) * 256 + k % 256, by omega⟩, ?_, ?_⟩
    · simp only [wrows, Finset.mem_filter, Finset.mem_univ, true_and]; omega
    · ext; simp only [wkey]; omega

end Cert.KernelIdeal.Attn
-- ==== Proof.Attn.WinBlock.lean ====
/-
  What a grid point leaves in its block of the window's result: attention over the last 512 keys, times the gate.
-/
module

public import proofs.«01_k».proof.Proof.Attn.Reads
public import proofs.«01_k».proof.Proof.Attn.Window

@[expose] public section

set_option maxRecDepth 16384

noncomputable section

namespace Cert.KernelIdeal.Attn

open Cert.KernelIdeal Cert.KernelIdeal.Gen Idealize.ShloMosaic Idealize.ShloMosaic.TcCoe

/-- The stored powers of the first group. -/
abbrev powers0 (w : BitVec 32) (s0 s1 s2 : Vec Ideal S1x1x256x1024 .f32) (b0 b2 : Vec Ideal S1x256x1024 .f32) :
    List (View.Piece (Elt Ideal) S2x768x1024 .bf16) :=
  [⟨Rect.unit ![0, 512, 0] S1x256x1024.size inb_S2x768x1024_S1x256x1024_0_512_0, k0_pay112 (k0_pay110 s2 b2) (k0_pay111 w (k0_pay107 w s0 b0 s1 s2 b2))⟩,
   ⟨Rect.unit ![0, 256, 0] S1x256x1024.size inb_S2x768x1024_S1x256x1024_0_256_0, k0_pay109 w (k0_pay107 w s0 b0 s1 s2 b2) s1⟩,
   ⟨Rect.unit ![0, 0, 0] S1x256x1024.size inb_S2x768x1024_S1x256x1024_0_0_0, k0_pay108 (k0_pay107 w s0 b0 s1 s2 b2) s0 b0⟩]

/-- The stored powers of the second group. -/
abbrev powers1 (w : BitVec 32) (s0 s1 s2 : Vec Ideal S1x1x256x1024 .f32) (b0 b2 : Vec Ideal S1x256x1024 .f32)
    (L : List (View.Piece (Elt Ideal) S2x768x1024 .bf16)) : List (View.Piece (Elt Ideal) S2x768x1024 .bf16) :=
  ⟨Rect.unit ![1, 512, 0] S1x256x1024.size inb_S2x768x1024_S1x256x1024_1_512_0,
      k0_pay129 w (k0_pay125 w (k0_pay123 s0 b0) (k0_pay124 w s1) s2 b2) s2 b2⟩ ::
   ⟨Rect.unit ![1, 256, 0] S1x256x1024.size inb_S2x768x1024_S1x256x1024_1_256_0,
      k0_pay128 (k0_pay127 w (k0_pay123 s0 b0) (k0_pay124 w s1) s2 b2 s1)⟩ ::
   ⟨Rect.unit ![1, 0, 0] S1x256x1024.size inb_S2x768x1024_S1x256x1024_1_0_0,
      k0_pay126 w (k0_pay123 s0 b0) (k0_pay124 w s1) s2 b2 s0 b0⟩ :: L

/-- The powers a query reads back. -/
def powers (w : BitVec 32) (s0 s1 s2 : Vec Ideal S1x1x256x1024 .f32) (b0 b2 : Vec Ideal S1x256x1024 .f32) (x : Fin 768) (c : Fin 1024) : EReal :=
  if h : (x : Nat) < 256 then k0_pay108 (k0_pay107 w s0 b0 s1 s2 b2) s0 b0 (ix3 0 ⟨x, h⟩ c)
  else if h' : (x : Nat) < 512 then k0_pay109 w (k0_pay107 w s0 b0 s1 s2 b2) s1 (ix3 0 ⟨x - 256, by omega⟩ c)
  else k0_pay112 (k0_pay110 s2 b2) (k0_pay111 w (k0_pay107 w s0 b0 s1 s2 b2)) (ix3 0 ⟨x - 512, by omega⟩ c)

theorem powers0_read (v : View sig .tc .vmem S2x768x1024 .bf16) (w : BitVec 32) (s0 s1 s2 : Vec Ideal S1x1x256x1024 .f32)
    (b0 b2 : Vec Ideal S1x256x1024 .f32) (inb) (x : Fin 768) (c : Fin 1024) :
    v.readCov (powers0 w s0 s1 s2 b0 b2) (Rect.unit (s := S2x768x1024) ![0, 0, 0] S1x768x1024.size inb).toLoadRect (ix3 0 x c) = powers w s0 s1 s2 b0 b2 x c := by
  rw [read_at v _ ![0, 0, 0] S1x768x1024.size inb (ix3 0 x c) (ix3 0 x c) (by intro a; fin_cases a <;> simp)]
  unfold powers powers0
  split_ifs with h h'
  · rw [canon_miss _ _ _ _ _ _ 1 (by left; simp; omega), canon_miss _ _ _ _ _ _ 1 (by left; simp; omega)]
    refine Eq.trans (canon_hit _ _ _ _ _ _ (ix3 (0 : Fin 1) (⟨x, h⟩ : Fin 256) c) ?_) ?_
    · intro a; fin_cases a <;> simp
    · rfl
  · rw [canon_miss _ _ _ _ _ _ 1 (by left; simp; omega)]
    refine Eq.trans (canon_hit _ _ _ _ _ _ (ix3 (0 : Fin 1) (⟨x - 256, by omega⟩ : Fin 256) c) ?_) ?_
    · intro a; fin_cases a <;> simp; omega
    · rfl
  · refine Eq.trans (canon_hit _ _ _ _ _ _ (ix3 (0 : Fin 1) (⟨x - 512, by omega⟩ : Fin 256) c) ?_) ?_
    · intro a; fin_cases a <;> simp; omega
    · rfl

theorem powers1_read (v : View sig .tc .vmem S2x768x1024 .bf16) (w : BitVec 32) (s0 s1 s2 : Vec Ideal S1x1x256x1024 .f32)
    (b0 b2 : Vec Ideal S1x256x1024 .f32) (L) (inb) (x : Fin 768) (c : Fin 1024) :
    v.readCov (powers1 w s0 s1 s2 b0 b2 L) (Rect.unit (s := S2x768x1024) ![1, 0, 0] S1x768x1024.size inb).toLoadRect (ix3 0 x c) = powers w s0 s1 s2 b0 b2 x c := by
  rw [read_at v _ ![1, 0, 0] S1x768x1024.size inb (ix3 0 x c) (ix3 1 x c) (by intro a; fin_cases a <;> simp)]
  unfold powers powers1
  split_ifs with h h'
  · rw [canon_miss _ _ _ _ _ _ 1 (by left; simp; omega), canon_miss _ _ _ _ _ _ 1 (by left; simp; omega)]
    refine Eq.trans (canon_hit _ _ _ _ _ _ (ix3 (0 : Fin 1) (⟨x, h⟩ : Fin 256) c) ?_) ?_
    · intro a; fin_cases a <;> simp
    · rfl
  · rw [canon_miss _ _ _ _ _ _ 1 (by left; simp; omega)]
    refine Eq.trans (canon_hit _ _ _ _ _ _ (ix3 (0 : Fin 1) (⟨x - 256, by omega⟩ : Fin 256) c) ?_) ?_
    · intro a; fin_cases a <;> simp; omega
    · rfl
  · refine Eq.trans (canon_hit _ _ _ _ _ _ (ix3 (0 : Fin 1) (⟨x - 512, by omega⟩ : Fin 256) c) ?_) ?_
    · intro a; fin_cases a <;> simp; omega
    · rfl

/-- The gated value a result tile stores, at the tile's index. -/
theorem gated (V : FVec Ideal S128x1024 .f32) (G : Vec Ideal S1x4x256 .f32) (r : Fin 256) (h : Fin 4) (d : Fin 128) (c : Fin 1024)
    (hc : (c : Nat) = h * 256 + r) :
    k0_pay115 V (k0_pay114 G) (Scalar.ofBits .f32 0x3F000000#32) (ix2 d c)
      = V (ix2 d ⟨(h : Nat) * 256 + r, by omega⟩) * Ideal.logistic (G (ix3 0 h r)) := by
  refine (gate_apply V G d c).trans (congrArg₂ (· * ·) (congrArg (fun z => V (ix2 d z)) (Fin.ext hc)) (congrArg (fun z => Ideal.logistic (G z)) ?_))
  congr 1
  · ext; dsimp only; omega
  · ext; dsimp only; omega

theorem gated0 (V : FVec Ideal S128x1024 .f32) (G : Vec Ideal S1x4x256 .f32) (x : S1x256x128.Idx) (r : Fin 256) (h : Fin 4) (d : Fin 128)
    (hr : (r : Nat) = x 1) (hd : (d : Nat) = x 2) (hh : (h : Nat) = 0) :
    k0_pay116 V (k0_pay114 G) (Scalar.ofBits .f32 0x3F000000#32) x
      = V (ix2 d ⟨(h : Nat) * 256 + r, by omega⟩) * Ideal.logistic (G (ix3 0 h r)) := by
  obtain ⟨z, x1, x2, rfl⟩ : ∃ (z : Fin 1) (x1 : Fin 256) (x2 : Fin 128), x = ix3 z x1 x2 := ⟨x 0, x 1, x 2, eq_ix3 x⟩
  obtain rfl : z = 0 := Subsingleton.elim _ _
  obtain rfl : r = x1 := Fin.ext hr
  obtain rfl : d = x2 := Fin.ext hd
  exact (store0_apply _ _ _ r d).trans (gated V G r h d _ (by dsimp only; omega))

theorem gated1 (V : FVec Ideal S128x1024 .f32) (G : Vec Ideal S1x4x256 .f32) (x : S1x256x128.Idx) (r : Fin 256) (h : Fin 4) (d : Fin 128)
    (hr : (r : Nat) = x 1) (hd : (d : Nat) = x 2) (hh : (h : Nat) = 1) :
    k0_pay117 V (k0_pay114 G) (Scalar.ofBits .f32 0x3F000000#32) x
      = V (ix2 d ⟨(h : Nat) * 256 + r, by omega⟩) * Ideal.logistic (G (ix3 0 h r)) := by
  obtain ⟨z, x1, x2, rfl⟩ : ∃ (z : Fin 1) (x1 : Fin 256) (x2 : Fin 128), x = ix3 z x1 x2 := ⟨x 0, x 1, x 2, eq_ix3 x⟩
  obtain rfl : z = 0 := Subsingleton.elim _ _
  obtain rfl : r = x1 := Fin.ext hr
  obtain rfl : d = x2 := Fin.ext hd
  exact (store1_apply _ _ _ r d).trans (gated V G r h d _ (by dsimp only; omega))

theorem gated2 (V : FVec Ideal S128x1024 .f32) (G : Vec Ideal S1x4x256 .f32) (x : S1x256x128.Idx) (r : Fin 256) (h : Fin 4) (d : Fin 128)
    (hr : (r : Nat) = x 1) (hd : (d : Nat) = x 2) (hh : (h : Nat) = 2) :
    k0_pay149 (k0_pay115 V (k0_pay114 G) (Scalar.ofBits .f32 0x3F000000#32)) x
      = V (ix2 d ⟨(h : Nat) * 256 + r, by omega⟩) * Ideal.logistic (G (ix3 0 h r)) := by
  obtain ⟨z, x1, x2, rfl⟩ : ∃ (z : Fin 1) (x1 : Fin 256) (x2 : Fin 128), x = ix3 z x1 x2 := ⟨x 0, x 1, x 2, eq_ix3 x⟩
  obtain rfl : z = 0 := Subsingleton.elim _ _
  obtain rfl : r = x1 := Fin.ext hr
  obtain rfl : d = x2 := Fin.ext hd
  exact (store2_apply _ r d).trans (gated V G r h d _ (by dsimp only; omega))

theorem gated3 (V : FVec Ideal S128x1024 .f32) (G : Vec Ideal S1x4x256 .f32) (x : S1x256x128.Idx) (r : Fin 256) (h : Fin 4) (d : Fin 128)
    (hr : (r : Nat) = x 1) (hd : (d : Nat) = x 2) (hh : (h : Nat) = 3) :
    k0_pay150 (k0_pay115 V (k0_pay114 G) (Scalar.ofBits .f32 0x3F000000#32)) x
      = V (ix2 d ⟨(h : Nat) * 256 + r, by omega⟩) * Ideal.logistic (G (ix3 0 h r)) := by
  obtain ⟨z, x1, x2, rfl⟩ : ∃ (z : Fin 1) (x1 : Fin 256) (x2 : Fin 128), x = ix3 z x1 x2 := ⟨x 0, x 1, x 2, eq_ix3 x⟩
  obtain rfl : z = 0 := Subsingleton.elim _ _
  obtain rfl : r = x1 := Fin.ext hr
  obtain rfl : d = x2 := Fin.ext hd
  exact (store3_apply _ r d).trans (gated V G r h d _ (by dsimp only; omega))

/-- Eight stored tiles of a result, from the two groups' weighted values and gates. -/
theorem wout_tiles (v00 v01 v02 v10 v11 v12 : Vec Ideal S1x1x1x144x256 .bf16) (p0 p1 : Vec Ideal S1x768x1024 .bf16) (ga gb : Vec Ideal S1x4x256 .f32)
    (r : Fin 256) (h : Fin 4) (d : Fin 128) (g : Fin 2) :
    View.canon (Val := Elt Ideal) (e := .bf16) (s := S1x256x1024)
      [⟨Rect.unit ![0, 0, 896] S1x256x128.size inb_S1x256x1024_S1x256x128_0_0_896, k0_pay136 (k0_pay131 (k0_pay130 v10 v11 v12) p1 gb)⟩,
       ⟨Rect.unit ![0, 0, 768] S1x256x128.size inb_S1x256x1024_S1x256x128_0_0_768, k0_pay135 (k0_pay134 (k0_pay130 v10 v11 v12) p1 gb)⟩,
       ⟨Rect.unit ![0, 0, 640] S1x256x128.size inb_S1x256x1024_S1x256x128_0_0_640, k0_pay133 (k0_pay130 v10 v11 v12) p1 gb⟩,
       ⟨Rect.unit ![0, 0, 512] S1x256x128.size inb_S1x256x1024_S1x256x128_0_0_512, k0_pay132 (k0_pay130 v10 v11 v12) p1 gb⟩,
       ⟨Rect.unit ![0, 0, 384] S1x256x128.size inb_S1x256x1024_S1x256x128_0_0_384, k0_pay119 (k0_pay113 v00 v01 v02 p0) (k0_pay114 ga) (FloatOps.ofBits .f32 1056964608#32)⟩,
       ⟨Rect.unit ![0, 0, 256] S1x256x128.size inb_S1x256x1024_S1x256x128_0_0_256, k0_pay118 (k0_pay113 v00 v01 v02 p0) (k0_pay114 ga) (FloatOps.ofBits .f32 1056964608#32)⟩,
       ⟨Rect.unit ![0, 0, 128] S1x256x128.size inb_S1x256x1024_S1x256x128_0_0_128, k0_pay117 (k0_pay113 v00 v01 v02 p0) (k0_pay114 ga) (FloatOps.ofBits .f32 1056964608#32)⟩,
       ⟨Rect.unit ![0, 0, 0] S1x256x128.size inb_S1x256x1024_S1x256x128_0_0_0, k0_pay116 (k0_pay113 v00 v01 v02 p0) (k0_pay114 ga) (FloatOps.ofBits .f32 1056964608#32)⟩]
      (ix3 0 r ⟨(g : Nat) * 512 + h * 128 + d, by omega⟩)
    = over (if (g : Nat) = 0 then k0_pay130 v00 v01 v02 else k0_pay130 v10 v11 v12) (if (g : Nat) = 0 then p0 else p1) (ix2 d ⟨(h : Nat) * 256 + r, by omega⟩)
      * Ideal.logistic ((if (g : Nat) = 0 then ga else gb) (ix3 0 h r)) := by
  canon_tiles x hx
  · change (g : Nat) * 512 + h * 128 + d = _ at hx2
    have hg : (g : Nat) = 1 := by omega
    simp only [hg, one_ne_zero, if_true, if_false]
    exact gated3 (over _ p1) _ x r h d hx1 (by omega) (by omega)
  · change (g : Nat) * 512 + h * 128 + d = _ at hx2
    have hg : (g : Nat) = 1 := by omega
    simp only [hg, one_ne_zero, if_true, if_false]
    exact gated2 (over _ p1) _ x r h d hx1 (by omega) (by omega)
  · change (g : Nat) * 512 + h * 128 + d = _ at hx2
    have hg : (g : Nat) = 1 := by omega
    simp only [hg, one_ne_zero, if_true, if_false]
    exact gated1 (over _ p1) _ x r h d hx1 (by omega) (by omega)
  · change (g : Nat) * 512 + h * 128 + d = _ at hx2
    have hg : (g : Nat) = 1 := by omega
    simp only [hg, one_ne_zero, if_true, if_false]
    exact gated0 (over _ p1) _ x r h d hx1 (by omega) (by omega)
  · change (g : Nat) * 512 + h * 128 + d = _ at hx2
    have hg : (g : Nat) = 0 := by omega
    simp only [hg, one_ne_zero, if_true, if_false]
    exact gated3 (over _ p0) _ x r h d hx1 (by omega) (by omega)
  · change (g : Nat) * 512 + h * 128 + d = _ at hx2
    have hg : (g : Nat) = 0 := by omega
    simp only [hg, one_ne_zero, if_true, if_false]
    exact gated2 (over _ p0) _ x r h d hx1 (by omega) (by omega)
  · change (g : Nat) * 512 + h * 128 + d = _ at hx2
    have hg : (g : Nat) = 0 := by omega
    simp only [hg, one_ne_zero, if_true, if_false]
    exact gated1 (over _ p0) _ x r h d hx1 (by omega) (by omega)
  · change (g : Nat) * 512 + h * 128 + d = _ at hx2
    have hg : (g : Nat) = 0 := by omega
    simp only [hg, one_ne_zero, if_true, if_false]
    exact gated0 (over _ p0) _ x r h d hx1 (by omega) (by omega)

theorem wscore_apply (q : Vec Ideal S1x128x1024 .bf16) (k : Vec Ideal S1x256x128 .bf16) (r : Fin 256) (c : Fin 1024) :
    k0_pay86 q k (ix4 0 0 r c) = ∑ d : Fin 128, k (ix3 0 r d) * q (ix3 0 d c) := by
  pointwise [k0_pay86, k0_pay85]

/-- The score of the query at row `r` of the block for key `j`, without the mask. -/
def wscore (x0 : Vec Ideal S1x1024x256 .bf16) (x4 : Vec Ideal S1x4096x256 .bf16) (g : Fin 2) (h : Fin 4) (r : Fin 256) (j : Fin 4096) : EReal :=
  ∑ e : Fin 128, x0 (ix3 0 ⟨(g : Nat) * 512 + h * 128 + e, by omega⟩ r) * x4 (ix3 0 j ⟨(g : Nat) * 128 + e, by omega⟩)

/-- The window's weighted value of a query of the block. -/
def wvalue (i : Fin 16) (x0 : Vec Ideal S1x1024x256 .bf16) (x4 : Vec Ideal S1x4096x256 .bf16) (x5 : Vec Ideal S1x2x16x144x256 .bf16)
    (g : Fin 2) (h : Fin 4) (r : Fin 256) (d : Fin 128) : EReal :=
  Cert.Attn.attend Cert.Attn.tiny (fun j : Fin 4096 => if (j : Nat) ≤ i * 256 + r ∧ i * 256 + (r : Nat) - j < 512 then wscore x0 x4 g h r j else ⊥)
    (fun j => x5 (ix5 0 g ⟨(j : Nat) / 256, by omega⟩ ⟨d, by omega⟩ ⟨(j : Nat) % 256, by omega⟩)) Finset.univ

/-- One group's weighted values. -/
theorem win_group (i : Fin 16) (g : Fin 2) (x0 : Vec Ideal S1x1024x256 .bf16) (x1 : Vec Ideal S1x2x128x256 .bf16) (x4 : Vec Ideal S1x4096x256 .bf16)
    (x5 : Vec Ideal S1x2x16x144x256 .bf16) (q : Vec Ideal S1x128x1024 .bf16) (k0 k1 k2 : Vec Ideal S1x256x128 .bf16)
    (v0 v1 v2 : Vec Ideal S1x1x1x144x256 .bf16) (b0 b2 : Vec Ideal S1x256x1024 .f32) (p : Vec Ideal S1x768x1024 .bf16)
    (hq : ∀ (d : Fin 128) (c : Fin 1024), q (ix3 0 d c) = qaug x0 x1 g ⟨d, by omega⟩ c)
    (hk0 : ∀ (r : Fin 256) (d : Fin 128), k0 (ix3 0 r d) = x4 (ix3 0 ⟨i * 256 + r, by omega⟩ ⟨(g : Nat) * 128 + d, by omega⟩))
    (hk1 : ∀ (r : Fin 256) (d : Fin 128), k1 (ix3 0 r d) = x4 (ix3 0 ⟨(i - 1) * 256 + r, by omega⟩ ⟨(g : Nat) * 128 + d, by omega⟩))
    (hk2 : ∀ (r : Fin 256) (d : Fin 128), k2 (ix3 0 r d) = x4 (ix3 0 ⟨(i - 2) * 256 + r, by omega⟩ ⟨(g : Nat) * 128 + d, by omega⟩))
    (hv0 : ∀ (e : Fin 144) (r : Fin 256), v0 (ix5 0 0 0 e r) = x5 (ix5 0 g i e r))
    (hv1 : ∀ (e : Fin 144) (r : Fin 256), v1 (ix5 0 0 0 e r) = x5 (ix5 0 g ⟨i - 1, by omega⟩ e r))
    (hv2 : ∀ (e : Fin 144) (r : Fin 256), v2 (ix5 0 0 0 e r) = x5 (ix5 0 g ⟨i - 2, by omega⟩ e r))
    (hb0 : ∀ (r : Fin 256) (c : Fin 1024), b0 (ix3 0 r c) = if (r : Nat) ≤ c % 256 then (0 : EReal) else ⊥)
    (hb2 : ∀ (r : Fin 256) (c : Fin 1024), b2 (ix3 0 r c) = if (c : Nat) % 256 < r then (0 : EReal) else ⊥)
    (hone : ∀ (g : Fin 2) (t : Fin 16) (r : Fin 256), x5 (ix5 0 g t 128 r) = (1 : EReal))
    (hp : ∀ (x : Fin 768) (c : Fin 1024), p (ix3 0 x c) = powers (BitVec.ofNat 32 i) (k0_pay86 q k0) (k0_pay86 q k1) (k0_pay86 q k2) b0 b2 x c)
    (r : Fin 256) (h : Fin 4) (d : Fin 128) :
    over (k0_pay130 v0 v1 v2) p (ix2 d ⟨(h : Nat) * 256 + r, by omega⟩) = wvalue i x0 x4 x5 g h r d := by
  have hc1 : ((h : Nat) * 256 + r) / 256 = h := by omega
  have hc2 : ((h : Nat) * 256 + r) % 256 = r := by omega
  have hs : ∀ (k : Vec Ideal S1x256x128 .bf16) (x : Fin 256) (j : Fin 4096),
      (∀ d : Fin 128, k (ix3 0 x d) = x4 (ix3 0 j ⟨(g : Nat) * 128 + d, by omega⟩)) →
      k0_pay86 q k (ix4 0 0 x ⟨(h : Nat) * 256 + r, by omega⟩) = wscore x0 x4 g h r j := fun k x j hk => by
    rw [wscore_apply, wscore]
    refine Finset.sum_congr rfl fun e _ => ?_
    rw [hk, hq, mul_comm, qaug, dif_pos (by dsimp only; omega)]
    congr 3
    · ext; dsimp only; omega
    · ext; dsimp only; omega
  have hval : ∀ (t : Fin 16) (x : Fin 256) (j : Fin 4096), (j : Nat) = t * 256 + x →
      x5 (ix5 0 g t ⟨d, by omega⟩ x) = x5 (ix5 0 g ⟨(j : Nat) / 256, by omega⟩ ⟨d, by omega⟩ ⟨(j : Nat) % 256, by omega⟩) := fun t x j hj => by
    congr 2 <;> ext <;> dsimp only <;> omega
  refine (window_value i (k0_pay86 q k0) (k0_pay86 q k1) (k0_pay86 q k2) b0 b2 v0 v1 v2 p _ d _ (wscore x0 x4 g h r)
    (fun j => x5 (ix5 0 g ⟨(j : Nat) / 256, by omega⟩ ⟨d, by omega⟩ ⟨(j : Nat) % 256, by omega⟩)) rfl ?_ ?_ ?_ ?_ ?_ ?_ ?_ ?_ ?_ ?_ ?_ ?_ ?_ ?_).trans ?_
  · intro x; rw [hp, powers, dif_pos (by dsimp only; omega)]
  · intro x; rw [hp, powers, dif_neg (by dsimp only; omega), dif_pos (by dsimp only; omega)]
    congr 2; ext; dsimp only; omega
  · intro x; rw [hp, powers, dif_neg (by dsimp only; omega), dif_neg (by dsimp only; omega)]
    congr 2; ext; dsimp only; omega
  · intro x; exact hs k0 x _ (hk0 x)
  · intro x; exact hs k1 x _ (hk1 x)
  · intro x; exact hs k2 x _ (hk2 x)
  · intro x; exact hb0 x _
  · intro x; exact hb2 x _
  · intro x; rw [hv0]; exact hval _ _ _ rfl
  · intro x; rw [hv1]; exact hval _ _ _ rfl
  · intro x; rw [hv2]; exact hval _ _ _ rfl
  · intro x; rw [hv0]; exact hone _ _ _
  · intro x; rw [hv1]; exact hone _ _ _
  · intro x; rw [hv2]; exact hone _ _ _
  · rw [wvalue]
    simp only [hc2]

end Cert.KernelIdeal.Attn
-- ==== Proof.Attn.WinOut.lean ====
/-
  A grid point's block of the window's result, in the two cases of the run.
-/
module

public import proofs.«01_k».proof.Proof.Attn.WinBlock

@[expose] public section

set_option maxRecDepth 16384

noncomputable section

namespace Cert.KernelIdeal.Attn

open Cert.KernelIdeal Cert.KernelIdeal.Gen Idealize.ShloMosaic Idealize.ShloMosaic.TcCoe

theorem kload (x4 : Vec Ideal S1x4096x256 .bf16) (off : Fin 3 → Nat) (a b : Nat) (inb) (he : off = ![0, a, b]) (r : Fin 256) (d : Fin 128)
    (j : Fin 4096) (n : Fin 256) (hj : (j : Nat) = a + r) (hn : (n : Nat) = b + d) :
    View.ld x4 (Rect.unit (s := S1x4096x256) off S1x256x128.size inb) (ix3 0 r d) = x4 (ix3 0 j n) := by
  subst he
  refine View.ld_unit_apply_of _ _ _ _ _ _ fun x => ?_
  fin_cases x
  · simp
  · simpa using hj
  · simpa using hn

theorem vload (x5 : Vec Ideal S1x2x16x144x256 .bf16) (off : Fin 5 → Nat) (a b : Nat) (inb) (he : off = ![0, a, b, 0, 0]) (e : Fin 144) (r : Fin 256)
    (g : Fin 2) (t : Fin 16) (hg : (g : Nat) = a) (ht : (t : Nat) = b) :
    View.ld x5 (Rect.unit (s := S1x2x16x144x256) off S1x1x1x144x256.size inb) (ix5 0 0 0 e r) = x5 (ix5 0 g t e r) := by
  subst he
  refine View.ld_unit_apply_of _ _ _ _ _ _ fun x => ?_
  fin_cases x
  · simp
  · simpa using hg
  · simpa using ht
  · simp
  · simp

theorem gload (x7 : Vec Ideal S1x24x256 .f32) (o : Nat) (inb) (h : Fin 4) (r : Fin 256) (n : Fin 24) (hn : (n : Nat) = o + h) :
    View.ld x7 (Rect.unit (s := S1x24x256) ![0, o, 0] S1x4x256.size inb) (ix3 0 h r) = x7 (ix3 0 n r) := by
  refine View.ld_unit_apply_of _ _ _ _ _ _ fun x => ?_
  fin_cases x
  · simp
  · simpa using hn
  · simp

theorem bload (x6 : Vec Ideal S2x256x1024 .f32) (o : Nat) (inb) (r : Fin 256) (c : Fin 1024) (g : Fin 2) (hg : (g : Nat) = o) :
    View.ld x6 (Rect.unit (s := S2x256x1024) ![o, 0, 0] S1x256x1024.size inb) (ix3 0 r c) = x6 (ix3 g r c) := by
  refine View.ld_unit_apply_of _ _ _ _ _ _ fun x => ?_
  fin_cases x
  · simpa using hg
  · simp
  · simp

set_option maxHeartbeats 2000000 in
theorem win_out_A (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec Ideal S1x1024x256 .bf16) (x1 : Vec Ideal S1x2x128x256 .bf16) (x2 : Vec Ideal S1x4096x512 .bf16) (x3 : Vec Ideal S1x2x8x144x512 .bf16) (x4 : Vec Ideal S1x4096x256 .bf16) (x5 : Vec Ideal S1x2x16x144x256 .bf16) (x6 : Vec Ideal S2x256x1024 .f32) (x7 : Vec Ideal S1x24x256 .f32)
    (hone : ∀ (g : Fin 2) (t : Fin 16) (r : Fin 256), x5 (ix5 0 g t 128 r) = (1 : EReal))
    (hb0 : ∀ (r : Fin 256) (c : Fin 1024), x6 (ix3 0 r c) = if (r : Nat) ≤ c % 256 then (0 : EReal) else ⊥)
    (hb2 : ∀ (r : Fin 256) (c : Fin 1024), x6 (ix3 1 r c) = if (c : Nat) % 256 < r then (0 : EReal) else ⊥)
    (g : Fin 2) (h : Fin 4) (d : Fin 128) (r : Fin 256) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r ⟨(g : Nat) * 512 + h * 128 + d, by omega⟩)
      = wvalue (i 1) x0 x4 x5 g h r d * Ideal.logistic (x7 (ix3 0 ⟨16 + (g : Nat) * 4 + h, by omega⟩ r)) := by
  frame_open
  simp (disch := decide) only [View.read_writes_junk_eq_canon, View.readAt_eq_ld, harg2.read_unread, harg3.read_unread, harg4.read_unread,
    harg5.read_unread, harg6.read_unread, harg7.read_unread, harg8.read_unread, harg9.read_unread,
    ↓ View.readCov_skip, ↓ View.readCov_cons_toLoadRect, ↓ View.readCov_fill]
  refine (wout_tiles _ _ _ _ _ _ _ _ _ _ r h d g).trans ?_
  have hg : (g : Nat) = 0 ∨ (g : Nat) = 1 := by omega
  rcases hg with hg | hg
  · simp only [hg, if_true]
    refine congrArg₂ (· * ·) ?_ (congrArg Ideal.logistic (gload x7 16 _ h r _ (by simp)))
    refine win_group (i 1) g x0 x1 x4 x5 _ _ _ _ _ _ _ _ _ _ ?_ ?_ ?_ ?_ ?_ ?_ ?_ ?_ ?_ hone
      (powers0_read arg17.view _ _ _ _ _ _ _) r h d
    · intro e c
      rw [read_at arg12.view _ _ _ _ (ix3 0 e c) (ix3 g (⟨e, by omega⟩ : Fin 256) c) (by intro a; fin_cases a <;> simp [hg])]
      exact qlist_read x0 x1 0 _ _ _ _ _ _ _ _ _ _ _ _ _ _ _ _ _ g hg rfl rfl rfl rfl _ c (Or.inl e.isLt)
    · intro x e
      exact kload x4 _ _ _ _ (off3 i 0) x e _ _ rfl (by simp [hg])
    · intro x e
      exact kload x4 _ _ _ _ (off3 i 1) x e _ _ rfl (by simp [hg])
    · intro x e
      exact kload x4 _ _ _ _ (off3 i 2) x e _ _ rfl (by simp [hg])
    · intro e x
      exact vload x5 _ _ _ _ (off7 i 0) e x _ _ hg rfl
    · intro e x
      exact vload x5 _ _ _ _ (off7 i 1) e x _ _ hg rfl
    · intro e x
      exact vload x5 _ _ _ _ (off7 i 2) e x _ _ hg rfl
    · intro x c
      exact (bload x6 0 _ x c 0 rfl).trans (hb0 x c)
    · intro x c
      exact (bload x6 1 _ x c 1 rfl).trans (hb2 x c)
  · simp only [hg, one_ne_zero, if_false]
    refine congrArg₂ (· * ·) ?_ (congrArg Ideal.logistic (gload x7 20 _ h r _ (by simp)))
    refine win_group (i 1) g x0 x1 x4 x5 _ _ _ _ _ _ _ _ _ _ ?_ ?_ ?_ ?_ ?_ ?_ ?_ ?_ ?_ hone
      (powers1_read arg17.view _ _ _ _ _ _ _ _) r h d
    · intro e c
      rw [read_at arg12.view _ _ _ _ (ix3 0 e c) (ix3 g (⟨e, by omega⟩ : Fin 256) c) (by intro a; fin_cases a <;> simp [hg])]
      exact qlist_read x0 x1 1 _ _ _ _ _ _ _ _ _ _ _ _ _ _ _ _ _ g hg rfl rfl rfl rfl _ c (Or.inl e.isLt)
    · intro x e
      exact kload x4 _ _ _ _ (off6 i 0) x e _ _ rfl (by simp [hg])
    · intro x e
      exact kload x4 _ _ _ _ (off6 i 1) x e _ _ rfl (by simp [hg])
    · intro x e
      exact kload x4 _ _ _ _ (off6 i 2) x e _ _ rfl (by simp [hg])
    · intro e x
      exact vload x5 _ _ _ _ (off8 i 0) e x _ _ hg rfl
    · intro e x
      exact vload x5 _ _ _ _ (off8 i 1) e x _ _ hg rfl
    · intro e x
      exact vload x5 _ _ _ _ (off8 i 2) e x _ _ hg rfl
    · intro x c
      exact (bload x6 0 _ x c 0 rfl).trans (hb0 x c)
    · intro x c
      exact (bload x6 1 _ x c 1 rfl).trans (hb2 x c)

set_option maxHeartbeats 2000000 in
theorem win_out_B (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec Ideal S1x1024x256 .bf16) (x1 : Vec Ideal S1x2x128x256 .bf16) (x2 : Vec Ideal S1x4096x512 .bf16) (x3 : Vec Ideal S1x2x8x144x512 .bf16) (x4 : Vec Ideal S1x4096x256 .bf16) (x5 : Vec Ideal S1x2x16x144x256 .bf16) (x6 : Vec Ideal S2x256x1024 .f32) (x7 : Vec Ideal S1x24x256 .f32)
    (hone : ∀ (g : Fin 2) (t : Fin 16) (r : Fin 256), x5 (ix5 0 g t 128 r) = (1 : EReal))
    (hb0 : ∀ (r : Fin 256) (c : Fin 1024), x6 (ix3 0 r c) = if (r : Nat) ≤ c % 256 then (0 : EReal) else ⊥)
    (hb2 : ∀ (r : Fin 256) (c : Fin 1024), x6 (ix3 1 r c) = if (c : Nat) % 256 < r then (0 : EReal) else ⊥)
    (g : Fin 2) (h : Fin 4) (d : Fin 128) (r : Fin 256) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r ⟨(g : Nat) * 512 + h * 128 + d, by omega⟩)
      = wvalue (i 1) x0 x4 x5 g h r d * Ideal.logistic (x7 (ix3 0 ⟨16 + (g : Nat) * 4 + h, by omega⟩ r)) := by
  frame_open
  simp (disch := decide) only [View.read_writes_junk_eq_canon, View.readAt_eq_ld, harg2.read_unread, harg3.read_unread, harg4.read_unread,
    harg5.read_unread, harg6.read_unread, harg7.read_unread, harg8.read_unread, harg9.read_unread,
    ↓ View.readCov_skip, ↓ View.readCov_cons_toLoadRect, ↓ View.readCov_fill]
  refine (wout_tiles _ _ _ _ _ _ _ _ _ _ r h d g).trans ?_
  have hg : (g : Nat) = 0 ∨ (g : Nat) = 1 := by omega
  rcases hg with hg | hg
  · simp only [hg, if_true]
    refine congrArg₂ (· * ·) ?_ (congrArg Ideal.logistic (gload x7 16 _ h r _ (by simp)))
    refine win_group (i 1) g x0 x1 x4 x5 _ _ _ _ _ _ _ _ _ _ ?_ ?_ ?_ ?_ ?_ ?_ ?_ ?_ ?_ hone
      (powers0_read arg17.view _ _ _ _ _ _ _) r h d
    · intro e c
      rw [read_at arg12.view _ _ _ _ (ix3 0 e c) (ix3 g (⟨e, by omega⟩ : Fin 256) c) (by intro a; fin_cases a <;> simp [hg])]
      exact qlist_read x0 x1 0 _ _ _ _ _ _ _ _ _ _ _ _ _ _ _ _ _ g hg rfl rfl rfl rfl _ c (Or.inl e.isLt)
    · intro x e
      exact kload x4 _ _ _ _ (off3 i 0) x e _ _ rfl (by simp [hg])
    · intro x e
      exact kload x4 _ _ _ _ (off3 i 1) x e _ _ rfl (by simp [hg])
    · intro x e
      exact kload x4 _ _ _ _ (off3 i 2) x e _ _ rfl (by simp [hg])
    · intro e x
      exact vload x5 _ _ _ _ (off7 i 0) e x _ _ hg rfl
    · intro e x
      exact vload x5 _ _ _ _ (off7 i 1) e x _ _ hg rfl
    · intro e x
      exact vload x5 _ _ _ _ (off7 i 2) e x _ _ hg rfl
    · intro x c
      exact (bload x6 0 _ x c 0 rfl).trans (hb0 x c)
    · intro x c
      exact (bload x6 1 _ x c 1 rfl).trans (hb2 x c)
  · simp only [hg, one_ne_zero, if_false]
    refine congrArg₂ (· * ·) ?_ (congrArg Ideal.logistic (gload x7 20 _ h r _ (by simp)))
    refine win_group (i 1) g x0 x1 x4 x5 _ _ _ _ _ _ _ _ _ _ ?_ ?_ ?_ ?_ ?_ ?_ ?_ ?_ ?_ hone
      (powers1_read arg17.view _ _ _ _ _ _ _ _) r h d
    · intro e c
      rw [read_at arg12.view _ _ _ _ (ix3 0 e c) (ix3 g (⟨e, by omega⟩ : Fin 256) c) (by intro a; fin_cases a <;> simp [hg])]
      exact qlist_read x0 x1 1 _ _ _ _ _ _ _ _ _ _ _ _ _ _ _ _ _ g hg rfl rfl rfl rfl _ c (Or.inl e.isLt)
    · intro x e
      exact kload x4 _ _ _ _ (off6 i 0) x e _ _ rfl (by simp [hg])
    · intro x e
      exact kload x4 _ _ _ _ (off6 i 1) x e _ _ rfl (by simp [hg])
    · intro x e
      exact kload x4 _ _ _ _ (off6 i 2) x e _ _ rfl (by simp [hg])
    · intro e x
      exact vload x5 _ _ _ _ (off8 i 0) e x _ _ hg rfl
    · intro e x
      exact vload x5 _ _ _ _ (off8 i 1) e x _ _ hg rfl
    · intro e x
      exact vload x5 _ _ _ _ (off8 i 2) e x _ _ hg rfl
    · intro x c
      exact (bload x6 0 _ x c 0 rfl).trans (hb0 x c)
    · intro x c
      exact (bload x6 1 _ x c 1 rfl).trans (hb2 x c)

end Cert.KernelIdeal.Attn
-- ==== Proof.Attn.SelStep.lean ====
/-
  One more tile of keys in the running softmax over the selected blocks, in the words of the payloads.
-/
module

public import proofs.«01_k».proof.Proof.Attn.WinOut
public import proofs.«01_k».proof.Proof.Attn.Tiles

@[expose] public section

set_option maxRecDepth 16384

noncomputable section

namespace Cert.KernelIdeal.Attn

open Cert.KernelIdeal Cert.KernelIdeal.Gen Idealize.ShloMosaic Idealize.ShloMosaic.TcCoe

/-! ## The offsets of the loads and the trips of the loops -/

theorem trips1 : ∀ i : grid0.Coords, (k0_t1_loop i).trips = (i 1).val / 4 := by decide +kernel
theorem trips2 : ∀ i : grid0.Coords, (k0_t2_loop i).trips = 0 := by decide +kernel
theorem off1 : ∀ i : grid0.Coords, k0_off1 i = ![0, (i 1).val / 2 * 512, 0] := by decide +kernel
theorem off2 : ∀ i : grid0.Coords, k0_off2 i = ![0, (i 1).val / 2 * 512, 256] := by decide +kernel
theorem off4 : ∀ i : grid0.Coords, k0_off4 i = ![0, 0, (i 1).val / 2, 0, 0] := by decide +kernel
theorem off5 : ∀ i : grid0.Coords, k0_off5 i = ![0, 1, (i 1).val / 2, 0, 0] := by decide +kernel
theorem off9 : ∀ (i : grid0.Coords) (k : Fin (k0_t1_loop i).trips) (r : Fin 3), 0 < r.val →
    k0_off9 i k (BitVec.ofNat 32 r) = ![0, min (2 * k.val + r) ((i 1).val / 2 - 1) * 512, 0] := by decide +kernel
theorem off10 : ∀ (i : grid0.Coords) (k : Fin (k0_t1_loop i).trips) (r : Fin 3), 0 < r.val →
    k0_off10 i k (BitVec.ofNat 32 r) = ![0, min (2 * k.val + r) ((i 1).val / 2 - 1) * 512, 256] := by decide +kernel
theorem off11 : ∀ (i : grid0.Coords) (k : Fin (k0_t1_loop i).trips), k0_off11 i k = ![0, 0, 2 * k.val, 0, 0] := by decide +kernel
theorem off12 : ∀ (i : grid0.Coords) (k : Fin (k0_t1_loop i).trips), k0_off12 i k = ![0, 1, 2 * k.val, 0, 0] := by decide +kernel
theorem off13 : ∀ (i : grid0.Coords) (k : Fin (k0_t1_loop i).trips), k0_off13 i k = ![0, 0, 2 * k.val + 1, 0, 0] := by decide +kernel
theorem off14 : ∀ (i : grid0.Coords) (k : Fin (k0_t1_loop i).trips), k0_off14 i k = ![0, 1, 2 * k.val + 1, 0, 0] := by decide +kernel
theorem off21 : ∀ i : grid0.Coords, (i 1).val / 2 % 2 = 1 → k0_off21 i = ![0, 0, (i 1).val / 2 - 1, 0, 0] := by decide +kernel
theorem off22 : ∀ i : grid0.Coords, (i 1).val / 2 % 2 = 1 → k0_off22 i = ![0, 1, (i 1).val / 2 - 1, 0, 0] := by decide +kernel

/-! ## The scores, the values and the keys seen so far -/

/-- The score of key `j` for the query of column `c`, its block's bias included, without the mask. -/
def raw (x0 : Vec Ideal S1x1024x256 .bf16) (x1 : Vec Ideal S1x2x128x256 .bf16) (x2 : Vec Ideal S1x4096x512 .bf16) (g : Fin 2) (c : Fin 1024)
    (j : Fin 4096) : EReal := ∑ k : Fin 256, x2 (ix3 0 j ⟨(g : Nat) * 256 + k, by omega⟩) * qaug x0 x1 g k c

/-- The same, later keys masked. -/
def sc (i : Fin 16) (x0 : Vec Ideal S1x1024x256 .bf16) (x1 : Vec Ideal S1x2x128x256 .bf16) (x2 : Vec Ideal S1x4096x512 .bf16) (g : Fin 2)
    (c : Fin 1024) (j : Fin 4096) : EReal := if (j : Nat) ≤ i * 256 + (c : Nat) % 256 then raw x0 x1 x2 g c j else ⊥

/-- Row `e` of the values of key `j`. -/
def vv (x3 : Vec Ideal S1x2x8x144x512 .bf16) (g : Fin 2) (e : Fin 144) (j : Fin 4096) : EReal :=
  x3 (ix5 0 g ⟨(j : Nat) / 512, by omega⟩ e ⟨(j : Nat) % 512, by omega⟩)

/-- Key `x` of tile `t`. -/
def key (t : Fin 8) (x : Fin 512) : Fin 4096 := ⟨t * 512 + x, by omega⟩

theorem key_injective (t : Fin 8) : Function.Injective (key t) := fun x y h => by
  have := congrArg Fin.val h
  simp only [key] at this
  exact Fin.ext (by omega)

theorem vv_key (x3 : Vec Ideal S1x2x8x144x512 .bf16) (g : Fin 2) (e : Fin 144) (t : Fin 8) (x : Fin 512) :
    x3 (ix5 0 g t e x) = vv x3 g e (key t x) := by
  unfold vv key
  congr 2 <;> ext <;> dsimp only <;> omega

/-- The keys of the diagonal tile `t` and of the first `p` tiles. -/
def seen (t p : Nat) : Finset (Fin 4096) :=
  Finset.univ.filter fun j => (t * 512 ≤ (j : Nat) ∧ (j : Nat) < t * 512 + 512) ∨ (j : Nat) < p * 512

theorem seen_zero (t : Fin 8) : (∅ : Finset (Fin 4096)) ∪ Finset.univ.image (key t) = seen t 0 := by
  ext j
  simp only [seen, Finset.empty_union, Finset.mem_image, Finset.mem_univ, true_and, Finset.mem_filter]
  constructor
  · rintro ⟨x, rfl⟩; left; simp only [key]; omega
  · rintro (h | h)
    · exact ⟨⟨j - t * 512, by omega⟩, Fin.ext (by simp only [key]; omega)⟩
    · omega

theorem seen_succ (t : Nat) (p : Fin 8) : seen t p ∪ Finset.univ.image (key p) = seen t (p + 1) := by
  ext j
  simp only [seen, Finset.mem_union, Finset.mem_image, Finset.mem_univ, true_and, Finset.mem_filter]
  constructor
  · rintro (h | ⟨x, rfl⟩)
    · omega
    · right; simp only [key]; omega
  · rintro h
    by_cases h' : (p : Nat) * 512 ≤ j ∧ (j : Nat) < p * 512 + 512
    · exact Or.inr ⟨⟨j - p * 512, by omega⟩, Fin.ext (by simp only [key]; omega)⟩
    · left; omega

theorem key_not_seen (t : Nat) (p : Fin 8) (hp : (p : Nat) < t) (x : Fin 512) : key p x ∉ seen t p := by
  simp only [seen, key, Finset.mem_filter, Finset.mem_univ, true_and]
  omega

/-! ## One tile -/

theorem upd_max (s : Fin 4096 → EReal) (S : Finset (Fin 4096)) (T : FVec Ideal S512x1024 .f32) (M : Vec Ideal S1x1x1024 .f32) (c : Fin 1024)
    (e : Fin 512 → Fin 4096) (hT : ∀ r : Fin 512, T (ix2 r c) = s (e r)) (hM : M (ix3 0 0 c) = S.sup s) :
    k0_pay8 T M (ix3 0 0 c) = (S ∪ Finset.univ.image e).sup s := by
  rw [max_apply', hM]
  simp only [hT]
  exact Cert.Attn.sup_tile s S e

theorem upd_mass (s v : Fin 4096 → EReal) (S : Finset (Fin 4096)) (T : FVec Ideal S512x1024 .f32) (M : Vec Ideal S1x1x1024 .f32)
    (A : Vec Ideal S1x144x1024 .f32) (V : Vec Ideal S1x1x1x144x512 .bf16) (d : Fin 144) (c : Fin 1024)
    (e : Fin 512 → Fin 4096) (he : Function.Injective e) (hd : ∀ x, e x ∉ S) (hT : ∀ r : Fin 512, T (ix2 r c) = s (e r)) (hM : M (ix3 0 0 c) = S.sup s)
    (hA : A (ix3 0 d c) = Cert.Attn.mass s v S) (hV : ∀ r : Fin 512, V (ix5 0 0 0 d r) = v (e r)) :
    k0_pay7 T M A V (ix3 0 d c) = Cert.Attn.mass s v (S ∪ Finset.univ.image e) := by
  rw [mass_apply, max_apply, hM, hA]
  simp only [hT, hV]
  rw [Cert.Attn.sup_tile s S e]
  exact Cert.Attn.mass_tile s v S e he hd

/-! ## Reading back what was stored over given contents -/

section Over

variable {Val : EltTy → Type} {sig : RefSig} {κ : Kind} {sp : Space} {S : Shape} {e : EltTy} (v : View sig κ sp S e) (f : v.ty.Contents Val)

theorem over_hit (off size : Fin S.rank → Nat) (inb) (w : (⟨S.rank, size⟩ : Shape).Idx → Val e) (L : List (View.Piece Val S e))
    (y : S.Idx) (x : (⟨S.rank, size⟩ : Shape).Idx) (h : ∀ a, (y a : Nat) = off a + x a) :
    v.read Val (v.writes Val f (⟨Rect.unit off size inb, w⟩ :: L)) y = w x :=
  View.read_writes_cons_hit_of_coords v f (Rect.unit off size inb) w L x y fun a => by
    rw [h a]; show _ = off a + 1 * (x a : Nat); omega

theorem over_miss (off size : Fin S.rank → Nat) (inb) (w : (⟨S.rank, size⟩ : Shape).Idx → Val e) (L : List (View.Piece Val S e))
    (y : S.Idx) (a : Fin S.rank) (h : (y a : Nat) < off a ∨ off a + size a ≤ y a) :
    v.read Val (v.writes Val f (⟨Rect.unit off size inb, w⟩ :: L)) y = v.read Val (v.writes Val f L) y :=
  View.read_writes_cons_miss_of_axis v f _ L y a (off a) (size a) rfl rfl rfl h

end Over

/-- The two groups' maxima, stored last. -/
theorem top_over (v : View sig .tc .vmem S2x1x1024 .f32) (f : v.ty.Contents (Elt Ideal)) (w0 w1 : Vec Ideal S1x1x1024 .f32) (L) (inb0) (inb1)
    (g : Fin 2) (c : Fin 1024) :
    v.read (Elt Ideal) (v.writes (Elt Ideal) f (⟨Rect.unit (s := S2x1x1024) ![1, 0, 0] S1x1x1024.size inb1, w1⟩ ::
      ⟨Rect.unit (s := S2x1x1024) ![0, 0, 0] S1x1x1024.size inb0, w0⟩ :: L)) (ix3 g 0 c) = (if (g : Nat) = 0 then w0 else w1) (ix3 0 0 c) := by
  split_ifs with hg
  · rw [over_miss v f _ _ _ _ _ _ 0 (by left; simp; omega)]
    exact over_hit v f _ _ _ _ _ _ (ix3 0 0 c) (by intro a; fin_cases a <;> simp [hg])
  · exact over_hit v f _ _ _ _ _ _ (ix3 0 0 c) (by intro a; fin_cases a <;> simp; omega)

/-- The two groups' masses, stored last. -/
theorem acc_over (v : View sig .tc .vmem S2x144x1024 .f32) (f : v.ty.Contents (Elt Ideal)) (w0 w1 : Vec Ideal S1x144x1024 .f32) (L) (inb0) (inb1)
    (g : Fin 2) (e : Fin 144) (c : Fin 1024) :
    v.read (Elt Ideal) (v.writes (Elt Ideal) f (⟨Rect.unit (s := S2x144x1024) ![1, 0, 0] S1x144x1024.size inb1, w1⟩ ::
      ⟨Rect.unit (s := S2x144x1024) ![0, 0, 0] S1x144x1024.size inb0, w0⟩ :: L)) (ix3 g e c) = (if (g : Nat) = 0 then w0 else w1) (ix3 0 e c) := by
  split_ifs with hg
  · rw [over_miss v f _ _ _ _ _ _ 0 (by left; simp; omega)]
    exact over_hit v f _ _ _ _ _ _ (ix3 0 e c) (by intro a; fin_cases a <;> simp [hg])
  · exact over_hit v f _ _ _ _ _ _ (ix3 0 e c) (by intro a; fin_cases a <;> simp; omega)

/-- The two groups' scores in the second slot, stored last. -/
theorem tile_over (v : View sig .tc .vmem S2x2x512x1024 .f32) (f : v.ty.Contents (Elt Ideal)) (w0 w1 : Vec Ideal S1x1x512x1024 .f32) (L) (inb0) (inb1)
    (g : Fin 2) (r : Fin 512) (c : Fin 1024) :
    v.read (Elt Ideal) (v.writes (Elt Ideal) f (⟨Rect.unit (s := S2x2x512x1024) ![1, 1, 0, 0] S1x1x512x1024.size inb1, w1⟩ ::
      ⟨Rect.unit (s := S2x2x512x1024) ![1, 0, 0, 0] S1x1x512x1024.size inb0, w0⟩ :: L)) (ix4 1 g r c) = (if (g : Nat) = 0 then w0 else w1) (ix4 0 0 r c) := by
  split_ifs with hg
  · rw [over_miss v f _ _ _ _ _ _ 1 (by left; simp; omega)]
    exact over_hit v f _ _ _ _ _ _ (ix4 0 0 r c) (by intro a; fin_cases a <;> simp [hg])
  · exact over_hit v f _ _ _ _ _ _ (ix4 0 0 r c) (by intro a; fin_cases a <;> simp; omega)

/-! ## Loads of a group's part -/

theorem topload (m : Vec Ideal S2x1x1024 .f32) (o : Nat) (inb) (g : Fin 2) (hg : (g : Nat) = o) (c : Fin 1024) :
    View.ld m (Rect.unit (s := S2x1x1024) ![o, 0, 0] S1x1x1024.size inb) (ix3 0 0 c) = m (ix3 g 0 c) :=
  View.ld_unit_apply_of _ _ _ _ _ _ fun a => by fin_cases a <;> simp [hg]

theorem accload (m : Vec Ideal S2x144x1024 .f32) (o : Nat) (inb) (g : Fin 2) (hg : (g : Nat) = o) (e : Fin 144) (c : Fin 1024) :
    View.ld m (Rect.unit (s := S2x144x1024) ![o, 0, 0] S1x144x1024.size inb) (ix3 0 e c) = m (ix3 g e c) :=
  View.ld_unit_apply_of _ _ _ _ _ _ fun a => by fin_cases a <;> simp [hg]

theorem tileload (m : Vec Ideal S2x2x512x1024 .f32) (o : Nat) (inb) (g : Fin 2) (hg : (g : Nat) = o) (r : Fin 512) (c : Fin 1024) :
    View.ld m (Rect.unit (s := S2x2x512x1024) ![1, o, 0, 0] S1x1x512x1024.size inb) (ix4 0 0 r c) = m (ix4 1 g r c) :=
  View.ld_unit_apply_of _ _ _ _ _ _ fun a => by fin_cases a <;> simp [hg]

theorem qload (m : Vec Ideal S2x256x1024 .bf16) (o : Nat) (inb) (g : Fin 2) (hg : (g : Nat) = o) (k : Fin 256) (c : Fin 1024) :
    View.ld m (Rect.unit (s := S2x256x1024) ![o, 0, 0] S1x256x1024.size inb) (ix3 0 k c) = m (ix3 g k c) :=
  View.ld_unit_apply_of _ _ _ _ _ _ fun a => by fin_cases a <;> simp [hg]

theorem sload (x2 : Vec Ideal S1x4096x512 .bf16) (off : Fin 3 → Nat) (a b : Nat) (inb) (he : off = ![0, a, b]) (r : Fin 512) (k : Fin 256)
    (j : Fin 4096) (n : Fin 512) (hj : (j : Nat) = a + r) (hn : (n : Nat) = b + k) :
    View.ld x2 (Rect.unit (s := S1x4096x512) off S1x512x256.size inb) (ix3 0 r k) = x2 (ix3 0 j n) := by
  subst he
  refine View.ld_unit_apply_of _ _ _ _ _ _ fun x => ?_
  fin_cases x
  · simp
  · simpa using hj
  · simpa using hn

theorem tload (x3 : Vec Ideal S1x2x8x144x512 .bf16) (off : Fin 5 → Nat) (a b : Nat) (inb) (he : off = ![0, a, b, 0, 0]) (g : Fin 2) (t : Fin 8)
    (hg : (g : Nat) = a) (ht : (t : Nat) = b) (e : Fin 144) (r : Fin 512) :
    View.ld x3 (Rect.unit (s := S1x2x8x144x512) off S1x1x1x144x512.size inb) (ix5 0 0 0 e r) = vv x3 g e (key t r) := by
  subst he
  rw [← vv_key]
  refine View.ld_unit_apply_of _ _ _ _ _ _ fun x => ?_
  fin_cases x
  · simp
  · simpa using hg
  · simpa using ht
  · simp
  · simp

/-- A tile of scores. -/
theorem tile_scores (x0 : Vec Ideal S1x1024x256 .bf16) (x1 : Vec Ideal S1x2x128x256 .bf16) (x2 : Vec Ideal S1x4096x512 .bf16) (g : Fin 2)
    (off : Fin 3 → Nat) (inb) (t : Fin 8) (he : off = ![0, (t : Nat) * 512, (g : Nat) * 256]) (Q : Vec Ideal S1x256x1024 .bf16)
    (hQ : ∀ (k : Fin 256) (c : Fin 1024), Q (ix3 0 k c) = qaug x0 x1 g k c) (r : Fin 512) (c : Fin 1024) :
    k0_pay2 (View.ld x2 (Rect.unit (s := S1x4096x512) off S1x512x256.size inb)) Q (ix4 0 0 r c) = raw x0 x1 x2 g c (key t r) := by
  rw [scores_apply, raw]
  refine Finset.sum_congr rfl fun k _ => ?_
  rw [hQ, sload x2 off _ _ inb he r k (key t r) ⟨(g : Nat) * 256 + k, by omega⟩ rfl rfl]

/-- A key of an earlier tile is not masked. -/
theorem sc_key (i : Fin 16) (x0 : Vec Ideal S1x1024x256 .bf16) (x1 : Vec Ideal S1x2x128x256 .bf16) (x2 : Vec Ideal S1x4096x512 .bf16) (g : Fin 2)
    (c : Fin 1024) (t : Fin 8) (ht : (t : Nat) < i / 2) (r : Fin 512) : raw x0 x1 x2 g c (key t r) = sc i x0 x1 x2 g c (key t r) := by
  rw [sc, if_pos]
  simp only [key]
  omega

/-- What the scratch holds after the diagonal tile and `p` more: the scores of the next tile, the maxima and the masses. -/
structure Held (i : Fin 16) (x0 : Vec Ideal S1x1024x256 .bf16) (x1 : Vec Ideal S1x2x128x256 .bf16) (x2 : Vec Ideal S1x4096x512 .bf16)
    (x3 : Vec Ideal S1x2x8x144x512 .bf16) (p : Nat) (s : Vec Ideal S2x2x512x1024 .f32) (m : Vec Ideal S2x1x1024 .f32) (a : Vec Ideal S2x144x1024 .f32) :
    Prop where
  tile : ∀ (g : Fin 2) (r : Fin 512) (c : Fin 1024), s (ix4 1 g r c) = raw x0 x1 x2 g c (key ⟨min p ((i : Nat) / 2 - 1), by omega⟩ r)
  top : ∀ (g : Fin 2) (c : Fin 1024), m (ix3 g 0 c) = (seen ((i : Nat) / 2) p).sup (sc i x0 x1 x2 g c)
  acc : ∀ (g : Fin 2) (e : Fin 144) (c : Fin 1024), a (ix3 g e c) = Cert.Attn.mass (sc i x0 x1 x2 g c) (vv x3 g e) (seen ((i : Nat) / 2) p)

/-- One more tile for one group, from the scores `T` of tile `p`. -/
theorem step_top (i : Fin 16) (x0 : Vec Ideal S1x1024x256 .bf16) (x1 : Vec Ideal S1x2x128x256 .bf16) (x2 : Vec Ideal S1x4096x512 .bf16) (g : Fin 2)
    (p : Fin 8) (hp : (p : Nat) < i / 2) (T : Vec Ideal S1x1x512x1024 .f32) (M : Vec Ideal S1x1x1024 .f32)
    (hT : ∀ (r : Fin 512) (c : Fin 1024), T (ix4 0 0 r c) = raw x0 x1 x2 g c (key p r))
    (hM : ∀ c : Fin 1024, M (ix3 0 0 c) = (seen ((i : Nat) / 2) p).sup (sc i x0 x1 x2 g c)) (c : Fin 1024) :
    k0_pay8 (k0_pay4 T) M (ix3 0 0 c) = (seen ((i : Nat) / 2) (p + 1)).sup (sc i x0 x1 x2 g c) := by
  rw [← seen_succ]
  exact upd_max _ _ _ _ c (key p) (fun r => by rw [tile_apply, hT, sc_key i _ _ _ _ _ p hp]) (hM c)

theorem step_acc (i : Fin 16) (x0 : Vec Ideal S1x1024x256 .bf16) (x1 : Vec Ideal S1x2x128x256 .bf16) (x2 : Vec Ideal S1x4096x512 .bf16)
    (x3 : Vec Ideal S1x2x8x144x512 .bf16) (g : Fin 2)
    (p : Fin 8) (hp : (p : Nat) < i / 2) (T : Vec Ideal S1x1x512x1024 .f32) (M : Vec Ideal S1x1x1024 .f32) (A : Vec Ideal S1x144x1024 .f32)
    (V : Vec Ideal S1x1x1x144x512 .bf16)
    (hT : ∀ (r : Fin 512) (c : Fin 1024), T (ix4 0 0 r c) = raw x0 x1 x2 g c (key p r))
    (hM : ∀ c : Fin 1024, M (ix3 0 0 c) = (seen ((i : Nat) / 2) p).sup (sc i x0 x1 x2 g c))
    (hA : ∀ (e : Fin 144) (c : Fin 1024), A (ix3 0 e c) = Cert.Attn.mass (sc i x0 x1 x2 g c) (vv x3 g e) (seen ((i : Nat) / 2) p))
    (hV : ∀ (e : Fin 144) (r : Fin 512), V (ix5 0 0 0 e r) = vv x3 g e (key p r)) (e : Fin 144) (c : Fin 1024) :
    k0_pay7 (k0_pay4 T) M A V (ix3 0 e c) = Cert.Attn.mass (sc i x0 x1 x2 g c) (vv x3 g e) (seen ((i : Nat) / 2) (p + 1)) := by
  rw [← seen_succ]
  exact upd_mass _ _ _ _ _ _ _ e c (key p) (key_injective p) (key_not_seen _ p hp)
    (fun r => by rw [tile_apply, hT, sc_key i _ _ _ _ _ p hp]) (hM c) (hA e c) (hV e)

/-- The diagonal tile for one group, from nothing. -/
theorem first_mask (i : Fin 16) (r : Fin 512) (c : Fin 1024) (w : BitVec 32) (hw : w = BitVec.ofNat 32 ((i : Nat) / 2)) :
    k0_pay90 (k0_pay81 (Scalar.muli (BitVec.ofNat 32 i) 256#32)) w (ix2 r c)
      = BitVec.ofBool (decide ((i : Nat) / 2 * 512 + r ≤ i * 256 + (c : Nat) % 256)) := by
  rw [mask_apply, pos_apply, hw]
  have e1 : BitVec.ofNat 32 ((i : Nat) / 2) * 512#32 + BitVec.ofNat 32 r = BitVec.ofNat 32 ((i : Nat) / 2 * 512 + r) := by
    apply BitVec.eq_of_toNat_eq
    simp only [BitVec.toNat_add, BitVec.toNat_mul, BitVec.toNat_ofNat]; omega
  have e2 : Scalar.muli (BitVec.ofNat 32 i) 256#32 + BitVec.ofNat 32 ((c : Nat) % 256) = BitVec.ofNat 32 ((i : Nat) * 256 + (c : Nat) % 256) := by
    apply BitVec.eq_of_toNat_eq
    show (BitVec.ofNat 32 i * 256#32 + BitVec.ofNat 32 ((c : Nat) % 256)).toNat = _
    simp only [BitVec.toNat_add, BitVec.toNat_mul, BitVec.toNat_ofNat]; omega
  rw [e1, e2]
  exact WordCmp.cmpi_sle_ofNat (by omega) (by omega)

theorem first_tile (i : Fin 16) (x0 : Vec Ideal S1x1024x256 .bf16) (x1 : Vec Ideal S1x2x128x256 .bf16) (x2 : Vec Ideal S1x4096x512 .bf16) (g : Fin 2)
    (w : IVec S512x1024 1) (T : Vec Ideal S1x1x512x1024 .f32)
    (hw : ∀ (r : Fin 512) (c : Fin 1024), w (ix2 r c) = BitVec.ofBool (decide ((i : Nat) / 2 * 512 + r ≤ i * 256 + (c : Nat) % 256)))
    (hT : ∀ (r : Fin 512) (c : Fin 1024), T (ix4 0 0 r c) = raw x0 x1 x2 g c (key ⟨(i : Nat) / 2, by omega⟩ r)) (r : Fin 512) (c : Fin 1024) :
    k0_pay97 w T (ix2 r c) = sc i x0 x1 x2 g c (key ⟨(i : Nat) / 2, by omega⟩ r) := by
  rw [masked_apply', hw, hT, sc]
  by_cases h : (i : Nat) / 2 * 512 + r ≤ i * 256 + (c : Nat) % 256
  · rw [if_pos (show ((key ⟨(i : Nat) / 2, by omega⟩ r : Fin 4096) : Nat) ≤ _ from h), decide_eq_true h]; rfl
  · rw [if_neg (show ¬ ((key ⟨(i : Nat) / 2, by omega⟩ r : Fin 4096) : Nat) ≤ _ from h), decide_eq_false h]; rfl

theorem first_top (i : Fin 16) (x0 : Vec Ideal S1x1024x256 .bf16) (x1 : Vec Ideal S1x2x128x256 .bf16) (x2 : Vec Ideal S1x4096x512 .bf16) (g : Fin 2)
    (w : IVec S512x1024 1) (T : Vec Ideal S1x1x512x1024 .f32) (M : Vec Ideal S1x1x1024 .f32)
    (hw : ∀ (r : Fin 512) (c : Fin 1024), w (ix2 r c) = BitVec.ofBool (decide ((i : Nat) / 2 * 512 + r ≤ i * 256 + (c : Nat) % 256)))
    (hT : ∀ (r : Fin 512) (c : Fin 1024), T (ix4 0 0 r c) = raw x0 x1 x2 g c (key ⟨(i : Nat) / 2, by omega⟩ r))
    (hM : ∀ c : Fin 1024, M (ix3 0 0 c) = (⊥ : EReal)) (c : Fin 1024) :
    k0_pay8 (k0_pay97 w T) M (ix3 0 0 c) = (seen ((i : Nat) / 2) 0).sup (sc i x0 x1 x2 g c) := by
  rw [← seen_zero ⟨(i : Nat) / 2, by omega⟩]
  exact upd_max _ _ _ _ c _ (fun r => first_tile i x0 x1 x2 g w T hw hT r c) (by rw [hM, Finset.sup_empty])

theorem first_acc (i : Fin 16) (x0 : Vec Ideal S1x1024x256 .bf16) (x1 : Vec Ideal S1x2x128x256 .bf16) (x2 : Vec Ideal S1x4096x512 .bf16)
    (x3 : Vec Ideal S1x2x8x144x512 .bf16) (g : Fin 2)
    (w : IVec S512x1024 1) (T : Vec Ideal S1x1x512x1024 .f32) (M : Vec Ideal S1x1x1024 .f32) (A : Vec Ideal S1x144x1024 .f32)
    (V : Vec Ideal S1x1x1x144x512 .bf16)
    (hw : ∀ (r : Fin 512) (c : Fin 1024), w (ix2 r c) = BitVec.ofBool (decide ((i : Nat) / 2 * 512 + r ≤ i * 256 + (c : Nat) % 256)))
    (hT : ∀ (r : Fin 512) (c : Fin 1024), T (ix4 0 0 r c) = raw x0 x1 x2 g c (key ⟨(i : Nat) / 2, by omega⟩ r))
    (hM : ∀ c : Fin 1024, M (ix3 0 0 c) = (⊥ : EReal))
    (hA : ∀ (e : Fin 144) (c : Fin 1024), A (ix3 0 e c) = (0 : EReal))
    (hV : ∀ (e : Fin 144) (r : Fin 512), V (ix5 0 0 0 e r) = vv x3 g e (key ⟨(i : Nat) / 2, by omega⟩ r)) (e : Fin 144) (c : Fin 1024) :
    k0_pay7 (k0_pay97 w T) M A V (ix3 0 e c) = Cert.Attn.mass (sc i x0 x1 x2 g c) (vv x3 g e) (seen ((i : Nat) / 2) 0) := by
  rw [← seen_zero ⟨(i : Nat) / 2, by omega⟩]
  exact upd_mass _ _ _ _ _ _ _ e c _ (key_injective _) (fun x => Finset.notMem_empty _)
    (fun r => first_tile i x0 x1 x2 g w T hw hT r c) (by rw [hM, Finset.sup_empty]) (by rw [hA, Cert.Attn.mass_empty]) (hV e)

end Cert.KernelIdeal.Attn
-- ==== Proof.Attn.SelLoop.lean ====
/-
  The loop over the tiles before the diagonal one: what the scratch holds after each trip.
-/
module

public import proofs.«01_k».proof.Proof.Attn.SelStep

@[expose] public section

set_option maxRecDepth 16384

noncomputable section

namespace Cert.KernelIdeal.Attn

open Cert.KernelIdeal Cert.KernelIdeal.Gen Idealize.ShloMosaic Idealize.ShloMosaic.TcCoe

/-! ## The same payload under its several names -/

theorem eq3 (K : Vec Ideal S1x512x256 .bf16) (Q : Vec Ideal S1x256x1024 .bf16) : k0_pay3 K Q = k0_pay2 K Q := rfl
theorem eq16 (K : Vec Ideal S1x512x256 .bf16) (Q : Vec Ideal S1x256x1024 .bf16) : k0_pay16 (k0_pay15 K Q) = k0_pay2 K Q := rfl
theorem eq17 (K : Vec Ideal S1x512x256 .bf16) (Q : Vec Ideal S1x256x1024 .bf16) : k0_pay17 K Q = k0_pay2 K Q := rfl
theorem eq82 (K : Vec Ideal S1x512x256 .bf16) (Q : Vec Ideal S1x256x1024 .bf16) : k0_pay82 K Q = k0_pay2 K Q := rfl
theorem eq84 (K : Vec Ideal S1x512x256 .bf16) (Q : Vec Ideal S1x256x1024 .bf16) : k0_pay84 (k0_pay83 K) Q = k0_pay2 K Q := rfl
theorem eq121 (K : Vec Ideal S1x512x256 .bf16) (Q : Vec Ideal S1x256x1024 .bf16) : k0_pay121 (k0_pay120 K) Q = k0_pay2 K Q := rfl
theorem eq122 (K : Vec Ideal S1x512x256 .bf16) (Q : Vec Ideal S1x256x1024 .bf16) : k0_pay122 K Q = k0_pay2 K Q := rfl

section Same

variable (T : Vec Ideal S1x1x512x1024 .f32) (M : Vec Ideal S1x1x1024 .f32) (A : Vec Ideal S1x144x1024 .f32) (V : Vec Ideal S1x1x1x144x512 .bf16)

theorem eq14 : k0_pay14 (k0_pay11 T M) = k0_pay8 (k0_pay4 T) M := rfl
theorem eq24 : k0_pay24 (k0_pay20 T M) = k0_pay8 (k0_pay4 T) M := rfl
theorem eq138 : k0_pay138 (k0_pay27 T M) = k0_pay8 (k0_pay4 T) M := rfl
theorem eq60 : k0_pay60 T M = k0_pay8 (k0_pay4 T) M := rfl
theorem eq144 : k0_pay144 (k0_pay61 T) M = k0_pay8 (k0_pay4 T) M := rfl
theorem eq13 : k0_pay13 (k0_pay9 T) (k0_pay11 T M) (k0_pay12 T M) A V = k0_pay7 (k0_pay4 T) M A V := rfl
theorem eq23 : k0_pay23 (k0_pay21 T M) (k0_pay22 T M A) V = k0_pay7 (k0_pay4 T) M A V := rfl
theorem eq137 : k0_pay137 (k0_pay28 T M A V) = k0_pay7 (k0_pay4 T) M A V := rfl
theorem eq59 : k0_pay59 T M A V = k0_pay7 (k0_pay4 T) M A V := rfl
theorem eq143 : k0_pay143 (k0_pay61 T) M A V = k0_pay7 (k0_pay4 T) M A V := rfl
theorem eq96 (p : IVec S1x1024 32) (w : BitVec 32) : k0_pay96 (F := Ideal) (k0_pay93 p w T M) = k0_pay8 (k0_pay97 (k0_pay90 p w) T) M := rfl
theorem eq95 (p : IVec S1x1024 32) (w : BitVec 32) : k0_pay95 (k0_pay94 p w T M A V) = k0_pay7 (k0_pay97 (k0_pay90 p w) T) M A V := rfl
theorem eq101 (w : IVec S512x1024 1) : k0_pay101 (k0_pay99 w T M) = k0_pay8 (k0_pay97 w T) M := rfl
theorem eq100 (w : IVec S512x1024 1) : k0_pay100 w T M A V = k0_pay7 (k0_pay97 w T) M A V := rfl

end Same

/-- Two more tiles for one group. -/
theorem two_top (i : Fin 16) (x0 : Vec Ideal S1x1024x256 .bf16) (x1 : Vec Ideal S1x2x128x256 .bf16) (x2 : Vec Ideal S1x4096x512 .bf16) (g : Fin 2)
    (k : Nat) (hk : k < (i : Nat) / 4) (T T' : Vec Ideal S1x1x512x1024 .f32) (M : Vec Ideal S1x1x1024 .f32)
    (hT : ∀ (r : Fin 512) (c : Fin 1024), T (ix4 0 0 r c) = raw x0 x1 x2 g c (key ⟨2 * k, by omega⟩ r))
    (hT' : ∀ (r : Fin 512) (c : Fin 1024), T' (ix4 0 0 r c) = raw x0 x1 x2 g c (key ⟨2 * k + 1, by omega⟩ r))
    (hM : ∀ c : Fin 1024, M (ix3 0 0 c) = (seen ((i : Nat) / 2) (2 * k)).sup (sc i x0 x1 x2 g c)) (c : Fin 1024) :
    k0_pay8 (k0_pay4 T') (k0_pay8 (k0_pay4 T) M) (ix3 0 0 c) = (seen ((i : Nat) / 2) (2 * (k + 1))).sup (sc i x0 x1 x2 g c) :=
  step_top i x0 x1 x2 g ⟨2 * k + 1, by omega⟩ (by dsimp only; omega) T' _ hT'
    (step_top i x0 x1 x2 g ⟨2 * k, by omega⟩ (by dsimp only; omega) T M hT hM) c

theorem two_acc (i : Fin 16) (x0 : Vec Ideal S1x1024x256 .bf16) (x1 : Vec Ideal S1x2x128x256 .bf16) (x2 : Vec Ideal S1x4096x512 .bf16)
    (x3 : Vec Ideal S1x2x8x144x512 .bf16) (g : Fin 2)
    (k : Nat) (hk : k < (i : Nat) / 4) (T T' : Vec Ideal S1x1x512x1024 .f32) (M : Vec Ideal S1x1x1024 .f32) (A : Vec Ideal S1x144x1024 .f32)
    (V V' : Vec Ideal S1x1x1x144x512 .bf16)
    (hT : ∀ (r : Fin 512) (c : Fin 1024), T (ix4 0 0 r c) = raw x0 x1 x2 g c (key ⟨2 * k, by omega⟩ r))
    (hT' : ∀ (r : Fin 512) (c : Fin 1024), T' (ix4 0 0 r c) = raw x0 x1 x2 g c (key ⟨2 * k + 1, by omega⟩ r))
    (hM : ∀ c : Fin 1024, M (ix3 0 0 c) = (seen ((i : Nat) / 2) (2 * k)).sup (sc i x0 x1 x2 g c))
    (hA : ∀ (e : Fin 144) (c : Fin 1024), A (ix3 0 e c) = Cert.Attn.mass (sc i x0 x1 x2 g c) (vv x3 g e) (seen ((i : Nat) / 2) (2 * k)))
    (hV : ∀ (e : Fin 144) (r : Fin 512), V (ix5 0 0 0 e r) = vv x3 g e (key ⟨2 * k, by omega⟩ r))
    (hV' : ∀ (e : Fin 144) (r : Fin 512), V' (ix5 0 0 0 e r) = vv x3 g e (key ⟨2 * k + 1, by omega⟩ r)) (e : Fin 144) (c : Fin 1024) :
    k0_pay7 (k0_pay4 T') (k0_pay8 (k0_pay4 T) M) (k0_pay7 (k0_pay4 T) M A V) V' (ix3 0 e c)
      = Cert.Attn.mass (sc i x0 x1 x2 g c) (vv x3 g e) (seen ((i : Nat) / 2) (2 * (k + 1))) :=
  step_acc i x0 x1 x2 x3 g ⟨2 * k + 1, by omega⟩ (by dsimp only; omega) T' _ _ V' hT'
    (step_top i x0 x1 x2 g ⟨2 * k, by omega⟩ (by dsimp only; omega) T M hT hM)
    (step_acc i x0 x1 x2 x3 g ⟨2 * k, by omega⟩ (by dsimp only; omega) T M A V hT hM hA hV) hV' e c

/-- One trip: two more tiles. -/
theorem trip_held (𝒱 : Variants) (c : Dev nD) (bd : Option 𝒱.V) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 : BitVec 32) (v112 : BitVec 32) (v506 : FVec Ideal S128x1024 .f32) (v521 : FVec Ideal S256x128 .bf16) (v522 : Vec Ideal S1x256x128 .bf16) (X_arg4 : BufTy.Contents (Elt Ideal) arg4.view.ty) (X_arg5 : BufTy.Contents (Elt Ideal) arg5.view.ty) (X_arg12 : BufTy.Contents (Elt Ideal) arg12.view.ty) (k : Fin (k0_t1_loop i).trips) (f_arg13 : BufTy.Contents (Elt Ideal) arg13.view.ty) (f_arg14 : BufTy.Contents (Elt Ideal) arg14.view.ty) (f_arg15 : BufTy.Contents (Elt Ideal) arg15.view.ty)
    (x0 : Vec Ideal S1x1024x256 .bf16) (x1 : Vec Ideal S1x2x128x256 .bf16) (x2 : Vec Ideal S1x4096x512 .bf16) (x3 : Vec Ideal S1x2x8x144x512 .bf16)
    (hx2 : arg4.view.read (Elt Ideal) X_arg4 = x2) (hx3 : arg5.view.read (Elt Ideal) X_arg5 = x3)
    (hq : ∀ (g : Fin 2) (k : Fin 256) (c : Fin 1024), arg12.view.read (Elt Ideal) X_arg12 (ix3 g k c) = qaug x0 x1 g k c)
    (H : Held (i 1) x0 x1 x2 x3 (2 * k.val) (arg13.view.read (Elt Ideal) f_arg13) (arg14.view.read (Elt Ideal) f_arg14) (arg15.view.read (Elt Ideal) f_arg15)) :
    Held (i 1) x0 x1 x2 x3 (2 * (k.val + 1))
      (arg13.view.read (Elt Ideal) (arg13.view.writes (Elt Ideal) f_arg13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 k f_arg13 f_arg14 f_arg15).1))
      (arg14.view.read (Elt Ideal) (arg14.view.writes (Elt Ideal) f_arg14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 k f_arg13 f_arg14 f_arg15).2.1))
      (arg15.view.read (Elt Ideal) (arg15.view.writes (Elt Ideal) f_arg15 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 k f_arg13 f_arg14 f_arg15).2.2)) := by
  have hk : k.val < (i 1).val / 4 := trips1 i ▸ k.isLt
  unfold tripL_k0_t1 trip_k0_t1
  frame_open
  simp (disch := decide) only [View.readAt_eq_ld, ↓ View.readCov_skip, ↓ View.readCov_cons_toLoadRect, ↓ View.readCov_fill, hx2, hx3,
    eq3, eq16, eq17, eq14, eq24, eq138, eq13, eq23, eq137]
  have q0 := qload (arg12.view.read (Elt Ideal) X_arg12) 0 inb_S2x256x1024_S1x256x1024_0_0_0 0 rfl
  have q1 := qload (arg12.view.read (Elt Ideal) X_arg12) 1 inb_S2x256x1024_S1x256x1024_1_0_0 1 rfl
  simp only [hq] at q0 q1
  have hi : (i 1).val < 16 := (i 1).isLt
  have e1 : min (2 * k.val + ((1 : Fin 3) : Nat)) ((i 1).val / 2 - 1) = 2 * k.val + 1 := by
    show min (2 * k.val + 1) ((i 1).val / 2 - 1) = 2 * k.val + 1
    omega
  have e0 : (⟨min (2 * k.val) ((i 1).val / 2 - 1), by omega⟩ : Fin 8) = ⟨2 * k.val, by omega⟩ := Fin.ext (by dsimp only; omega)
  have o9 := off9 i k 1 (by decide)
  have o10 := off10 i k 1 (by decide)
  rw [e1] at o9 o10
  have p9 : k0_off9 i k 2#32 = ![0, ((⟨min (2 * (k.val + 1)) ((i 1).val / 2 - 1), by omega⟩ : Fin 8) : Nat) * 512, ((0 : Fin 2) : Nat) * 256] :=
    off9 i k 2 (by decide)
  have p10 : k0_off10 i k 2#32 = ![0, ((⟨min (2 * (k.val + 1)) ((i 1).val / 2 - 1), by omega⟩ : Fin 8) : Nat) * 512, ((1 : Fin 2) : Nat) * 256] :=
    off10 i k 2 (by decide)
  have r9 : k0_off9 i k 1#32 = ![0, ((⟨2 * k.val + 1, by omega⟩ : Fin 8) : Nat) * 512, ((0 : Fin 2) : Nat) * 256] := o9
  have r10 : k0_off10 i k 1#32 = ![0, ((⟨2 * k.val + 1, by omega⟩ : Fin 8) : Nat) * 512, ((1 : Fin 2) : Nat) * 256] := o10
  have T := H.tile
  rw [e0] at T
  refine ⟨fun g r c => ?_, fun g c => ?_, fun g e c => ?_⟩
  · rw [tile_over]
    split_ifs with hg
    · obtain rfl : g = 0 := Fin.ext hg
      exact tile_scores x0 x1 x2 0 _ _ _ p9 _ q0 r c
    · obtain rfl : g = 1 := Fin.ext (by show (g : Nat) = 1; omega)
      exact tile_scores x0 x1 x2 1 _ _ _ p10 _ q1 r c
  · rw [top_over]
    split_ifs with hg
    · obtain rfl : g = 0 := Fin.ext hg
      exact two_top (i 1) x0 x1 x2 0 k.val hk _ _ _ (fun r c => (tileload _ 0 _ 0 rfl r c).trans (T 0 r c))
        (tile_scores x0 x1 x2 0 _ _ ⟨2 * k.val + 1, by omega⟩ r9 _ q0) (fun c => (topload _ 0 _ 0 rfl c).trans (H.top 0 c)) c
    · obtain rfl : g = 1 := Fin.ext (by show (g : Nat) = 1; omega)
      exact two_top (i 1) x0 x1 x2 1 k.val hk _ _ _ (fun r c => (tileload _ 1 _ 1 rfl r c).trans (T 1 r c))
        (tile_scores x0 x1 x2 1 _ _ ⟨2 * k.val + 1, by omega⟩ r10 _ q1) (fun c => (topload _ 1 _ 1 rfl c).trans (H.top 1 c)) c
  · rw [acc_over]
    split_ifs with hg
    · obtain rfl : g = 0 := Fin.ext hg
      exact two_acc (i 1) x0 x1 x2 x3 0 k.val hk _ _ _ _ _ _ (fun r c => (tileload _ 0 _ 0 rfl r c).trans (T 0 r c))
        (tile_scores x0 x1 x2 0 _ _ ⟨2 * k.val + 1, by omega⟩ r9 _ q0) (fun c => (topload _ 0 _ 0 rfl c).trans (H.top 0 c))
        (fun e c => (accload _ 0 _ 0 rfl e c).trans (H.acc 0 e c)) (tload x3 _ _ _ _ (off11 i k) 0 ⟨2 * k.val, by omega⟩ rfl rfl) (tload x3 _ _ _ _ (off13 i k) 0 ⟨2 * k.val + 1, by omega⟩ rfl rfl) e c
    · obtain rfl : g = 1 := Fin.ext (by show (g : Nat) = 1; omega)
      exact two_acc (i 1) x0 x1 x2 x3 1 k.val hk _ _ _ _ _ _ (fun r c => (tileload _ 1 _ 1 rfl r c).trans (T 1 r c))
        (tile_scores x0 x1 x2 1 _ _ ⟨2 * k.val + 1, by omega⟩ r10 _ q1) (fun c => (topload _ 1 _ 1 rfl c).trans (H.top 1 c))
        (fun e c => (accload _ 1 _ 1 rfl e c).trans (H.acc 1 e c)) (tload x3 _ _ _ _ (off12 i k) 1 ⟨2 * k.val, by omega⟩ rfl rfl) (tload x3 _ _ _ _ (off14 i k) 1 ⟨2 * k.val + 1, by omega⟩ rfl rfl) e c

/-- After `n` trips. -/
theorem loop_held (𝒱 : Variants) (c : Dev nD) (bd : Option 𝒱.V) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 : BitVec 32) (v112 : BitVec 32) (v506 : FVec Ideal S128x1024 .f32) (v521 : FVec Ideal S256x128 .bf16) (v522 : Vec Ideal S1x256x128 .bf16) (X_arg4 : BufTy.Contents (Elt Ideal) arg4.view.ty) (X_arg5 : BufTy.Contents (Elt Ideal) arg5.view.ty) (X_arg12 : BufTy.Contents (Elt Ideal) arg12.view.ty) (G_arg13 : BufTy.Contents (Elt Ideal) arg13.view.ty) (G_arg14 : BufTy.Contents (Elt Ideal) arg14.view.ty) (G_arg15 : BufTy.Contents (Elt Ideal) arg15.view.ty)
    (x0 : Vec Ideal S1x1024x256 .bf16) (x1 : Vec Ideal S1x2x128x256 .bf16) (x2 : Vec Ideal S1x4096x512 .bf16) (x3 : Vec Ideal S1x2x8x144x512 .bf16)
    (hx2 : arg4.view.read (Elt Ideal) X_arg4 = x2) (hx3 : arg5.view.read (Elt Ideal) X_arg5 = x3)
    (hq : ∀ (g : Fin 2) (k : Fin 256) (c : Fin 1024), arg12.view.read (Elt Ideal) X_arg12 (ix3 g k c) = qaug x0 x1 g k c)
    (H : Held (i 1) x0 x1 x2 x3 0 (arg13.view.read (Elt Ideal) G_arg13) (arg14.view.read (Elt Ideal) G_arg14) (arg15.view.read (Elt Ideal) G_arg15)) :
    ∀ n : Nat, n ≤ (k0_t1_loop i).trips → Held (i 1) x0 x1 x2 x3 (2 * n)
      (arg13.view.read (Elt Ideal) (arg13.view.writes (Elt Ideal) G_arg13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 G_arg13 G_arg14 G_arg15 n).1))
      (arg14.view.read (Elt Ideal) (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 G_arg13 G_arg14 G_arg15 n).2.1))
      (arg15.view.read (Elt Ideal) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 G_arg13 G_arg14 G_arg15 n).2.2))
  | 0, _ => H
  | n + 1, h => by
    have ih := loop_held 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 G_arg13 G_arg14 G_arg15 x0 x1 x2 x3 hx2 hx3 hq H n (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 G_arg13 G_arg14 G_arg15 ⟨n, h⟩
    dsimp only at e
    rw [e]
    simp only [View.writes_append]
    exact trip_held 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 ⟨n, h⟩ _ _ _ x0 x1 x2 x3 hx2 hx3 hq ih

/-- The second loop makes no trip. -/
theorem loop_nil (𝒱 : Variants) (c : Dev nD) (bd : Option 𝒱.V) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 : BitVec 32) (v112 : BitVec 32) (v506 : FVec Ideal S128x1024 .f32) (v521 : FVec Ideal S256x128 .bf16) (v522 : Vec Ideal S1x256x128 .bf16) (v552 : BitVec 32) (X_arg4 : BufTy.Contents (Elt Ideal) arg4.view.ty) (X_arg5 : BufTy.Contents (Elt Ideal) arg5.view.ty) (X_arg12 : BufTy.Contents (Elt Ideal) arg12.view.ty) (G_arg13 : BufTy.Contents (Elt Ideal) arg13.view.ty) (G_arg14 : BufTy.Contents (Elt Ideal) arg14.view.ty) (G_arg15 : BufTy.Contents (Elt Ideal) arg15.view.ty) :
    pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips = ([], [], []) := by
  rw [trips2]
  rfl

end Cert.KernelIdeal.Attn
-- ==== Proof.Attn.SelBlock.lean ====
/-
  What the scratch holds before the loop, and what it holds after it; the eight stored tiles of the result.
-/
module

public import proofs.«01_k».proof.Proof.Attn.SelLoop

@[expose] public section

set_option maxRecDepth 16384

noncomputable section

namespace Cert.KernelIdeal.Attn

open Cert.KernelIdeal Cert.KernelIdeal.Gen Idealize.ShloMosaic Idealize.ShloMosaic.TcCoe

/-! ## The whole query tile -/

/-- A group's stored tiles of queries and biases. -/
abbrev qfull (x0 : Vec Ideal S1x1024x256 .bf16) (x1 : Vec Ideal S1x2x128x256 .bf16) (o q0 q1 q2 q3 : Nat)
    (i0 : ∀ a, (![o, 0, 0] : Fin 3 → Nat) a + S1x128x256.size a ≤ S2x256x1024.size a)
    (i1 : ∀ a, (![o, 0, 256] : Fin 3 → Nat) a + S1x128x256.size a ≤ S2x256x1024.size a)
    (i2 : ∀ a, (![o, 0, 512] : Fin 3 → Nat) a + S1x128x256.size a ≤ S2x256x1024.size a)
    (i3 : ∀ a, (![o, 0, 768] : Fin 3 → Nat) a + S1x128x256.size a ≤ S2x256x1024.size a)
    (j0 : ∀ a, (![o, 128, 0] : Fin 3 → Nat) a + S1x128x256.size a ≤ S2x256x1024.size a)
    (j1 : ∀ a, (![o, 128, 256] : Fin 3 → Nat) a + S1x128x256.size a ≤ S2x256x1024.size a)
    (j2 : ∀ a, (![o, 128, 512] : Fin 3 → Nat) a + S1x128x256.size a ≤ S2x256x1024.size a)
    (j3 : ∀ a, (![o, 128, 768] : Fin 3 → Nat) a + S1x128x256.size a ≤ S2x256x1024.size a)
    (k0 : ∀ a, (![0, q0, 0] : Fin 3 → Nat) a + S1x128x256.size a ≤ S1x1024x256.size a)
    (k1 : ∀ a, (![0, q1, 0] : Fin 3 → Nat) a + S1x128x256.size a ≤ S1x1024x256.size a)
    (k2 : ∀ a, (![0, q2, 0] : Fin 3 → Nat) a + S1x128x256.size a ≤ S1x1024x256.size a)
    (k3 : ∀ a, (![0, q3, 0] : Fin 3 → Nat) a + S1x128x256.size a ≤ S1x1024x256.size a)
    (l : ∀ a, (![0, o, 0, 0] : Fin 4 → Nat) a + S1x1x128x256.size a ≤ S1x2x128x256.size a)
    (L : List (View.Piece (Elt Ideal) S2x256x1024 .bf16)) : List (View.Piece (Elt Ideal) S2x256x1024 .bf16) :=
  ⟨Rect.unit ![o, 128, 768] S1x128x256.size j3, bc (View.ld x1 (Rect.unit (s := S1x2x128x256) ![0, o, 0, 0] S1x1x128x256.size l))⟩ ::
    qlist x0 x1 o q0 q1 q2 q3 i0 i1 i2 i3 j0 j1 j2 k0 k1 k2 k3 l L

theorem qfull_read (x0 : Vec Ideal S1x1024x256 .bf16) (x1 : Vec Ideal S1x2x128x256 .bf16) (o q0 q1 q2 q3 : Nat) (i0 i1 i2 i3 j0 j1 j2 j3 k0 k1 k2 k3 l L)
    (g : Fin 2) (hg : (g : Nat) = o) (h0 : q0 = o * 512) (h1 : q1 = o * 512 + 128) (h2 : q2 = o * 512 + 256) (h3 : q3 = o * 512 + 384)
    (e : Fin 256) (c : Fin 1024) :
    View.canon (qfull x0 x1 o q0 q1 q2 q3 i0 i1 i2 i3 j0 j1 j2 j3 k0 k1 k2 k3 l L) (ix3 g e c) = qaug x0 x1 g e c := by
  by_cases hec : (e : Nat) < 128 ∨ (c : Nat) < 768
  · refine Eq.trans ?_ (qlist_read x0 x1 o q0 q1 q2 q3 i0 i1 i2 i3 j0 j1 j2 k0 k1 k2 k3 l L g hg h0 h1 h2 h3 e c hec)
    rcases hec with h | h
    · exact canon_miss _ _ _ _ _ _ 1 (by left; simp; omega)
    · exact canon_miss _ _ _ _ _ _ 2 (by left; simp; omega)
  · refine Eq.trans (canon_hit _ _ _ _ _ _ (ix3 (0 : Fin 1) (⟨e - 128, by omega⟩ : Fin 128) (⟨c - 768, by omega⟩ : Fin 256)) ?_) ?_
    · intro a; fin_cases a <;> simp [hg] <;> omega
    · exact btile x0 x1 g _ _ _ e c 3 (by omega) (by show (e : Nat) = 128 + (e - 128); omega) (by show (c : Nat) = 3 * 256 + (c - 768); omega)

theorem qfull_skip (x0 : Vec Ideal S1x1024x256 .bf16) (x1 : Vec Ideal S1x2x128x256 .bf16) (o q0 q1 q2 q3 : Nat) (i0 i1 i2 i3 j0 j1 j2 j3 k0 k1 k2 k3 l L)
    (g : Fin 2) (hg : (g : Nat) < o) (e : Fin 256) (c : Fin 1024) :
    View.canon (qfull x0 x1 o q0 q1 q2 q3 i0 i1 i2 i3 j0 j1 j2 j3 k0 k1 k2 k3 l L) (ix3 g e c) = View.canon L (ix3 g e c) := by
  have h : ((ix3 g e c : S2x256x1024.Idx) 0 : Nat) < o := hg
  unfold qfull qlist
  rw [canon_miss _ _ _ _ _ _ 0 (Or.inl h), canon_miss _ _ _ _ _ _ 0 (Or.inl h), canon_miss _ _ _ _ _ _ 0 (Or.inl h),
    canon_miss _ _ _ _ _ _ 0 (Or.inl h), canon_miss _ _ _ _ _ _ 0 (Or.inl h), canon_miss _ _ _ _ _ _ 0 (Or.inl h),
    canon_miss _ _ _ _ _ _ 0 (Or.inl h), canon_miss _ _ _ _ _ _ 0 (Or.inl h)]

/-- Both groups' query tiles. -/
theorem qboth_read (v : View sig .tc .vmem S2x256x1024 .bf16)
    (x0 : Vec Ideal S1x1024x256 .bf16) (x1 : Vec Ideal S1x2x128x256 .bf16) (i0 i1 i2 i3 j0 j1 j2 j3 k0 k1 k2 k3 l i0' i1' i2' i3' j0' j1' j2' j3' k0' k1' k2' k3' l')
    (g : Fin 2) (e : Fin 256) (c : Fin 1024) :
    v.read (Elt Ideal) (v.writes (Elt Ideal) v.junk (qfull x0 x1 1 512 640 768 896 i0 i1 i2 i3 j0 j1 j2 j3 k0 k1 k2 k3 l
      (qfull x0 x1 0 0 128 256 384 i0' i1' i2' i3' j0' j1' j2' j3' k0' k1' k2' k3' l' []))) (ix3 g e c) = qaug x0 x1 g e c := by
  rw [View.read_writes_junk_eq_canon]
  have hg : (g : Nat) = 0 ∨ (g : Nat) = 1 := by omega
  rcases hg with hg | hg
  · rw [qfull_skip (hg := by omega)]
    exact qfull_read (hg := hg) (h0 := rfl) (h1 := rfl) (h2 := rfl) (h3 := rfl) ..
  · exact qfull_read (hg := hg) (h0 := rfl) (h1 := rfl) (h2 := rfl) (h3 := rfl) ..

/-! ## Before the loop -/

/-- The diagonal tile of the block, as the kernel computes it. -/
theorem diagonal : ∀ i : grid0.Coords, (Scalar.select (Scalar.andi (Scalar.cmpi CmpIPredicate.ne (Scalar.subi (Scalar.extui (Scalar.cmpi CmpIPredicate.sgt (Scalar.muli (BitVec.ofNat 32 ↑(i 1)) 256#32) 0#32)) (Scalar.extui (Scalar.cmpi CmpIPredicate.slt (Scalar.muli (BitVec.ofNat 32 ↑(i 1)) 256#32) 0#32))) 1#32) (Scalar.cmpi CmpIPredicate.ne (Scalar.remsi (Scalar.muli (BitVec.ofNat 32 ↑(i 1)) 256#32) 512#32) 0#32)) (Scalar.subi (Scalar.divsi (Scalar.muli (BitVec.ofNat 32 ↑(i 1)) 256#32) 512#32) 1#32) (Scalar.divsi (Scalar.muli (BitVec.ofNat 32 ↑(i 1)) 256#32) 512#32) : BitVec 32)
    = BitVec.ofNat 32 ((i 1).val / 2) := by decide +kernel

theorem bottom_apply (o : Nat) (inb) (c : Fin 1024) : (View.ld (k0_pay79 (F := Ideal) : Vec Ideal S2x1x1024 .f32) (Rect.unit (s := S2x1x1024) ![o, 0, 0] S1x1x1024.size inb) : Vec Ideal S1x1x1024 .f32) (ix3 0 0 c) = (⊥ : EReal) := by
  show Scalar.ofBits (F := Ideal) .f32 0xFF800000#32 = _
  simp [Ideal.ofBits, Ideal.ieee]

theorem zero_apply (o : Nat) (inb) (e : Fin 144) (c : Fin 1024) : (View.ld (k0_pay80 (F := Ideal) : Vec Ideal S2x144x1024 .f32) (Rect.unit (s := S2x144x1024) ![o, 0, 0] S1x144x1024.size inb) : Vec Ideal S1x144x1024 .f32) (ix3 0 e c) = (0 : EReal) := by
  show Scalar.ofBits (F := Ideal) .f32 0x00000000#32 = _
  simp [Ideal.ofBits, Ideal.ieee]

/-- What the scratch holds before the loop. -/
theorem first_held (i : grid0.Coords) (x0 : Vec Ideal S1x1024x256 .bf16) (x1 : Vec Ideal S1x2x128x256 .bf16) (x2 : Vec Ideal S1x4096x512 .bf16)
    (x3 : Vec Ideal S1x2x8x144x512 .bf16) (v13 : View sig .tc .vmem S2x2x512x1024 .f32) (v14 : View sig .tc .vmem S2x1x1024 .f32)
    (v15 : View sig .tc .vmem S2x144x1024 .f32) (w : BitVec 32) (hw : w = BitVec.ofNat 32 ((i 1).val / 2)) (Q0 Q1 : Vec Ideal S1x256x1024 .bf16)
    (hQ0 : ∀ (k : Fin 256) (c : Fin 1024), Q0 (ix3 0 k c) = qaug x0 x1 0 k c) (hQ1 : ∀ (k : Fin 256) (c : Fin 1024), Q1 (ix3 0 k c) = qaug x0 x1 1 k c)
    (L13 L14 L15) (a0 a1 b0 b1 c0 c1 d0 d1 e0 e1 f0 f1 g0 g1 h0 h1) :
    Held (i 1) x0 x1 x2 x3 0
      (v13.read (Elt Ideal) (v13.writes (Elt Ideal) v13.junk
        (⟨Rect.unit (s := S2x2x512x1024) ![1, 1, 0, 0] S1x1x512x1024.size a1, k0_pay122 (View.ld x2 (Rect.unit (s := S1x4096x512) ![0, 0, 256] S1x512x256.size b1)) Q1⟩ ::
         ⟨Rect.unit (s := S2x2x512x1024) ![1, 0, 0, 0] S1x1x512x1024.size a0, k0_pay121 (k0_pay120 (View.ld x2 (Rect.unit (s := S1x4096x512) ![0, 0, 0] S1x512x256.size b0))) Q0⟩ :: L13)))
      (v14.read (Elt Ideal) (v14.writes (Elt Ideal) v14.junk
        (⟨Rect.unit (s := S2x1x1024) ![1, 0, 0] S1x1x1024.size c1, k0_pay101 (k0_pay99 (k0_pay90 (k0_pay81 (Scalar.muli (BitVec.ofNat 32 (i 1)) 256#32)) w)
            (k0_pay84 (k0_pay83 (View.ld x2 (Rect.unit (s := S1x4096x512) (k0_off2 i) S1x512x256.size d1))) Q1)
            (View.ld (k0_pay79 (F := Ideal) : Vec Ideal S2x1x1024 .f32) (Rect.unit (s := S2x1x1024) ![1, 0, 0] S1x1x1024.size e1)))⟩ ::
         ⟨Rect.unit (s := S2x1x1024) ![0, 0, 0] S1x1x1024.size c0, k0_pay96 (k0_pay93 (k0_pay81 (Scalar.muli (BitVec.ofNat 32 (i 1)) 256#32)) w
            (k0_pay82 (View.ld x2 (Rect.unit (s := S1x4096x512) (k0_off1 i) S1x512x256.size d0)) Q0)
            (View.ld (k0_pay79 (F := Ideal) : Vec Ideal S2x1x1024 .f32) (Rect.unit (s := S2x1x1024) ![0, 0, 0] S1x1x1024.size e0)))⟩ :: L14)))
      (v15.read (Elt Ideal) (v15.writes (Elt Ideal) v15.junk
        (⟨Rect.unit (s := S2x144x1024) ![1, 0, 0] S1x144x1024.size f1, k0_pay100 (k0_pay90 (k0_pay81 (Scalar.muli (BitVec.ofNat 32 (i 1)) 256#32)) w)
            (k0_pay84 (k0_pay83 (View.ld x2 (Rect.unit (s := S1x4096x512) (k0_off2 i) S1x512x256.size d1))) Q1)
            (View.ld (k0_pay79 (F := Ideal) : Vec Ideal S2x1x1024 .f32) (Rect.unit (s := S2x1x1024) ![1, 0, 0] S1x1x1024.size e1)) (View.ld (k0_pay80 (F := Ideal) : Vec Ideal S2x144x1024 .f32) (Rect.unit (s := S2x144x1024) ![1, 0, 0] S1x144x1024.size g1))
            (View.ld x3 (Rect.unit (s := S1x2x8x144x512) (k0_off5 i) S1x1x1x144x512.size h1))⟩ ::
         ⟨Rect.unit (s := S2x144x1024) ![0, 0, 0] S1x144x1024.size f0, k0_pay95 (k0_pay94 (k0_pay81 (Scalar.muli (BitVec.ofNat 32 (i 1)) 256#32)) w
            (k0_pay82 (View.ld x2 (Rect.unit (s := S1x4096x512) (k0_off1 i) S1x512x256.size d0)) Q0)
            (View.ld (k0_pay79 (F := Ideal) : Vec Ideal S2x1x1024 .f32) (Rect.unit (s := S2x1x1024) ![0, 0, 0] S1x1x1024.size e0)) (View.ld (k0_pay80 (F := Ideal) : Vec Ideal S2x144x1024 .f32) (Rect.unit (s := S2x144x1024) ![0, 0, 0] S1x144x1024.size g0))
            (View.ld x3 (Rect.unit (s := S1x2x8x144x512) (k0_off4 i) S1x1x1x144x512.size h0)))⟩ :: L15))) := by
  have hi : (i 1).val < 16 := (i 1).isLt
  have r1 : k0_off1 i = ![0, ((⟨(i 1).val / 2, by omega⟩ : Fin 8) : Nat) * 512, ((0 : Fin 2) : Nat) * 256] := off1 i
  have r2 : k0_off2 i = ![0, ((⟨(i 1).val / 2, by omega⟩ : Fin 8) : Nat) * 512, ((1 : Fin 2) : Nat) * 256] := off2 i
  have t0 : (![0, 0, 0] : Fin 3 → Nat) = ![0, ((⟨min 0 ((i 1).val / 2 - 1), by omega⟩ : Fin 8) : Nat) * 512, ((0 : Fin 2) : Nat) * 256] := by
    simp
  have t1 : (![0, 0, 256] : Fin 3 → Nat) = ![0, ((⟨min 0 ((i 1).val / 2 - 1), by omega⟩ : Fin 8) : Nat) * 512, ((1 : Fin 2) : Nat) * 256] := by
    simp
  have T0 := tile_scores x0 x1 x2 0 (k0_off1 i) d0 ⟨(i 1).val / 2, by omega⟩ r1 Q0 hQ0
  have T1 := tile_scores x0 x1 x2 1 (k0_off2 i) d1 ⟨(i 1).val / 2, by omega⟩ r2 Q1 hQ1
  have W := fun r c => first_mask (i 1) r c w hw
  simp only [eq82, eq84, eq96, eq95, eq101, eq100, eq121, eq122]
  refine ⟨fun g r c => ?_, fun g c => ?_, fun g e c => ?_⟩
  · rw [tile_over]
    split_ifs with hg
    · obtain rfl : g = 0 := Fin.ext hg
      exact tile_scores x0 x1 x2 0 _ _ _ t0 Q0 hQ0 r c
    · obtain rfl : g = 1 := Fin.ext (by show (g : Nat) = 1; omega)
      exact tile_scores x0 x1 x2 1 _ _ _ t1 Q1 hQ1 r c
  · rw [top_over]
    split_ifs with hg
    · obtain rfl : g = 0 := Fin.ext hg
      exact first_top (i 1) x0 x1 x2 0 _ _ _ W T0 (bottom_apply 0 _) c
    · obtain rfl : g = 1 := Fin.ext (by show (g : Nat) = 1; omega)
      exact first_top (i 1) x0 x1 x2 1 _ _ _ W T1 (bottom_apply 1 _) c
  · rw [acc_over]
    split_ifs with hg
    · obtain rfl : g = 0 := Fin.ext hg
      exact first_acc (i 1) x0 x1 x2 x3 0 _ _ _ _ _ W T0 (bottom_apply 0 _) (zero_apply 0 _)
        (tload x3 _ 0 _ _ (off4 i) 0 ⟨(i 1).val / 2, by omega⟩ rfl rfl) e c
    · obtain rfl : g = 1 := Fin.ext (by show (g : Nat) = 1; omega)
      exact first_acc (i 1) x0 x1 x2 x3 1 _ _ _ _ _ W T1 (bottom_apply 1 _) (zero_apply 1 _)
        (tload x3 _ 1 _ _ (off5 i) 1 ⟨(i 1).val / 2, by omega⟩ rfl rfl) e c

/-! ## After the loop -/

/-- What the scratch holds after both loops. -/
theorem after_loops (𝒱 : Variants) (c : Dev nD) (bd : Option 𝒱.V) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 : BitVec 32) (v112 : BitVec 32) (v506 : FVec Ideal S128x1024 .f32) (v521 : FVec Ideal S256x128 .bf16) (v522 : Vec Ideal S1x256x128 .bf16) (v552 : BitVec 32) (X_arg4 : BufTy.Contents (Elt Ideal) arg4.view.ty) (X_arg5 : BufTy.Contents (Elt Ideal) arg5.view.ty) (X_arg12 : BufTy.Contents (Elt Ideal) arg12.view.ty)  (G_arg13 : BufTy.Contents (Elt Ideal) arg13.view.ty) (G_arg14 : BufTy.Contents (Elt Ideal) arg14.view.ty) (G_arg15 : BufTy.Contents (Elt Ideal) arg15.view.ty)
    (L13 : List (View.Piece (Elt Ideal) S2x2x512x1024 .f32)) (L14 : List (View.Piece (Elt Ideal) S2x1x1024 .f32)) (L15 : List (View.Piece (Elt Ideal) S2x144x1024 .f32))
    (x0 : Vec Ideal S1x1024x256 .bf16) (x1 : Vec Ideal S1x2x128x256 .bf16) (x2 : Vec Ideal S1x4096x512 .bf16) (x3 : Vec Ideal S1x2x8x144x512 .bf16)
    (hx2 : arg4.view.read (Elt Ideal) X_arg4 = x2) (hx3 : arg5.view.read (Elt Ideal) X_arg5 = x3)
    (hq : ∀ (g : Fin 2) (k : Fin 256) (c : Fin 1024), arg12.view.read (Elt Ideal) X_arg12 (ix3 g k c) = qaug x0 x1 g k c)
    (H : Held (i 1) x0 x1 x2 x3 0 (arg13.view.read (Elt Ideal) (arg13.view.writes (Elt Ideal) arg13.view.junk L13)) (arg14.view.read (Elt Ideal) (arg14.view.writes (Elt Ideal) arg14.view.junk L14)) (arg15.view.read (Elt Ideal) (arg15.view.writes (Elt Ideal) arg15.view.junk L15))) :
    Held (i 1) x0 x1 x2 x3 (2 * ((i 1).val / 4))
      (View.canon ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).1 ++ L13)))
      (View.canon ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.1 ++ L14)))
      (View.canon ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.2 ++ L15))) := by
  have h := loop_held 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) x0 x1 x2 x3 hx2 hx3 hq H (k0_t1_loop i).trips le_rfl
  simp only [← View.writes_append, View.read_writes_junk_eq_canon] at h
  rw [loop_nil 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15]
  have e : 2 * ((i 1).val / 4) = 2 * (k0_t1_loop i).trips := by rw [trips1]
  rw [e]
  exact h

/-- The attention a query of the block receives, from the keys of its group. -/
def svalue (i : Fin 16) (x0 : Vec Ideal S1x1024x256 .bf16) (x1 : Vec Ideal S1x2x128x256 .bf16) (x2 : Vec Ideal S1x4096x512 .bf16)
    (x3 : Vec Ideal S1x2x8x144x512 .bf16) (g : Fin 2) (h : Fin 4) (r : Fin 256) (d : Fin 128) : EReal :=
  Cert.Attn.attend Cert.Attn.tiny (sc i x0 x1 x2 g ⟨(h : Nat) * 256 + r, by omega⟩) (vv x3 g ⟨d, by omega⟩) Finset.univ

/-- The quotient of the two masses. -/
theorem quotient (i : Fin 16) (x0 : Vec Ideal S1x1024x256 .bf16) (x1 : Vec Ideal S1x2x128x256 .bf16) (x2 : Vec Ideal S1x4096x512 .bf16)
    (x3 : Vec Ideal S1x2x8x144x512 .bf16) (hone : ∀ (g : Fin 2) (t : Fin 8) (r : Fin 512), x3 (ix5 0 g t 128 r) = (1 : EReal))
    (g : Fin 2) (h : Fin 4) (r : Fin 256) (d : Fin 128) (a : Vec Ideal S1x128x1024 .f32) (l : Vec Ideal S1x1x1024 .f32)
    (ha : ∀ c : Fin 1024, a (ix3 0 d c) = Cert.Attn.mass (sc i x0 x1 x2 g c) (vv x3 g ⟨d, by omega⟩) (seen ((i : Nat) / 2) ((i : Nat) / 2)))
    (hl : ∀ c : Fin 1024, l (ix3 0 0 c) = Cert.Attn.mass (sc i x0 x1 x2 g c) (vv x3 g 128) (seen ((i : Nat) / 2) ((i : Nat) / 2))) :
    sover a l (ix2 d ⟨(h : Nat) * 256 + r, by omega⟩) = svalue i x0 x1 x2 x3 g h r d := by
  have hv : vv x3 g 128 = fun _ => (1 : EReal) := funext fun j => hone _ _ _
  have hm : ∀ (c : Fin 1024) (k : Fin 4096), k ∉ seen ((i : Nat) / 2) ((i : Nat) / 2) → sc i x0 x1 x2 g c k = ⊥ := fun c k hk => by
    rw [sc, if_neg]
    simp only [seen, Finset.mem_filter, Finset.mem_univ, true_and] at hk
    omega
  rw [sover_apply, ha, hl, hv, Cert.Attn.mass_of_masked _ _ _ (hm _), Cert.Attn.mass_of_masked _ _ _ (hm _)]
  rfl

/-! ## The stored tiles -/

theorem gate_second (a : Vec Ideal S1x128x1024 .f32) (l : Vec Ideal S1x1x1024 .f32) (G : Vec Ideal S1x4x256 .f32) :
    k0_pay155 (k0_pay151 a l) (k0_pay152 G) (k0_pay153 G) (k0_pay154 G) = k0_pay115 (sover a l) (k0_pay114 G) (Scalar.ofBits .f32 0x3F000000#32) := rfl

/-- Eight stored tiles of a result, from the two groups' masses and gates. -/
theorem sout_tiles (a0 a1 : Vec Ideal S1x128x1024 .f32) (l0 l1 : Vec Ideal S1x1x1024 .f32) (ga gb : Vec Ideal S1x4x256 .f32)
    (r : Fin 256) (h : Fin 4) (d : Fin 128) (g : Fin 2) :
    View.canon (Val := Elt Ideal) (e := .bf16) (s := S1x256x1024)
      [⟨Rect.unit ![0, 0, 896] S1x256x128.size inb_S1x256x1024_S1x256x128_0_0_896, k0_pay1 (k0_pay159 (k0_pay151 a1 l1) (k0_pay152 gb) (k0_pay153 gb) (k0_pay154 gb))⟩,
       ⟨Rect.unit ![0, 0, 768] S1x256x128.size inb_S1x256x1024_S1x256x128_0_0_768, k0_pay158 (k0_pay151 a1 l1) (k0_pay152 gb) (k0_pay153 gb) (k0_pay154 gb)⟩,
       ⟨Rect.unit ![0, 0, 640] S1x256x128.size inb_S1x256x1024_S1x256x128_0_0_640, k0_pay157 (k0_pay151 a1 l1) (k0_pay152 gb) (k0_pay153 gb) (k0_pay154 gb)⟩,
       ⟨Rect.unit ![0, 0, 512] S1x256x128.size inb_S1x256x1024_S1x256x128_0_0_512, k0_pay156 (k0_pay151 a1 l1) (k0_pay152 gb) (k0_pay153 gb) (k0_pay154 gb)⟩,
       ⟨Rect.unit ![0, 0, 384] S1x256x128.size inb_S1x256x1024_S1x256x128_0_0_384, k0_pay150 (k0_pay145 a0 l0 ga)⟩,
       ⟨Rect.unit ![0, 0, 256] S1x256x128.size inb_S1x256x1024_S1x256x128_0_0_256, k0_pay149 (k0_pay145 a0 l0 ga)⟩,
       ⟨Rect.unit ![0, 0, 128] S1x256x128.size inb_S1x256x1024_S1x256x128_0_0_128, k0_pay148 (k0_pay147 a0 l0 ga)⟩,
       ⟨Rect.unit ![0, 0, 0] S1x256x128.size inb_S1x256x1024_S1x256x128_0_0_0, k0_pay146 a0 l0 ga⟩]
      (ix3 0 r ⟨(g : Nat) * 512 + h * 128 + d, by omega⟩)
    = (if (g : Nat) = 0 then sover a0 l0 else sover a1 l1) (ix2 d ⟨(h : Nat) * 256 + r, by omega⟩)
      * Ideal.logistic ((if (g : Nat) = 0 then ga else gb) (ix3 0 h r)) := by
  canon_tiles x hx
  · change (g : Nat) * 512 + h * 128 + d = _ at hx2
    have hg : (g : Nat) = 1 := by omega
    simp only [hg, one_ne_zero, if_true, if_false]
    exact gated3 (sover a1 l1) gb x r h d hx1 (by omega) (by omega)
  · change (g : Nat) * 512 + h * 128 + d = _ at hx2
    have hg : (g : Nat) = 1 := by omega
    simp only [hg, one_ne_zero, if_true, if_false]
    exact gated2 (sover a1 l1) gb x r h d hx1 (by omega) (by omega)
  · change (g : Nat) * 512 + h * 128 + d = _ at hx2
    have hg : (g : Nat) = 1 := by omega
    simp only [hg, one_ne_zero, if_true, if_false]
    exact gated1 (sover a1 l1) gb x r h d hx1 (by omega) (by omega)
  · change (g : Nat) * 512 + h * 128 + d = _ at hx2
    have hg : (g : Nat) = 1 := by omega
    simp only [hg, one_ne_zero, if_true, if_false]
    exact gated0 (sover a1 l1) gb x r h d hx1 (by omega) (by omega)
  · change (g : Nat) * 512 + h * 128 + d = _ at hx2
    have hg : (g : Nat) = 0 := by omega
    simp only [hg, if_true, if_false]
    exact gated3 (sover a0 l0) ga x r h d hx1 (by omega) (by omega)
  · change (g : Nat) * 512 + h * 128 + d = _ at hx2
    have hg : (g : Nat) = 0 := by omega
    simp only [hg, if_true, if_false]
    exact gated2 (sover a0 l0) ga x r h d hx1 (by omega) (by omega)
  · change (g : Nat) * 512 + h * 128 + d = _ at hx2
    have hg : (g : Nat) = 0 := by omega
    simp only [hg, if_true, if_false]
    exact gated1 (sover a0 l0) ga x r h d hx1 (by omega) (by omega)
  · change (g : Nat) * 512 + h * 128 + d = _ at hx2
    have hg : (g : Nat) = 0 := by omega
    simp only [hg, if_true, if_false]
    exact gated0 (sover a0 l0) ga x r h d hx1 (by omega) (by omega)

end Cert.KernelIdeal.Attn
-- ==== Proof.Attn.SelOut.lean ====
/-
  The block of the selected attention's result that a grid point leaves.
-/
module

public import proofs.«01_k».proof.Proof.Attn.SelBlock

@[expose] public section

set_option maxRecDepth 16384

noncomputable section

namespace Cert.KernelIdeal.Attn

open Cert.KernelIdeal Cert.KernelIdeal.Gen Idealize.ShloMosaic Idealize.ShloMosaic.TcCoe

/-- The quotient a block stores when the loop has seen every tile. -/
theorem even_value (𝒱 : Variants) (c : Dev nD) (bd : Option 𝒱.V) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 : BitVec 32) (v112 : BitVec 32) (v506 : FVec Ideal S128x1024 .f32) (v521 : FVec Ideal S256x128 .bf16) (v522 : Vec Ideal S1x256x128 .bf16) (v552 : BitVec 32) (X_arg4 : BufTy.Contents (Elt Ideal) arg4.view.ty) (X_arg5 : BufTy.Contents (Elt Ideal) arg5.view.ty) (X_arg12 : BufTy.Contents (Elt Ideal) arg12.view.ty)  (G_arg13 : BufTy.Contents (Elt Ideal) arg13.view.ty) (G_arg14 : BufTy.Contents (Elt Ideal) arg14.view.ty) (G_arg15 : BufTy.Contents (Elt Ideal) arg15.view.ty)
    (L13 : List (View.Piece (Elt Ideal) S2x2x512x1024 .f32)) (L14 : List (View.Piece (Elt Ideal) S2x1x1024 .f32)) (L15 : List (View.Piece (Elt Ideal) S2x144x1024 .f32))
    (x0 : Vec Ideal S1x1024x256 .bf16) (x1 : Vec Ideal S1x2x128x256 .bf16) (x2 : Vec Ideal S1x4096x512 .bf16) (x3 : Vec Ideal S1x2x8x144x512 .bf16)
    (hx2 : arg4.view.read (Elt Ideal) X_arg4 = x2) (hx3 : arg5.view.read (Elt Ideal) X_arg5 = x3)
    (hq : ∀ (g : Fin 2) (k : Fin 256) (c : Fin 1024), arg12.view.read (Elt Ideal) X_arg12 (ix3 g k c) = qaug x0 x1 g k c)
    (H : Held (i 1) x0 x1 x2 x3 0 (arg13.view.read (Elt Ideal) (arg13.view.writes (Elt Ideal) arg13.view.junk L13)) (arg14.view.read (Elt Ideal) (arg14.view.writes (Elt Ideal) arg14.view.junk L14)) (arg15.view.read (Elt Ideal) (arg15.view.writes (Elt Ideal) arg15.view.junk L15)))
    (hev : (i 1).val / 2 % 2 = 0)
    (hone : ∀ (g : Fin 2) (t : Fin 8) (r : Fin 512), x3 (ix5 0 g t 128 r) = (1 : EReal))
    (g : Fin 2) (o : Nat) (hg : (g : Nat) = o) (inb) (inb') (h : Fin 4) (r : Fin 256) (d : Fin 128) :
    sover (arg15.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.2 ++ L15)) (Rect.unit (s := S2x144x1024) ![o, 0, 0] S1x128x1024.size inb).toLoadRect)
      (arg15.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.2 ++ L15)) (Rect.unit (s := S2x144x1024) ![o, 128, 0] S1x1x1024.size inb').toLoadRect)
      (ix2 d ⟨(h : Nat) * 256 + r, by omega⟩) = svalue (i 1) x0 x1 x2 x3 g h r d := by
  have hi : (i 1).val < 16 := (i 1).isLt
  have K := after_loops 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 L13 L14 L15 x0 x1 x2 x3 hx2 hx3 hq H
  have e : 2 * ((i 1).val / 4) = (i 1).val / 2 := by omega
  rw [e] at K
  refine quotient (i 1) x0 x1 x2 x3 hone g h r d _ _ (fun c => ?_) (fun c => ?_)
  · rw [read_at arg15.view _ _ _ _ (ix3 0 d c) (ix3 g (⟨d, by omega⟩ : Fin 144) c) (by intro a; fin_cases a <;> simp [hg])]
    exact K.acc g _ c
  · rw [read_at arg15.view _ _ _ _ (ix3 0 0 c) (ix3 g (128 : Fin 144) c) (by intro a; fin_cases a <;> simp [hg])]
    exact K.acc g _ c

/-- The masses after the last tile, when the loop has left one. -/
theorem odd_mass (𝒱 : Variants) (c : Dev nD) (bd : Option 𝒱.V) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (v110 : BitVec 32) (v112 : BitVec 32) (v506 : FVec Ideal S128x1024 .f32) (v521 : FVec Ideal S256x128 .bf16) (v522 : Vec Ideal S1x256x128 .bf16) (v552 : BitVec 32) (X_arg4 : BufTy.Contents (Elt Ideal) arg4.view.ty) (X_arg5 : BufTy.Contents (Elt Ideal) arg5.view.ty) (X_arg12 : BufTy.Contents (Elt Ideal) arg12.view.ty)  (G_arg13 : BufTy.Contents (Elt Ideal) arg13.view.ty) (G_arg14 : BufTy.Contents (Elt Ideal) arg14.view.ty) (G_arg15 : BufTy.Contents (Elt Ideal) arg15.view.ty)
    (L13 : List (View.Piece (Elt Ideal) S2x2x512x1024 .f32)) (L14 : List (View.Piece (Elt Ideal) S2x1x1024 .f32)) (L15 : List (View.Piece (Elt Ideal) S2x144x1024 .f32))
    (x0 : Vec Ideal S1x1024x256 .bf16) (x1 : Vec Ideal S1x2x128x256 .bf16) (x2 : Vec Ideal S1x4096x512 .bf16) (x3 : Vec Ideal S1x2x8x144x512 .bf16)
    (hx2 : arg4.view.read (Elt Ideal) X_arg4 = x2) (hx3 : arg5.view.read (Elt Ideal) X_arg5 = x3)
    (hq : ∀ (g : Fin 2) (k : Fin 256) (c : Fin 1024), arg12.view.read (Elt Ideal) X_arg12 (ix3 g k c) = qaug x0 x1 g k c)
    (H : Held (i 1) x0 x1 x2 x3 0 (arg13.view.read (Elt Ideal) (arg13.view.writes (Elt Ideal) arg13.view.junk L13)) (arg14.view.read (Elt Ideal) (arg14.view.writes (Elt Ideal) arg14.view.junk L14)) (arg15.view.read (Elt Ideal) (arg15.view.writes (Elt Ideal) arg15.view.junk L15)))
    (hodd : (i 1).val / 2 % 2 = 1)
    (g : Fin 2) (o : Nat) (hg : (g : Nat) = o) (inb) (inb') (inb'') (off) (inbt) (hoff : off = ![0, o, (i 1).val / 2 - 1, 0, 0])
    (e : Fin 144) (c' : Fin 1024) :
    k0_pay7 (k0_pay4 (arg13.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).1 ++ L13)) (Rect.unit (s := S2x2x512x1024) ![1, o, 0, 0] S1x1x512x1024.size inb).toLoadRect))
      (arg14.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.1 ++ L14)) (Rect.unit (s := S2x1x1024) ![o, 0, 0] S1x1x1024.size inb').toLoadRect)
      (arg15.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.2 ++ L15)) (Rect.unit (s := S2x144x1024) ![o, 0, 0] S1x144x1024.size inb'').toLoadRect)
      (View.ld x3 (Rect.unit (s := S1x2x8x144x512) off S1x1x1x144x512.size inbt)) (ix3 0 e c')
    = Cert.Attn.mass (sc (i 1) x0 x1 x2 g c') (vv x3 g e) (seen ((i 1).val / 2) ((i 1).val / 2)) := by
  have hi : (i 1).val < 16 := (i 1).isLt
  have K := after_loops 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 L13 L14 L15 x0 x1 x2 x3 hx2 hx3 hq H
  have e1 : 2 * ((i 1).val / 4) = (i 1).val / 2 - 1 := by omega
  have e2 : (i 1).val / 2 - 1 + 1 = (i 1).val / 2 := by omega
  rw [e1] at K
  have T := K.tile
  simp only [min_self] at T
  have S := step_acc (i 1) x0 x1 x2 x3 g ⟨(i 1).val / 2 - 1, by omega⟩ (by show (i 1).val / 2 - 1 < (i 1).val / 2; omega)
    (arg13.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).1 ++ L13)) (Rect.unit (s := S2x2x512x1024) ![1, o, 0, 0] S1x1x512x1024.size inb).toLoadRect)
    (arg14.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.1 ++ L14)) (Rect.unit (s := S2x1x1024) ![o, 0, 0] S1x1x1024.size inb').toLoadRect)
    (arg15.view.readCov ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 v552 X_arg4 X_arg5 X_arg12 G_arg13 G_arg14 G_arg15 (k0_t2_loop i).trips).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v110 v112 v506 v521 v522 X_arg4 X_arg5 X_arg12 (arg13.view.writes (Elt Ideal) arg13.view.junk L13) (arg14.view.writes (Elt Ideal) arg14.view.junk L14) (arg15.view.writes (Elt Ideal) arg15.view.junk L15) (k0_t1_loop i).trips).2.2 ++ L15)) (Rect.unit (s := S2x144x1024) ![o, 0, 0] S1x144x1024.size inb'').toLoadRect)
    (View.ld x3 (Rect.unit (s := S1x2x8x144x512) off S1x1x1x144x512.size inbt))
    (fun r c => (read_at arg13.view _ _ _ _ (ix4 0 0 r c) (ix4 1 g r c) (by intro a; fin_cases a <;> simp [hg])).trans (T g r c))
    (fun c => (read_at arg14.view _ _ _ _ (ix3 0 0 c) (ix3 g 0 c) (by intro a; fin_cases a <;> simp [hg])).trans (K.top g c))
    (fun e c => (read_at arg15.view _ _ _ _ (ix3 0 e c) (ix3 g e c) (by intro a; fin_cases a <;> simp [hg])).trans (K.acc g e c))
    (tload x3 _ o _ _ hoff g _ hg rfl) e c'
  simp only [e2] at S
  exact S

/-- The quotient a block stores when one tile is left after the loop. -/
theorem odd_value (i : grid0.Coords) (x0 : Vec Ideal S1x1024x256 .bf16) (x1 : Vec Ideal S1x2x128x256 .bf16) (x2 : Vec Ideal S1x4096x512 .bf16)
    (x3 : Vec Ideal S1x2x8x144x512 .bf16) (hone : ∀ (g : Fin 2) (t : Fin 8) (r : Fin 512), x3 (ix5 0 g t 128 r) = (1 : EReal))
    (v15 : View sig .tc .vmem S2x144x1024 .f32) (W : Vec Ideal S1x144x1024 .f32) (L L' : List (View.Piece (Elt Ideal) S2x144x1024 .f32))
    (g : Fin 2) (o : Nat) (hg : (g : Nat) = o) (inb) (inb') (i0) (i1)
    (hW : ∀ (e : Fin 144) (c : Fin 1024), W (ix3 0 e c) = Cert.Attn.mass (sc (i 1) x0 x1 x2 g c) (vv x3 g e) (seen ((i 1).val / 2) ((i 1).val / 2)))
    (h : Fin 4) (r : Fin 256) (d : Fin 128) :
    sover (v15.readCov (⟨Rect.unit (s := S2x144x1024) ![o, 0, 0] S1x144x1024.size i0, W⟩ :: L) (Rect.unit (s := S2x144x1024) ![o, 0, 0] S1x128x1024.size inb).toLoadRect)
      (v15.readCov (⟨Rect.unit (s := S2x144x1024) ![o, 0, 0] S1x144x1024.size i1, W⟩ :: L') (Rect.unit (s := S2x144x1024) ![o, 128, 0] S1x1x1024.size inb').toLoadRect)
      (ix2 d ⟨(h : Nat) * 256 + r, by omega⟩) = svalue (i 1) x0 x1 x2 x3 g h r d := by
  refine quotient (i 1) x0 x1 x2 x3 hone g h r d _ _ (fun c => ?_) (fun c => ?_)
  · rw [read_at v15 _ _ _ _ (ix3 0 d c) (ix3 g (⟨d, by omega⟩ : Fin 144) c) (by intro a; fin_cases a <;> simp [hg])]
    exact (canon_hit _ _ _ _ _ _ (ix3 (0 : Fin 1) (⟨d, by omega⟩ : Fin 144) c) (by intro a; fin_cases a <;> simp [hg])).trans (hW _ c)
  · rw [read_at v15 _ _ _ _ (ix3 0 0 c) (ix3 g (128 : Fin 144) c) (by intro a; fin_cases a <;> simp [hg])]
    exact (canon_hit _ _ _ _ _ _ (ix3 (0 : Fin 1) (128 : Fin 144) c) (by intro a; fin_cases a <;> simp [hg])).trans (hW _ c)

theorem even_case : ∀ i : grid0.Coords, ¬cond0_0 i → (i 1).val / 2 % 2 = 0 := by decide +kernel
theorem odd_case : ∀ i : grid0.Coords, cond0_0 i → (i 1).val / 2 % 2 = 1 := by decide +kernel

set_option maxHeartbeats 2000000 in
theorem sel_out_A (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : ¬cond0_0 i)
    (x0 : Vec Ideal S1x1024x256 .bf16) (x1 : Vec Ideal S1x2x128x256 .bf16) (x2 : Vec Ideal S1x4096x512 .bf16) (x3 : Vec Ideal S1x2x8x144x512 .bf16) (x4 : Vec Ideal S1x4096x256 .bf16) (x5 : Vec Ideal S1x2x16x144x256 .bf16) (x6 : Vec Ideal S2x256x1024 .f32) (x7 : Vec Ideal S1x24x256 .f32)
    (hone : ∀ (g : Fin 2) (t : Fin 8) (r : Fin 512), x3 (ix5 0 g t 128 r) = (1 : EReal))
    (g : Fin 2) (h : Fin 4) (d : Fin 128) (r : Fin 256) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r ⟨(g : Nat) * 512 + h * 128 + d, by omega⟩)
      = svalue (i 1) x0 x1 x2 x3 g h r d * Ideal.logistic (x7 (ix3 0 ⟨8 + (g : Nat) * 4 + h, by omega⟩ r)) := by
  frame_open
  simp (disch := decide) only [View.read_writes_junk_eq_canon, View.readAt_eq_ld, harg2.read_unread, harg3.read_unread, harg4.read_unread,
    harg5.read_unread, harg6.read_unread, harg7.read_unread, harg8.read_unread, harg9.read_unread,
    ↓ View.readCov_skip, ↓ View.readCov_cons_toLoadRect, ↓ View.readCov_fill]
  refine (sout_tiles _ _ _ _ _ _ r h d g).trans ?_
  have hg : (g : Nat) = 0 ∨ (g : Nat) = 1 := by omega
  have hev : (i 1).val / 2 % 2 = 0 := even_case i hc0
  rcases hg with hg | hg
  · simp only [hg, if_true]
    refine congrArg₂ (· * ·) ?_ (congrArg Ideal.logistic (gload x7 8 _ h r _ (by simp)))
    refine even_value _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ x0 x1 x2 x3 (harg4.read_unread _) (harg5.read_unread _) ?_ ?_ hev hone g 0 hg _ _ h r d
    · exact fun g k c => qboth_read arg12.view x0 x1 _ _ _ _ _ _ _ _ _ _ _ _ _ _ _ _ _ _ _ _ _ _ _ _ _ _ g k c
    · refine first_held i x0 x1 x2 x3 _ _ _ _ (diagonal i) _ _ (fun k c => ?_) (fun k c => ?_) _ _ _ _ _ _ _ _ _ _ _ _ _ _ _ _ _ _ _
      · rw [read_at arg12.view _ _ _ _ (ix3 0 k c) (ix3 (0 : Fin 2) k c) (by intro a; fin_cases a <;> simp)]
        exact qfull_read x0 x1 0 _ _ _ _ _ _ _ _ _ _ _ _ _ _ _ _ _ _ 0 rfl rfl rfl rfl rfl k c
      · rw [read_at arg12.view _ _ _ _ (ix3 0 k c) (ix3 (1 : Fin 2) k c) (by intro a; fin_cases a <;> simp)]
        exact qfull_read x0 x1 1 _ _ _ _ _ _ _ _ _ _ _ _ _ _ _ _ _ _ 1 rfl rfl rfl rfl rfl k c
  · simp only [hg, one_ne_zero, if_false]
    refine congrArg₂ (· * ·) ?_ (congrArg Ideal.logistic (gload x7 12 _ h r _ (by simp)))
    refine even_value _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ x0 x1 x2 x3 (harg4.read_unread _) (harg5.read_unread _) ?_ ?_ hev hone g 1 hg _ _ h r d
    · exact fun g k c => qboth_read arg12.view x0 x1 _ _ _ _ _ _ _ _ _ _ _ _ _ _ _ _ _ _ _ _ _ _ _ _ _ _ g k c
    · refine first_held i x0 x1 x2 x3 _ _ _ _ (diagonal i) _ _ (fun k c => ?_) (fun k c => ?_) _ _ _ _ _ _ _ _ _ _ _ _ _ _ _ _ _ _ _
      · rw [read_at arg12.view _ _ _ _ (ix3 0 k c) (ix3 (0 : Fin 2) k c) (by intro a; fin_cases a <;> simp)]
        exact qfull_read x0 x1 0 _ _ _ _ _ _ _ _ _ _ _ _ _ _ _ _ _ _ 0 rfl rfl rfl rfl rfl k c
      · rw [read_at arg12.view _ _ _ _ (ix3 0 k c) (ix3 (1 : Fin 2) k c) (by intro a; fin_cases a <;> simp)]
        exact qfull_read x0 x1 1 _ _ _ _ _ _ _ _ _ _ _ _ _ _ _ _ _ _ 1 rfl rfl rfl rfl rfl k c

set_option maxHeartbeats 2000000 in
theorem sel_out_B (c : Dev nD) (i : grid0.Coords) (arg2 : Memref sig .tc .vmem S1x1024x256 .bf16) (harg2 : arg2.IsWhole) (arg3 : Memref sig .tc .vmem S1x2x128x256 .bf16) (harg3 : arg3.IsWhole) (arg4 : Memref sig .tc .vmem S1x4096x512 .bf16) (harg4 : arg4.IsWhole) (arg5 : Memref sig .tc .vmem S1x2x8x144x512 .bf16) (harg5 : arg5.IsWhole) (arg6 : Memref sig .tc .vmem S1x4096x256 .bf16) (harg6 : arg6.IsWhole) (arg7 : Memref sig .tc .vmem S1x2x16x144x256 .bf16) (harg7 : arg7.IsWhole) (arg8 : Memref sig .tc .vmem S2x256x1024 .f32) (harg8 : arg8.IsWhole) (arg9 : Memref sig .tc .vmem S1x24x256 .f32) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S2x256x1024 .bf16) (harg12 : arg12.IsWhole) (arg13 : Memref sig .tc .vmem S2x2x512x1024 .f32) (harg13 : arg13.IsWhole) (arg14 : Memref sig .tc .vmem S2x1x1024 .f32) (harg14 : arg14.IsWhole) (arg15 : Memref sig .tc .vmem S2x144x1024 .f32) (harg15 : arg15.IsWhole) (arg16 : Memref sig .tc .vmem S2x3x256x1024 .f32) (harg16 : arg16.IsWhole) (arg17 : Memref sig .tc .vmem S2x768x1024 .bf16) (harg17 : arg17.IsWhole) (hc0 : cond0_0 i)
    (x0 : Vec Ideal S1x1024x256 .bf16) (x1 : Vec Ideal S1x2x128x256 .bf16) (x2 : Vec Ideal S1x4096x512 .bf16) (x3 : Vec Ideal S1x2x8x144x512 .bf16) (x4 : Vec Ideal S1x4096x256 .bf16) (x5 : Vec Ideal S1x2x16x144x256 .bf16) (x6 : Vec Ideal S2x256x1024 .f32) (x7 : Vec Ideal S1x24x256 .f32)
    (hone : ∀ (g : Fin 2) (t : Fin 8) (r : Fin 512), x3 (ix5 0 g t 128 r) = (1 : EReal))
    (g : Fin 2) (h : Fin 4) (d : Fin 128) (r : Fin 256) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r ⟨(g : Nat) * 512 + h * 128 + d, by omega⟩)
      = svalue (i 1) x0 x1 x2 x3 g h r d * Ideal.logistic (x7 (ix3 0 ⟨8 + (g : Nat) * 4 + h, by omega⟩ r)) := by
  frame_open
  simp (disch := decide) only [View.read_writes_junk_eq_canon, View.readAt_eq_ld, harg2.read_unread, harg3.read_unread, harg4.read_unread,
    harg5.read_unread, harg6.read_unread, harg7.read_unread, harg8.read_unread, harg9.read_unread,
    ↓ View.readCov_skip, ↓ View.readCov_cons_toLoadRect, ↓ View.readCov_fill, eq59, eq143]
  refine (sout_tiles _ _ _ _ _ _ r h d g).trans ?_
  have hg : (g : Nat) = 0 ∨ (g : Nat) = 1 := by omega
  have hodd : (i 1).val / 2 % 2 = 1 := odd_case i hc0
  rcases hg with hg | hg
  · simp only [hg, if_true]
    refine congrArg₂ (· * ·) ?_ (congrArg Ideal.logistic (gload x7 8 _ h r _ (by simp)))
    refine odd_value i x0 x1 x2 x3 hone arg15.view _ _ _ g 0 hg _ _ _ _ (fun e c => ?_) h r d
    refine odd_mass _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ x0 x1 x2 x3 (harg4.read_unread _) (harg5.read_unread _) ?_ ?_ hodd g 0 hg _ _ _ _ _ (off21 i hodd) e c
    · exact fun g k c => qboth_read arg12.view x0 x1 _ _ _ _ _ _ _ _ _ _ _ _ _ _ _ _ _ _ _ _ _ _ _ _ _ _ g k c
    · refine first_held i x0 x1 x2 x3 _ _ _ _ (diagonal i) _ _ (fun k c => ?_) (fun k c => ?_) _ _ _ _ _ _ _ _ _ _ _ _ _ _ _ _ _ _ _
      · rw [read_at arg12.view _ _ _ _ (ix3 0 k c) (ix3 (0 : Fin 2) k c) (by intro a; fin_cases a <;> simp)]
        exact qfull_read x0 x1 0 _ _ _ _ _ _ _ _ _ _ _ _ _ _ _ _ _ _ 0 rfl rfl rfl rfl rfl k c
      · rw [read_at arg12.view _ _ _ _ (ix3 0 k c) (ix3 (1 : Fin 2) k c) (by intro a; fin_cases a <;> simp)]
        exact qfull_read x0 x1 1 _ _ _ _ _ _ _ _ _ _ _ _ _ _ _ _ _ _ 1 rfl rfl rfl rfl rfl k c
  · simp only [hg, one_ne_zero, if_false]
    refine congrArg₂ (· * ·) ?_ (congrArg Ideal.logistic (gload x7 12 _ h r _ (by simp)))
    refine odd_value i x0 x1 x2 x3 hone arg15.view _ _ _ g 1 hg _ _ _ _ (fun e c => ?_) h r d
    refine odd_mass _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ x0 x1 x2 x3 (harg4.read_unread _) (harg5.read_unread _) ?_ ?_ hodd g 1 hg _ _ _ _ _ (off22 i hodd) e c
    · exact fun g k c => qboth_read arg12.view x0 x1 _ _ _ _ _ _ _ _ _ _ _ _ _ _ _ _ _ _ _ _ _ _ _ _ _ _ g k c
    · refine first_held i x0 x1 x2 x3 _ _ _ _ (diagonal i) _ _ (fun k c => ?_) (fun k c => ?_) _ _ _ _ _ _ _ _ _ _ _ _ _ _ _ _ _ _ _
      · rw [read_at arg12.view _ _ _ _ (ix3 0 k c) (ix3 (0 : Fin 2) k c) (by intro a; fin_cases a <;> simp)]
        exact qfull_read x0 x1 0 _ _ _ _ _ _ _ _ _ _ _ _ _ _ _ _ _ _ 0 rfl rfl rfl rfl rfl k c
      · rw [read_at arg12.view _ _ _ _ (ix3 0 k c) (ix3 (1 : Fin 2) k c) (by intro a; fin_cases a <;> simp)]
        exact qfull_read x0 x1 1 _ _ _ _ _ _ _ _ _ _ _ _ _ _ _ _ _ _ 1 rfl rfl rfl rfl rfl k c

end Cert.KernelIdeal.Attn
-- ==== Proof.Attn.Host.lean ====
/-
  What the host lays out before the call: the keys with the columns that pick a block, the two arrays of values with the
  row of ones, and the two masks.
-/
module

public import proofs.«01_k».proof.Proof.Attn.SelOut
public import proofs.«01_k».proof.Proof.Attn.KernelIdealRun.Frame
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe

variable (m : (ℓ : Loc nD τ sig) → Buf (Elt Ideal) ℓ) (c : Dev nD)

theorem select_eq_word {α : Type} (n i : Nat) (hn : n < 4294967296) (hi : i < 4294967296) (x y : α) :
    Scalar.select (IntOp.cmpi .eq (BitVec.ofNat 32 n) (BitVec.ofNat 32 i)) x y = if n = i then x else y := by
  rw [WordCmp.cmpi_eq_ofNat (by omega) (by omega)]
  by_cases h : n = i <;> simp [Scalar.select, h]

theorem select_le_word {α : Type} (n i : Nat) (hn : n < 2147483648) (hi : i < 2147483648) (x y : α) :
    Scalar.select (IntOp.cmpi .sle (BitVec.ofNat 32 n) (BitVec.ofNat 32 i)) x y = if n ≤ i then x else y := by
  rw [WordCmp.cmpi_sle_ofNat (by omega) (by omega)]
  by_cases h : n ≤ i <;> simp [Scalar.select, h]

theorem select_lt_word {α : Type} (n i : Nat) (hn : n < 2147483648) (hi : i < 2147483648) (x y : α) :
    Scalar.select (IntOp.cmpi .slt (BitVec.ofNat 32 n) (BitVec.ofNat 32 i)) x y = if n < i then x else y := by
  rw [WordCmp.cmpi_slt_ofNat (by omega) (by omega)]
  by_cases h : n < i <;> simp [Scalar.select, h]

/-- The column of a key within its block of 256 keys, as a word. -/
theorem and_255 (n : Nat) (h : n < 1024) : BitVec.ofNat 32 n &&& 255#32 = BitVec.ofNat 32 (n % 256) := by
  apply BitVec.eq_of_toNat_eq
  rw [BitVec.toNat_and, BitVec.toNat_ofNat, BitVec.toNat_ofNat, BitVec.toNat_ofNat]
  rw [show (255 % 2 ^ 32 : Nat) = 2 ^ 8 - 1 from rfl, Nat.and_two_pow_sub_one_eq_mod]
  omega

/-- The index of a key's block of 64, as a word. -/
theorem shift_6 (n : Nat) (h : n < 4096) :
    IntOp.shrsi ArithUnit.host (BitVec.ofNat 32 n) 6#32 = BitVec.ofNat 32 (n / 64) := by
  rw [IntOp.shrsi, if_pos (by decide)]
  show (BitVec.ofNat 32 n).sshiftRight 6 = _
  rw [BitVec.sshiftRight_eq_of_msb_false (by rw [BitVec.msb_eq_decide, BitVec.toNat_ofNat]; simp; omega)]
  apply BitVec.eq_of_toNat_eq
  rw [BitVec.toNat_ushiftRight, BitVec.toNat_ofNat, BitVec.toNat_ofNat, Nat.shiftRight_eq_div_pow]
  omega

set_option maxHeartbeats 2000000 in
theorem mask_first (r : Fin 256) (x : Fin 1024) :
    V m c main_v38 (ix3 (0 : Fin 2) r x) = ((if (r : Nat) ≤ x % 256 then 0 else ⊥ : EReal)) := by
  unfold V
  after_reads_at
  show (select _ _ _ : Vec Ideal S2x256x1024 .f32) (ix3 (0 : Fin 2) r x) = _
  pointwise
  rw [show IntOp.andi (BitVec.ofNat 32 (x : Nat)) 255#32 = BitVec.ofNat 32 (x % 256) from and_255 x x.isLt]
  rw [select_le_word _ _ (by omega) (by omega), show Ideal.ofBits FTy.f32 4286578688#32 = ⊥ from Cert.Attn.lit_neg_inf]

set_option maxHeartbeats 2000000 in
theorem mask_second (r : Fin 256) (x : Fin 1024) :
    V m c main_v38 (ix3 (1 : Fin 2) r x) = ((if (x : Nat) % 256 < r then 0 else ⊥ : EReal)) := by
  unfold V
  after_reads_at
  show (select _ _ _ : Vec Ideal S2x256x1024 .f32) (ix3 (1 : Fin 2) r x) = _
  pointwise
  rw [show IntOp.andi (BitVec.ofNat 32 (x : Nat)) 255#32 = BitVec.ofNat 32 (x % 256) from and_255 x x.isLt]
  rw [show IntOp.cmpi CmpIPredicate.eq 1#32 0#32 = 0#1 from by decide]
  show Scalar.select (IntOp.cmpi CmpIPredicate.slt _ _) _ _ = _
  rw [select_lt_word _ _ (by omega) (by omega), show Ideal.ofBits FTy.f32 4286578688#32 = ⊥ from Cert.Attn.lit_neg_inf]

set_option maxHeartbeats 2000000 in
theorem keys_apply (b : Fin 4) (j : Fin 4096) (n : Fin 512) :
    V m c main_v9 (ix3 b j n) = (if h : (n : Nat) % 256 < 128 then m (c, main_arg1) (ix3 b j ⟨n / 256 * 128 + n % 256, by omega⟩)
      else if (j : Nat) / 64 = n % 256 - 128 then 1 else 0 : EReal) := by
  unfold V
  after_reads_at
  by_cases h1 : (n : Nat) < 128
  · rw [dif_pos h1, dif_pos (show (n : Nat) % 256 < 128 by omega)]
    after_reads_at
    split_ifs
    all_goals exact congrArg (m (c, main_arg1)) (congrArg (ix3 b j) (Fin.ext (by show (n : Nat) = _; simp only []; omega)))
  rw [dif_neg h1]
  by_cases h2 : (n : Nat) - 128 < 128
  · rw [dif_pos h2, dif_neg (show ¬ (n : Nat) % 256 < 128 by omega)]
    after_reads_at
    split_ifs
    all_goals
      rw [shift_6 _ j.isLt, select_eq_word _ _ (by omega) (by omega)]
      rw [if_congr (show (j : Nat) / 64 = n - 128 ↔ (j : Nat) / 64 = n % 256 - 128 by omega) rfl rfl]
      simp [*]
  rw [dif_neg h2]
  by_cases h3 : (n : Nat) - 128 - 128 < 128
  · rw [dif_pos h3, dif_pos (show (n : Nat) % 256 < 128 by omega)]
    after_reads_at
    split_ifs
    all_goals exact congrArg (m (c, main_arg1)) (congrArg (ix3 b j) (Fin.ext (by show 128 + ((n : Nat) - 128 - 128) = _; simp only []; omega)))
  · rw [dif_neg h3, dif_neg (show ¬ (n : Nat) % 256 < 128 by omega)]
    after_reads_at
    split_ifs
    all_goals
      rw [shift_6 _ j.isLt, select_eq_word _ _ (by omega) (by omega)]
      rw [if_congr (show (j : Nat) / 64 = n - 128 - 128 - 128 ↔ (j : Nat) / 64 = n % 256 - 128 by omega) rfl rfl]
      simp [*]

set_option maxHeartbeats 2000000 in
theorem sel_values_apply (b : Fin 4) (g : Fin 2) (t : Fin 8) (e : Fin 144) (r : Fin 512) :
    V m c main_v17 (ix5 b g t e r) = (if h : (e : Nat) < 128 then m (c, main_arg2) (ix3 b ⟨t * 512 + r, by omega⟩ ⟨g * 128 + e, by omega⟩)
      else if (e : Nat) - 128 = 0 then 1 else 0 : EReal) := by
  unfold V
  after_reads_at
  split_ifs with h
  all_goals first | rfl | skip
  all_goals (rw [select_eq_word _ _ (by omega) (by omega)]; simp [*])

set_option maxHeartbeats 2000000 in
theorem win_values_apply (b : Fin 4) (g : Fin 2) (t : Fin 16) (e : Fin 144) (r : Fin 256) :
    V m c main_v25 (ix5 b g t e r) = (if h : (e : Nat) < 128 then m (c, main_arg5) (ix3 b ⟨t * 256 + r, by omega⟩ ⟨g * 128 + e, by omega⟩)
      else if (e : Nat) - 128 = 0 then 1 else 0 : EReal) := by
  unfold V
  after_reads_at
  split_ifs with h
  all_goals first | rfl | skip
  all_goals (rw [select_eq_word _ _ (by omega) (by omega)]; simp [*])

end Cert.KernelIdeal.Attn
-- ==== Proof.Attn.Ref.lean ====
module

public import proofs.«01_k».proof.Proof.Gen.ReferenceIdeal.Run
public import proofs.«01_k».proof.Proof.Attn.Consts
public import Idealize.ShloMosaic.Lib.Pointwise

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe

/-- Keys or values with the two groups' halves as an axis. -/
def heads (k : FVec Ideal S4x4096x256 .bf16) : FVec Ideal S4x4096x2x128 .f32 :=
  shapeCast _ (extf .f32 k bitsLt_bf16_f32) shapeCasts_S4x4096x256_S4x4096x2x128

/-- Every query against every key. -/
def dots (q : FVec Ideal S4x1024x4096 .bf16) (k : FVec Ideal S4x4096x256 .bf16) : FVec Ideal S4x2x4x4096x4096 .f32 :=
  Host.dotGeneral (F := Ideal) dot_S4x2x4x128x4096_S4x4096x2x128_S4x2x4x4096x4096_3_3_24_1_01_02 none
    (shapeCast _ (extf .f32 q bitsLt_bf16_f32) shapeCasts_S4x1024x4096_S4x2x4x128x4096) (heads k)

/-- The additive selection, one row of 64 keys at a time. -/
def added (a : FVec Ideal S4x2x128x4096 .bf16) : FVec Ideal S4x2x4x4096x4096 .f32 :=
  broadcastInDim S4x2x4x4096x4096 ![0, 1, 2, 3, 4] bcast_S4x2x1x4096x4096_S4x2x4x4096x4096_0_1_2_3_4
    (transpose S4x2x1x4096x4096 [0, 1, 2, 4, 3] (shapeCast _ (broadcastInDim S4x2x64x64x4096 ![0, 1, 2, 3, 4]
      bcast_S4x2x64x1x4096_S4x2x64x64x4096_0_1_2_3_4 (broadcastInDim S4x2x64x1x4096 ![0, 1, 2, 4]
        bcast_S4x2x64x4096_S4x2x64x1x4096_0_1_2_4 (extf .f32 (extractStridedSlice S4x2x64x4096 ![0, 0, 0, 0] a
          slices_S4x2x128x4096_S4x2x64x4096_0_0_0_0) bitsLt_bf16_f32))) shapeCasts_S4x2x64x64x4096_S4x2x1x4096x4096)
      transposes_S4x2x1x4096x4096_S4x2x1x4096x4096_0_1_2_4_3)

/-- Keys up to the query. -/
def causal : IVec S4096x4096 1 := cmpi .sle (iotaInDim S4096x4096 32 1) (iotaInDim S4096x4096 32 0)

/-- Keys up to the query and fewer than 512 before it. -/
def window : IVec S4096x4096 1 :=
  andi causal (cmpi .slt (subi (iotaInDim S4096x4096 32 0) (iotaInDim S4096x4096 32 1))
    (broadcastInDim S4096x4096 ![] bcast_S_S4096x4096 (constantI S_ 32 512#32)))

/-- Scores where the mask holds, −∞ elsewhere. -/
def masked (c : IVec S4096x4096 1) (s : FVec Ideal S4x2x4x4096x4096 .f32) : FVec Ideal S4x2x4x4096x4096 .f32 :=
  select (broadcastInDim S4x2x4x4096x4096 ![3, 4] bcast_S4096x4096_S4x2x4x4096x4096_3_4 c) s
    (broadcastInDim S4x2x4x4096x4096 ![] bcast_S_S4x2x4x4096x4096 (id (constant S_ .f32 0xFF800000#32)))

/-- The largest score of each query. -/
def largest (s : FVec Ideal S4x2x4x4096x4096 .f32) : FVec Ideal S4x2x4x4096 .f32 :=
  Host.reduce FloatOps.maximumf s (constant S_ .f32 0xFF800000#32) reducesTo_S4x2x4x4096x4096_S4x2x4x4096_d4 h_S_

/-- Powers of two of the scores below their largest. -/
def powers (s : FVec Ideal S4x2x4x4096x4096 .f32) (l : FVec Ideal S4x2x4x4096 .f32) : FVec Ideal S4x2x4x4096x4096 .f32 :=
  Host.powf (broadcastInDim S4x2x4x4096x4096 ![] bcast_S_S4x2x4x4096x4096 (constant S_ .f32 0x40000000#32))
    (subf s (broadcastInDim S4x2x4x4096x4096 ![0, 1, 2, 3, 4] bcast_S4x2x4x4096x1_S4x2x4x4096x4096_0_1_2_3_4
      (select (cmpf .ogt (broadcastInDim S4x2x4x4096x1 ![0, 1, 2, 3] bcast_S4x2x4x4096_S4x2x4x4096x1_0_1_2_3 l)
          (broadcastInDim S4x2x4x4096x1 ![] bcast_S_S4x2x4x4096x1 (constant S_ .f32 0xFF800000#32)))
        (broadcastInDim S4x2x4x4096x1 ![0, 1, 2, 3] bcast_S4x2x4x4096_S4x2x4x4096x1_0_1_2_3 l)
        (broadcastInDim S4x2x4x4096x1 ![] bcast_S_S4x2x4x4096x1 (id (constant S_ .f32 0x00000000#32))))))

/-- The powers' sum for each query. -/
def total (p : FVec Ideal S4x2x4x4096x4096 .f32) : FVec Ideal S4x2x4x4096 .f32 :=
  Host.reduceAdd p (constant S_ .f32 0x00000000#32) reducesTo_S4x2x4x4096x4096_S4x2x4x4096_d4 h_S_

/-- The powers over their sum, kept off zero. -/
def weights (p : FVec Ideal S4x2x4x4096x4096 .f32) (l : FVec Ideal S4x2x4x4096 .f32) : FVec Ideal S4x2x4x4096x4096 .f32 :=
  Host.divf p (broadcastInDim S4x2x4x4096x4096 ![0, 1, 2, 3, 4] bcast_S4x2x4x4096x1_S4x2x4x4096x4096_0_1_2_3_4
    (maximumf (broadcastInDim S4x2x4x4096x1 ![0, 1, 2, 3] bcast_S4x2x4x4096_S4x2x4x4096x1_0_1_2_3 l)
      (broadcastInDim S4x2x4x4096x1 ![] bcast_S_S4x2x4x4096x1 (constant S_ .f32 0x00800000#32))))

/-- The gates. -/
def gates (x : FVec Ideal S4x24x4096 .f32) : FVec Ideal S4x3x2x4x4096 .f32 :=
  shapeCast _ (Host.divf (broadcastInDim S4x24x4096 ![] bcast_S_S4x24x4096 (constant S_ .f32 0x3F800000#32))
    (addf (broadcastInDim S4x24x4096 ![] bcast_S_S4x24x4096 (constant S_ .f32 0x3F800000#32)) (Host.exp (Host.negf x))))
    shapeCasts_S4x24x4096_S4x3x2x4x4096

/-- The weighted values, gated, in the layout of the result. -/
def gated (w : FVec Ideal S4x2x4x4096x4096 .f32) (v : FVec Ideal S4x4096x2x128 .f32) (g : FVec Ideal S4x2x4x4096 .f32) :
    FVec Ideal S4x4096x1024 .bf16 :=
  truncf .bf16 (shapeCast _ (transpose S4x4096x2x4x128 [0, 3, 1, 2, 4] (mulf (Host.dotGeneral (F := Ideal)
    dot_S4x2x4x4096x4096_S4x4096x2x128_S4x2x4x4096x128_4_1_23_3_01_02 none w v)
    (broadcastInDim S4x2x4x4096x128 ![0, 1, 2, 3, 4] bcast_S4x2x4x4096x1_S4x2x4x4096x128_0_1_2_3_4
      (broadcastInDim S4x2x4x4096x1 ![0, 1, 2, 3] bcast_S4x2x4x4096_S4x2x4x4096x1_0_1_2_3 g)))
    transposes_S4x2x4x4096x128_S4x4096x2x4x128_0_3_1_2_4) shapeCasts_S4x4096x2x4x128_S4x4096x1024) bitsLt_bf16_f32

/-- Attention with the given masked scores. -/
def attention (s : FVec Ideal S4x2x4x4096x4096 .f32) (v : FVec Ideal S4x4096x2x128 .f32) (g : FVec Ideal S4x2x4x4096 .f32) :
    FVec Ideal S4x4096x1024 .bf16 :=
  gated (weights (powers s (largest s)) (total (powers s (largest s)))) v g

theorem out0_eq (m : (ℓ : Loc nD τ sig) → Buf (Elt Ideal) ℓ) (c : Dev nD) :
    res_out0 m c = attention (masked causal (addf (dots (m ((c.tc : Thread nD τ).loc main_arg0))
      (m ((c.tc : Thread nD τ).loc main_arg1))) (added (m ((c.tc : Thread nD τ).loc main_arg3)))))
      (heads (m ((c.tc : Thread nD τ).loc main_arg2)))
      (shapeCast _ (extractStridedSlice S4x1x2x4x4096 ![0, 1, 0, 0, 0] (gates (m ((c.tc : Thread nD τ).loc main_arg6)))
        slices_S4x3x2x4x4096_S4x1x2x4x4096_0_1_0_0_0) shapeCasts_S4x1x2x4x4096_S4x2x4x4096) := rfl

theorem out1_eq (m : (ℓ : Loc nD τ sig) → Buf (Elt Ideal) ℓ) (c : Dev nD) :
    res_out1 m c = attention (masked window (dots (m ((c.tc : Thread nD τ).loc main_arg0))
      (m ((c.tc : Thread nD τ).loc main_arg4))))
      (heads (m ((c.tc : Thread nD τ).loc main_arg5)))
      (shapeCast _ (extractStridedSlice S4x1x2x4x4096 ![0, 2, 0, 0, 0] (gates (m ((c.tc : Thread nD τ).loc main_arg6)))
        slices_S4x3x2x4x4096_S4x1x2x4x4096_0_2_0_0_0) shapeCasts_S4x1x2x4x4096_S4x2x4x4096) := rfl

theorem heads_apply (k : FVec Ideal S4x4096x256 .bf16) (b : Fin 4) (t : Fin 4096) (g : Fin 2) (d : Fin 128) :
    heads k (ix4 b t g d) = k (ix3 b t ⟨g * 128 + d, by omega⟩) := by
  pointwise [heads]

theorem dots_apply (q : FVec Ideal S4x1024x4096 .bf16) (k : FVec Ideal S4x4096x256 .bf16) (b : Fin 4) (g : Fin 2) (h : Fin 4)
    (t k' : Fin 4096) : dots q k (ix5 b g h t k') =
      ∑ d : Fin 128, q (ix3 b ⟨g * 512 + h * 128 + d, by omega⟩ t) * k (ix3 b k' ⟨g * 128 + d, by omega⟩) := by
  pointwise [dots, heads]

theorem added_apply (a : FVec Ideal S4x2x128x4096 .bf16) (b : Fin 4) (g : Fin 2) (h : Fin 4) (t k : Fin 4096) :
    added a (ix5 b g h t k) = a (ix4 b g ⟨(k : Nat) / 64, by omega⟩ t) := by
  pointwise [added]

theorem masked_causal_apply (s : FVec Ideal S4x2x4x4096x4096 .f32) (b : Fin 4) (g : Fin 2) (h : Fin 4) (t k : Fin 4096) :
    masked causal s (ix5 b g h t k) = if k ≤ t then s (ix5 b g h t k) else ⊥ := by
  pointwise [masked, causal]
  have : id (constant (F := Ideal) S_ .f32 4286578688#32) ix0 = (⊥ : EReal) := Cert.Attn.lit_neg_inf
  rw [this]
  exact Cert.Attn.select_le _ _ k.isLt t.isLt _ _

theorem masked_window_apply (s : FVec Ideal S4x2x4x4096x4096 .f32) (b : Fin 4) (g : Fin 2) (h : Fin 4) (t k : Fin 4096) :
    masked window s (ix5 b g h t k) = if k ≤ t ∧ (t : Nat) - k < 512 then s (ix5 b g h t k) else ⊥ := by
  pointwise [masked, window, causal]
  have : id (constant (F := Ideal) S_ .f32 4286578688#32) ix0 = (⊥ : EReal) := Cert.Attn.lit_neg_inf
  rw [this]
  exact Cert.Attn.select_near _ _ k.isLt t.isLt _ _

theorem largest_apply (s : FVec Ideal S4x2x4x4096x4096 .f32) (b : Fin 4) (g : Fin 2) (h : Fin 4) (t : Fin 4096) :
    largest s (ix4 b g h t) = Finset.univ.sup fun k => s (ix5 b g h t k) := by
  pointwise [largest]
  exact Cert.Attn.fold_max _

theorem total_apply (s : FVec Ideal S4x2x4x4096x4096 .f32) (b : Fin 4) (g : Fin 2) (h : Fin 4) (t : Fin 4096) :
    total s (ix4 b g h t) = ∑ k, s (ix5 b g h t k) := by
  pointwise [total]

theorem powers_apply (s : FVec Ideal S4x2x4x4096x4096 .f32) (l : FVec Ideal S4x2x4x4096 .f32)
    (b : Fin 4) (g : Fin 2) (h : Fin 4) (t k : Fin 4096) :
    powers s l (ix5 b g h t k) = Ideal.exp2 (s (ix5 b g h t k) - if ⊥ < l (ix4 b g h t) then l (ix4 b g h t) else 0) := by
  pointwise [powers]
  have : id (constant (F := Ideal) S_ .f32 0#32) ix0 = (0 : EReal) := Ideal.ofBits_zero_f32
  rw [this, Cert.Attn.pow_two, Cert.Attn.lit_neg_inf]

theorem weights_apply (s : FVec Ideal S4x2x4x4096x4096 .f32) (l : FVec Ideal S4x2x4x4096 .f32)
    (b : Fin 4) (g : Fin 2) (h : Fin 4) (t k : Fin 4096) :
    weights s l (ix5 b g h t k) = Ideal.div (s (ix5 b g h t k)) (max (l (ix4 b g h t)) (Ideal.ofBits .f32 0x00800000#32)) := by
  pointwise [weights]

theorem gates_apply (x : FVec Ideal S4x24x4096 .f32) (b : Fin 4) (a : Fin 3) (g : Fin 2) (h : Fin 4) (t : Fin 4096) :
    gates x (ix5 b a g h t) = Ideal.logistic (x (ix3 b ⟨a * 8 + g * 4 + h, by omega⟩ t)) := by
  pointwise [gates]
  rfl

theorem gated_apply (w : FVec Ideal S4x2x4x4096x4096 .f32) (v : FVec Ideal S4x4096x2x128 .f32) (gt : FVec Ideal S4x2x4x4096 .f32)
    (b : Fin 4) (g : Fin 2) (h : Fin 4) (t : Fin 4096) (d : Fin 128) :
    gated w v gt (ix3 b t ⟨g * 512 + h * 128 + d, by omega⟩) =
      (∑ k, w (ix5 b g h t k) * v (ix4 b k g d)) * gt (ix4 b g h t) := by
  pointwise [gated]

/-- Attention at an index: the weighted mean of the values, gated. -/
theorem attention_apply (s : FVec Ideal S4x2x4x4096x4096 .f32) (v : FVec Ideal S4x4096x2x128 .f32) (gt : FVec Ideal S4x2x4x4096 .f32)
    (b : Fin 4) (g : Fin 2) (h : Fin 4) (t : Fin 4096) (d : Fin 128) :
    attention s v gt (ix3 b t ⟨g * 512 + h * 128 + d, by omega⟩) =
      Cert.Attn.attend Cert.Attn.tiny (fun k => s (ix5 b g h t k)) (fun k => v (ix4 b k g d)) Finset.univ * gt (ix4 b g h t) := by
  obtain ⟨r, hr, he⟩ := Cert.Attn.tiny_pos
  rw [attention, gated_apply, he, ← Cert.Attn.attend_eq hr, ← he]
  simp only [weights_apply, total_apply, powers_apply, largest_apply]
  rfl

/-- One gate of each head. -/
theorem gate_apply (x : FVec Ideal S4x24x4096 .f32) (b : Fin 4) (g : Fin 2) (h : Fin 4) (t : Fin 4096) :
    shapeCast _ (extractStridedSlice S4x1x2x4x4096 ![0, 1, 0, 0, 0] (gates x)
      slices_S4x3x2x4x4096_S4x1x2x4x4096_0_1_0_0_0) shapeCasts_S4x1x2x4x4096_S4x2x4x4096 (ix4 b g h t)
      = Ideal.logistic (x (ix3 b ⟨8 + g * 4 + h, by omega⟩ t)) := by
  have := gates_apply x b 1 g h t
  pointwise
  exact this

/-- The other gate of each head. -/
theorem gate_apply' (x : FVec Ideal S4x24x4096 .f32) (b : Fin 4) (g : Fin 2) (h : Fin 4) (t : Fin 4096) :
    shapeCast _ (extractStridedSlice S4x1x2x4x4096 ![0, 2, 0, 0, 0] (gates x)
      slices_S4x3x2x4x4096_S4x1x2x4x4096_0_2_0_0_0) shapeCasts_S4x1x2x4x4096_S4x2x4x4096 (ix4 b g h t)
      = Ideal.logistic (x (ix3 b ⟨16 + g * 4 + h, by omega⟩ t)) := by
  have := gates_apply x b 2 g h t
  pointwise
  exact this

/-- The score of a query against a key. -/
def score (q : FVec Ideal S4x1024x4096 .bf16) (k : FVec Ideal S4x4096x256 .bf16) (b : Fin 4) (g : Fin 2) (h : Fin 4)
    (t j : Fin 4096) : EReal :=
  ∑ d : Fin 128, q (ix3 b ⟨g * 512 + h * 128 + d, by omega⟩ t) * k (ix3 b j ⟨g * 128 + d, by omega⟩)

/-- The first result at an index: attention over the keys up to the query, the selection added to the scores. -/
theorem selected_apply (m : (ℓ : Loc nD τ sig) → Buf (Elt Ideal) ℓ) (c : Dev nD) (b : Fin 4) (g : Fin 2) (h : Fin 4)
    (t : Fin 4096) (d : Fin 128) :
    res_out0 m c (ix3 b t ⟨g * 512 + h * 128 + d, by omega⟩) =
      Cert.Attn.attend Cert.Attn.tiny (fun j => if j ≤ t then
          score (m ((c.tc : Thread nD τ).loc main_arg0)) (m ((c.tc : Thread nD τ).loc main_arg1)) b g h t j
            + m ((c.tc : Thread nD τ).loc main_arg3) (ix4 b g ⟨(j : Nat) / 64, by omega⟩ t) else ⊥)
        (fun j => m ((c.tc : Thread nD τ).loc main_arg2) (ix3 b j ⟨g * 128 + d, by omega⟩)) Finset.univ
        * Ideal.logistic (m ((c.tc : Thread nD τ).loc main_arg6) (ix3 b ⟨8 + g * 4 + h, by omega⟩ t)) := by
  rw [out0_eq, attention_apply, gate_apply]
  simp only [masked_causal_apply, heads_apply]
  have : ∀ j, addf (dots (m ((c.tc : Thread nD τ).loc main_arg0)) (m ((c.tc : Thread nD τ).loc main_arg1)))
      (added (m ((c.tc : Thread nD τ).loc main_arg3))) (ix5 b g h t j) =
      score (m ((c.tc : Thread nD τ).loc main_arg0)) (m ((c.tc : Thread nD τ).loc main_arg1)) b g h t j
            + m ((c.tc : Thread nD τ).loc main_arg3) (ix4 b g ⟨(j : Nat) / 64, by omega⟩ t) := fun j => by
    rw [score, ← dots_apply, ← added_apply (m ((c.tc : Thread nD τ).loc main_arg3)) b g h t j]; rfl
  simp only [this]

/-- The second result at an index: attention over the last 512 keys. -/
theorem window_apply (m : (ℓ : Loc nD τ sig) → Buf (Elt Ideal) ℓ) (c : Dev nD) (b : Fin 4) (g : Fin 2) (h : Fin 4)
    (t : Fin 4096) (d : Fin 128) :
    res_out1 m c (ix3 b t ⟨g * 512 + h * 128 + d, by omega⟩) =
      Cert.Attn.attend Cert.Attn.tiny (fun j => if j ≤ t ∧ (t : Nat) - j < 512 then
          score (m ((c.tc : Thread nD τ).loc main_arg0)) (m ((c.tc : Thread nD τ).loc main_arg4)) b g h t j else ⊥)
        (fun j => m ((c.tc : Thread nD τ).loc main_arg5) (ix3 b j ⟨g * 128 + d, by omega⟩)) Finset.univ
        * Ideal.logistic (m ((c.tc : Thread nD τ).loc main_arg6) (ix3 b ⟨16 + g * 4 + h, by omega⟩ t)) := by
  rw [out1_eq, attention_apply, gate_apply']
  simp only [masked_window_apply, heads_apply, dots_apply, score]

end Cert.ReferenceIdeal.Attn
-- ==== Proof.Attn.Assemble.lean ====
/-
  The two results of the call, from the blocks that its 64 points write: each is the attention of the reference.
-/
module

public import proofs.«01_k».proof.Proof.Attn.Host
public import proofs.«01_k».proof.Proof.Attn.KernelIdealRun.Value
public import proofs.«01_k».proof.Proof.Attn.SelOut
public import proofs.«01_k».proof.Proof.Attn.WinOut
public import proofs.«01_k».proof.Proof.Attn.Ref

@[expose] public section

set_option maxRecDepth 16384

noncomputable section

namespace Cert.KernelIdeal.Attn

open Cert.KernelIdeal Cert.KernelIdeal.Gen Idealize.ShloMosaic Idealize.ShloMosaic.TcCoe

variable (m : (ℓ : Loc nD τ sig) → Buf (Elt Ideal) ℓ) (c : Dev nD)

/-- Where each window's block stands, at every point. -/
theorem places : ∀ t : Fin grid0.N,
    (grid0.coords t 0).val < 4 ∧ (grid0.coords t 1).val < 16
    ∧ win0_0.index t = ![(grid0.coords t 0).val, 0, (grid0.coords t 1).val]
    ∧ win0_1.index t = ![(grid0.coords t 0).val, 0, 0, (grid0.coords t 1).val]
    ∧ win0_2.index t = ![(grid0.coords t 0).val, 0, 0]
    ∧ win0_3.index t = ![(grid0.coords t 0).val, 0, 0, 0, 0]
    ∧ win0_4.index t = ![(grid0.coords t 0).val, 0, 0]
    ∧ win0_5.index t = ![(grid0.coords t 0).val, 0, 0, 0, 0]
    ∧ win0_6.index t = ![0, 0, 0]
    ∧ win0_7.index t = ![(grid0.coords t 0).val, 0, (grid0.coords t 1).val]
    ∧ win0_8.index t = ![(grid0.coords t 0).val, (grid0.coords t 1).val, 0]
    ∧ win0_9.index t = ![(grid0.coords t 0).val, (grid0.coords t 1).val, 0] := by
  decide +kernel

/-- The point's batch row. -/
abbrev row (t : Fin grid0.N) : Fin 4 := ⟨(grid0.coords t 0).val, (places t).1⟩

/-- The point's block of queries. -/
abbrev tile (t : Fin grid0.N) : Fin 16 := ⟨(grid0.coords t 1).val, (places t).2.1⟩

theorem place0 (t : Fin grid0.N) : win0_0.index t = ![(grid0.coords t 0).val, 0, (grid0.coords t 1).val] := (places t).2.2.1
theorem place1 (t : Fin grid0.N) : win0_1.index t = ![(grid0.coords t 0).val, 0, 0, (grid0.coords t 1).val] := (places t).2.2.2.1
theorem place2 (t : Fin grid0.N) : win0_2.index t = ![(grid0.coords t 0).val, 0, 0] := (places t).2.2.2.2.1
theorem place3 (t : Fin grid0.N) : win0_3.index t = ![(grid0.coords t 0).val, 0, 0, 0, 0] := (places t).2.2.2.2.2.1
theorem place4 (t : Fin grid0.N) : win0_4.index t = ![(grid0.coords t 0).val, 0, 0] := (places t).2.2.2.2.2.2.1
theorem place5 (t : Fin grid0.N) : win0_5.index t = ![(grid0.coords t 0).val, 0, 0, 0, 0] := (places t).2.2.2.2.2.2.2.1
theorem place6 (t : Fin grid0.N) : win0_6.index t = ![0, 0, 0] := (places t).2.2.2.2.2.2.2.2.1
theorem place7 (t : Fin grid0.N) : win0_7.index t = ![(grid0.coords t 0).val, 0, (grid0.coords t 1).val] := (places t).2.2.2.2.2.2.2.2.2.1
theorem place8 (t : Fin grid0.N) : win0_8.index t = ![(grid0.coords t 0).val, (grid0.coords t 1).val, 0] := (places t).2.2.2.2.2.2.2.2.2.2.1
theorem place9 (t : Fin grid0.N) : win0_9.index t = ![(grid0.coords t 0).val, (grid0.coords t 1).val, 0] := (places t).2.2.2.2.2.2.2.2.2.2.2

theorem read0 (t : Fin grid0.N) (n : Fin 1024) (x : Fin 256) :
    (iblk m c 0 t : Vec Ideal S1x1024x256 .bf16) (ix3 0 n x)
      = m (c, main_arg0) (ix3 (row t) n ⟨(tile t).val * 256 + x, by have := (places t).2.1; simp only [tile]; omega⟩) := by
  refine Eq.trans ?_ (congrFun (V_main_arg0 m c) _)
  blk_ext [iblk, place0 t]

theorem read1 (t : Fin grid0.N) (g : Fin 2) (k : Fin 128) (x : Fin 256) :
    (iblk m c 1 t : Vec Ideal S1x2x128x256 .bf16) (ix4 0 g k x)
      = m (c, main_arg3) (ix4 (row t) g k ⟨(tile t).val * 256 + x, by have := (places t).2.1; simp only [tile]; omega⟩) := by
  refine Eq.trans ?_ (congrFun (V_main_arg3 m c) _)
  blk_ext [iblk, place1 t]

theorem read2 (t : Fin grid0.N) (j : Fin 4096) (n : Fin 512) :
    (iblk m c 2 t : Vec Ideal S1x4096x512 .bf16) (ix3 0 j n) = V m c main_v9 (ix3 (row t) j n) := by
  blk_ext [iblk, place2 t]

theorem read3 (t : Fin grid0.N) (g : Fin 2) (x : Fin 8) (e : Fin 144) (r : Fin 512) :
    (iblk m c 3 t : Vec Ideal S1x2x8x144x512 .bf16) (ix5 0 g x e r) = V m c main_v17 (ix5 (row t) g x e r) := by
  blk_ext [iblk, place3 t]

theorem read4 (t : Fin grid0.N) (j : Fin 4096) (n : Fin 256) :
    (iblk m c 4 t : Vec Ideal S1x4096x256 .bf16) (ix3 0 j n) = m (c, main_arg4) (ix3 (row t) j n) := by
  refine Eq.trans ?_ (congrFun (V_main_arg4 m c) _)
  blk_ext [iblk, place4 t]

theorem read5 (t : Fin grid0.N) (g : Fin 2) (x : Fin 16) (e : Fin 144) (r : Fin 256) :
    (iblk m c 5 t : Vec Ideal S1x2x16x144x256 .bf16) (ix5 0 g x e r) = V m c main_v25 (ix5 (row t) g x e r) := by
  blk_ext [iblk, place5 t]

theorem read6 (t : Fin grid0.N) (n : Fin 2) (r : Fin 256) (x : Fin 1024) :
    (iblk m c 6 t : Vec Ideal S2x256x1024 .f32) (ix3 n r x) = V m c main_v38 (ix3 n r x) := by
  blk_ext [iblk, place6 t]

theorem read7 (t : Fin grid0.N) (n : Fin 24) (x : Fin 256) :
    (iblk m c 7 t : Vec Ideal S1x24x256 .f32) (ix3 0 n x)
      = m (c, main_arg6) (ix3 (row t) n ⟨(tile t).val * 256 + x, by have := (places t).2.1; simp only [tile]; omega⟩) := by
  refine Eq.trans ?_ (congrFun (V_main_arg6 m c) _)
  blk_ext [iblk, place7 t]

open Cert.ReferenceIdeal.Attn (score)

/-- A query's number, from its block's and its place in it. -/
abbrev query (t : Fin grid0.N) (r : Fin 256) : Fin 4096 :=
  ⟨(tile t).val * 256 + r, by have := (places t).2.1; simp only [tile]; omega⟩

/-- The scores with the selection's bias, as the columns added to the keys and to the queries make them. -/
theorem raw_eq (t : Fin grid0.N) (g : Fin 2) (h : Fin 4) (r : Fin 256) (j : Fin 4096) :
    raw (iblk m c 0 t) (iblk m c 1 t) (iblk m c 2 t) g ⟨(h : Nat) * 256 + r, by omega⟩ j
      = score (m (c, main_arg0)) (m (c, main_arg1)) (row t) g h (query t r) j
        + m (c, main_arg3) (ix4 (row t) g ⟨(j : Nat) / 64, by omega⟩ (query t r)) := by
  have hc : ((h : Nat) * 256 + r) % 256 = r := by omega
  have hd : ((h : Nat) * 256 + r) / 256 = h := by omega
  unfold raw score
  rw [show (∑ k : Fin 256, _ : EReal) = _ from Fin.sum_univ_add (a := 128) (b := 128) _]
  refine congrArg₂ (· + ·) (Finset.sum_congr rfl fun k _ => ?_) ?_
  · rw [mul_comm]
    refine congrArg₂ (· * ·) ?_ ?_
    · unfold qaug
      refine (dif_pos (show ((Fin.castAdd 128 k : Fin 256) : Nat) < 128 from k.isLt)).trans ((read0 m c t _ _).trans ?_)
      refine congrArg (m (c, main_arg0)) (congrArg₂ (ix3 (row t)) (Fin.ext ?_) (Fin.ext ?_))
      · show (g : Nat) * 512 + ((h : Nat) * 256 + r) / 256 * 128 + k = _; rw [hd]
      · show (tile t).val * 256 + ((h : Nat) * 256 + r) % 256 = _; rw [hc]
    · refine (read2 m c t j _).trans ((keys_apply m c _ _ _).trans ?_)
      have hk : ((g : Nat) * 256 + k) % 256 < 128 := by omega
      refine (dif_pos hk).trans (congrArg (m (c, main_arg1)) (congrArg (ix3 (row t) j) (Fin.ext ?_)))
      show ((g : Nat) * 256 + k) / 256 * 128 + ((g : Nat) * 256 + k) % 256 = (g : Nat) * 128 + k
      omega
  · have hx : ∀ k : Fin 128, (iblk m c 2 t : Vec Ideal S1x4096x512 .bf16)
        (ix3 0 j ⟨(g : Nat) * 256 + (Fin.natAdd 128 k : Fin 256), by have := (Fin.natAdd 128 k : Fin 256).isLt; omega⟩)
          = if (j : Nat) / 64 = k then (1 : EReal) else 0 := fun k => by
      refine (read2 m c t j _).trans ((keys_apply m c _ _ _).trans ?_)
      have hk : ¬ ((g : Nat) * 256 + (128 + k)) % 256 < 128 := by omega
      refine (dif_neg hk).trans (if_congr ?_ rfl rfl)
      show (j : Nat) / 64 = ((g : Nat) * 256 + (128 + k)) % 256 - 128 ↔ _
      omega
    have hy : ∀ k : Fin 128, qaug (iblk m c 0 t) (iblk m c 1 t) g (Fin.natAdd 128 k : Fin 256) ⟨(h : Nat) * 256 + r, by omega⟩
          = m (c, main_arg3) (ix4 (row t) g k (query t r)) := fun k => by
      unfold qaug
      refine (dif_neg (show ¬ 128 + (k : Nat) < 128 by omega)).trans ((read1 m c t g _ _).trans ?_)
      refine congrArg (m (c, main_arg3)) (congrArg₂ (ix4 (row t) g) (Fin.ext ?_) (Fin.ext ?_))
      · show 128 + (k : Nat) - 128 = k; omega
      · show (tile t).val * 256 + ((h : Nat) * 256 + r) % 256 = _; rw [hc]
    refine (Finset.sum_congr rfl fun k _ => congrArg₂ (fun x y : EReal => x * y) (hx k) (hy k)).trans ?_
    rw [Finset.sum_eq_single (⟨(j : Nat) / 64, by omega⟩ : Fin 128)]
    · rw [if_pos rfl]
      exact one_mul (M := EReal) _
    · intro k _ hk
      rw [if_neg (fun e => hk (Fin.ext e.symm))]
      exact zero_mul (M₀ := EReal) _
    · simp

/-- The selection's weighted value at a point's query. -/
theorem svalue_eq (t : Fin grid0.N) (g : Fin 2) (h : Fin 4) (r : Fin 256) (d : Fin 128) :
    svalue (tile t) (iblk m c 0 t) (iblk m c 1 t) (iblk m c 2 t) (iblk m c 3 t) g h r d
      = Cert.Attn.attend Cert.Attn.tiny (fun j => if j ≤ query t r then
          score (m (c, main_arg0)) (m (c, main_arg1)) (row t) g h (query t r) j
            + m (c, main_arg3) (ix4 (row t) g ⟨(j : Nat) / 64, by omega⟩ (query t r)) else ⊥)
        (fun j => m (c, main_arg2) (ix3 (row t) j ⟨(g : Nat) * 128 + d, by omega⟩)) Finset.univ := by
  have hc : ((h : Nat) * 256 + r) % 256 = r := by omega
  unfold svalue
  refine congrArg₂ (fun s v => Cert.Attn.attend Cert.Attn.tiny s v Finset.univ) (funext fun j => ?_) (funext fun j => ?_)
  · rw [sc, raw_eq]
    refine if_congr ?_ rfl rfl
    show (j : Nat) ≤ (tile t).val * 256 + ((h : Nat) * 256 + r) % 256 ↔ (j : Nat) ≤ (tile t).val * 256 + r
    rw [hc]
  · refine (read3 m c t g _ _ _).trans ((sel_values_apply m c _ _ _ _ _).trans ?_)
    refine (dif_pos d.isLt).trans (congrArg (m (c, main_arg2)) (congrArg₂ (ix3 (row t)) (Fin.ext ?_) rfl))
    show (j : Nat) / 512 * 512 + j % 512 = j
    omega

/-- The window's weighted value at a point's query. -/
theorem wvalue_eq (t : Fin grid0.N) (g : Fin 2) (h : Fin 4) (r : Fin 256) (d : Fin 128) :
    wvalue (tile t) (iblk m c 0 t) (iblk m c 4 t) (iblk m c 5 t) g h r d
      = Cert.Attn.attend Cert.Attn.tiny (fun j => if j ≤ query t r ∧ (query t r : Nat) - j < 512 then
          score (m (c, main_arg0)) (m (c, main_arg4)) (row t) g h (query t r) j else ⊥)
        (fun j => m (c, main_arg5) (ix3 (row t) j ⟨(g : Nat) * 128 + d, by omega⟩)) Finset.univ := by
  unfold wvalue
  refine congrArg₂ (fun s v => Cert.Attn.attend Cert.Attn.tiny s v Finset.univ) (funext fun j => ?_) (funext fun j => ?_)
  · refine if_congr Iff.rfl ?_ rfl
    unfold wscore score
    exact Finset.sum_congr rfl fun k _ => congrArg₂ (· * ·) (read0 m c t _ r) (read4 m c t j _)
  · refine (read5 m c t g _ _ _).trans ((win_values_apply m c _ _ _ _ _).trans ?_)
    refine (dif_pos d.isLt).trans (congrArg (m (c, main_arg5)) (congrArg₂ (ix3 (row t)) (Fin.ext ?_) rfl))
    show (j : Nat) / 256 * 256 + j % 256 = j
    omega

/-- The row of ones below the selection's values. -/
theorem sel_ones (t : Fin grid0.N) (g : Fin 2) (x : Fin 8) (r : Fin 512) :
    (iblk m c 3 t : Vec Ideal S1x2x8x144x512 .bf16) (ix5 0 g x 128 r) = (1 : EReal) := by
  refine (read3 m c t g x 128 r).trans ((sel_values_apply m c _ _ _ _ _).trans ?_)
  rfl

/-- The row of ones below the window's values. -/
theorem win_ones (t : Fin grid0.N) (g : Fin 2) (x : Fin 16) (r : Fin 256) :
    (iblk m c 5 t : Vec Ideal S1x2x16x144x256 .bf16) (ix5 0 g x 128 r) = (1 : EReal) := by
  refine (read5 m c t g x 128 r).trans ((win_values_apply m c _ _ _ _ _).trans ?_)
  rfl

set_option maxHeartbeats 1000000 in
/-- What a point writes of the first result. -/
theorem first_block (t : Fin grid0.N) (g : Fin 2) (h : Fin 4) (d : Fin 128) (r : Fin 256) :
    (outsAt0 m c t.val t.isLt).1 (ix3 0 r ⟨(g : Nat) * 512 + h * 128 + d, by omega⟩)
      = svalue (tile t) (iblk m c 0 t) (iblk m c 1 t) (iblk m c 2 t) (iblk m c 3 t) g h r d
        * Ideal.logistic (m (c, main_arg6) (ix3 (row t) ⟨8 + (g : Nat) * 4 + h, by omega⟩ (query t r))) := by
  have e7 := read7 m c t ⟨8 + (g : Nat) * 4 + h, by omega⟩ r
  by_cases h0 : t.val % 4 = 2 ∨ t.val % 4 = 3
  · refine (congrFun (congrArg Prod.fst (outsAt0_B m c t h0)) _).trans ?_
    have key := sel_out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t)
      (sel_ones m c t) g h d r
    refine Eq.trans key ?_
    exact congrArg (fun z : EReal => svalue (tile t) (iblk m c 0 t) (iblk m c 1 t) (iblk m c 2 t) (iblk m c 3 t) g h r d * Ideal.logistic z) e7
  · refine (congrFun (congrArg Prod.fst (outsAt0_A m c t h0)) _).trans ?_
    have key := sel_out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (sel_ones m c t) g h d r
    refine Eq.trans key ?_
    exact congrArg (fun z : EReal => svalue (tile t) (iblk m c 0 t) (iblk m c 1 t) (iblk m c 2 t) (iblk m c 3 t) g h r d * Ideal.logistic z) e7

set_option maxHeartbeats 1000000 in
/-- What a point writes of the second result. -/
theorem second_block (t : Fin grid0.N) (g : Fin 2) (h : Fin 4) (d : Fin 128) (r : Fin 256) :
    (outsAt0 m c t.val t.isLt).2 (ix3 0 r ⟨(g : Nat) * 512 + h * 128 + d, by omega⟩)
      = wvalue (tile t) (iblk m c 0 t) (iblk m c 4 t) (iblk m c 5 t) g h r d
        * Ideal.logistic (m (c, main_arg6) (ix3 (row t) ⟨16 + (g : Nat) * 4 + h, by omega⟩ (query t r))) := by
  have e7 := read7 m c t ⟨16 + (g : Nat) * 4 + h, by omega⟩ r
  have hb0 : ∀ (r : Fin 256) (x : Fin 1024), (iblk m c 6 t : Vec Ideal S2x256x1024 .f32) (ix3 0 r x)
      = if (r : Nat) ≤ x % 256 then (0 : EReal) else ⊥ := fun r x => (read6 m c t 0 r x).trans (mask_first m c r x)
  have hb2 : ∀ (r : Fin 256) (x : Fin 1024), (iblk m c 6 t : Vec Ideal S2x256x1024 .f32) (ix3 1 r x)
      = if (x : Nat) % 256 < r then (0 : EReal) else ⊥ := fun r x => (read6 m c t 1 r x).trans (mask_second m c r x)
  by_cases h0 : t.val % 4 = 2 ∨ t.val % 4 = 3
  · refine (congrFun (congrArg Prod.snd (outsAt0_B m c t h0)) _).trans ?_
    have key := win_out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t)
      (win_ones m c t) hb0 hb2 g h d r
    refine Eq.trans key ?_
    exact congrArg (fun z : EReal => wvalue (tile t) (iblk m c 0 t) (iblk m c 4 t) (iblk m c 5 t) g h r d * Ideal.logistic z) e7
  · refine (congrFun (congrArg Prod.snd (outsAt0_A m c t h0)) _).trans ?_
    have key := win_out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (win_ones m c t) hb0 hb2 g h d r
    refine Eq.trans key ?_
    exact congrArg (fun z : EReal => wvalue (tile t) (iblk m c 0 t) (iblk m c 4 t) (iblk m c 5 t) g h r d * Ideal.logistic z) e7

end Cert.KernelIdeal.Attn
-- ==== Proof.Attn.Result.lean ====
/-
  The two results of the call are the two results of the reference.
-/
module

public import proofs.«01_k».proof.Proof.Attn.Assemble

@[expose] public section

set_option maxRecDepth 16384

noncomputable section

namespace Cert.KernelIdeal.Attn

open Cert.KernelIdeal Cert.KernelIdeal.Gen Idealize.ShloMosaic Idealize.ShloMosaic.TcCoe

variable (m : (ℓ : Loc nD τ sig) → Buf (Elt Ideal) ℓ) (c : Dev nD)

set_option maxHeartbeats 1000000 in
/-- The first result of the call is the first result of the reference. -/
theorem first_result (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m (c, main_arg0))
    (h1 : m' ((c.tc : Thread Cert.ReferenceIdeal.nD Cert.ReferenceIdeal.τ).loc Cert.ReferenceIdeal.main_arg1) = m (c, main_arg1))
    (h2 : m' ((c.tc : Thread Cert.ReferenceIdeal.nD Cert.ReferenceIdeal.τ).loc Cert.ReferenceIdeal.main_arg2) = m (c, main_arg2))
    (h3 : m' ((c.tc : Thread Cert.ReferenceIdeal.nD Cert.ReferenceIdeal.τ).loc Cert.ReferenceIdeal.main_arg3) = m (c, main_arg3))
    (h6 : m' ((c.tc : Thread Cert.ReferenceIdeal.nD Cert.ReferenceIdeal.τ).loc Cert.ReferenceIdeal.main_arg6) = m (c, main_arg6)) :
    (dats m 0 c).arrAt 8 cfg0.N = Cert.ReferenceIdeal.Value.res_main_v53 m' c := by
  refine (dats m 0 c).arrAt_eq_of_covers 8 _ (by decide +kernel) fun t hf y => ?_
  blk_simp
  rw [after0_8]
  obtain ⟨z, r, n, rfl⟩ : ∃ (z : Fin 1) (r : Fin 256) (n : Fin 1024), y = ix3 z r n := ⟨y 0, y 1, y 2, eq_ix3 y⟩
  obtain rfl : z = 0 := Subsingleton.elim _ _
  obtain ⟨g, h, d, rfl⟩ : ∃ (g : Fin 2) (h : Fin 4) (d : Fin 128), n = ⟨(g : Nat) * 512 + h * 128 + d, by omega⟩ :=
    ⟨⟨n / 512, by omega⟩, ⟨n / 128 % 4, by omega⟩, ⟨n % 128, by omega⟩, Fin.ext (by show (n : Nat) = n / 512 * 512 + n / 128 % 4 * 128 + n % 128; omega)⟩
  have hp : (win0_8.blk t).view.emb (ix3 0 r ⟨(g : Nat) * 512 + h * 128 + d, by omega⟩)
      = ix3 (row t) (query t r) ⟨(g : Nat) * 512 + h * 128 + d, by omega⟩ := by
    blk_ext [place8 t]
  rw [hp]
  refine (first_block m c t g h d r).trans ?_
  rw [svalue_eq]
  refine Eq.symm ((Cert.ReferenceIdeal.Attn.selected_apply m' c (row t) g h (query t r) d).trans ?_)
  rw [h0, h1, h2, h3, h6]

set_option maxHeartbeats 1000000 in
/-- The second result of the call is the second result of the reference. -/
theorem second_result (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m (c, main_arg0))
    (h4 : m' ((c.tc : Thread Cert.ReferenceIdeal.nD Cert.ReferenceIdeal.τ).loc Cert.ReferenceIdeal.main_arg4) = m (c, main_arg4))
    (h5 : m' ((c.tc : Thread Cert.ReferenceIdeal.nD Cert.ReferenceIdeal.τ).loc Cert.ReferenceIdeal.main_arg5) = m (c, main_arg5))
    (h6 : m' ((c.tc : Thread Cert.ReferenceIdeal.nD Cert.ReferenceIdeal.τ).loc Cert.ReferenceIdeal.main_arg6) = m (c, main_arg6)) :
    (dats m 0 c).arrAt 9 cfg0.N = Cert.ReferenceIdeal.Value.res_main_v83 m' c := by
  refine (dats m 0 c).arrAt_eq_of_covers 9 _ (by decide +kernel) fun t hf y => ?_
  blk_simp
  rw [after0_9]
  obtain ⟨z, r, n, rfl⟩ : ∃ (z : Fin 1) (r : Fin 256) (n : Fin 1024), y = ix3 z r n := ⟨y 0, y 1, y 2, eq_ix3 y⟩
  obtain rfl : z = 0 := Subsingleton.elim _ _
  obtain ⟨g, h, d, rfl⟩ : ∃ (g : Fin 2) (h : Fin 4) (d : Fin 128), n = ⟨(g : Nat) * 512 + h * 128 + d, by omega⟩ :=
    ⟨⟨n / 512, by omega⟩, ⟨n / 128 % 4, by omega⟩, ⟨n % 128, by omega⟩, Fin.ext (by show (n : Nat) = n / 512 * 512 + n / 128 % 4 * 128 + n % 128; omega)⟩
  have hp : (win0_9.blk t).view.emb (ix3 0 r ⟨(g : Nat) * 512 + h * 128 + d, by omega⟩)
      = ix3 (row t) (query t r) ⟨(g : Nat) * 512 + h * 128 + d, by omega⟩ := by
    blk_ext [place9 t]
  rw [hp]
  refine (second_block m c t g h d r).trans ?_
  rw [wvalue_eq]
  refine Eq.symm ((Cert.ReferenceIdeal.Attn.window_apply m' c (row t) g h (query t r) d).trans ?_)
  rw [h0, h4, h5, h6]

end Cert.KernelIdeal.Attn
-- ==== Proof.Proj.Result.lean ====
/-
  The projection: each point's block of rows times all the columns, which is the whole product's block.
-/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Reference2Ideal.Proj

open Cert.Reference2Ideal Cert.Reference2Ideal.Gen Idealize.ShloMosaic Idealize.ShloMosaic.TcCoe

variable (m : (ℓ : Loc nD τ sig) → Buf (Elt Ideal) ℓ) (c : Dev nD)

/-- The reference's first result. -/
def first : FVec Ideal S4x4096x3072 .bf16 := truncf .bf16 (extractStridedSlice S4x4096x3072 ![0, 0, 0] (Host.dotGeneral (F := Ideal) (φ₁ := .f32) (φ₂ := .f32) dot_S4x4096x1024_S1024x3584_S4x4096x3584_2_0_01_1_n_n none (m ((c.tc : Thread nD τ).loc main_arg0)) (extf .f32 (m ((c.tc : Thread nD τ).loc main_arg1)) bitsLt_bf16_f32)) slices_S4x4096x3584_S4x4096x3072_0_0_0) bitsLt_bf16_f32

/-- The reference's second result. -/
def second : FVec Ideal S4x4096x512 .f32 := extractStridedSlice S4x4096x512 ![0, 0, 3072] (Host.dotGeneral (F := Ideal) (φ₁ := .f32) (φ₂ := .f32) dot_S4x4096x1024_S1024x3584_S4x4096x3584_2_0_01_1_n_n none (m ((c.tc : Thread nD τ).loc main_arg0)) (extf .f32 (m ((c.tc : Thread nD τ).loc main_arg1)) bitsLt_bf16_f32)) slices_S4x4096x3584_S4x4096x512_0_0_3072

/-- One column of one row of the product. -/
def column (x : FVec Ideal S4x4096x1024 .f32) (w : FVec Ideal S1024x3584 .bf16) (b : Fin 4) (s : Fin 4096) (n : Fin 3584) : EReal :=
  ∑ k : Fin 1024, x (ix3 b s k) * w (ix2 k n)

theorem first_apply (b : Fin 4) (s : Fin 4096) (n : Fin 3072) :
    first m c (ix3 b s n) = column (m (c, main_arg0)) (m (c, main_arg1)) b s ⟨n, by omega⟩ := by
  pointwise [first, column]

theorem second_apply (b : Fin 4) (s : Fin 4096) (n : Fin 512) :
    second m c (ix3 b s n) = column (m (c, main_arg0)) (m (c, main_arg1)) b s ⟨3072 + n, by omega⟩ := by
  pointwise [second, column]

end Cert.Reference2Ideal.Proj

namespace Cert.Kernel2Ideal.Proj

open Cert.Kernel2Ideal Cert.Kernel2Ideal.Gen Idealize.ShloMosaic Idealize.ShloMosaic.TcCoe
open Cert.Reference2Ideal.Proj (column)

variable (m : (ℓ : Loc nD τ sig) → Buf (Elt Ideal) ℓ) (c : Dev nD)

/-- Where each window's block stands, at every point. -/
theorem places : ∀ t : Fin grid0.N,
    (grid0.coords t 0).val < 4 ∧ (grid0.coords t 1).val < 8
    ∧ win0_0.index t = ![(grid0.coords t 0).val, (grid0.coords t 1).val, 0]
    ∧ win0_1.index t = ![0, 0]
    ∧ win0_2.index t = ![(grid0.coords t 0).val, (grid0.coords t 1).val, 0]
    ∧ win0_3.index t = ![(grid0.coords t 0).val, (grid0.coords t 1).val, 0] := by
  decide +kernel

/-- The point's batch row. -/
abbrev batch (t : Fin grid0.N) : Fin 4 := ⟨(grid0.coords t 0).val, (places t).1⟩

/-- The row of the sequence that stands at row `r` of the point's block. -/
abbrev token (t : Fin grid0.N) (r : Fin 512) : Fin 4096 :=
  ⟨(grid0.coords t 1).val * 512 + r, by have := (places t).2.1; omega⟩

theorem read_x (t : Fin grid0.N) (r : Fin 512) (k : Fin 1024) :
    (iblk m c 0 t : Vec Ideal S1x512x1024 .f32) (ix3 0 r k) = m (c, main_arg0) (ix3 (batch t) (token t r) k) := by
  refine Eq.trans ?_ (congrFun (V_main_arg0 m c) _)
  blk_ext [iblk, (places t).2.2.1]

theorem read_w (t : Fin grid0.N) (k : Fin 1024) (n : Fin 3584) :
    (iblk m c 1 t : Vec Ideal S1024x3584 .bf16) (ix2 k n) = m (c, main_arg1) (ix2 k n) := by
  refine Eq.trans ?_ (congrFun (V_main_arg1 m c) _)
  blk_ext [iblk, (places t).2.2.2.1]

theorem product (x : Vec Ideal S1x512x1024 .f32) (w : Vec Ideal S1024x3584 .bf16) (r : Fin 512) (n : Fin 3584) :
    (k0_pay1 x w : FVec Ideal S512x3584 .f32) (ix2 r n) = ∑ k : Fin 1024, x (ix3 0 r k) * w (ix2 k n) := by
  pointwise [k0_pay1]

theorem product_block (t : Fin grid0.N) (r : Fin 512) (n : Fin 3584) :
    (k0_pay1 (iblk m c 0 t) (iblk m c 1 t) : FVec Ideal S512x3584 .f32) (ix2 r n)
      = column (m (c, main_arg0)) (m (c, main_arg1)) (batch t) (token t r) n :=
  (product _ _ r n).trans (Finset.sum_congr rfl fun k _ =>
    congrArg₂ (fun x y : EReal => x * y) (read_x m c t r k) (read_w m c t k n))

theorem block_first (x : Vec Ideal S1x512x1024 .f32) (w : Vec Ideal S1024x3584 .bf16) (r : Fin 512) (n : Fin 3072) :
    out0_2 x w (ix3 0 r n) = k0_pay1 x w (ix2 r ⟨n, by omega⟩) := by
  frame_out
  pointwise [k0_pay2]

theorem block_second (x : Vec Ideal S1x512x1024 .f32) (w : Vec Ideal S1024x3584 .bf16) (r : Fin 512) (n : Fin 512) :
    out0_3 x w (ix3 0 r n) = k0_pay1 x w (ix2 r ⟨3072 + n, by omega⟩) := by
  frame_out
  pointwise [k0_pay3]

/-- The first result of the call is the first result of the reference. -/
theorem first_result (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m (c, main_arg0))
    (h1 : m' ((c.tc : Thread Cert.Reference2Ideal.nD Cert.Reference2Ideal.τ).loc Cert.Reference2Ideal.main_arg1) = m (c, main_arg1)) :
    (dats m 0 c).arrAt 2 cfg0.N = Cert.Reference2Ideal.Proj.first m' c := by
  refine (dats m 0 c).arrAt_eq_of_covers 2 _ (by decide +kernel) fun t hf y => ?_
  blk_simp
  rw [after0_2]
  obtain ⟨z, r, n, rfl⟩ : ∃ (z : Fin 1) (r : Fin 512) (n : Fin 3072), y = ix3 z r n := ⟨y 0, y 1, y 2, eq_ix3 y⟩
  obtain rfl : z = 0 := Subsingleton.elim _ _
  have hp : (win0_2.blk t).view.emb (ix3 0 r n) = ix3 (batch t) (token t r) n := by
    blk_ext [(places t).2.2.2.2.1]
  rw [hp]
  refine (block_first _ _ r n).trans ((product_block m c t r ⟨n, by omega⟩).trans ?_)
  refine Eq.symm ((Cert.Reference2Ideal.Proj.first_apply m' c (batch t) (token t r) n).trans ?_)
  exact congrArg₂ (fun x w => column x w (batch t) (token t r) ⟨n, by omega⟩) h0 h1

/-- The second result of the call is the second result of the reference. -/
theorem second_result (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m (c, main_arg0))
    (h1 : m' ((c.tc : Thread Cert.Reference2Ideal.nD Cert.Reference2Ideal.τ).loc Cert.Reference2Ideal.main_arg1) = m (c, main_arg1)) :
    (dats m 0 c).arrAt 3 cfg0.N = Cert.Reference2Ideal.Proj.second m' c := by
  refine (dats m 0 c).arrAt_eq_of_covers 3 _ (by decide +kernel) fun t hf y => ?_
  blk_simp
  rw [after0_3]
  obtain ⟨z, r, n, rfl⟩ : ∃ (z : Fin 1) (r : Fin 512) (n : Fin 512), y = ix3 z r n := ⟨y 0, y 1, y 2, eq_ix3 y⟩
  obtain rfl : z = 0 := Subsingleton.elim _ _
  have hp : (win0_3.blk t).view.emb (ix3 0 r n) = ix3 (batch t) (token t r) n := by
    blk_ext [(places t).2.2.2.2.2]
  rw [hp]
  refine (block_second _ _ r n).trans ((product_block m c t r ⟨3072 + n, by omega⟩).trans ?_)
  refine Eq.symm ((Cert.Reference2Ideal.Proj.second_apply m' c (batch t) (token t r) n).trans ?_)
  exact congrArg₂ (fun x w => column x w (batch t) (token t r) ⟨3072 + n, by omega⟩) h0 h1

end Cert.Kernel2Ideal.Proj
-- ==== Proof.Norm.Row.lean ====
/-
  The layer normalisation of one row of 1024 numbers.
-/
module

public import Idealize.ShloMosaic.Lib.Pointwise
public import Idealize.ShloMosaic.Lib.IdealHost

@[expose] public section

set_option maxRecDepth 16384

noncomputable section

namespace Cert.Norm

open Idealize.ShloMosaic

/-- The mean of a row. -/
def mean (z : Fin 1024 → EReal) : EReal := Ideal.div (∑ k : Fin 1024, z k) (Ideal.ofBits .f32 0x44800000#32)

/-- The row normalised: its distance from its mean, over the root of the mean square of that distance, scaled and shifted. -/
def row (z : Fin 1024 → EReal) (g b : EReal) (n : Fin 1024) : EReal :=
  (z n - mean z) * Ideal.rsqrt (mean (fun k => (z k - mean z) * (z k - mean z)) + Ideal.ofBits .f32 0x3727C5AC#32) * g + b

theorem row_congr {z z' : Fin 1024 → EReal} {g g' b b' : EReal} (n : Fin 1024) (hz : ∀ k, z k = z' k) (hg : g = g') (hb : b = b') :
    row z g b n = row z' g' b' n := by
  rw [show z = z' from funext hz, hg, hb]

end Cert.Norm
-- ==== Proof.Down.Ref.lean ====
/-
  The reference's result at an index: the row of the sum, normalised.
-/
module

public import proofs.«01_k».proof.Proof.Norm.Row
public import proofs.«01_k».proof.Proof.Gen.Reference3Ideal.Run

@[expose] public section

set_option maxRecDepth 16384

noncomputable section

namespace Cert.Reference3Ideal.Down

open Cert.Reference3Ideal Cert.Reference3Ideal.Gen Idealize.ShloMosaic Idealize.ShloMosaic.TcCoe

variable (m : (ℓ : Loc nD τ sig) → Buf (Elt Ideal) ℓ) (c : Dev nD)

/-- The normalisation of every row. -/
def norm (z : FVec Ideal S16384x1024 .f32) (g b : FVec Ideal S1024 .f32) : FVec Ideal S16384x1024 .f32 :=
  addf (mulf (mulf (subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))))) (subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- What is normalised. -/
def sum (a : FVec Ideal S16384x2816 .bf16) (w : FVec Ideal S2816x1024 .f32) (x : FVec Ideal S16384x1024 .f32) : FVec Ideal S16384x1024 .f32 :=
  addf (mulf (broadcastInDim S16384x1024 ![] bcast_S_S16384x1024 (constant S_ .f32 0x3F9837F0#32)) x) (Host.dotGeneral (F := Ideal) (φ₁ := .f32) (φ₂ := .f32) dot_S16384x2816_S2816x1024_S16384x1024_1_0_0_1_n_n none (shapeCast _ (transpose S16x8x128x2816 [0, 2, 1, 3] (shapeCast _ (extf .f32 a bitsLt_bf16_f32) shapeCasts_S16384x2816_S16x128x8x2816) transposes_S16x128x8x2816_S16x8x128x2816_0_2_1_3) shapeCasts_S16x8x128x2816_S16384x2816) w)

theorem result_eq : Cert.Reference3Ideal.Value.res_main_v31 m c
    = norm (sum (m (c, main_arg0)) (m (c, main_arg1)) (m (c, main_arg2))) (m (c, main_arg3)) (m (c, main_arg4)) := rfl

theorem norm_apply (z : FVec Ideal S16384x1024 .f32) (g b : FVec Ideal S1024 .f32) (p : Fin 16384) (n : Fin 1024) :
    norm z g b (ix2 p n) = Norm.row (fun k => z (ix2 p k)) (g (ix1 n)) (b (ix1 n)) n := by
  pointwise [norm, Norm.row, Norm.mean]

/-- Token `128 s + r` of the `t`-th run of 1024 takes row `8 r + s` of that run's activations. -/
theorem sum_apply (a : FVec Ideal S16384x2816 .bf16) (w : FVec Ideal S2816x1024 .f32) (x : FVec Ideal S16384x1024 .f32)
    (t : Fin 16) (s : Fin 8) (r : Fin 128) (n : Fin 1024) :
    sum a w x (ix2 ⟨1024 * t + (128 * s + r), by omega⟩ n)
      = Ideal.ofBits .f32 0x3F9837F0#32 * x (ix2 ⟨1024 * t + (128 * s + r), by omega⟩ n)
        + ∑ k : Fin 2816, a (ix2 ⟨t * 1024 + r * 8 + s, by omega⟩ k) * w (ix2 k n) := by
  pointwise [sum]

end Cert.Reference3Ideal.Down
-- ==== Proof.Norm.Canon.lean ====
/-
  What stores leave, read at an index.
-/
module

public import Idealize.ShloMosaic.Lib.Pointwise
public import Idealize.ShloMosaic.Lib.Pipeline.ReadBack
public import Idealize.ShloMosaic.Lib.Pipeline.ValueKit

@[expose] public section

set_option maxRecDepth 16384

noncomputable section

namespace Cert.Norm

open Idealize.ShloMosaic

variable {Val : EltTy → Type} {S : Shape} {e : EltTy} [∀ e, Nonempty (Val e)]

/-- An index inside the last store reads that store. -/
theorem canon_hit (off size : Fin S.rank → Nat) (inb) (w : (⟨S.rank, size⟩ : Shape).Idx → Val e) (L : List (View.Piece Val S e))
    (y : S.Idx) (x : (⟨S.rank, size⟩ : Shape).Idx) (h : ∀ a, (y a : Nat) = off a + x a) :
    View.canon (⟨Rect.unit off size inb, w⟩ :: L) y = w x := by
  have : y = (Rect.unit off size inb).emb x := funext fun a => Fin.ext (by
    rw [h a]; show _ = off a + 1 * (x a : Nat); omega)
  rw [this]; exact View.canon_cons_emb (Rect.unit off size inb) w L x

/-- An index outside the last store reads the earlier ones. -/
theorem canon_miss (off size : Fin S.rank → Nat) (inb) (w : (⟨S.rank, size⟩ : Shape).Idx → Val e) (L : List (View.Piece Val S e))
    (y : S.Idx) (a : Fin S.rank) (h : (y a : Nat) < off a ∨ off a + size a ≤ y a) :
    View.canon (⟨Rect.unit off size inb, w⟩ :: L) y = View.canon L y := by
  refine View.canon_cons_of_not_mem _ _ fun hm => ?_
  have := (Rect.mem_set_unit (inb := inb)).mp hm a
  omega

/-- The same in a plane. -/
theorem canon_hit2 {A B : Nat} (o p a b : Nat) (inb) (w : (⟨2, ![a, b]⟩ : Shape).Idx → Val e) (L : List (View.Piece Val ⟨2, ![A, B]⟩ e))
    (y0 : Fin A) (y1 : Fin B) (x0 : Fin a) (x1 : Fin b) (h0 : (y0 : Nat) = o + x0) (h1 : (y1 : Nat) = p + x1) :
    View.canon (⟨Rect.unit (s := ⟨2, ![A, B]⟩) ![o, p] ![a, b] inb, w⟩ :: L) (ix2 y0 y1) = w (ix2 x0 x1) :=
  canon_hit (S := ⟨2, ![A, B]⟩) ![o, p] ![a, b] inb w L (ix2 y0 y1) (ix2 x0 x1) fun q => by
    fin_cases q
    · exact h0
    · exact h1

theorem canon_miss2 {A B : Nat} (o p a b : Nat) (inb) (w : (⟨2, ![a, b]⟩ : Shape).Idx → Val e) (L : List (View.Piece Val ⟨2, ![A, B]⟩ e))
    (y0 : Fin A) (y1 : Fin B) (h : (y0 : Nat) < o ∨ o + a ≤ (y0 : Nat)) :
    View.canon (⟨Rect.unit (s := ⟨2, ![A, B]⟩) ![o, p] ![a, b] inb, w⟩ :: L) (ix2 y0 y1) = View.canon L (ix2 y0 y1) :=
  canon_miss (S := ⟨2, ![A, B]⟩) ![o, p] ![a, b] inb w L (ix2 y0 y1) (0 : Fin 2) h

theorem canon_hit3 {A B C : Nat} (o p q a b d : Nat) (inb) (w : (⟨3, ![a, b, d]⟩ : Shape).Idx → Val e) (L : List (View.Piece Val ⟨3, ![A, B, C]⟩ e))
    (y0 : Fin A) (y1 : Fin B) (y2 : Fin C) (x0 : Fin a) (x1 : Fin b) (x2 : Fin d)
    (h0 : (y0 : Nat) = o + x0) (h1 : (y1 : Nat) = p + x1) (h2 : (y2 : Nat) = q + x2) :
    View.canon (⟨Rect.unit (s := ⟨3, ![A, B, C]⟩) ![o, p, q] ![a, b, d] inb, w⟩ :: L) (ix3 y0 y1 y2) = w (ix3 x0 x1 x2) :=
  canon_hit (S := ⟨3, ![A, B, C]⟩) ![o, p, q] ![a, b, d] inb w L (ix3 y0 y1 y2) (ix3 x0 x1 x2) fun k => by
    fin_cases k
    · exact h0
    · exact h1
    · exact h2

/-- A load of all of a plane is the plane. -/
theorem ld_full {a b : Nat} (x : (⟨2, ![a, b]⟩ : Shape).Idx → Val e) (inb) :
    View.ld x (Rect.unit (s := ⟨2, ![a, b]⟩) ![0, 0] ![a, b] inb) = x := by
  funext y
  refine View.ld_unit_apply_of _ _ _ _ _ _ fun q => ?_
  fin_cases q <;> simp

/-- A load of part of a plane. -/
theorem ld2 {A B : Nat} (x : (⟨2, ![A, B]⟩ : Shape).Idx → Val e) (o p a b : Nat) (inb) (x0 : Fin a) (x1 : Fin b) (y0 : Fin A) (y1 : Fin B)
    (h0 : (y0 : Nat) = o + x0) (h1 : (y1 : Nat) = p + x1) :
    View.ld x (Rect.unit (s := ⟨2, ![A, B]⟩) ![o, p] ![a, b] inb) (ix2 x0 x1) = x (ix2 y0 y1) :=
  View.ld_unit_apply_of (S := ⟨2, ![A, B]⟩) x ![o, p] ![a, b] inb (ix2 x0 x1) (ix2 y0 y1) fun q => by
    fin_cases q
    · exact h0
    · exact h1

end Cert.Norm
-- ==== Proof.Down.Block.lean ====
/-
  What a point's stores leave: eight groups of 128 rows, each the normalised sum of the residual and the rows of the product
  that stand 8 apart.
-/
module

public import proofs.«01_k».proof.Proof.Norm.Row
public import proofs.«01_k».proof.Proof.Norm.Canon
public import proofs.«01_k».proof.Proof.Gen.Kernel3Ideal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel3Ideal.Down

open Cert.Kernel3Ideal Cert.Kernel3Ideal.Gen Idealize.ShloMosaic Idealize.ShloMosaic.TcCoe

/-! ## The slabs -/

/-- A number of the product. -/
def product (A : Vec Ideal S1024x2816 .bf16) (W : Vec Ideal S2816x1024 .bf16) (p : Fin 1024) (n : Fin 1024) : EReal :=
  ∑ k : Fin 2816, A (ix2 p k) * W (ix2 k n)

theorem slab0 (A : Vec Ideal S1024x2816 .bf16) (W : Vec Ideal S2816x1024 .bf16) (p : Fin 1024) (l : Fin 128) :
    (k0_pay3 A W : FVec Ideal S1x1024x128 .f32) (ix3 0 p l) = product A W p ⟨l, by omega⟩ := by
  pointwise [k0_pay3, k0_pay2, product]

theorem slab1 (A : Vec Ideal S1024x2816 .bf16) (W : Vec Ideal S2816x1024 .bf16) (p : Fin 1024) (l : Fin 128) :
    (k0_pay4 A W : FVec Ideal S1x1024x128 .f32) (ix3 0 p l) = product A W p ⟨128 + l, by omega⟩ := by
  pointwise [k0_pay4, k0_pay2, product]

theorem slab2 (A : Vec Ideal S1024x2816 .bf16) (W : Vec Ideal S2816x1024 .bf16) (p : Fin 1024) (l : Fin 128) :
    (k0_pay5 A W : FVec Ideal S1x1024x128 .f32) (ix3 0 p l) = product A W p ⟨256 + l, by omega⟩ := by
  pointwise [k0_pay5, k0_pay2, product]

theorem slab3 (A : Vec Ideal S1024x2816 .bf16) (W : Vec Ideal S2816x1024 .bf16) (p : Fin 1024) (l : Fin 128) :
    (k0_pay6 A W : FVec Ideal S1x1024x128 .f32) (ix3 0 p l) = product A W p ⟨384 + l, by omega⟩ := by
  pointwise [k0_pay6, k0_pay2, product]

theorem slab4 (A : Vec Ideal S1024x2816 .bf16) (W : Vec Ideal S2816x1024 .bf16) (p : Fin 1024) (l : Fin 128) :
    (k0_pay7 A W : FVec Ideal S1x1024x128 .f32) (ix3 0 p l) = product A W p ⟨512 + l, by omega⟩ := by
  pointwise [k0_pay7, k0_pay2, product]

theorem slab5 (A : Vec Ideal S1024x2816 .bf16) (W : Vec Ideal S2816x1024 .bf16) (p : Fin 1024) (l : Fin 128) :
    (k0_pay8 A W : FVec Ideal S1x1024x128 .f32) (ix3 0 p l) = product A W p ⟨640 + l, by omega⟩ := by
  pointwise [k0_pay8, k0_pay2, product]

theorem slab6 (A : Vec Ideal S1024x2816 .bf16) (W : Vec Ideal S2816x1024 .bf16) (p : Fin 1024) (l : Fin 128) :
    (k0_pay10 (k0_pay9 A W) : FVec Ideal S1x1024x128 .f32) (ix3 0 p l) = product A W p ⟨768 + l, by omega⟩ := by
  pointwise [k0_pay10, k0_pay9, k0_pay2, product]

theorem slab7 (A : Vec Ideal S1024x2816 .bf16) (W : Vec Ideal S2816x1024 .bf16) (p : Fin 1024) (l : Fin 128) :
    (k0_pay11 (k0_pay2 A W) : FVec Ideal S1x1024x128 .f32) (ix3 0 p l) = product A W p ⟨896 + l, by omega⟩ := by
  pointwise [k0_pay11, k0_pay2, product]

/-- A load of the rows 8 apart, from the slab stored last. -/
theorem strided {sig : RefSig} {κ : Kind} {sp : Space} (v : View sig κ sp S8x1024x128 .f32) (o q : Nat) (ho : o < 8) (inb) (w)
    (L : List (View.Piece (Elt Ideal) S8x1024x128 .f32)) (inb') (s : Fin 8) (hq : q = s) (r : Fin 128) (l : Fin 128) :
    v.readCov (⟨Rect.unit ![o, 0, 0] ![1, 1024, 128] inb, w⟩ :: L)
      (⟨![o, q, 0], ![1, 128, 128], ![1, 8, 1], inb'⟩ : LoadRect S8x1024x128) (ix3 0 r l) = w (ix3 0 (⟨r * 8 + s, by omega⟩ : Fin 1024) l) := by
  rw [View.readCov_eq_canon']
  refine (congrArg (View.canon _) (?_ : _ = ix3 (⟨o, ho⟩ : Fin 8) (⟨r * 8 + s, by omega⟩ : Fin 1024) (l : Fin 128))).trans
    (Norm.canon_hit3 o 0 0 1 1024 128 inb w L (⟨o, ho⟩ : Fin 8) (⟨r * 8 + s, by omega⟩ : Fin 1024) l 0 (⟨r * 8 + s, by omega⟩ : Fin 1024) l rfl (by omega) (by omega))
  subst hq
  funext a
  refine Fin.ext ?_
  fin_cases a
  · show o + 1 * 0 = o; omega
  · show (s : Nat) + 8 * r = r * 8 + s; omega
  · show 0 + 1 * (l : Nat) = l; omega

/-! ## A group of rows -/

theorem cat0 (v0 v1 v2 v3 v4 v5 v6 v7 : Vec Ideal S1x128x128 .f32) (r l : Fin 128) :
    (k0_pay12 v0 v1 v2 v3 v4 v5 v6 v7 : FVec Ideal S128x1024 .f32) (ix2 r (⟨l, by omega⟩ : Fin 1024)) = v0 (ix3 0 r l) := by
  pointwise [k0_pay12]

theorem cat1 (v0 v1 v2 v3 v4 v5 v6 v7 : Vec Ideal S1x128x128 .f32) (r l : Fin 128) :
    (k0_pay12 v0 v1 v2 v3 v4 v5 v6 v7 : FVec Ideal S128x1024 .f32) (ix2 r (⟨128 + l, by omega⟩ : Fin 1024)) = v1 (ix3 0 r l) := by
  pointwise [k0_pay12]
  all_goals first
    | (refine (dif_neg (by omega)).trans ((dif_pos (by omega)).trans ?_); exact congrArg (fun q => v1 (ix3 0 r q)) (Fin.ext (by show 128 + (l : Nat) - 128 = l; omega)))
    | exact congrArg (fun q => v1 (ix3 0 r q)) (Fin.ext (by show 128 + (l : Nat) - 128 = l; omega))

theorem cat2 (v0 v1 v2 v3 v4 v5 v6 v7 : Vec Ideal S1x128x128 .f32) (r l : Fin 128) :
    (k0_pay12 v0 v1 v2 v3 v4 v5 v6 v7 : FVec Ideal S128x1024 .f32) (ix2 r (⟨256 + l, by omega⟩ : Fin 1024)) = v2 (ix3 0 r l) := by
  pointwise [k0_pay12]
  all_goals first
    | (refine (dif_neg (by omega)).trans ((dif_neg (by omega)).trans ((dif_pos (by omega)).trans ?_)); exact congrArg (fun q => v2 (ix3 0 r q)) (Fin.ext (by show 256 + (l : Nat) - 128 - 128 = l; omega)))
    | exact congrArg (fun q => v2 (ix3 0 r q)) (Fin.ext (by show 256 + (l : Nat) - 128 - 128 = l; omega))

theorem cat3 (v0 v1 v2 v3 v4 v5 v6 v7 : Vec Ideal S1x128x128 .f32) (r l : Fin 128) :
    (k0_pay12 v0 v1 v2 v3 v4 v5 v6 v7 : FVec Ideal S128x1024 .f32) (ix2 r (⟨384 + l, by omega⟩ : Fin 1024)) = v3 (ix3 0 r l) := by
  pointwise [k0_pay12]
  all_goals first
    | (refine (dif_neg (by omega)).trans ((dif_neg (by omega)).trans ((dif_neg (by omega)).trans ((dif_pos (by omega)).trans ?_))); exact congrArg (fun q => v3 (ix3 0 r q)) (Fin.ext (by show 384 + (l : Nat) - 128 - 128 - 128 = l; omega)))
    | exact congrArg (fun q => v3 (ix3 0 r q)) (Fin.ext (by show 384 + (l : Nat) - 128 - 128 - 128 = l; omega))

theorem cat4 (v0 v1 v2 v3 v4 v5 v6 v7 : Vec Ideal S1x128x128 .f32) (r l : Fin 128) :
    (k0_pay12 v0 v1 v2 v3 v4 v5 v6 v7 : FVec Ideal S128x1024 .f32) (ix2 r (⟨512 + l, by omega⟩ : Fin 1024)) = v4 (ix3 0 r l) := by
  pointwise [k0_pay12]
  all_goals first
    | (refine (dif_neg (by omega)).trans ((dif_neg (by omega)).trans ((dif_neg (by omega)).trans ((dif_neg (by omega)).trans ((dif_pos (by omega)).trans ?_)))); exact congrArg (fun q => v4 (ix3 0 r q)) (Fin.ext (by show 512 + (l : Nat) - 128 - 128 - 128 - 128 = l; omega)))
    | exact congrArg (fun q => v4 (ix3 0 r q)) (Fin.ext (by show 512 + (l : Nat) - 128 - 128 - 128 - 128 = l; omega))

theorem cat5 (v0 v1 v2 v3 v4 v5 v6 v7 : Vec Ideal S1x128x128 .f32) (r l : Fin 128) :
    (k0_pay12 v0 v1 v2 v3 v4 v5 v6 v7 : FVec Ideal S128x1024 .f32) (ix2 r (⟨640 + l, by omega⟩ : Fin 1024)) = v5 (ix3 0 r l) := by
  pointwise [k0_pay12]
  all_goals first
    | (refine (dif_neg (by omega)).trans ((dif_neg (by omega)).trans ((dif_neg (by omega)).trans ((dif_neg (by omega)).trans ((dif_neg (by omega)).trans ((dif_pos (by omega)).trans ?_))))); exact congrArg (fun q => v5 (ix3 0 r q)) (Fin.ext (by show 640 + (l : Nat) - 128 - 128 - 128 - 128 - 128 = l; omega)))
    | exact congrArg (fun q => v5 (ix3 0 r q)) (Fin.ext (by show 640 + (l : Nat) - 128 - 128 - 128 - 128 - 128 = l; omega))

theorem cat6 (v0 v1 v2 v3 v4 v5 v6 v7 : Vec Ideal S1x128x128 .f32) (r l : Fin 128) :
    (k0_pay12 v0 v1 v2 v3 v4 v5 v6 v7 : FVec Ideal S128x1024 .f32) (ix2 r (⟨768 + l, by omega⟩ : Fin 1024)) = v6 (ix3 0 r l) := by
  pointwise [k0_pay12]
  all_goals first
    | (refine (dif_neg (by omega)).trans ((dif_neg (by omega)).trans ((dif_neg (by omega)).trans ((dif_neg (by omega)).trans ((dif_neg (by omega)).trans ((dif_neg (by omega)).trans ((dif_pos (by omega)).trans ?_)))))); exact congrArg (fun q => v6 (ix3 0 r q)) (Fin.ext (by show 768 + (l : Nat) - 128 - 128 - 128 - 128 - 128 - 128 = l; omega)))
    | exact congrArg (fun q => v6 (ix3 0 r q)) (Fin.ext (by show 768 + (l : Nat) - 128 - 128 - 128 - 128 - 128 - 128 = l; omega))

theorem cat7 (v0 v1 v2 v3 v4 v5 v6 v7 : Vec Ideal S1x128x128 .f32) (r l : Fin 128) :
    (k0_pay12 v0 v1 v2 v3 v4 v5 v6 v7 : FVec Ideal S128x1024 .f32) (ix2 r (⟨896 + l, by omega⟩ : Fin 1024)) = v7 (ix3 0 r l) := by
  pointwise [k0_pay12]
  all_goals first
    | (refine (dif_neg (by omega)).trans ((dif_neg (by omega)).trans ((dif_neg (by omega)).trans ((dif_neg (by omega)).trans ((dif_neg (by omega)).trans ((dif_neg (by omega)).trans ((dif_neg (by omega)).trans ?_)))))); exact congrArg (fun q => v7 (ix3 0 r q)) (Fin.ext (by show 896 + (l : Nat) - 128 - 128 - 128 - 128 - 128 - 128 - 128 = l; omega)))
    | exact congrArg (fun q => v7 (ix3 0 r q)) (Fin.ext (by show 896 + (l : Nat) - 128 - 128 - 128 - 128 - 128 - 128 - 128 = l; omega))

/-- The eight parts side by side. -/
theorem cat_apply (v0 v1 v2 v3 v4 v5 v6 v7 : Vec Ideal S1x128x128 .f32) (r : Fin 128) (P : Fin 1024 → EReal)
    (h0 : ∀ l : Fin 128, v0 (ix3 0 r l) = P ⟨l, by omega⟩) (h1 : ∀ l : Fin 128, v1 (ix3 0 r l) = P ⟨128 + l, by omega⟩) (h2 : ∀ l : Fin 128, v2 (ix3 0 r l) = P ⟨256 + l, by omega⟩) (h3 : ∀ l : Fin 128, v3 (ix3 0 r l) = P ⟨384 + l, by omega⟩) (h4 : ∀ l : Fin 128, v4 (ix3 0 r l) = P ⟨512 + l, by omega⟩) (h5 : ∀ l : Fin 128, v5 (ix3 0 r l) = P ⟨640 + l, by omega⟩) (h6 : ∀ l : Fin 128, v6 (ix3 0 r l) = P ⟨768 + l, by omega⟩) (h7 : ∀ l : Fin 128, v7 (ix3 0 r l) = P ⟨896 + l, by omega⟩)
    (k : Fin 1024) : (k0_pay12 v0 v1 v2 v3 v4 v5 v6 v7 : FVec Ideal S128x1024 .f32) (ix2 r k) = P k := by
  by_cases c0 : (k : Nat) < 128
  · have e : k = ⟨((⟨k, by omega⟩ : Fin 128) : Nat), by simp only []; omega⟩ := Fin.ext (by first | rfl | (simp only []; omega))
    rw [e]; exact (cat0 _ _ _ _ _ _ _ _ r _).trans (h0 _)
  by_cases c1 : (k : Nat) < 256
  · have e : k = ⟨128 + ((⟨k - 128, by omega⟩ : Fin 128) : Nat), by simp only []; omega⟩ := Fin.ext (by first | rfl | (simp only []; omega))
    rw [e]; exact (cat1 _ _ _ _ _ _ _ _ r _).trans (h1 _)
  by_cases c2 : (k : Nat) < 384
  · have e : k = ⟨256 + ((⟨k - 256, by omega⟩ : Fin 128) : Nat), by simp only []; omega⟩ := Fin.ext (by first | rfl | (simp only []; omega))
    rw [e]; exact (cat2 _ _ _ _ _ _ _ _ r _).trans (h2 _)
  by_cases c3 : (k : Nat) < 512
  · have e : k = ⟨384 + ((⟨k - 384, by omega⟩ : Fin 128) : Nat), by simp only []; omega⟩ := Fin.ext (by first | rfl | (simp only []; omega))
    rw [e]; exact (cat3 _ _ _ _ _ _ _ _ r _).trans (h3 _)
  by_cases c4 : (k : Nat) < 640
  · have e : k = ⟨512 + ((⟨k - 512, by omega⟩ : Fin 128) : Nat), by simp only []; omega⟩ := Fin.ext (by first | rfl | (simp only []; omega))
    rw [e]; exact (cat4 _ _ _ _ _ _ _ _ r _).trans (h4 _)
  by_cases c5 : (k : Nat) < 768
  · have e : k = ⟨640 + ((⟨k - 640, by omega⟩ : Fin 128) : Nat), by simp only []; omega⟩ := Fin.ext (by first | rfl | (simp only []; omega))
    rw [e]; exact (cat5 _ _ _ _ _ _ _ _ r _).trans (h5 _)
  by_cases c6 : (k : Nat) < 896
  · have e : k = ⟨768 + ((⟨k - 768, by omega⟩ : Fin 128) : Nat), by simp only []; omega⟩ := Fin.ext (by first | rfl | (simp only []; omega))
    rw [e]; exact (cat6 _ _ _ _ _ _ _ _ r _).trans (h6 _)
  · have e : k = ⟨896 + ((⟨k - 896, by omega⟩ : Fin 128) : Nat), by simp only []; omega⟩ := Fin.ext (by first | rfl | (simp only []; omega))
    rw [e]; exact (cat7 _ _ _ _ _ _ _ _ r _).trans (h7 _)

theorem norm_apply (f X : Vec Ideal S128x1024 .f32) (g b : Vec Ideal S1x1024 .f32) (r : Fin 128) (n : Fin 1024) :
    (k0_pay14 f X k0_pay13 g b : FVec Ideal S128x1024 .f32) (ix2 r n)
      = Norm.row (fun k => Ideal.ofBits .f32 0x3F9837F0#32 * X (ix2 r k) + f (ix2 r k)) (g (ix2 0 n)) (b (ix2 0 n)) n := by
  pointwise [k0_pay14, k0_pay13, Norm.row, Norm.mean]

/-- The value of a group of rows. -/
theorem group_apply (v0 v1 v2 v3 v4 v5 v6 v7 : Vec Ideal S1x128x128 .f32) (X : Vec Ideal S128x1024 .f32) (g b : Vec Ideal S1x1024 .f32) (r : Fin 128) (P Y : Fin 1024 → EReal) (G B : EReal)
    (h0 : ∀ l : Fin 128, v0 (ix3 0 r l) = P ⟨l, by omega⟩) (h1 : ∀ l : Fin 128, v1 (ix3 0 r l) = P ⟨128 + l, by omega⟩) (h2 : ∀ l : Fin 128, v2 (ix3 0 r l) = P ⟨256 + l, by omega⟩) (h3 : ∀ l : Fin 128, v3 (ix3 0 r l) = P ⟨384 + l, by omega⟩) (h4 : ∀ l : Fin 128, v4 (ix3 0 r l) = P ⟨512 + l, by omega⟩) (h5 : ∀ l : Fin 128, v5 (ix3 0 r l) = P ⟨640 + l, by omega⟩) (h6 : ∀ l : Fin 128, v6 (ix3 0 r l) = P ⟨768 + l, by omega⟩) (h7 : ∀ l : Fin 128, v7 (ix3 0 r l) = P ⟨896 + l, by omega⟩)
    (n : Fin 1024) (hX : ∀ k, X (ix2 r k) = Y k) (hg : g (ix2 0 n) = G) (hb : b (ix2 0 n) = B) :
    (k0_pay14 (k0_pay12 v0 v1 v2 v3 v4 v5 v6 v7) X k0_pay13 g b : FVec Ideal S128x1024 .f32) (ix2 r n)
      = Norm.row (fun k => Ideal.ofBits .f32 0x3F9837F0#32 * Y k + P k) G B n :=
  (norm_apply _ X g b r n).trans (Norm.row_congr n (fun k => congrArg₂ (fun x y : EReal => x + y)
    (congrArg (fun x : EReal => Ideal.ofBits .f32 0x3F9837F0#32 * x) (hX k)) (cat_apply v0 v1 v2 v3 v4 v5 v6 v7 r P h0 h1 h2 h3 h4 h5 h6 h7 k)) hg hb)

theorem form1 (v0 v1 v2 v3 v4 v5 v6 v7 : Vec Ideal S1x128x128 .f32) (X : Vec Ideal S128x1024 .f32) (g b : Vec Ideal S1x1024 .f32) : (k0_pay19 (k0_pay15 v0) (k0_pay16 v1) (k0_pay17 v2) (k0_pay18 v3) v4 v5 v6 v7 X g b : FVec Ideal S128x1024 .f32)
    = k0_pay14 (k0_pay12 v0 v1 v2 v3 v4 v5 v6 v7) X k0_pay13 g b := rfl

theorem form2 (v0 v1 v2 v3 v4 v5 v6 v7 : Vec Ideal S1x128x128 .f32) (X : Vec Ideal S128x1024 .f32) (g b : Vec Ideal S1x1024 .f32) : (k0_pay23 (k0_pay20 v0 v1 v2 v3 v4 v5 v6 v7 X) (k0_pay21 g) (k0_pay22 b) : FVec Ideal S128x1024 .f32)
    = k0_pay14 (k0_pay12 v0 v1 v2 v3 v4 v5 v6 v7) X k0_pay13 g b := rfl

theorem form3 (v0 v1 v2 v3 v4 v5 v6 v7 : Vec Ideal S1x128x128 .f32) (X : Vec Ideal S128x1024 .f32) (g b : Vec Ideal S1x1024 .f32) : (k0_pay30 (k0_pay24 v0) (k0_pay25 v1) (k0_pay26 v2) (k0_pay27 v3) (k0_pay28 v4) (k0_pay29 v5) v6 v7 X g b : FVec Ideal S128x1024 .f32)
    = k0_pay14 (k0_pay12 v0 v1 v2 v3 v4 v5 v6 v7) X k0_pay13 g b := rfl

theorem form4 (v0 v1 v2 v3 v4 v5 v6 v7 : Vec Ideal S1x128x128 .f32) (X : Vec Ideal S128x1024 .f32) (g b : Vec Ideal S1x1024 .f32) : (k0_pay36 (k0_pay32 g) (k0_pay33 b) (k0_pay34 (k0_pay31 v0) v1 v2 v3 v4 v5 v6 v7 X) (k0_pay35 (k0_pay31 v0) v1 v2 v3 v4 v5 v6 v7 X) : FVec Ideal S128x1024 .f32)
    = k0_pay14 (k0_pay12 v0 v1 v2 v3 v4 v5 v6 v7) X k0_pay13 g b := rfl

theorem form5 (v0 v1 v2 v3 v4 v5 v6 v7 : Vec Ideal S1x128x128 .f32) (X : Vec Ideal S128x1024 .f32) (g b : Vec Ideal S1x1024 .f32) : (k0_pay38 (k0_pay37 v0 v1 v2 v3 v4 v5 v6 v7) X g b : FVec Ideal S128x1024 .f32)
    = k0_pay14 (k0_pay12 v0 v1 v2 v3 v4 v5 v6 v7) X k0_pay13 g b := rfl

theorem form6 (v0 v1 v2 v3 v4 v5 v6 v7 : Vec Ideal S1x128x128 .f32) (X : Vec Ideal S128x1024 .f32) (g b : Vec Ideal S1x1024 .f32) : (k0_pay46 (k0_pay42 g) (k0_pay43 b) (k0_pay44 (k0_pay39 v0) (k0_pay40 v1) (k0_pay41 v2) v3 v4 v5 v6 v7 X) (k0_pay45 (k0_pay39 v0) (k0_pay40 v1) (k0_pay41 v2) v3 v4 v5 v6 v7 X) : FVec Ideal S128x1024 .f32)
    = k0_pay14 (k0_pay12 v0 v1 v2 v3 v4 v5 v6 v7) X k0_pay13 g b := rfl

theorem form7 (v0 v1 v2 v3 v4 v5 v6 v7 : Vec Ideal S1x128x128 .f32) (X : Vec Ideal S128x1024 .f32) (g b : Vec Ideal S1x1024 .f32) : (k0_pay1 (k0_pay47 v0 v1 v2 v3 v4 v5 v6 v7 X) g b : FVec Ideal S128x1024 .f32)
    = k0_pay14 (k0_pay12 v0 v1 v2 v3 v4 v5 v6 v7) X k0_pay13 g b := rfl

/-! ## The block -/

set_option maxHeartbeats 2000000 in
/-- Row `128 s + r` of the block is made from row `8 r + s` of the product. -/
theorem block (c : Dev nD) (i : grid0.Coords) (arg1 : Memref sig .tc .vmem S1024x2816 .bf16) (harg1 : arg1.IsWhole) (arg2 : Memref sig .tc .vmem S2816x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S8x1024x128 .f32) (harg7 : arg7.IsWhole) (x0 : Vec Ideal S1024x2816 .bf16) (x1 : Vec Ideal S2816x1024 .bf16) (x2 : Vec Ideal S1024x1024 .f32) (x3 : Vec Ideal S1x1024 .f32) (x4 : Vec Ideal S1x1024 .f32)
    (s : Fin 8) (r : Fin 128) (n : Fin 1024) :
    out0_A_5 c i arg1 harg1 arg2 harg2 arg3 harg3 arg4 harg4 arg5 harg5 arg6 harg6 arg7 harg7 x0 x1 x2 x3 x4 (ix2 (⟨128 * s + r, by omega⟩ : Fin 1024) n)
      = Norm.row (fun k => Ideal.ofBits .f32 0x3F9837F0#32 * x2 (ix2 (⟨128 * s + r, by omega⟩ : Fin 1024) k)
          + product x0 x1 ⟨r * 8 + s, by omega⟩ k) (x3 (ix2 0 n)) (x4 (ix2 0 n)) n := by
  frame_open
  simp (disch := decide) only [View.read_writes_junk_eq_canon, View.readAt_eq_ld, harg1.read_unread, harg2.read_unread, harg3.read_unread, harg4.read_unread,
    harg5.read_unread, ↓ View.readCov_skip, ↓ View.readCov_cons_toLoadRect, ↓ View.readCov_fill]
  have hx : (View.ld x0 (Rect.unit (s := S1024x2816) ![0, 0] ![1024, 2816] inb_S1024x2816_S1024x2816_0_0)) = x0 := Norm.ld_full x0 inb_S1024x2816_S1024x2816_0_0
  have hw : (View.ld x1 (Rect.unit (s := S2816x1024) ![0, 0] ![2816, 1024] inb_S2816x1024_S2816x1024_0_0)) = x1 := Norm.ld_full x1 inb_S2816x1024_S2816x1024_0_0
  have hg : (View.ld x3 (Rect.unit (s := S1x1024) ![0, 0] ![1, 1024] inb_S1x1024_S1x1024_0_0)) = x3 := Norm.ld_full x3 inb_S1x1024_S1x1024_0_0
  have hb : (View.ld x4 (Rect.unit (s := S1x1024) ![0, 0] ![1, 1024] inb_S1x1024_S1x1024_0_0)) = x4 := Norm.ld_full x4 inb_S1x1024_S1x1024_0_0
  have hs : (s : Nat) = 0 ∨ (s : Nat) = 1 ∨ (s : Nat) = 2 ∨ (s : Nat) = 3 ∨ (s : Nat) = 4 ∨ (s : Nat) = 5 ∨ (s : Nat) = 6 ∨ (s : Nat) = 7 := by omega
  rcases hs with hs | hs | hs | hs | hs | hs | hs | hs
  · refine (Norm.canon_miss2 896 0 128 1024 _ _ _ _ n (by left; show 128 * (s : Nat) + r < 896; omega)).trans ?_
    refine (Norm.canon_miss2 768 0 128 1024 _ _ _ _ n (by left; show 128 * (s : Nat) + r < 768; omega)).trans ?_
    refine (Norm.canon_miss2 640 0 128 1024 _ _ _ _ n (by left; show 128 * (s : Nat) + r < 640; omega)).trans ?_
    refine (Norm.canon_miss2 512 0 128 1024 _ _ _ _ n (by left; show 128 * (s : Nat) + r < 512; omega)).trans ?_
    refine (Norm.canon_miss2 384 0 128 1024 _ _ _ _ n (by left; show 128 * (s : Nat) + r < 384; omega)).trans ?_
    refine (Norm.canon_miss2 256 0 128 1024 _ _ _ _ n (by left; show 128 * (s : Nat) + r < 256; omega)).trans ?_
    refine (Norm.canon_miss2 128 0 128 1024 _ _ _ _ n (by left; show 128 * (s : Nat) + r < 128; omega)).trans ?_
    refine (Norm.canon_hit2 0 0 128 1024 _ _ _ _ n r n (by show 128 * (s : Nat) + r = 0 + r; omega) (by omega)).trans ?_
    refine group_apply _ _ _ _ _ _ _ _ _ _ _ r _ _ _ _ ?_ ?_ ?_ ?_ ?_ ?_ ?_ ?_ n ?_ ?_ ?_
    · exact fun l => (strided _ 0 0 (by decide) _ _ _ _ s hs.symm r l).trans ((slab0 _ _ _ l).trans (congrArg₂ (fun a w => product a w _ _) hx hw))
    · exact fun l => (strided _ 1 0 (by decide) _ _ _ _ s hs.symm r l).trans ((slab1 _ _ _ l).trans (congrArg₂ (fun a w => product a w _ _) hx hw))
    · exact fun l => (strided _ 2 0 (by decide) _ _ _ _ s hs.symm r l).trans ((slab2 _ _ _ l).trans (congrArg₂ (fun a w => product a w _ _) hx hw))
    · exact fun l => (strided _ 3 0 (by decide) _ _ _ _ s hs.symm r l).trans ((slab3 _ _ _ l).trans (congrArg₂ (fun a w => product a w _ _) hx hw))
    · exact fun l => (strided _ 4 0 (by decide) _ _ _ _ s hs.symm r l).trans ((slab4 _ _ _ l).trans (congrArg₂ (fun a w => product a w _ _) hx hw))
    · exact fun l => (strided _ 5 0 (by decide) _ _ _ _ s hs.symm r l).trans ((slab5 _ _ _ l).trans (congrArg₂ (fun a w => product a w _ _) hx hw))
    · exact fun l => (strided _ 6 0 (by decide) _ _ _ _ s hs.symm r l).trans ((slab6 _ _ _ l).trans (congrArg₂ (fun a w => product a w _ _) hx hw))
    · exact fun l => (strided _ 7 0 (by decide) _ _ _ _ s hs.symm r l).trans ((slab7 _ _ _ l).trans (congrArg₂ (fun a w => product a w _ _) hx hw))
    · exact fun k => Norm.ld2 x2 0 0 128 1024 _ r k _ k (by show 128 * (s : Nat) + r = 0 + r; omega) (by omega)
    · exact congrFun hg _
    · exact congrFun hb _
  · refine (Norm.canon_miss2 896 0 128 1024 _ _ _ _ n (by left; show 128 * (s : Nat) + r < 896; omega)).trans ?_
    refine (Norm.canon_miss2 768 0 128 1024 _ _ _ _ n (by left; show 128 * (s : Nat) + r < 768; omega)).trans ?_
    refine (Norm.canon_miss2 640 0 128 1024 _ _ _ _ n (by left; show 128 * (s : Nat) + r < 640; omega)).trans ?_
    refine (Norm.canon_miss2 512 0 128 1024 _ _ _ _ n (by left; show 128 * (s : Nat) + r < 512; omega)).trans ?_
    refine (Norm.canon_miss2 384 0 128 1024 _ _ _ _ n (by left; show 128 * (s : Nat) + r < 384; omega)).trans ?_
    refine (Norm.canon_miss2 256 0 128 1024 _ _ _ _ n (by left; show 128 * (s : Nat) + r < 256; omega)).trans ?_
    refine (Norm.canon_hit2 128 0 128 1024 _ _ _ _ n r n (by show 128 * (s : Nat) + r = 128 + r; omega) (by omega)).trans ?_
    refine (congrFun (form1 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 1 (by decide) _ _ _ _ s hs.symm r l).trans ((slab0 _ _ _ l).trans (congrArg₂ (fun a w => product a w _ _) hx hw))
    · exact fun l => (strided _ 1 1 (by decide) _ _ _ _ s hs.symm r l).trans ((slab1 _ _ _ l).trans (congrArg₂ (fun a w => product a w _ _) hx hw))
    · exact fun l => (strided _ 2 1 (by decide) _ _ _ _ s hs.symm r l).trans ((slab2 _ _ _ l).trans (congrArg₂ (fun a w => product a w _ _) hx hw))
    · exact fun l => (strided _ 3 1 (by decide) _ _ _ _ s hs.symm r l).trans ((slab3 _ _ _ l).trans (congrArg₂ (fun a w => product a w _ _) hx hw))
    · exact fun l => (strided _ 4 1 (by decide) _ _ _ _ s hs.symm r l).trans ((slab4 _ _ _ l).trans (congrArg₂ (fun a w => product a w _ _) hx hw))
    · exact fun l => (strided _ 5 1 (by decide) _ _ _ _ s hs.symm r l).trans ((slab5 _ _ _ l).trans (congrArg₂ (fun a w => product a w _ _) hx hw))
    · exact fun l => (strided _ 6 1 (by decide) _ _ _ _ s hs.symm r l).trans ((slab6 _ _ _ l).trans (congrArg₂ (fun a w => product a w _ _) hx hw))
    · exact fun l => (strided _ 7 1 (by decide) _ _ _ _ s hs.symm r l).trans ((slab7 _ _ _ l).trans (congrArg₂ (fun a w => product a w _ _) hx hw))
    · exact fun k => Norm.ld2 x2 128 0 128 1024 _ r k _ k (by show 128 * (s : Nat) + r = 128 + r; omega) (by omega)
    · exact congrFun hg _
    · exact congrFun hb _
  · refine (Norm.canon_miss2 896 0 128 1024 _ _ _ _ n (by left; show 128 * (s : Nat) + r < 896; omega)).trans ?_
    refine (Norm.canon_miss2 768 0 128 1024 _ _ _ _ n (by left; show 128 * (s : Nat) + r < 768; omega)).trans ?_
    refine (Norm.canon_miss2 640 0 128 1024 _ _ _ _ n (by left; show 128 * (s : Nat) + r < 640; omega)).trans ?_
    refine (Norm.canon_miss2 512 0 128 1024 _ _ _ _ n (by left; show 128 * (s : Nat) + r < 512; omega)).trans ?_
    refine (Norm.canon_miss2 384 0 128 1024 _ _ _ _ n (by left; show 128 * (s : Nat) + r < 384; omega)).trans ?_
    refine (Norm.canon_hit2 256 0 128 1024 _ _ _ _ n r n (by show 128 * (s : Nat) + r = 256 + r; omega) (by omega)).trans ?_
    refine (congrFun (form2 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 2 (by decide) _ _ _ _ s hs.symm r l).trans ((slab0 _ _ _ l).trans (congrArg₂ (fun a w => product a w _ _) hx hw))
    · exact fun l => (strided _ 1 2 (by decide) _ _ _ _ s hs.symm r l).trans ((slab1 _ _ _ l).trans (congrArg₂ (fun a w => product a w _ _) hx hw))
    · exact fun l => (strided _ 2 2 (by decide) _ _ _ _ s hs.symm r l).trans ((slab2 _ _ _ l).trans (congrArg₂ (fun a w => product a w _ _) hx hw))
    · exact fun l => (strided _ 3 2 (by decide) _ _ _ _ s hs.symm r l).trans ((slab3 _ _ _ l).trans (congrArg₂ (fun a w => product a w _ _) hx hw))
    · exact fun l => (strided _ 4 2 (by decide) _ _ _ _ s hs.symm r l).trans ((slab4 _ _ _ l).trans (congrArg₂ (fun a w => product a w _ _) hx hw))
    · exact fun l => (strided _ 5 2 (by decide) _ _ _ _ s hs.symm r l).trans ((slab5 _ _ _ l).trans (congrArg₂ (fun a w => product a w _ _) hx hw))
    · exact fun l => (strided _ 6 2 (by decide) _ _ _ _ s hs.symm r l).trans ((slab6 _ _ _ l).trans (congrArg₂ (fun a w => product a w _ _) hx hw))
    · exact fun l => (strided _ 7 2 (by decide) _ _ _ _ s hs.symm r l).trans ((slab7 _ _ _ l).trans (congrArg₂ (fun a w => product a w _ _) hx hw))
    · exact fun k => Norm.ld2 x2 256 0 128 1024 _ r k _ k (by show 128 * (s : Nat) + r = 256 + r; omega) (by omega)
    · exact congrFun hg _
    · exact congrFun hb _
  · refine (Norm.canon_miss2 896 0 128 1024 _ _ _ _ n (by left; show 128 * (s : Nat) + r < 896; omega)).trans ?_
    refine (Norm.canon_miss2 768 0 128 1024 _ _ _ _ n (by left; show 128 * (s : Nat) + r < 768; omega)).trans ?_
    refine (Norm.canon_miss2 640 0 128 1024 _ _ _ _ n (by left; show 128 * (s : Nat) + r < 640; omega)).trans ?_
    refine (Norm.canon_miss2 512 0 128 1024 _ _ _ _ n (by left; show 128 * (s : Nat) + r < 512; omega)).trans ?_
    refine (Norm.canon_hit2 384 0 128 1024 _ _ _ _ n r n (by show 128 * (s : Nat) + r = 384 + r; omega) (by omega)).trans ?_
    refine (congrFun (form3 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 3 (by decide) _ _ _ _ s hs.symm r l).trans ((slab0 _ _ _ l).trans (congrArg₂ (fun a w => product a w _ _) hx hw))
    · exact fun l => (strided _ 1 3 (by decide) _ _ _ _ s hs.symm r l).trans ((slab1 _ _ _ l).trans (congrArg₂ (fun a w => product a w _ _) hx hw))
    · exact fun l => (strided _ 2 3 (by decide) _ _ _ _ s hs.symm r l).trans ((slab2 _ _ _ l).trans (congrArg₂ (fun a w => product a w _ _) hx hw))
    · exact fun l => (strided _ 3 3 (by decide) _ _ _ _ s hs.symm r l).trans ((slab3 _ _ _ l).trans (congrArg₂ (fun a w => product a w _ _) hx hw))
    · exact fun l => (strided _ 4 3 (by decide) _ _ _ _ s hs.symm r l).trans ((slab4 _ _ _ l).trans (congrArg₂ (fun a w => product a w _ _) hx hw))
    · exact fun l => (strided _ 5 3 (by decide) _ _ _ _ s hs.symm r l).trans ((slab5 _ _ _ l).trans (congrArg₂ (fun a w => product a w _ _) hx hw))
    · exact fun l => (strided _ 6 3 (by decide) _ _ _ _ s hs.symm r l).trans ((slab6 _ _ _ l).trans (congrArg₂ (fun a w => product a w _ _) hx hw))
    · exact fun l => (strided _ 7 3 (by decide) _ _ _ _ s hs.symm r l).trans ((slab7 _ _ _ l).trans (congrArg₂ (fun a w => product a w _ _) hx hw))
    · exact fun k => Norm.ld2 x2 384 0 128 1024 _ r k _ k (by show 128 * (s : Nat) + r = 384 + r; omega) (by omega)
    · exact congrFun hg _
    · exact congrFun hb _
  · refine (Norm.canon_miss2 896 0 128 1024 _ _ _ _ n (by left; show 128 * (s : Nat) + r < 896; omega)).trans ?_
    refine (Norm.canon_miss2 768 0 128 1024 _ _ _ _ n (by left; show 128 * (s : Nat) + r < 768; omega)).trans ?_
    refine (Norm.canon_miss2 640 0 128 1024 _ _ _ _ n (by left; show 128 * (s : Nat) + r < 640; omega)).trans ?_
    refine (Norm.canon_hit2 512 0 128 1024 _ _ _ _ n r n (by show 128 * (s : Nat) + r = 512 + r; omega) (by omega)).trans ?_
    refine (congrFun (form4 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 4 (by decide) _ _ _ _ s hs.symm r l).trans ((slab0 _ _ _ l).trans (congrArg₂ (fun a w => product a w _ _) hx hw))
    · exact fun l => (strided _ 1 4 (by decide) _ _ _ _ s hs.symm r l).trans ((slab1 _ _ _ l).trans (congrArg₂ (fun a w => product a w _ _) hx hw))
    · exact fun l => (strided _ 2 4 (by decide) _ _ _ _ s hs.symm r l).trans ((slab2 _ _ _ l).trans (congrArg₂ (fun a w => product a w _ _) hx hw))
    · exact fun l => (strided _ 3 4 (by decide) _ _ _ _ s hs.symm r l).trans ((slab3 _ _ _ l).trans (congrArg₂ (fun a w => product a w _ _) hx hw))
    · exact fun l => (strided _ 4 4 (by decide) _ _ _ _ s hs.symm r l).trans ((slab4 _ _ _ l).trans (congrArg₂ (fun a w => product a w _ _) hx hw))
    · exact fun l => (strided _ 5 4 (by decide) _ _ _ _ s hs.symm r l).trans ((slab5 _ _ _ l).trans (congrArg₂ (fun a w => product a w _ _) hx hw))
    · exact fun l => (strided _ 6 4 (by decide) _ _ _ _ s hs.symm r l).trans ((slab6 _ _ _ l).trans (congrArg₂ (fun a w => product a w _ _) hx hw))
    · exact fun l => (strided _ 7 4 (by decide) _ _ _ _ s hs.symm r l).trans ((slab7 _ _ _ l).trans (congrArg₂ (fun a w => product a w _ _) hx hw))
    · exact fun k => Norm.ld2 x2 512 0 128 1024 _ r k _ k (by show 128 * (s : Nat) + r = 512 + r; omega) (by omega)
    · exact congrFun hg _
    · exact congrFun hb _
  · refine (Norm.canon_miss2 896 0 128 1024 _ _ _ _ n (by left; show 128 * (s : Nat) + r < 896; omega)).trans ?_
    refine (Norm.canon_miss2 768 0 128 1024 _ _ _ _ n (by left; show 128 * (s : Nat) + r < 768; omega)).trans ?_
    refine (Norm.canon_hit2 640 0 128 1024 _ _ _ _ n r n (by show 128 * (s : Nat) + r = 640 + r; omega) (by omega)).trans ?_
    refine (congrFun (form5 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 5 (by decide) _ _ _ _ s hs.symm r l).trans ((slab0 _ _ _ l).trans (congrArg₂ (fun a w => product a w _ _) hx hw))
    · exact fun l => (strided _ 1 5 (by decide) _ _ _ _ s hs.symm r l).trans ((slab1 _ _ _ l).trans (congrArg₂ (fun a w => product a w _ _) hx hw))
    · exact fun l => (strided _ 2 5 (by decide) _ _ _ _ s hs.symm r l).trans ((slab2 _ _ _ l).trans (congrArg₂ (fun a w => product a w _ _) hx hw))
    · exact fun l => (strided _ 3 5 (by decide) _ _ _ _ s hs.symm r l).trans ((slab3 _ _ _ l).trans (congrArg₂ (fun a w => product a w _ _) hx hw))
    · exact fun l => (strided _ 4 5 (by decide) _ _ _ _ s hs.symm r l).trans ((slab4 _ _ _ l).trans (congrArg₂ (fun a w => product a w _ _) hx hw))
    · exact fun l => (strided _ 5 5 (by decide) _ _ _ _ s hs.symm r l).trans ((slab5 _ _ _ l).trans (congrArg₂ (fun a w => product a w _ _) hx hw))
    · exact fun l => (strided _ 6 5 (by decide) _ _ _ _ s hs.symm r l).trans ((slab6 _ _ _ l).trans (congrArg₂ (fun a w => product a w _ _) hx hw))
    · exact fun l => (strided _ 7 5 (by decide) _ _ _ _ s hs.symm r l).trans ((slab7 _ _ _ l).trans (congrArg₂ (fun a w => product a w _ _) hx hw))
    · exact fun k => Norm.ld2 x2 640 0 128 1024 _ r k _ k (by show 128 * (s : Nat) + r = 640 + r; omega) (by omega)
    · exact congrFun hg _
    · exact congrFun hb _
  · refine (Norm.canon_miss2 896 0 128 1024 _ _ _ _ n (by left; show 128 * (s : Nat) + r < 896; omega)).trans ?_
    refine (Norm.canon_hit2 768 0 128 1024 _ _ _ _ n r n (by show 128 * (s : Nat) + r = 768 + r; omega) (by omega)).trans ?_
    refine (congrFun (form6 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 6 (by decide) _ _ _ _ s hs.symm r l).trans ((slab0 _ _ _ l).trans (congrArg₂ (fun a w => product a w _ _) hx hw))
    · exact fun l => (strided _ 1 6 (by decide) _ _ _ _ s hs.symm r l).trans ((slab1 _ _ _ l).trans (congrArg₂ (fun a w => product a w _ _) hx hw))
    · exact fun l => (strided _ 2 6 (by decide) _ _ _ _ s hs.symm r l).trans ((slab2 _ _ _ l).trans (congrArg₂ (fun a w => product a w _ _) hx hw))
    · exact fun l => (strided _ 3 6 (by decide) _ _ _ _ s hs.symm r l).trans ((slab3 _ _ _ l).trans (congrArg₂ (fun a w => product a w _ _) hx hw))
    · exact fun l => (strided _ 4 6 (by decide) _ _ _ _ s hs.symm r l).trans ((slab4 _ _ _ l).trans (congrArg₂ (fun a w => product a w _ _) hx hw))
    · exact fun l => (strided _ 5 6 (by decide) _ _ _ _ s hs.symm r l).trans ((slab5 _ _ _ l).trans (congrArg₂ (fun a w => product a w _ _) hx hw))
    · exact fun l => (strided _ 6 6 (by decide) _ _ _ _ s hs.symm r l).trans ((slab6 _ _ _ l).trans (congrArg₂ (fun a w => product a w _ _) hx hw))
    · exact fun l => (strided _ 7 6 (by decide) _ _ _ _ s hs.symm r l).trans ((slab7 _ _ _ l).trans (congrArg₂ (fun a w => product a w _ _) hx hw))
    · exact fun k => Norm.ld2 x2 768 0 128 1024 _ r k _ k (by show 128 * (s : Nat) + r = 768 + r; omega) (by omega)
    · exact congrFun hg _
    · exact congrFun hb _
  · refine (Norm.canon_hit2 896 0 128 1024 _ _ _ _ n r n (by show 128 * (s : Nat) + r = 896 + r; omega) (by omega)).trans ?_
    refine (congrFun (form7 _ _ _ _ _ _ _ _ _ _ _) (ix2 (r : Fin 128) n)).trans ?_
    refine group_apply _ _ _ _ _ _ _ _ _ _ _ r _ _ _ _ ?_ ?_ ?_ ?_ ?_ ?_ ?_ ?_ n ?_ ?_ ?_
    · exact fun l => (strided _ 0 7 (by decide) _ _ _ _ s hs.symm r l).trans ((slab0 _ _ _ l).trans (congrArg₂ (fun a w => product a w _ _) hx hw))
    · exact fun l => (strided _ 1 7 (by decide) _ _ _ _ s hs.symm r l).trans ((slab1 _ _ _ l).trans (congrArg₂ (fun a w => product a w _ _) hx hw))
    · exact fun l => (strided _ 2 7 (by decide) _ _ _ _ s hs.symm r l).trans ((slab2 _ _ _ l).trans (congrArg₂ (fun a w => product a w _ _) hx hw))
    · exact fun l => (strided _ 3 7 (by decide) _ _ _ _ s hs.symm r l).trans ((slab3 _ _ _ l).trans (congrArg₂ (fun a w => product a w _ _) hx hw))
    · exact fun l => (strided _ 4 7 (by decide) _ _ _ _ s hs.symm r l).trans ((slab4 _ _ _ l).trans (congrArg₂ (fun a w => product a w _ _) hx hw))
    · exact fun l => (strided _ 5 7 (by decide) _ _ _ _ s hs.symm r l).trans ((slab5 _ _ _ l).trans (congrArg₂ (fun a w => product a w _ _) hx hw))
    · exact fun l => (strided _ 6 7 (by decide) _ _ _ _ s hs.symm r l).trans ((slab6 _ _ _ l).trans (congrArg₂ (fun a w => product a w _ _) hx hw))
    · exact fun l => (strided _ 7 7 (by decide) _ _ _ _ s hs.symm r l).trans ((slab7 _ _ _ l).trans (congrArg₂ (fun a w => product a w _ _) hx hw))
    · exact fun k => Norm.ld2 x2 896 0 128 1024 _ r k _ k (by show 128 * (s : Nat) + r = 896 + r; omega) (by omega)
    · exact congrFun hg _
    · exact congrFun hb _

end Cert.Kernel3Ideal.Down
-- ==== Proof.Down.Result.lean ====
/-
  The call's result is the reference's: block by block, group of rows by group of rows.
-/
module

public import proofs.«01_k».proof.Proof.Down.Ref
public import proofs.«01_k».proof.Proof.Down.Block
public import Idealize.ShloMosaic.Lib.StableHlo.ReadAt

@[expose] public section

set_option maxRecDepth 16384

noncomputable section

namespace Cert.Kernel3Ideal.Down

open Cert.Kernel3Ideal Cert.Kernel3Ideal.Gen Idealize.ShloMosaic Idealize.ShloMosaic.TcCoe

variable (m : (ℓ : Loc nD τ sig) → Buf (Elt Ideal) ℓ) (c : Dev nD)

/-- Where each window's block stands, at every point. -/
theorem places : ∀ t : Fin grid0.N,
    (grid0.coords t 0).val < 16
    ∧ win0_0.index t = ![(grid0.coords t 0).val, 0]
    ∧ win0_1.index t = ![0, 0]
    ∧ win0_2.index t = ![(grid0.coords t 0).val, 0]
    ∧ win0_3.index t = ![0, 0]
    ∧ win0_4.index t = ![0, 0]
    ∧ win0_5.index t = ![(grid0.coords t 0).val, 0] := by
  decide +kernel

/-- The point's run of 1024 tokens. -/
abbrev run (t : Fin grid0.N) : Fin 16 := ⟨(grid0.coords t 0).val, (places t).1⟩

theorem read_a (t : Fin grid0.N) (p : Fin 1024) (k : Fin 2816) :
    (iblk m c 0 t : Vec Ideal S1024x2816 .bf16) (ix2 p k) = m (c, main_arg0) (ix2 (⟨run t * 1024 + p, by omega⟩ : Fin 16384) k) := by
  refine Eq.trans ?_ (congrFun (V_main_arg0 m c) _)
  blk_ext [iblk, (places t).2.1]

theorem read_w (t : Fin grid0.N) (k : Fin 2816) (n : Fin 1024) :
    (iblk m c 1 t : Vec Ideal S2816x1024 .bf16) (ix2 k n) = m (c, main_arg1) (ix2 k n) := by
  have e : (iblk m c 1 t : Vec Ideal S2816x1024 .bf16) (ix2 k n) = V m c main_v0 (ix2 k n) := by
    blk_ext [iblk, (places t).2.2.1]
  refine e.trans ?_
  unfold V
  after_reads_at

theorem read_x (t : Fin grid0.N) (p : Fin 1024) (n : Fin 1024) :
    (iblk m c 2 t : Vec Ideal S1024x1024 .f32) (ix2 p n) = m (c, main_arg2) (ix2 (⟨run t * 1024 + p, by omega⟩ : Fin 16384) n) := by
  refine Eq.trans ?_ (congrFun (V_main_arg2 m c) _)
  blk_ext [iblk, (places t).2.2.2.1]

theorem read_g (t : Fin grid0.N) (n : Fin 1024) :
    (iblk m c 3 t : Vec Ideal S1x1024 .f32) (ix2 0 n) = m (c, main_arg3) (ix1 n) := by
  have e : (iblk m c 3 t : Vec Ideal S1x1024 .f32) (ix2 0 n) = V m c main_v1 (ix2 0 n) := by
    blk_ext [iblk, (places t).2.2.2.2.1]
  refine e.trans ?_
  unfold V
  after_reads_at

theorem read_b (t : Fin grid0.N) (n : Fin 1024) :
    (iblk m c 4 t : Vec Ideal S1x1024 .f32) (ix2 0 n) = m (c, main_arg4) (ix1 n) := by
  have e : (iblk m c 4 t : Vec Ideal S1x1024 .f32) (ix2 0 n) = V m c main_v2 (ix2 0 n) := by
    blk_ext [iblk, (places t).2.2.2.2.2.1]
  refine e.trans ?_
  unfold V
  after_reads_at

/-- The result of the call is the result of the reference. -/
theorem result (m' : (ℓ : Loc Cert.Reference3Ideal.nD Cert.Reference3Ideal.τ Cert.Reference3Ideal.sig) → Buf (Elt Ideal) ℓ)
    (h0 : m' ((c.tc : Thread Cert.Reference3Ideal.nD Cert.Reference3Ideal.τ).loc Cert.Reference3Ideal.main_arg0) = m (c, main_arg0))
    (h1 : m' ((c.tc : Thread Cert.Reference3Ideal.nD Cert.Reference3Ideal.τ).loc Cert.Reference3Ideal.main_arg1) = m (c, main_arg1))
    (h2 : m' ((c.tc : Thread Cert.Reference3Ideal.nD Cert.Reference3Ideal.τ).loc Cert.Reference3Ideal.main_arg2) = m (c, main_arg2))
    (h3 : m' ((c.tc : Thread Cert.Reference3Ideal.nD Cert.Reference3Ideal.τ).loc Cert.Reference3Ideal.main_arg3) = m (c, main_arg3))
    (h4 : m' ((c.tc : Thread Cert.Reference3Ideal.nD Cert.Reference3Ideal.τ).loc Cert.Reference3Ideal.main_arg4) = m (c, main_arg4)) :
    (dats m 0 c).arrAt 5 cfg0.N = Cert.Reference3Ideal.Value.res_main_v31 m' c := by
  refine (dats m 0 c).arrAt_eq_of_covers 5 _ (by decide +kernel) fun t hf y => ?_
  blk_simp
  rw [after0_5]
  obtain ⟨s, r, n, rfl⟩ : ∃ (s : Fin 8) (r : Fin 128) (n : Fin 1024), y = ix2 (⟨128 * s + r, by omega⟩ : Fin 1024) n :=
    ⟨⟨(y 0).val / 128, by have : (y 0).val < 1024 := (y 0).isLt; omega⟩, ⟨(y 0).val % 128, Nat.mod_lt _ (by decide)⟩, y 1,
      (eq_ix2 y).trans (congrArg (fun p => ix2 p (y 1)) (Fin.ext (by show (y 0).val = 128 * ((y 0).val / 128) + (y 0).val % 128; omega)))⟩
  have hp : (win0_5.blk t).view.emb (ix2 (⟨128 * s + r, by omega⟩ : Fin 1024) n)
      = ix2 (⟨1024 * run t + (128 * s + r), by omega⟩ : Fin 16384) n := by
    blk_ext [(places t).2.2.2.2.2.2]
  rw [hp]
  unfold outsAt0
  refine (block c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t) (iblk m c 3 t) (iblk m c 4 t) s r n).trans ?_
  refine Eq.symm ((congrFun (Cert.Reference3Ideal.Down.result_eq m' c) _).trans ((Cert.Reference3Ideal.Down.norm_apply _ _ _ _ n).trans ?_))
  refine Norm.row_congr n (fun k => ?_) ?_ ?_
  · refine (Cert.Reference3Ideal.Down.sum_apply _ _ _ (run t) s r k).trans (congrArg₂ (fun x y : EReal => x + y) ?_ ?_)
    · refine congrArg (fun x : EReal => Ideal.ofBits .f32 0x3F9837F0#32 * x) ?_
      refine (congrFun h2 _).trans (Eq.trans ?_ (read_x m c t _ k).symm)
      exact congrArg (fun p => m (c, main_arg2) (ix2 p k)) (Fin.ext (by show 1024 * (run t : Nat) + (128 * s + r) = run t * 1024 + (128 * s + r); omega))
    · refine Finset.sum_congr rfl fun j _ => congrArg₂ (fun x y : EReal => x * y) ?_ ?_
      · refine (congrFun h0 _).trans (Eq.trans ?_ (read_a m c t _ j).symm)
        exact congrArg (fun p => m (c, main_arg0) (ix2 p j)) (Fin.ext (by show (run t : Nat) * 1024 + r * 8 + s = run t * 1024 + (r * 8 + s); omega))
      · exact (congrFun h1 _).trans (read_w m c t j k).symm
  · exact (congrFun h3 _).trans (read_g m c t n).symm
  · exact (congrFun h4 _).trans (read_b m c t n).symm

end Cert.Kernel3Ideal.Down
-- ==== Proof.Merge.Ref.lean ====
/-
  The merge's reference at an index: the gated sum of the two branches, its product with the output weights, the residual, normalised.
-/
module

public import proofs.«01_k».proof.Proof.Norm.Row
public import proofs.«01_k».proof.Proof.Attn.Consts
public import proofs.«01_k».proof.Proof.Gen.Reference4Ideal.Run

@[expose] public section

set_option maxRecDepth 16384

noncomputable section

namespace Cert.Merge

open Idealize.ShloMosaic

/-- The gated sum of two branches: each gate is a logistic function, each branch a row times a column. -/
def gated (hd hn : EReal) (a y wd wn : Fin 1024 → EReal) : EReal :=
  Ideal.logistic hd * (∑ k : Fin 1024, a k * wd k) + Ideal.logistic hn * (∑ k : Fin 1024, y k * wn k)

end Cert.Merge

namespace Cert.Reference4Ideal.Merge

open Cert.Reference4Ideal Cert.Reference4Ideal.Gen Idealize.ShloMosaic Idealize.ShloMosaic.TcCoe

variable (m : (ℓ : Loc nD τ sig) → Buf (Elt Ideal) ℓ) (c : Dev nD)

/-- The normalisation of every row. -/
def norm (z : FVec Ideal S16384x1024 .f32) (g b : FVec Ideal S1024 .f32) : FVec Ideal S16384x1024 .f32 :=
  addf (mulf (mulf (subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))))) (subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The gates of the recurrence's branch. -/
def gateA (h : FVec Ideal S16384x3072 .bf16) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 1024] h slices_S16384x3072_S16384x1024_0_1024) bitsLt_bf16_f32))))

/-- The gates of the attention's branch. -/
def gateB (h : FVec Ideal S16384x3072 .bf16) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 2048] h slices_S16384x3072_S16384x1024_0_2048) bitsLt_bf16_f32))))

/-- The gated sum of the branches. -/
def both (a o1 o2 o3 : FVec Ideal S16384x1024 .bf16) (h : FVec Ideal S16384x3072 .bf16) (wd wn : FVec Ideal S1024x1024 .f32) : FVec Ideal S16384x1024 .f32 :=
  addf (mulf (gateA h) (Host.dotGeneral (F := Ideal) (φ₁ := .f32) (φ₂ := .f32) dot_S16384x1024_S1024x1024_S16384x1024_1_0_0_1_n_n none (extf .f32 a bitsLt_bf16_f32) wd)) (mulf (gateB h) (Host.dotGeneral (F := Ideal) (φ₁ := .f32) (φ₂ := .f32) dot_S16384x1024_S1024x1024_S16384x1024_1_0_0_1_n_n none (addf (addf (extf .f32 o1 bitsLt_bf16_f32) (extf .f32 o2 bitsLt_bf16_f32)) (extf .f32 o3 bitsLt_bf16_f32)) wn))

/-- What is normalised. -/
def sum (y : FVec Ideal S16384x1024 .f32) (x : FVec Ideal S16384x1024 .f32) (w : FVec Ideal S1024x1024 .f32) : FVec Ideal S16384x1024 .f32 :=
  addf (mulf (broadcastInDim S16384x1024 ![] bcast_S_S16384x1024 (constant S_ .f32 0x3F9837F0#32)) x) (Host.dotGeneral (F := Ideal) (φ₁ := .f32) (φ₂ := .f32) dot_S16384x1024_S1024x1024_S16384x1024_1_0_0_1_n_n none (y) w)

theorem result_eq : Cert.Reference4Ideal.Value.res_main_v54 m c
    = norm (sum (both (m (c, main_arg0)) (m (c, main_arg1)) (m (c, main_arg2)) (m (c, main_arg3)) (m (c, main_arg4)) (m (c, main_arg6)) (m (c, main_arg7)))
        (m (c, main_arg5)) (m (c, main_arg8))) (m (c, main_arg9)) (m (c, main_arg10)) := rfl

theorem norm_apply (z : FVec Ideal S16384x1024 .f32) (g b : FVec Ideal S1024 .f32) (p : Fin 16384) (n : Fin 1024) :
    norm z g b (ix2 p n) = Norm.row (fun k => z (ix2 p k)) (g (ix1 n)) (b (ix1 n)) n := by
  pointwise [norm, Norm.row, Norm.mean]

theorem gateA_apply (h : FVec Ideal S16384x3072 .bf16) (p : Fin 16384) (n : Fin 1024) :
    gateA h (ix2 p n) = Ideal.logistic (h (ix2 p ⟨1024 + n, by omega⟩)) := by
  pointwise [gateA]
  try rw [ofBits_one_f32]
  rfl

theorem gateB_apply (h : FVec Ideal S16384x3072 .bf16) (p : Fin 16384) (n : Fin 1024) :
    gateB h (ix2 p n) = Ideal.logistic (h (ix2 p ⟨2048 + n, by omega⟩)) := by
  pointwise [gateB]
  try rw [ofBits_one_f32]
  rfl

theorem both_apply (a o1 o2 o3 : FVec Ideal S16384x1024 .bf16) (h : FVec Ideal S16384x3072 .bf16) (wd wn : FVec Ideal S1024x1024 .f32) (p : Fin 16384) (n : Fin 1024) :
    both a o1 o2 o3 h wd wn (ix2 p n)
      = Merge.gated (h (ix2 p ⟨1024 + n, by omega⟩)) (h (ix2 p ⟨2048 + n, by omega⟩)) (fun k => a (ix2 p k))
          (fun k => o1 (ix2 p k) + o2 (ix2 p k) + o3 (ix2 p k)) (fun k => wd (ix2 k n)) (fun k => wn (ix2 k n)) := by
  rw [Merge.gated, ← gateA_apply, ← gateB_apply]
  pointwise [both]

theorem sum_apply (y : FVec Ideal S16384x1024 .f32) (x : FVec Ideal S16384x1024 .f32) (w : FVec Ideal S1024x1024 .f32) (p : Fin 16384) (n : Fin 1024) :
    sum y x w (ix2 p n) = Ideal.ofBits .f32 0x3F9837F0#32 * x (ix2 p n) + ∑ k : Fin 1024, y (ix2 p k) * w (ix2 k n) := by
  pointwise [sum]

end Cert.Reference4Ideal.Merge
-- ==== Proof.Merge.Result.lean ====
/-
  The merge's result is the reference's, block by block of 512 tokens.
-/
module

public import proofs.«01_k».proof.Proof.Merge.Ref
public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel4Ideal.Merge

open Cert.Kernel4Ideal Cert.Kernel4Ideal.Gen Idealize.ShloMosaic Idealize.ShloMosaic.TcCoe

variable (m : (ℓ : Loc nD τ sig) → Buf (Elt Ideal) ℓ) (c : Dev nD)

/-- Where each window's block stands, at every point. -/
theorem places : ∀ t : Fin grid0.N,
    (grid0.coords t 0).val < 32
    ∧ win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 1]
    ∧ win0_5.index t = ![(grid0.coords t 0).val, 2]
    ∧ win0_6.index t = ![(grid0.coords t 0).val, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![(grid0.coords t 0).val, 0] := by
  decide +kernel

/-- The token that stands at row `r` of the point's block. -/
abbrev token (t : Fin grid0.N) (r : Fin 512) : Fin 16384 :=
  ⟨(grid0.coords t 0).val * 512 + r, by have := (places t).1; omega⟩

theorem read_a (t : Fin grid0.N) (r : Fin 512) (n : Fin 1024) :
    (iblk m c 0 t : Vec Ideal S512x1024 .bf16) (ix2 r n) = m (c, main_arg0) (ix2 (token t r) n) := by
  refine Eq.trans ?_ (congrFun (V_main_arg0 m c) _)
  blk_ext [iblk, (places t).2.1]

theorem read_o1 (t : Fin grid0.N) (r : Fin 512) (n : Fin 1024) :
    (iblk m c 1 t : Vec Ideal S512x1024 .bf16) (ix2 r n) = m (c, main_arg1) (ix2 (token t r) n) := by
  refine Eq.trans ?_ (congrFun (V_main_arg1 m c) _)
  blk_ext [iblk, (places t).2.2.1]

theorem read_o2 (t : Fin grid0.N) (r : Fin 512) (n : Fin 1024) :
    (iblk m c 2 t : Vec Ideal S512x1024 .bf16) (ix2 r n) = m (c, main_arg2) (ix2 (token t r) n) := by
  refine Eq.trans ?_ (congrFun (V_main_arg2 m c) _)
  blk_ext [iblk, (places t).2.2.2.1]

theorem read_o3 (t : Fin grid0.N) (r : Fin 512) (n : Fin 1024) :
    (iblk m c 3 t : Vec Ideal S512x1024 .bf16) (ix2 r n) = m (c, main_arg3) (ix2 (token t r) n) := by
  refine Eq.trans ?_ (congrFun (V_main_arg3 m c) _)
  blk_ext [iblk, (places t).2.2.2.2.1]

theorem read_x (t : Fin grid0.N) (r : Fin 512) (n : Fin 1024) :
    (iblk m c 6 t : Vec Ideal S512x1024 .f32) (ix2 r n) = m (c, main_arg5) (ix2 (token t r) n) := by
  refine Eq.trans ?_ (congrFun (V_main_arg5 m c) _)
  blk_ext [iblk, (places t).2.2.2.2.2.2.2.1]

theorem read_hd (t : Fin grid0.N) (r : Fin 512) (n : Fin 1024) :
    (iblk m c 4 t : Vec Ideal S512x1024 .bf16) (ix2 r n) = m (c, main_arg4) (ix2 (token t r) ⟨1024 + n, by omega⟩) := by
  refine Eq.trans ?_ (congrFun (V_main_arg4 m c) _)
  blk_ext [iblk, (places t).2.2.2.2.2.1]

theorem read_hn (t : Fin grid0.N) (r : Fin 512) (n : Fin 1024) :
    (iblk m c 5 t : Vec Ideal S512x1024 .bf16) (ix2 r n) = m (c, main_arg4) (ix2 (token t r) ⟨2048 + n, by omega⟩) := by
  refine Eq.trans ?_ (congrFun (V_main_arg4 m c) _)
  blk_ext [iblk, (places t).2.2.2.2.2.2.1]

theorem read_wd (t : Fin grid0.N) (k n : Fin 1024) :
    (iblk m c 7 t : Vec Ideal S1024x1024 .bf16) (ix2 k n) = m (c, main_arg6) (ix2 k n) := by
  have e : (iblk m c 7 t : Vec Ideal S1024x1024 .bf16) (ix2 k n) = V m c main_v0 (ix2 k n) := by
    blk_ext [iblk, (places t).2.2.2.2.2.2.2.2.1]
  refine e.trans ?_
  unfold V
  after_reads_at

theorem read_wn (t : Fin grid0.N) (k n : Fin 1024) :
    (iblk m c 8 t : Vec Ideal S1024x1024 .bf16) (ix2 k n) = m (c, main_arg7) (ix2 k n) := by
  have e : (iblk m c 8 t : Vec Ideal S1024x1024 .bf16) (ix2 k n) = V m c main_v1 (ix2 k n) := by
    blk_ext [iblk, (places t).2.2.2.2.2.2.2.2.2.1]
  refine e.trans ?_
  unfold V
  after_reads_at

theorem read_w (t : Fin grid0.N) (k n : Fin 1024) :
    (iblk m c 9 t : Vec Ideal S1024x1024 .bf16) (ix2 k n) = m (c, main_arg8) (ix2 k n) := by
  have e : (iblk m c 9 t : Vec Ideal S1024x1024 .bf16) (ix2 k n) = V m c main_v2 (ix2 k n) := by
    blk_ext [iblk, (places t).2.2.2.2.2.2.2.2.2.2.1]
  refine e.trans ?_
  unfold V
  after_reads_at

theorem read_g (t : Fin grid0.N) (n : Fin 1024) :
    (iblk m c 10 t : Vec Ideal S1x1024 .f32) (ix2 0 n) = m (c, main_arg9) (ix1 n) := by
  have e : (iblk m c 10 t : Vec Ideal S1x1024 .f32) (ix2 0 n) = V m c main_v3 (ix2 0 n) := by
    blk_ext [iblk, (places t).2.2.2.2.2.2.2.2.2.2.2.1]
  refine e.trans ?_
  unfold V
  after_reads_at

theorem read_b (t : Fin grid0.N) (n : Fin 1024) :
    (iblk m c 11 t : Vec Ideal S1x1024 .f32) (ix2 0 n) = m (c, main_arg10) (ix1 n) := by
  have e : (iblk m c 11 t : Vec Ideal S1x1024 .f32) (ix2 0 n) = V m c main_v4 (ix2 0 n) := by
    blk_ext [iblk, (places t).2.2.2.2.2.2.2.2.2.2.2.2.1]
  refine e.trans ?_
  unfold V
  after_reads_at

theorem branch_a (x4 x0 : Vec Ideal S512x1024 .bf16) (x7 : Vec Ideal S1024x1024 .bf16) (r : Fin 512) (n : Fin 1024) :
    (k0_pay2 x4 x0 x7 : FVec Ideal S512x1024 .f32) (ix2 r n)
      = Ideal.logistic (x4 (ix2 r n)) * ∑ k : Fin 1024, x0 (ix2 r k) * x7 (ix2 k n) := by
  rw [← Cert.Attn.half_tanh, ← Cert.Attn.lit_half]
  pointwise [k0_pay2]

theorem gate_b (x5 : Vec Ideal S512x1024 .bf16) (r : Fin 512) (n : Fin 1024) :
    (k0_pay3 x5 : FVec Ideal S512x1024 .f32) (ix2 r n) = Ideal.logistic (x5 (ix2 r n)) := by
  rw [← Cert.Attn.half_tanh, ← Cert.Attn.lit_half]
  pointwise [k0_pay3]

theorem branch_b (x1 x2 x3 : Vec Ideal S512x1024 .bf16) (x8 : Vec Ideal S1024x1024 .bf16) (r : Fin 512) (n : Fin 1024) :
    (k0_pay4 x1 x2 x3 x8 : FVec Ideal S512x1024 .f32) (ix2 r n)
      = ∑ k : Fin 1024, (x1 (ix2 r k) + x2 (ix2 r k) + x3 (ix2 r k)) * x8 (ix2 k n) := by
  pointwise [k0_pay4]

theorem last (u v w : FVec Ideal S512x1024 .f32) (x6 : Vec Ideal S512x1024 .f32) (x9 : Vec Ideal S1024x1024 .bf16) (x10 x11 : Vec Ideal S1x1024 .f32)
    (r : Fin 512) (n : Fin 1024) :
    (k0_pay1 u v w x6 x9 x10 x11 : FVec Ideal S512x1024 .f32) (ix2 r n)
      = Norm.row (fun k => Ideal.ofBits .f32 0x3F9837F0#32 * x6 (ix2 r k)
          + ∑ j : Fin 1024, (u (ix2 r j) + v (ix2 r j) * w (ix2 r j)) * x9 (ix2 j k)) (x10 (ix2 0 n)) (x11 (ix2 0 n)) n := by
  pointwise [k0_pay1, Norm.row, Norm.mean]

/-- What a point leaves: the normalised rows of its block. -/
theorem block (x0 x1 x2 x3 x4 x5 : Vec Ideal S512x1024 .bf16) (x6 : Vec Ideal S512x1024 .f32) (x7 x8 x9 : Vec Ideal S1024x1024 .bf16) (x10 x11 : Vec Ideal S1x1024 .f32)
    (r : Fin 512) (n : Fin 1024) :
    (out0_12 x0 x1 x2 x3 x4 x5 x6 x7 x8 x9 x10 x11 : Vec Ideal S512x1024 .f32) (ix2 r n)
      = Norm.row (fun k => Ideal.ofBits .f32 0x3F9837F0#32 * x6 (ix2 r k)
          + ∑ j : Fin 1024, Merge.gated (x4 (ix2 r j)) (x5 (ix2 r j)) (fun i => x0 (ix2 r i))
              (fun i => x1 (ix2 r i) + x2 (ix2 r i) + x3 (ix2 r i)) (fun i => x7 (ix2 i j)) (fun i => x8 (ix2 i j)) * x9 (ix2 j k))
          (x10 (ix2 0 n)) (x11 (ix2 0 n)) n := by
  frame_out
  refine (last _ _ _ x6 x9 x10 x11 r n).trans (Norm.row_congr n (fun k => ?_) rfl rfl)
  refine congrArg (fun z : EReal => Ideal.ofBits .f32 0x3F9837F0#32 * x6 (ix2 r k) + z) (Finset.sum_congr rfl fun j _ => ?_)
  refine congrArg (fun z : EReal => z * x9 (ix2 j k)) ?_
  exact congrArg₂ (fun p q : EReal => p + q) (branch_a x4 x0 x7 r j)
    (congrArg₂ (fun p q : EReal => p * q) (gate_b x5 r j) (branch_b x1 x2 x3 x8 r j))

/-- The result of the call is the result of the reference. -/
theorem result (m' : (ℓ : Loc Cert.Reference4Ideal.nD Cert.Reference4Ideal.τ Cert.Reference4Ideal.sig) → Buf (Elt Ideal) ℓ)
    (h0 : m' ((c.tc : Thread Cert.Reference4Ideal.nD Cert.Reference4Ideal.τ).loc Cert.Reference4Ideal.main_arg0) = m (c, main_arg0))
    (h1 : m' ((c.tc : Thread Cert.Reference4Ideal.nD Cert.Reference4Ideal.τ).loc Cert.Reference4Ideal.main_arg1) = m (c, main_arg1))
    (h2 : m' ((c.tc : Thread Cert.Reference4Ideal.nD Cert.Reference4Ideal.τ).loc Cert.Reference4Ideal.main_arg2) = m (c, main_arg2))
    (h3 : m' ((c.tc : Thread Cert.Reference4Ideal.nD Cert.Reference4Ideal.τ).loc Cert.Reference4Ideal.main_arg3) = m (c, main_arg3))
    (h4 : m' ((c.tc : Thread Cert.Reference4Ideal.nD Cert.Reference4Ideal.τ).loc Cert.Reference4Ideal.main_arg4) = m (c, main_arg4))
    (h5 : m' ((c.tc : Thread Cert.Reference4Ideal.nD Cert.Reference4Ideal.τ).loc Cert.Reference4Ideal.main_arg5) = m (c, main_arg5))
    (h6 : m' ((c.tc : Thread Cert.Reference4Ideal.nD Cert.Reference4Ideal.τ).loc Cert.Reference4Ideal.main_arg6) = m (c, main_arg6))
    (h7 : m' ((c.tc : Thread Cert.Reference4Ideal.nD Cert.Reference4Ideal.τ).loc Cert.Reference4Ideal.main_arg7) = m (c, main_arg7))
    (h8 : m' ((c.tc : Thread Cert.Reference4Ideal.nD Cert.Reference4Ideal.τ).loc Cert.Reference4Ideal.main_arg8) = m (c, main_arg8))
    (h9 : m' ((c.tc : Thread Cert.Reference4Ideal.nD Cert.Reference4Ideal.τ).loc Cert.Reference4Ideal.main_arg9) = m (c, main_arg9))
    (h10 : m' ((c.tc : Thread Cert.Reference4Ideal.nD Cert.Reference4Ideal.τ).loc Cert.Reference4Ideal.main_arg10) = m (c, main_arg10)) :
    (dats m 0 c).arrAt 12 cfg0.N = Cert.Reference4Ideal.Value.res_main_v54 m' c := by
  refine (dats m 0 c).arrAt_eq_of_covers 12 _ (by decide +kernel) fun t hf y => ?_
  blk_simp
  rw [after0_12]
  obtain ⟨r, n, rfl⟩ : ∃ (r : Fin 512) (n : Fin 1024), y = ix2 r n := ⟨y 0, y 1, eq_ix2 y⟩
  have hp : (win0_12.blk t).view.emb (ix2 r n) = ix2 (token t r) n := by
    blk_ext [(places t).2.2.2.2.2.2.2.2.2.2.2.2.2]
  rw [hp]
  refine (block (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) r n).trans ?_
  refine Eq.symm ((congrFun (Cert.Reference4Ideal.Merge.result_eq m' c) _).trans ((Cert.Reference4Ideal.Merge.norm_apply _ _ _ _ n).trans ?_))
  refine Norm.row_congr n (fun k => ?_) ((congrFun h9 _).trans (read_g m c t n).symm) ((congrFun h10 _).trans (read_b m c t n).symm)
  refine (Cert.Reference4Ideal.Merge.sum_apply _ _ _ (token t r) k).trans (congrArg₂ (fun x y : EReal => x + y) ?_ ?_)
  · exact congrArg (fun x : EReal => Ideal.ofBits .f32 0x3F9837F0#32 * x) ((congrFun h5 _).trans (read_x m c t r k).symm)
  · refine Finset.sum_congr rfl fun j _ => congrArg₂ (fun x y : EReal => x * y) ?_ ((congrFun h8 _).trans (read_w m c t j k).symm)
    refine (Cert.Reference4Ideal.Merge.both_apply _ _ _ _ _ _ _ (token t r) j).trans ?_
    refine congrArg₂ (fun x y : EReal => x + y) ?_ ?_
    · refine congrArg₂ (fun x y : EReal => Ideal.logistic x * y) ((congrFun h4 _).trans (read_hd m c t r j).symm) (Finset.sum_congr rfl fun i _ => ?_)
      exact congrArg₂ (fun x y : EReal => x * y) ((congrFun h0 _).trans (read_a m c t r i).symm) ((congrFun h6 _).trans (read_wd m c t i j).symm)
    · refine congrArg₂ (fun x y : EReal => Ideal.logistic x * y) ((congrFun h4 _).trans (read_hn m c t r j).symm) (Finset.sum_congr rfl fun i _ => ?_)
      refine congrArg₂ (fun x y : EReal => x * y) ?_ ((congrFun h7 _).trans (read_wn m c t i j).symm)
      exact congrArg₂ (fun x y : EReal => x + y) (congrArg₂ (fun x y : EReal => x + y) ((congrFun h1 _).trans (read_o1 m c t r i).symm)
        ((congrFun h2 _).trans (read_o2 m c t r i).symm)) ((congrFun h3 _).trans (read_o3 m c t r i).symm)

end Cert.Kernel4Ideal.Merge
-- ==== Proof.Up.Slabs.lean ====
/-
  The shuffle through the scratch buffer: a run of 1024 tokens is stored in 64 pieces, 128 tokens of 128 columns each, so that
  tokens 128 apart come to stand side by side; the eight slabs read back are the run in that order.
-/
module

public import proofs.«01_k».proof.Proof.Norm.Canon
public import proofs.«01_k».proof.Proof.Gen.Kernel5Ideal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel5Ideal.Up

open Cert.Kernel5Ideal Cert.Kernel5Ideal.Gen Idealize.ShloMosaic Idealize.ShloMosaic.TcCoe

/-! ## The scratch buffer -/

/-- The token that row `q` of the written block holds, counted inside a run of 1024. -/
def tok (q : Fin 1024) : Fin 1024 := ⟨(q : Nat) % 8 * 128 + (q : Nat) / 8, by omega⟩

theorem piece_inb (k : Fin 64) (a : Fin 2) :
    (![128 * (7 - (k : Nat) / 8), 128 * (7 - (k : Nat) % 8)] : Fin 2 → Nat) a + (![128, 128] : Fin 2 → Nat) a ≤ (![1024, 1024] : Fin 2 → Nat) a := by
  fin_cases a
  · show 128 * (7 - (k : Nat) / 8) + 128 ≤ 1024; omega
  · show 128 * (7 - (k : Nat) % 8) + 128 ≤ 1024; omega

/-- One store of the shuffle: 128 tokens of 128 columns, placed 8 rows apart. -/
def piece (x : Vec Ideal S1024x1024 .f32) (k : Fin 64) : View.Piece (Elt Ideal) S8x1024x128 .f32 :=
  ⟨⟨⟨![7 - (k : Nat) % 8, 7 - (k : Nat) / 8, 0], ![1, 128, 128], ![1, 8, 1], by
      intro a; refine Or.inr ?_; fin_cases a
      · show 7 - (k : Nat) % 8 + 1 * 0 < 8; omega
      · show 7 - (k : Nat) / 8 + 8 * 127 < 1024; omega
      · show 0 + 1 * 127 < 128; omega⟩, spos_1_8_1⟩,
    shapeCast S1x128x128 (View.ld x (Rect.unit (s := S1024x1024) ![128 * (7 - (k : Nat) / 8), 128 * (7 - (k : Nat) % 8)] ![128, 128] (piece_inb k))) shapeCasts_S128x128_S1x128x128⟩

/-- The stores of the shuffle, the last one first. -/
def stores (x : Vec Ideal S1024x1024 .f32) : List (View.Piece (Elt Ideal) S8x1024x128 .f32) :=
  [
    ⟨⟨⟨![7, 7, 0], S1x128x128.size, ![1, 8, 1], inb_S8x1024x128_S1x128x128_7_7_0_s_1_8_1⟩, spos_1_8_1⟩, k0_pay65 (View.ld x (Rect.unit (s := S1024x1024) ![896, 896] S128x128.size inb_S1024x1024_S128x128_896_896))⟩,
    ⟨⟨⟨![6, 7, 0], S1x128x128.size, ![1, 8, 1], inb_S8x1024x128_S1x128x128_6_7_0_s_1_8_1⟩, spos_1_8_1⟩, k0_pay64 (View.ld x (Rect.unit (s := S1024x1024) ![896, 768] S128x128.size inb_S1024x1024_S128x128_896_768))⟩,
    ⟨⟨⟨![5, 7, 0], S1x128x128.size, ![1, 8, 1], inb_S8x1024x128_S1x128x128_5_7_0_s_1_8_1⟩, spos_1_8_1⟩, k0_pay63 (View.ld x (Rect.unit (s := S1024x1024) ![896, 640] S128x128.size inb_S1024x1024_S128x128_896_640))⟩,
    ⟨⟨⟨![4, 7, 0], S1x128x128.size, ![1, 8, 1], inb_S8x1024x128_S1x128x128_4_7_0_s_1_8_1⟩, spos_1_8_1⟩, k0_pay62 (View.ld x (Rect.unit (s := S1024x1024) ![896, 512] S128x128.size inb_S1024x1024_S128x128_896_512))⟩,
    ⟨⟨⟨![3, 7, 0], S1x128x128.size, ![1, 8, 1], inb_S8x1024x128_S1x128x128_3_7_0_s_1_8_1⟩, spos_1_8_1⟩, k0_pay61 (View.ld x (Rect.unit (s := S1024x1024) ![896, 384] S128x128.size inb_S1024x1024_S128x128_896_384))⟩,
    ⟨⟨⟨![2, 7, 0], S1x128x128.size, ![1, 8, 1], inb_S8x1024x128_S1x128x128_2_7_0_s_1_8_1⟩, spos_1_8_1⟩, k0_pay60 (View.ld x (Rect.unit (s := S1024x1024) ![896, 256] S128x128.size inb_S1024x1024_S128x128_896_256))⟩,
    ⟨⟨⟨![1, 7, 0], S1x128x128.size, ![1, 8, 1], inb_S8x1024x128_S1x128x128_1_7_0_s_1_8_1⟩, spos_1_8_1⟩, k0_pay59 (View.ld x (Rect.unit (s := S1024x1024) ![896, 128] S128x128.size inb_S1024x1024_S128x128_896_128))⟩,
    ⟨⟨⟨![0, 7, 0], S1x128x128.size, ![1, 8, 1], inb_S8x1024x128_S1x128x128_0_7_0_s_1_8_1⟩, spos_1_8_1⟩, k0_pay58 (View.ld x (Rect.unit (s := S1024x1024) ![896, 0] S128x128.size inb_S1024x1024_S128x128_896_0))⟩,
    ⟨⟨⟨![7, 6, 0], S1x128x128.size, ![1, 8, 1], inb_S8x1024x128_S1x128x128_7_6_0_s_1_8_1⟩, spos_1_8_1⟩, k0_pay57 (View.ld x (Rect.unit (s := S1024x1024) ![768, 896] S128x128.size inb_S1024x1024_S128x128_768_896))⟩,
    ⟨⟨⟨![6, 6, 0], S1x128x128.size, ![1, 8, 1], inb_S8x1024x128_S1x128x128_6_6_0_s_1_8_1⟩, spos_1_8_1⟩, k0_pay56 (View.ld x (Rect.unit (s := S1024x1024) ![768, 768] S128x128.size inb_S1024x1024_S128x128_768_768))⟩,
    ⟨⟨⟨![5, 6, 0], S1x128x128.size, ![1, 8, 1], inb_S8x1024x128_S1x128x128_5_6_0_s_1_8_1⟩, spos_1_8_1⟩, k0_pay55 (View.ld x (Rect.unit (s := S1024x1024) ![768, 640] S128x128.size inb_S1024x1024_S128x128_768_640))⟩,
    ⟨⟨⟨![4, 6, 0], S1x128x128.size, ![1, 8, 1], inb_S8x1024x128_S1x128x128_4_6_0_s_1_8_1⟩, spos_1_8_1⟩, k0_pay54 (View.ld x (Rect.unit (s := S1024x1024) ![768, 512] S128x128.size inb_S1024x1024_S128x128_768_512))⟩,
    ⟨⟨⟨![3, 6, 0], S1x128x128.size, ![1, 8, 1], inb_S8x1024x128_S1x128x128_3_6_0_s_1_8_1⟩, spos_1_8_1⟩, k0_pay53 (View.ld x (Rect.unit (s := S1024x1024) ![768, 384] S128x128.size inb_S1024x1024_S128x128_768_384))⟩,
    ⟨⟨⟨![2, 6, 0], S1x128x128.size, ![1, 8, 1], inb_S8x1024x128_S1x128x128_2_6_0_s_1_8_1⟩, spos_1_8_1⟩, k0_pay52 (View.ld x (Rect.unit (s := S1024x1024) ![768, 256] S128x128.size inb_S1024x1024_S128x128_768_256))⟩,
    ⟨⟨⟨![1, 6, 0], S1x128x128.size, ![1, 8, 1], inb_S8x1024x128_S1x128x128_1_6_0_s_1_8_1⟩, spos_1_8_1⟩, k0_pay51 (View.ld x (Rect.unit (s := S1024x1024) ![768, 128] S128x128.size inb_S1024x1024_S128x128_768_128))⟩,
    ⟨⟨⟨![0, 6, 0], S1x128x128.size, ![1, 8, 1], inb_S8x1024x128_S1x128x128_0_6_0_s_1_8_1⟩, spos_1_8_1⟩, k0_pay50 (View.ld x (Rect.unit (s := S1024x1024) ![768, 0] S128x128.size inb_S1024x1024_S128x128_768_0))⟩,
    ⟨⟨⟨![7, 5, 0], S1x128x128.size, ![1, 8, 1], inb_S8x1024x128_S1x128x128_7_5_0_s_1_8_1⟩, spos_1_8_1⟩, k0_pay49 (View.ld x (Rect.unit (s := S1024x1024) ![640, 896] S128x128.size inb_S1024x1024_S128x128_640_896))⟩,
    ⟨⟨⟨![6, 5, 0], S1x128x128.size, ![1, 8, 1], inb_S8x1024x128_S1x128x128_6_5_0_s_1_8_1⟩, spos_1_8_1⟩, k0_pay48 (View.ld x (Rect.unit (s := S1024x1024) ![640, 768] S128x128.size inb_S1024x1024_S128x128_640_768))⟩,
    ⟨⟨⟨![5, 5, 0], S1x128x128.size, ![1, 8, 1], inb_S8x1024x128_S1x128x128_5_5_0_s_1_8_1⟩, spos_1_8_1⟩, k0_pay47 (View.ld x (Rect.unit (s := S1024x1024) ![640, 640] S128x128.size inb_S1024x1024_S128x128_640_640))⟩,
    ⟨⟨⟨![4, 5, 0], S1x128x128.size, ![1, 8, 1], inb_S8x1024x128_S1x128x128_4_5_0_s_1_8_1⟩, spos_1_8_1⟩, k0_pay46 (View.ld x (Rect.unit (s := S1024x1024) ![640, 512] S128x128.size inb_S1024x1024_S128x128_640_512))⟩,
    ⟨⟨⟨![3, 5, 0], S1x128x128.size, ![1, 8, 1], inb_S8x1024x128_S1x128x128_3_5_0_s_1_8_1⟩, spos_1_8_1⟩, k0_pay45 (View.ld x (Rect.unit (s := S1024x1024) ![640, 384] S128x128.size inb_S1024x1024_S128x128_640_384))⟩,
    ⟨⟨⟨![2, 5, 0], S1x128x128.size, ![1, 8, 1], inb_S8x1024x128_S1x128x128_2_5_0_s_1_8_1⟩, spos_1_8_1⟩, k0_pay44 (View.ld x (Rect.unit (s := S1024x1024) ![640, 256] S128x128.size inb_S1024x1024_S128x128_640_256))⟩,
    ⟨⟨⟨![1, 5, 0], S1x128x128.size, ![1, 8, 1], inb_S8x1024x128_S1x128x128_1_5_0_s_1_8_1⟩, spos_1_8_1⟩, k0_pay43 (View.ld x (Rect.unit (s := S1024x1024) ![640, 128] S128x128.size inb_S1024x1024_S128x128_640_128))⟩,
    ⟨⟨⟨![0, 5, 0], S1x128x128.size, ![1, 8, 1], inb_S8x1024x128_S1x128x128_0_5_0_s_1_8_1⟩, spos_1_8_1⟩, k0_pay42 (View.ld x (Rect.unit (s := S1024x1024) ![640, 0] S128x128.size inb_S1024x1024_S128x128_640_0))⟩,
    ⟨⟨⟨![7, 4, 0], S1x128x128.size, ![1, 8, 1], inb_S8x1024x128_S1x128x128_7_4_0_s_1_8_1⟩, spos_1_8_1⟩, k0_pay41 (View.ld x (Rect.unit (s := S1024x1024) ![512, 896] S128x128.size inb_S1024x1024_S128x128_512_896))⟩,
    ⟨⟨⟨![6, 4, 0], S1x128x128.size, ![1, 8, 1], inb_S8x1024x128_S1x128x128_6_4_0_s_1_8_1⟩, spos_1_8_1⟩, k0_pay40 (View.ld x (Rect.unit (s := S1024x1024) ![512, 768] S128x128.size inb_S1024x1024_S128x128_512_768))⟩,
    ⟨⟨⟨![5, 4, 0], S1x128x128.size, ![1, 8, 1], inb_S8x1024x128_S1x128x128_5_4_0_s_1_8_1⟩, spos_1_8_1⟩, k0_pay39 (View.ld x (Rect.unit (s := S1024x1024) ![512, 640] S128x128.size inb_S1024x1024_S128x128_512_640))⟩,
    ⟨⟨⟨![4, 4, 0], S1x128x128.size, ![1, 8, 1], inb_S8x1024x128_S1x128x128_4_4_0_s_1_8_1⟩, spos_1_8_1⟩, k0_pay38 (View.ld x (Rect.unit (s := S1024x1024) ![512, 512] S128x128.size inb_S1024x1024_S128x128_512_512))⟩,
    ⟨⟨⟨![3, 4, 0], S1x128x128.size, ![1, 8, 1], inb_S8x1024x128_S1x128x128_3_4_0_s_1_8_1⟩, spos_1_8_1⟩, k0_pay37 (View.ld x (Rect.unit (s := S1024x1024) ![512, 384] S128x128.size inb_S1024x1024_S128x128_512_384))⟩,
    ⟨⟨⟨![2, 4, 0], S1x128x128.size, ![1, 8, 1], inb_S8x1024x128_S1x128x128_2_4_0_s_1_8_1⟩, spos_1_8_1⟩, k0_pay36 (View.ld x (Rect.unit (s := S1024x1024) ![512, 256] S128x128.size inb_S1024x1024_S128x128_512_256))⟩,
    ⟨⟨⟨![1, 4, 0], S1x128x128.size, ![1, 8, 1], inb_S8x1024x128_S1x128x128_1_4_0_s_1_8_1⟩, spos_1_8_1⟩, k0_pay35 (View.ld x (Rect.unit (s := S1024x1024) ![512, 128] S128x128.size inb_S1024x1024_S128x128_512_128))⟩,
    ⟨⟨⟨![0, 4, 0], S1x128x128.size, ![1, 8, 1], inb_S8x1024x128_S1x128x128_0_4_0_s_1_8_1⟩, spos_1_8_1⟩, k0_pay34 (View.ld x (Rect.unit (s := S1024x1024) ![512, 0] S128x128.size inb_S1024x1024_S128x128_512_0))⟩,
    ⟨⟨⟨![7, 3, 0], S1x128x128.size, ![1, 8, 1], inb_S8x1024x128_S1x128x128_7_3_0_s_1_8_1⟩, spos_1_8_1⟩, k0_pay33 (View.ld x (Rect.unit (s := S1024x1024) ![384, 896] S128x128.size inb_S1024x1024_S128x128_384_896))⟩,
    ⟨⟨⟨![6, 3, 0], S1x128x128.size, ![1, 8, 1], inb_S8x1024x128_S1x128x128_6_3_0_s_1_8_1⟩, spos_1_8_1⟩, k0_pay32 (View.ld x (Rect.unit (s := S1024x1024) ![384, 768] S128x128.size inb_S1024x1024_S128x128_384_768))⟩,
    ⟨⟨⟨![5, 3, 0], S1x128x128.size, ![1, 8, 1], inb_S8x1024x128_S1x128x128_5_3_0_s_1_8_1⟩, spos_1_8_1⟩, k0_pay31 (View.ld x (Rect.unit (s := S1024x1024) ![384, 640] S128x128.size inb_S1024x1024_S128x128_384_640))⟩,
    ⟨⟨⟨![4, 3, 0], S1x128x128.size, ![1, 8, 1], inb_S8x1024x128_S1x128x128_4_3_0_s_1_8_1⟩, spos_1_8_1⟩, k0_pay30 (View.ld x (Rect.unit (s := S1024x1024) ![384, 512] S128x128.size inb_S1024x1024_S128x128_384_512))⟩,
    ⟨⟨⟨![3, 3, 0], S1x128x128.size, ![1, 8, 1], inb_S8x1024x128_S1x128x128_3_3_0_s_1_8_1⟩, spos_1_8_1⟩, k0_pay29 (View.ld x (Rect.unit (s := S1024x1024) ![384, 384] S128x128.size inb_S1024x1024_S128x128_384_384))⟩,
    ⟨⟨⟨![2, 3, 0], S1x128x128.size, ![1, 8, 1], inb_S8x1024x128_S1x128x128_2_3_0_s_1_8_1⟩, spos_1_8_1⟩, k0_pay28 (View.ld x (Rect.unit (s := S1024x1024) ![384, 256] S128x128.size inb_S1024x1024_S128x128_384_256))⟩,
    ⟨⟨⟨![1, 3, 0], S1x128x128.size, ![1, 8, 1], inb_S8x1024x128_S1x128x128_1_3_0_s_1_8_1⟩, spos_1_8_1⟩, k0_pay27 (View.ld x (Rect.unit (s := S1024x1024) ![384, 128] S128x128.size inb_S1024x1024_S128x128_384_128))⟩,
    ⟨⟨⟨![0, 3, 0], S1x128x128.size, ![1, 8, 1], inb_S8x1024x128_S1x128x128_0_3_0_s_1_8_1⟩, spos_1_8_1⟩, k0_pay26 (View.ld x (Rect.unit (s := S1024x1024) ![384, 0] S128x128.size inb_S1024x1024_S128x128_384_0))⟩,
    ⟨⟨⟨![7, 2, 0], S1x128x128.size, ![1, 8, 1], inb_S8x1024x128_S1x128x128_7_2_0_s_1_8_1⟩, spos_1_8_1⟩, k0_pay25 (View.ld x (Rect.unit (s := S1024x1024) ![256, 896] S128x128.size inb_S1024x1024_S128x128_256_896))⟩,
    ⟨⟨⟨![6, 2, 0], S1x128x128.size, ![1, 8, 1], inb_S8x1024x128_S1x128x128_6_2_0_s_1_8_1⟩, spos_1_8_1⟩, k0_pay24 (View.ld x (Rect.unit (s := S1024x1024) ![256, 768] S128x128.size inb_S1024x1024_S128x128_256_768))⟩,
    ⟨⟨⟨![5, 2, 0], S1x128x128.size, ![1, 8, 1], inb_S8x1024x128_S1x128x128_5_2_0_s_1_8_1⟩, spos_1_8_1⟩, k0_pay23 (View.ld x (Rect.unit (s := S1024x1024) ![256, 640] S128x128.size inb_S1024x1024_S128x128_256_640))⟩,
    ⟨⟨⟨![4, 2, 0], S1x128x128.size, ![1, 8, 1], inb_S8x1024x128_S1x128x128_4_2_0_s_1_8_1⟩, spos_1_8_1⟩, k0_pay22 (View.ld x (Rect.unit (s := S1024x1024) ![256, 512] S128x128.size inb_S1024x1024_S128x128_256_512))⟩,
    ⟨⟨⟨![3, 2, 0], S1x128x128.size, ![1, 8, 1], inb_S8x1024x128_S1x128x128_3_2_0_s_1_8_1⟩, spos_1_8_1⟩, k0_pay21 (View.ld x (Rect.unit (s := S1024x1024) ![256, 384] S128x128.size inb_S1024x1024_S128x128_256_384))⟩,
    ⟨⟨⟨![2, 2, 0], S1x128x128.size, ![1, 8, 1], inb_S8x1024x128_S1x128x128_2_2_0_s_1_8_1⟩, spos_1_8_1⟩, k0_pay20 (View.ld x (Rect.unit (s := S1024x1024) ![256, 256] S128x128.size inb_S1024x1024_S128x128_256_256))⟩,
    ⟨⟨⟨![1, 2, 0], S1x128x128.size, ![1, 8, 1], inb_S8x1024x128_S1x128x128_1_2_0_s_1_8_1⟩, spos_1_8_1⟩, k0_pay19 (View.ld x (Rect.unit (s := S1024x1024) ![256, 128] S128x128.size inb_S1024x1024_S128x128_256_128))⟩,
    ⟨⟨⟨![0, 2, 0], S1x128x128.size, ![1, 8, 1], inb_S8x1024x128_S1x128x128_0_2_0_s_1_8_1⟩, spos_1_8_1⟩, k0_pay18 (View.ld x (Rect.unit (s := S1024x1024) ![256, 0] S128x128.size inb_S1024x1024_S128x128_256_0))⟩,
    ⟨⟨⟨![7, 1, 0], S1x128x128.size, ![1, 8, 1], inb_S8x1024x128_S1x128x128_7_1_0_s_1_8_1⟩, spos_1_8_1⟩, k0_pay17 (View.ld x (Rect.unit (s := S1024x1024) ![128, 896] S128x128.size inb_S1024x1024_S128x128_128_896))⟩,
    ⟨⟨⟨![6, 1, 0], S1x128x128.size, ![1, 8, 1], inb_S8x1024x128_S1x128x128_6_1_0_s_1_8_1⟩, spos_1_8_1⟩, k0_pay16 (View.ld x (Rect.unit (s := S1024x1024) ![128, 768] S128x128.size inb_S1024x1024_S128x128_128_768))⟩,
    ⟨⟨⟨![5, 1, 0], S1x128x128.size, ![1, 8, 1], inb_S8x1024x128_S1x128x128_5_1_0_s_1_8_1⟩, spos_1_8_1⟩, k0_pay15 (View.ld x (Rect.unit (s := S1024x1024) ![128, 640] S128x128.size inb_S1024x1024_S128x128_128_640))⟩,
    ⟨⟨⟨![4, 1, 0], S1x128x128.size, ![1, 8, 1], inb_S8x1024x128_S1x128x128_4_1_0_s_1_8_1⟩, spos_1_8_1⟩, k0_pay14 (View.ld x (Rect.unit (s := S1024x1024) ![128, 512] S128x128.size inb_S1024x1024_S128x128_128_512))⟩,
    ⟨⟨⟨![3, 1, 0], S1x128x128.size, ![1, 8, 1], inb_S8x1024x128_S1x128x128_3_1_0_s_1_8_1⟩, spos_1_8_1⟩, k0_pay13 (View.ld x (Rect.unit (s := S1024x1024) ![128, 384] S128x128.size inb_S1024x1024_S128x128_128_384))⟩,
    ⟨⟨⟨![2, 1, 0], S1x128x128.size, ![1, 8, 1], inb_S8x1024x128_S1x128x128_2_1_0_s_1_8_1⟩, spos_1_8_1⟩, k0_pay12 (View.ld x (Rect.unit (s := S1024x1024) ![128, 256] S128x128.size inb_S1024x1024_S128x128_128_256))⟩,
    ⟨⟨⟨![1, 1, 0], S1x128x128.size, ![1, 8, 1], inb_S8x1024x128_S1x128x128_1_1_0_s_1_8_1⟩, spos_1_8_1⟩, k0_pay11 (View.ld x (Rect.unit (s := S1024x1024) ![128, 128] S128x128.size inb_S1024x1024_S128x128_128_128))⟩,
    ⟨⟨⟨![0, 1, 0], S1x128x128.size, ![1, 8, 1], inb_S8x1024x128_S1x128x128_0_1_0_s_1_8_1⟩, spos_1_8_1⟩, k0_pay10 (View.ld x (Rect.unit (s := S1024x1024) ![128, 0] S128x128.size inb_S1024x1024_S128x128_128_0))⟩,
    ⟨⟨⟨![7, 0, 0], S1x128x128.size, ![1, 8, 1], inb_S8x1024x128_S1x128x128_7_0_0_s_1_8_1⟩, spos_1_8_1⟩, k0_pay9 (View.ld x (Rect.unit (s := S1024x1024) ![0, 896] S128x128.size inb_S1024x1024_S128x128_0_896))⟩,
    ⟨⟨⟨![6, 0, 0], S1x128x128.size, ![1, 8, 1], inb_S8x1024x128_S1x128x128_6_0_0_s_1_8_1⟩, spos_1_8_1⟩, k0_pay8 (View.ld x (Rect.unit (s := S1024x1024) ![0, 768] S128x128.size inb_S1024x1024_S128x128_0_768))⟩,
    ⟨⟨⟨![5, 0, 0], S1x128x128.size, ![1, 8, 1], inb_S8x1024x128_S1x128x128_5_0_0_s_1_8_1⟩, spos_1_8_1⟩, k0_pay7 (View.ld x (Rect.unit (s := S1024x1024) ![0, 640] S128x128.size inb_S1024x1024_S128x128_0_640))⟩,
    ⟨⟨⟨![4, 0, 0], S1x128x128.size, ![1, 8, 1], inb_S8x1024x128_S1x128x128_4_0_0_s_1_8_1⟩, spos_1_8_1⟩, k0_pay6 (View.ld x (Rect.unit (s := S1024x1024) ![0, 512] S128x128.size inb_S1024x1024_S128x128_0_512))⟩,
    ⟨⟨⟨![3, 0, 0], S1x128x128.size, ![1, 8, 1], inb_S8x1024x128_S1x128x128_3_0_0_s_1_8_1⟩, spos_1_8_1⟩, k0_pay5 (View.ld x (Rect.unit (s := S1024x1024) ![0, 384] S128x128.size inb_S1024x1024_S128x128_0_384))⟩,
    ⟨⟨⟨![2, 0, 0], S1x128x128.size, ![1, 8, 1], inb_S8x1024x128_S1x128x128_2_0_0_s_1_8_1⟩, spos_1_8_1⟩, k0_pay4 (View.ld x (Rect.unit (s := S1024x1024) ![0, 256] S128x128.size inb_S1024x1024_S128x128_0_256))⟩,
    ⟨⟨⟨![1, 0, 0], S1x128x128.size, ![1, 8, 1], inb_S8x1024x128_S1x128x128_1_0_0_s_1_8_1⟩, spos_1_8_1⟩, k0_pay3 (View.ld x (Rect.unit (s := S1024x1024) ![0, 128] S128x128.size inb_S1024x1024_S128x128_0_128))⟩,
    ⟨⟨⟨![0, 0, 0], S1x128x128.size, ![1, 8, 1], inb_S8x1024x128_S1x128x128_0_0_0_s_1_8_1⟩, spos_1_8_1⟩, k0_pay2 (View.ld x (Rect.unit (s := S1024x1024) ![0, 0] S128x128.size inb_S1024x1024_S128x128_0_0))⟩]

theorem stores_eq (x : Vec Ideal S1024x1024 .f32) : stores x = List.ofFn (piece x) := rfl

theorem cast_apply (v : Vec Ideal S128x128 .f32) (r l : Fin 128) :
    (shapeCast S1x128x128 v shapeCasts_S128x128_S1x128x128 : FVec Ideal S1x128x128 .f32) (ix3 0 r l) = v (ix2 r l) := by
  pointwise []

theorem canon_stores (x : Vec Ideal S1024x1024 .f32) (j : Fin 8) (q : Fin 1024) (l : Fin 128) :
    View.canon (stores x) (ix3 j q l) = x (ix2 (tok q) (⟨128 * (j : Nat) + l, by omega⟩ : Fin 1024)) := by
  rw [stores_eq]
  refine View.canon_ofFn_eq_of_forall (fun k => (piece x k).1) (fun k => (piece x k).2) (ix3 j q l) _ ?_ ?_
  · refine ⟨⟨(7 - (q : Nat) % 8) * 8 + (7 - (j : Nat)), by omega⟩, ?_⟩
    refine (LoadRect.mem_set _).mpr fun a => ?_
    fin_cases a
    · refine ⟨0, Nat.one_pos, ?_⟩
      show (j : Nat) = 7 - ((7 - (q : Nat) % 8) * 8 + (7 - (j : Nat))) % 8 + 1 * 0
      omega
    · refine ⟨(q : Nat) / 8, ?_, ?_⟩
      · show (q : Nat) / 8 < 128
        omega
      · show (q : Nat) = 7 - ((7 - (q : Nat) % 8) * 8 + (7 - (j : Nat))) / 8 + 8 * ((q : Nat) / 8)
        omega
    · refine ⟨l, l.isLt, ?_⟩
      show (l : Nat) = 0 + 1 * (l : Nat)
      omega
  · intro k z hz
    have h0 : 7 - (k : Nat) % 8 + 1 * ((z 0 : Fin 1) : Nat) = j := congrArg (fun y : S8x1024x128.Idx => ((y 0 : Fin 8) : Nat)) hz
    have h1 : 7 - (k : Nat) / 8 + 8 * ((z 1 : Fin 128) : Nat) = q := congrArg (fun y : S8x1024x128.Idx => ((y 1 : Fin 1024) : Nat)) hz
    have h2 : 0 + 1 * ((z 2 : Fin 128) : Nat) = l := congrArg (fun y : S8x1024x128.Idx => ((y 2 : Fin 128) : Nat)) hz
    have hz' : z = ix3 (0 : Fin 1) (z 1 : Fin 128) (z 2 : Fin 128) := by
      funext a
      fin_cases a
      · exact Subsingleton.elim (α := Fin 1) _ _
      · rfl
      · rfl
    have hz0 : ((z 0 : Fin 1) : Nat) < 1 := (z 0 : Fin 1).isLt
    have hz1 : ((z 1 : Fin 128) : Nat) < 128 := (z 1 : Fin 128).isLt
    have hk := k.isLt
    rw [hz']
    refine (cast_apply (View.ld x (Rect.unit (s := S1024x1024) ![128 * (7 - (k : Nat) / 8), 128 * (7 - (k : Nat) % 8)] ![128, 128] (piece_inb k))) (z 1 : Fin 128) (z 2 : Fin 128)).trans ?_
    refine congrArg x (funext fun a => Fin.ext ?_)
    fin_cases a
    · show 128 * (7 - (k : Nat) / 8) + 1 * ((z 1 : Fin 128) : Nat) = (q : Nat) % 8 * 128 + (q : Nat) / 8
      omega
    · show 128 * (7 - (k : Nat) % 8) + 1 * ((z 2 : Fin 128) : Nat) = 128 * (j : Nat) + l
      omega

/-- One slab of 128 columns, read back. -/
theorem slab {sig : RefSig} {κ : Kind} {sp : Space} (v : View sig κ sp S8x1024x128 .f32) (x : Vec Ideal S1024x1024 .f32)
    (j : Nat) (hj : j < 8) (inb) (q : Fin 1024) (l : Fin 128) :
    v.readCov (stores x) (Rect.unit (s := S8x1024x128) ![j, 0, 0] ![1, 1024, 128] inb).toLoadRect (ix3 0 q l) =
      x (ix2 (tok q) (⟨128 * j + l, by omega⟩ : Fin 1024)) := by
  rw [View.readCov_eq_canon']
  refine (congrArg (View.canon _) (?_ : _ = ix3 (⟨j, hj⟩ : Fin 8) q l)).trans (canon_stores x (⟨j, hj⟩ : Fin 8) q l)
  funext a
  refine Fin.ext ?_
  fin_cases a
  · show j + 1 * 0 = j; omega
  · show 0 + 1 * (q : Nat) = q; omega
  · show 0 + 1 * (l : Nat) = l; omega

/-! ## The slabs side by side -/

theorem side0 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨l, by omega⟩ : Fin 1024)) = v0 (ix3 0 q l) := by
  pointwise [k0_pay69, k0_pay66, k0_pay67, k0_pay68]

theorem side1 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨128 + l, by omega⟩ : Fin 1024)) = v1 (ix3 0 q l) := by
  pointwise [k0_pay69, k0_pay66, k0_pay67, k0_pay68]
  all_goals first
    | (refine (dif_neg (by omega)).trans ((dif_pos (by omega)).trans ?_); exact congrArg (fun z => v1 (ix3 0 q z)) (Fin.ext (by show 128 + (l : Nat) - 128 = l; omega)))
    | exact congrArg (fun z => v1 (ix3 0 q z)) (Fin.ext (by show 128 + (l : Nat) - 128 = l; omega))

theorem side2 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨256 + l, by omega⟩ : Fin 1024)) = v2 (ix3 0 q l) := by
  pointwise [k0_pay69, k0_pay66, k0_pay67, k0_pay68]
  all_goals first
    | (refine (dif_neg (by omega)).trans ((dif_neg (by omega)).trans ((dif_pos (by omega)).trans ?_)); exact congrArg (fun z => v2 (ix3 0 q z)) (Fin.ext (by show 256 + (l : Nat) - 128 - 128 = l; omega)))
    | exact congrArg (fun z => v2 (ix3 0 q z)) (Fin.ext (by show 256 + (l : Nat) - 128 - 128 = l; omega))

theorem side3 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨384 + l, by omega⟩ : Fin 1024)) = v3 (ix3 0 q l) := by
  pointwise [k0_pay69, k0_pay66, k0_pay67, k0_pay68]
  all_goals first
    | (refine (dif_neg (by omega)).trans ((dif_neg (by omega)).trans ((dif_neg (by omega)).trans ((dif_pos (by omega)).trans ?_))); exact congrArg (fun z => v3 (ix3 0 q z)) (Fin.ext (by show 384 + (l : Nat) - 128 - 128 - 128 = l; omega)))
    | exact congrArg (fun z => v3 (ix3 0 q z)) (Fin.ext (by show 384 + (l : Nat) - 128 - 128 - 128 = l; omega))

theorem side4 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨512 + l, by omega⟩ : Fin 1024)) = v4 (ix3 0 q l) := by
  pointwise [k0_pay69, k0_pay66, k0_pay67, k0_pay68]
  all_goals first
    | (refine (dif_neg (by omega)).trans ((dif_neg (by omega)).trans ((dif_neg (by omega)).trans ((dif_neg (by omega)).trans ((dif_pos (by omega)).trans ?_)))); exact congrArg (fun z => v4 (ix3 0 q z)) (Fin.ext (by show 512 + (l : Nat) - 128 - 128 - 128 - 128 = l; omega)))
    | exact congrArg (fun z => v4 (ix3 0 q z)) (Fin.ext (by show 512 + (l : Nat) - 128 - 128 - 128 - 128 = l; omega))

theorem side5 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨640 + l, by omega⟩ : Fin 1024)) = v5 (ix3 0 q l) := by
  pointwise [k0_pay69, k0_pay66, k0_pay67, k0_pay68]
  all_goals first
    | (refine (dif_neg (by omega)).trans ((dif_neg (by omega)).trans ((dif_neg (by omega)).trans ((dif_neg (by omega)).trans ((dif_neg (by omega)).trans ((dif_pos (by omega)).trans ?_))))); exact congrArg (fun z => v5 (ix3 0 q z)) (Fin.ext (by show 640 + (l : Nat) - 128 - 128 - 128 - 128 - 128 = l; omega)))
    | exact congrArg (fun z => v5 (ix3 0 q z)) (Fin.ext (by show 640 + (l : Nat) - 128 - 128 - 128 - 128 - 128 = l; omega))

theorem side6 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨768 + l, by omega⟩ : Fin 1024)) = v6 (ix3 0 q l) := by
  pointwise [k0_pay69, k0_pay66, k0_pay67, k0_pay68]
  all_goals first
    | (refine (dif_neg (by omega)).trans ((dif_neg (by omega)).trans ((dif_neg (by omega)).trans ((dif_neg (by omega)).trans ((dif_neg (by omega)).trans ((dif_neg (by omega)).trans ((dif_pos (by omega)).trans ?_)))))); exact congrArg (fun z => v6 (ix3 0 q z)) (Fin.ext (by show 768 + (l : Nat) - 128 - 128 - 128 - 128 - 128 - 128 = l; omega)))
    | exact congrArg (fun z => v6 (ix3 0 q z)) (Fin.ext (by show 768 + (l : Nat) - 128 - 128 - 128 - 128 - 128 - 128 = l; omega))

theorem side7 (v0 v1 v2 v3 v4 v5 v6 v7 : Vec Ideal S1x1024x128 .f32) (q : Fin 1024) (l : Fin 128) :
    (k0_pay69 (k0_pay66 v0) (k0_pay67 v1) (k0_pay68 v2) v3 v4 v5 v6 v7 : FVec Ideal S1024x1024 .bf16) (ix2 q (⟨896 + l, by omega⟩ : Fin 1024)) = v7 (ix3 0 q l) := by
  pointwise [k0_pay69, k0_pay66, k0_pay67, k0_pay68]
  all_goals first
    | (refine (dif_neg (by omega)).trans ((dif_neg (by omega)).trans ((dif_neg (by omega)).trans ((dif_neg (by omega)).trans ((dif_neg (by omega)).trans ((dif_neg (by omega)).trans ((dif_neg (by omega)).trans (?_))))))); exact congrArg (fun z => v7 (ix3 0 q z)) (Fin.ext (by show 896 + (l : Nat) - 128 - 128 - 128 - 128 - 128 - 128 - 128 = l; omega)))
    | exact congrArg (fun z => v7 (ix3 0 q z)) (Fin.ext (by show 896 + (l : Nat) - 128 - 128 - 128 - 128 - 128 - 128 - 128 = l; omega))

/-- The run of tokens in the order of the written block. -/
theorem side (v0 v1 v2 v3 v4 v5 v6 v7 : Vec Ideal S1x1024x128 .f32) (q : Fin 1024) (P : Fin 1024 → EReal)
    (h0 : ∀ l : Fin 128, v0 (ix3 0 q l) = P ⟨128 * 0 + l, by omega⟩) (h1 : ∀ l : Fin 128, v1 (ix3 0 q l) = P ⟨128 * 1 + l, by omega⟩) (h2 : ∀ l : Fin 128, v2 (ix3 0 q l) = P ⟨128 * 2 + l, by omega⟩) (h3 : ∀ l : Fin 128, v3 (ix3 0 q l) = P ⟨128 * 3 + l, by omega⟩) (h4 : ∀ l : Fin 128, v4 (ix3 0 q l) = P ⟨128 * 4 + l, by omega⟩) (h5 : ∀ l : Fin 128, v5 (ix3 0 q l) = P ⟨128 * 5 + l, by omega⟩) (h6 : ∀ l : Fin 128, v6 (ix3 0 q l) = P ⟨128 * 6 + l, by omega⟩) (h7 : ∀ l : Fin 128, v7 (ix3 0 q l) = P ⟨128 * 7 + l, by omega⟩)
    (k : Fin 1024) : (k0_pay69 (k0_pay66 v0) (k0_pay67 v1) (k0_pay68 v2) v3 v4 v5 v6 v7 : FVec Ideal S1024x1024 .bf16) (ix2 q k) = P k := by
  by_cases c0 : (k : Nat) < 128
  · have e : k = ⟨((⟨k, by omega⟩ : Fin 128) : Nat), by simp only []; omega⟩ := Fin.ext (by first | rfl | (simp only []; omega))
    rw [e]; exact (side0 _ _ _ _ _ _ _ _ q _).trans ((h0 _).trans (congrArg P (Fin.ext (by first | rfl | omega | (simp only []; omega)))))
  by_cases c1 : (k : Nat) < 256
  · have e : k = ⟨128 + ((⟨k - 128, by omega⟩ : Fin 128) : Nat), by simp only []; omega⟩ := Fin.ext (by first | rfl | (simp only []; omega))
    rw [e]; exact (side1 _ _ _ _ _ _ _ _ q _).trans ((h1 _).trans (congrArg P (Fin.ext (by first | rfl | omega | (simp only []; omega)))))
  by_cases c2 : (k : Nat) < 384
  · have e : k = ⟨256 + ((⟨k - 256, by omega⟩ : Fin 128) : Nat), by simp only []; omega⟩ := Fin.ext (by first | rfl | (simp only []; omega))
    rw [e]; exact (side2 _ _ _ _ _ _ _ _ q _).trans ((h2 _).trans (congrArg P (Fin.ext (by first | rfl | omega | (simp only []; omega)))))
  by_cases c3 : (k : Nat) < 512
  · have e : k = ⟨384 + ((⟨k - 384, by omega⟩ : Fin 128) : Nat), by simp only []; omega⟩ := Fin.ext (by first | rfl | (simp only []; omega))
    rw [e]; exact (side3 _ _ _ _ _ _ _ _ q _).trans ((h3 _).trans (congrArg P (Fin.ext (by first | rfl | omega | (simp only []; omega)))))
  by_cases c4 : (k : Nat) < 640
  · have e : k = ⟨512 + ((⟨k - 512, by omega⟩ : Fin 128) : Nat), by simp only []; omega⟩ := Fin.ext (by first | rfl | (simp only []; omega))
    rw [e]; exact (side4 _ _ _ _ _ _ _ _ q _).trans ((h4 _).trans (congrArg P (Fin.ext (by first | rfl | omega | (simp only []; omega)))))
  by_cases c5 : (k : Nat) < 768
  · have e : k = ⟨640 + ((⟨k - 640, by omega⟩ : Fin 128) : Nat), by simp only []; omega⟩ := Fin.ext (by first | rfl | (simp only []; omega))
    rw [e]; exact (side5 _ _ _ _ _ _ _ _ q _).trans ((h5 _).trans (congrArg P (Fin.ext (by first | rfl | omega | (simp only []; omega)))))
  by_cases c6 : (k : Nat) < 896
  · have e : k = ⟨768 + ((⟨k - 768, by omega⟩ : Fin 128) : Nat), by simp only []; omega⟩ := Fin.ext (by first | rfl | (simp only []; omega))
    rw [e]; exact (side6 _ _ _ _ _ _ _ _ q _).trans ((h6 _).trans (congrArg P (Fin.ext (by first | rfl | omega | (simp only []; omega)))))
  have e : k = ⟨896 + ((⟨k - 896, by omega⟩ : Fin 128) : Nat), by simp only []; omega⟩ := Fin.ext (by first | rfl | (simp only []; omega))
  rw [e]; exact (side7 _ _ _ _ _ _ _ _ q _).trans ((h7 _).trans (congrArg P (Fin.ext (by first | rfl | omega | (simp only []; omega)))))

end Cert.Kernel5Ideal.Up

end

end
-- ==== Proof.Up.Ref.lean ====
/-
  The reference at an index: a product, a causal convolution of three taps along every sequence, the gated product of its
  two halves, and the order of the rows.
-/
module

public import proofs.«01_k».proof.Proof.Gen.Reference5Ideal.Run
public import Idealize.ShloMosaic.Lib.Pointwise

@[expose] public section

set_option maxRecDepth 16384

noncomputable section

namespace Cert.Up

open Idealize.ShloMosaic

/-- A sequence's rows of the product with two rows of zeros before them. -/
def shifted (x : Fin 16384 → Fin 1024 → EReal) (w : Fin 1024 → EReal) (b : Fin 4) (p : Nat) (hp : p < 4098) : EReal :=
  if h : p < 2 then 0 else ∑ k : Fin 1024, x ⟨(b : Nat) * 4096 + (p - 2), by omega⟩ k * w k

/-- A causal convolution of three taps. -/
def taps (z0 z1 z2 c0 c1 c2 b : EReal) : EReal := z0 * c0 + z1 * c1 + z2 * c2 + b

/-- The gated product of the two halves. -/
def gated (g v : EReal) : EReal := g * Ideal.logistic g * v

end Cert.Up

namespace Cert.Reference5Ideal.Up

open Cert.Reference5Ideal Cert.Reference5Ideal.Gen Idealize.ShloMosaic Idealize.ShloMosaic.TcCoe

variable (m : (ℓ : Loc nD τ sig) → Buf (Elt Ideal) ℓ) (c : Dev nD)

/-- The product with two rows of zeros before every sequence. -/
def padded (x : FVec Ideal S16384x1024 .f32) (w : FVec Ideal S1024x5632 .f32) : FVec Ideal S4x4098x5632 .f32 :=
  pad S4x4098x5632 ![0, 2, 0] ![0, 0, 0] ![0, 0, 0] (Host.dotGeneral (F := Ideal) (φ₁ := .f32) (φ₂ := .f32) dot_S4x4096x1024_S1024x5632_S4x4096x5632_2_0_01_1_n_n none (shapeCast _ x shapeCasts_S16384x1024_S4x4096x1024) w) (sitofp .f32 (constantI S_ 32 0#32)) pads_S4x4096x5632_S4x4098x5632_000_200_000 h_S_

/-- The convolution. -/
def conv (x : FVec Ideal S16384x1024 .f32) (w : FVec Ideal S1024x5632 .f32) (cw : FVec Ideal S3x5632 .f32) (cb : FVec Ideal S5632 .f32) : FVec Ideal S4x4096x5632 .f32 :=
  addf (addf (addf (mulf (extractStridedSlice S4x4096x5632 ![0, 0, 0] (padded x w) slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] cw slices_S3x5632_S1x5632_0_0) shapeCasts_S1x5632_S5632)))) (mulf (extractStridedSlice S4x4096x5632 ![0, 1, 0] (padded x w) slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S4x4096x5632 ![0, 2, 0] (padded x w) slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] cw slices_S3x5632_S1x5632_2_0) shapeCasts_S1x5632_S5632))))) (broadcastInDim S4x4096x5632 ![0, 1, 2] bcast_S1x1x5632_S4x4096x5632_0_1_2 (broadcastInDim S1x1x5632 ![2] bcast_S5632_S1x1x5632_2 cb))

/-- The gated product, before the rows are put in the order of the blocks. -/
def out (u : FVec Ideal S4x4096x5632 .f32) : FVec Ideal S4x4096x2816 .f32 :=
  mulf (mulf (extractStridedSlice S4x4096x2816 ![0, 0, 0] u slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] u slices_S4x4096x5632_S4x4096x2816_0_0_0)))))) (extractStridedSlice S4x4096x2816 ![0, 0, 2816] u slices_S4x4096x5632_S4x4096x2816_0_0_2816)

/-- The rows in the order of the blocks. -/
def order (y : FVec Ideal S4x4096x2816 .f32) : FVec Ideal S16384x2816 .bf16 :=
  shapeCast _ (transpose S16x128x8x2816 [0, 2, 1, 3] (shapeCast _ (truncf .bf16 y bitsLt_bf16_f32) shapeCasts_S4x4096x2816_S16x8x128x2816) transposes_S16x8x128x2816_S16x128x8x2816_0_2_1_3) shapeCasts_S16x128x8x2816_S16384x2816

theorem result_eq : Value.res_main_v33 m c = order (out (conv (m (c, main_arg0)) (m (c, main_arg1)) (m (c, main_arg2)) (m (c, main_arg3)))) := rfl

theorem conv_congr {x x' : FVec Ideal S16384x1024 .f32} {w w' : FVec Ideal S1024x5632 .f32} {cw cw' : FVec Ideal S3x5632 .f32} {cb cb' : FVec Ideal S5632 .f32}
    (h0 : x = x') (h1 : w = w') (h2 : cw = cw') (h3 : cb = cb') : conv x w cw cb = conv x' w' cw' cb' := by
  subst h0 h1 h2 h3
  rfl

theorem padded_apply (x : FVec Ideal S16384x1024 .f32) (w : FVec Ideal S1024x5632 .f32) (b : Fin 4) (p : Fin 4098) (n : Fin 5632) :
    padded x w (ix3 b p n) = Cert.Up.shifted (fun g k => x (ix2 g k)) (fun k => w (ix2 k n)) b p p.isLt := by
  pointwise [padded, Cert.Up.shifted]
  have hp := p.isLt
  by_cases h : (p : Nat) < 2
  · refine (dif_neg (by omega)).trans (Eq.trans ?_ (dif_pos h).symm)
    show ((((0#32 : BitVec 32).toInt : ℤ) : ℝ) : EReal) = 0
    simp
  · rw [dif_neg h]
    exact dif_pos (by omega)

theorem conv_apply (x : FVec Ideal S16384x1024 .f32) (w : FVec Ideal S1024x5632 .f32) (cw : FVec Ideal S3x5632 .f32) (cb : FVec Ideal S5632 .f32) (b : Fin 4) (p : Fin 4096) (n : Fin 5632) :
    conv x w cw cb (ix3 b p n) = Cert.Up.taps (padded x w (ix3 b ⟨p, by omega⟩ n)) (padded x w (ix3 b ⟨p + 1, by omega⟩ n)) (padded x w (ix3 b ⟨p + 2, by omega⟩ n))
      (cw (ix2 0 n)) (cw (ix2 1 n)) (cw (ix2 2 n)) (cb (ix1 n)) := by
  have e1 : (⟨(p : Nat) + 1, by omega⟩ : Fin 4098) = ⟨1 + p, by omega⟩ := Fin.ext (Nat.add_comm _ _)
  have e2 : (⟨(p : Nat) + 2, by omega⟩ : Fin 4098) = ⟨2 + p, by omega⟩ := Fin.ext (Nat.add_comm _ _)
  rw [e1, e2]
  pointwise [conv, Cert.Up.taps]

theorem out_apply (u : FVec Ideal S4x4096x5632 .f32) (b : Fin 4) (p : Fin 4096) (n : Fin 2816) :
    out u (ix3 b p n) = Cert.Up.gated (u (ix3 b p ⟨n, by omega⟩)) (u (ix3 b p ⟨2816 + n, by omega⟩)) := by
  pointwise [out, Cert.Up.gated]
  rfl

theorem order_apply (y : FVec Ideal S4x4096x2816 .f32) (t : Fin 16) (r : Fin 128) (s : Fin 8) (n : Fin 2816) :
    order y (ix2 (⟨(t : Nat) * 1024 + (r : Nat) * 8 + s, by omega⟩ : Fin 16384) n) = y (ix3 (⟨(t : Nat) / 4, by omega⟩ : Fin 4) (⟨(t : Nat) % 4 * 1024 + ((s : Nat) * 128 + r), by omega⟩ : Fin 4096) n) := by
  pointwise [order]
  exact congrArg (fun z => y (ix3 _ z n)) (Fin.ext (by simp only []; omega))

end Cert.Reference5Ideal.Up

end

end
-- ==== Proof.Up.Block.lean ====
/-
  What a point stores: the products of a run of 1024 tokens with the two halves of the weights, each convolved with three taps,
  the gate times the value.
-/
module

public import proofs.«01_k».proof.Proof.Up.Slabs
public import proofs.«01_k».proof.Proof.Up.Ref
public import proofs.«01_k».proof.Proof.Attn.Alg
public import proofs.«01_k».proof.Proof.Attn.Consts
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel5Ideal.Up

open Cert.Kernel5Ideal Cert.Kernel5Ideal.Gen Idealize.ShloMosaic Idealize.ShloMosaic.TcCoe

/-! ## The taps -/

/-- The numbers of the eight rows before a rotated group. -/
abbrev rows8 : IVec S8x1 32 := iota .tc S8x1 32 [0] iota_S8x1_d0_w32

theorem pick (s : Fin 8) (a b : EReal) :
    Scalar.select (IntOp.cmpi CmpIPredicate.eq (rows8 (ix2 s 0)) 0#32) a b = if (s : Nat) = 0 then a else b := by
  fin_cases s <;> rfl

/-- The row one token back: the last row of the group before, or the row of the run before. -/
theorem tap1 (a : EReal) (V : Fin 1024 → EReal) (Z : Fin 1026 → EReal) (h7 : a = Z ⟨1, by omega⟩)
    (hV : ∀ q, V q = Z ⟨(tok q : Nat) + 2, by omega⟩) (q : Fin 1024) :
    (if h : (q : Nat) < 8 then Scalar.select (IntOp.cmpi CmpIPredicate.eq (rows8 (ix2 (⟨q, h⟩ : Fin 8) 0)) 0#32) a
        (V ⟨1016 + ((q : Nat) + 8 - 1) % 8, by omega⟩)
      else V ⟨(q : Nat) - 8, by omega⟩) = Z ⟨(tok q : Nat) + 1, by omega⟩ := by
  have hq := q.isLt
  by_cases h : (q : Nat) < 8
  · refine (dif_pos h).trans ((pick _ _ _).trans ?_)
    by_cases h0 : (q : Nat) = 0
    · refine (if_pos h0).trans (h7.trans (congrArg Z (Fin.ext ?_)))
      show 1 = (q : Nat) % 8 * 128 + (q : Nat) / 8 + 1
      omega
    · refine (if_neg h0).trans ((hV _).trans (congrArg Z (Fin.ext ?_)))
      show (1016 + ((q : Nat) + 8 - 1) % 8) % 8 * 128 + (1016 + ((q : Nat) + 8 - 1) % 8) / 8 + 2 = (q : Nat) % 8 * 128 + (q : Nat) / 8 + 1
      omega
  · refine (dif_neg h).trans ((hV _).trans (congrArg Z (Fin.ext ?_)))
    show ((q : Nat) - 8) % 8 * 128 + ((q : Nat) - 8) / 8 + 2 = (q : Nat) % 8 * 128 + (q : Nat) / 8 + 1
    omega

/-- The row two tokens back. -/
theorem tap2 (a a' : EReal) (V : Fin 1024 → EReal) (Z : Fin 1026 → EReal) (h6 : a = Z ⟨0, by omega⟩) (h7 : a' = Z ⟨1, by omega⟩)
    (hV : ∀ q, V q = Z ⟨(tok q : Nat) + 2, by omega⟩) (q : Fin 1024) :
    (if h : (q : Nat) < 8 then Scalar.select (IntOp.cmpi CmpIPredicate.eq (rows8 (ix2 (⟨q, h⟩ : Fin 8) 0)) 0#32) a
        (V ⟨1008 + ((q : Nat) + 8 - 1) % 8, by omega⟩)
      else if h : (q : Nat) - 8 < 8 then Scalar.select (IntOp.cmpi CmpIPredicate.eq (rows8 (ix2 (⟨(q : Nat) - 8, h⟩ : Fin 8) 0)) 0#32) a'
        (V ⟨1016 + ((q : Nat) - 8 + 8 - 1) % 8, by omega⟩)
      else V ⟨(q : Nat) - 8 - 8, by omega⟩) = Z ⟨tok q, by omega⟩ := by
  have hq := q.isLt
  by_cases h : (q : Nat) < 8
  · refine (dif_pos h).trans ((pick _ _ _).trans ?_)
    by_cases h0 : (q : Nat) = 0
    · refine (if_pos h0).trans (h6.trans (congrArg Z (Fin.ext ?_)))
      show 0 = (q : Nat) % 8 * 128 + (q : Nat) / 8
      omega
    · refine (if_neg h0).trans ((hV _).trans (congrArg Z (Fin.ext ?_)))
      show (1008 + ((q : Nat) + 8 - 1) % 8) % 8 * 128 + (1008 + ((q : Nat) + 8 - 1) % 8) / 8 + 2 = (q : Nat) % 8 * 128 + (q : Nat) / 8
      omega
  · refine (dif_neg h).trans ?_
    by_cases h' : (q : Nat) - 8 < 8
    · refine (dif_pos h').trans ((pick _ _ _).trans ?_)
      by_cases h0 : (q : Nat) - 8 = 0
      · refine (if_pos h0).trans (h7.trans (congrArg Z (Fin.ext ?_)))
        show 1 = (q : Nat) % 8 * 128 + (q : Nat) / 8
        omega
      · refine (if_neg h0).trans ((hV _).trans (congrArg Z (Fin.ext ?_)))
        show (1016 + ((q : Nat) - 8 + 8 - 1) % 8) % 8 * 128 + (1016 + ((q : Nat) - 8 + 8 - 1) % 8) / 8 + 2 = (q : Nat) % 8 * 128 + (q : Nat) / 8
        omega
    · refine (dif_neg h').trans ((hV _).trans (congrArg Z (Fin.ext ?_)))
      show ((q : Nat) - 8 - 8) % 8 * 128 + ((q : Nat) - 8 - 8) / 8 + 2 = (q : Nat) % 8 * 128 + (q : Nat) / 8
      omega

/-! ## The two halves -/

/-- The rows before the run, zeroed where a sequence begins. -/
theorem past_apply (b : Fin 16) (x : Vec Ideal S8x1024 .f32) (r : Fin 8) (k : Fin 1024) :
    (k0_pay70 (BitVec.ofNat 32 b) x : FVec Ideal S8x1024 .bf16) (ix2 r k) = if (b : Nat) % 4 = 0 then 0 else x (ix2 r k) := by
  pointwise [k0_pay70]
  fin_cases b
  · show x (ix2 r k) * (((0 : ℤ) : ℝ) : EReal) = 0
    simp
  · show x (ix2 r k) * (((1 : ℤ) : ℝ) : EReal) = x (ix2 r k)
    simp
  · show x (ix2 r k) * (((1 : ℤ) : ℝ) : EReal) = x (ix2 r k)
    simp
  · show x (ix2 r k) * (((1 : ℤ) : ℝ) : EReal) = x (ix2 r k)
    simp
  · show x (ix2 r k) * (((0 : ℤ) : ℝ) : EReal) = 0
    simp
  · show x (ix2 r k) * (((1 : ℤ) : ℝ) : EReal) = x (ix2 r k)
    simp
  · show x (ix2 r k) * (((1 : ℤ) : ℝ) : EReal) = x (ix2 r k)
    simp
  · show x (ix2 r k) * (((1 : ℤ) : ℝ) : EReal) = x (ix2 r k)
    simp
  · show x (ix2 r k) * (((0 : ℤ) : ℝ) : EReal) = 0
    simp
  · show x (ix2 r k) * (((1 : ℤ) : ℝ) : EReal) = x (ix2 r k)
    simp
  · show x (ix2 r k) * (((1 : ℤ) : ℝ) : EReal) = x (ix2 r k)
    simp
  · show x (ix2 r k) * (((1 : ℤ) : ℝ) : EReal) = x (ix2 r k)
    simp
  · show x (ix2 r k) * (((0 : ℤ) : ℝ) : EReal) = 0
    simp
  · show x (ix2 r k) * (((1 : ℤ) : ℝ) : EReal) = x (ix2 r k)
    simp
  · show x (ix2 r k) * (((1 : ℤ) : ℝ) : EReal) = x (ix2 r k)
    simp
  · show x (ix2 r k) * (((1 : ℤ) : ℝ) : EReal) = x (ix2 r k)
    simp

/-- The gate's half, convolved. -/
theorem gate_conv (v290 : FVec Ideal S8x1024 .bf16) (v294 : FVec Ideal S1024x1408 .f32) (v295 : Vec Ideal S1024x1408 .bf16)
    (v322 v325 v329 v333 : Vec Ideal S1x1408 .f32) (q : Fin 1024) (n : Fin 1408) (Z : Fin 1026 → EReal)
    (h6 : ∑ k : Fin 1024, v290 (ix2 6 k) * v295 (ix2 k n) = Z ⟨0, by omega⟩)
    (h7 : ∑ k : Fin 1024, v290 (ix2 7 k) * v295 (ix2 k n) = Z ⟨1, by omega⟩)
    (hV : ∀ q : Fin 1024, v294 (ix2 q n) = Z ⟨(tok q : Nat) + 2, by omega⟩) :
    (k0_pay72 v290 rows8 v294 v295 v322 v325 v329 v333 : FVec Ideal S1024x1408 .f32) (ix2 q n)
      = Cert.Up.taps (Z ⟨tok q, by omega⟩) (Z ⟨(tok q : Nat) + 1, by omega⟩) (Z ⟨(tok q : Nat) + 2, by omega⟩)
        (v322 (ix2 0 n)) (v325 (ix2 0 n)) (v329 (ix2 0 n)) (v333 (ix2 0 n)) := by
  rw [← tap1 _ (fun q => v294 (ix2 q n)) Z h7 hV q, ← tap2 _ _ (fun q => v294 (ix2 q n)) Z h6 h7 hV q, ← hV q, Cert.Up.taps,
    mul_comm _ (v322 _), mul_comm _ (v325 _), mul_comm _ (v329 _)]
  generalize rows8 = v291
  pointwise [k0_pay72]

/-- The gate. -/
theorem gate_apply (v290 : FVec Ideal S8x1024 .bf16) (v291 : IVec S8x1 32) (v294 : FVec Ideal S1024x1408 .f32) (v295 : Vec Ideal S1024x1408 .bf16)
    (v322 v325 v329 v333 : Vec Ideal S1x1408 .f32) (q : Fin 1024) (n : Fin 1408) :
    (k0_pay75 (k0_pay72 v290 v291 v294 v295 v322 v325 v329 v333) (k0_pay73 v290 v291 v294 v295 v322 v325 v329 v333) k0_pay74 : FVec Ideal S1024x1408 .f32) (ix2 q n)
      = (k0_pay72 v290 v291 v294 v295 v322 v325 v329 v333 : FVec Ideal S1024x1408 .f32) (ix2 q n)
        * Ideal.logistic ((k0_pay72 v290 v291 v294 v295 v322 v325 v329 v333 : FVec Ideal S1024x1408 .f32) (ix2 q n)) := by
  rw [← Cert.Attn.half_tanh, ← Cert.Attn.lit_half]
  pointwise [k0_pay75, k0_pay73, k0_pay74]

/-- The value's half, convolved, times the gate. -/
theorem value_apply (v344 : FVec Ideal S1024x1408 .f32) (v273 : FVec Ideal S1024x1024 .bf16) (v290 : FVec Ideal S8x1024 .bf16) (w : Vec Ideal S1024x1408 .bf16)
    (v375 v378 v382 v386 : Vec Ideal S1x1408 .f32) (q : Fin 1024) (n : Fin 1408) (Z : Fin 1026 → EReal)
    (h6 : ∑ k : Fin 1024, v290 (ix2 6 k) * w (ix2 k n) = Z ⟨0, by omega⟩)
    (h7 : ∑ k : Fin 1024, v290 (ix2 7 k) * w (ix2 k n) = Z ⟨1, by omega⟩)
    (hV : ∀ q : Fin 1024, (k0_pay76 v273 w : FVec Ideal S1024x1408 .f32) (ix2 q n) = Z ⟨(tok q : Nat) + 2, by omega⟩) :
    (k0_pay1 v344 (k0_pay76 v273 w) (k0_pay77 v273 v290 rows8 w w v375 v378) (k0_pay78 v382) v386 : FVec Ideal S1024x1408 .bf16) (ix2 q n)
      = v344 (ix2 q n) * Cert.Up.taps (Z ⟨tok q, by omega⟩) (Z ⟨(tok q : Nat) + 1, by omega⟩) (Z ⟨(tok q : Nat) + 2, by omega⟩)
        (v375 (ix2 0 n)) (v378 (ix2 0 n)) (v382 (ix2 0 n)) (v386 (ix2 0 n)) := by
  rw [← tap1 _ (fun q => (k0_pay76 v273 w : FVec Ideal S1024x1408 .f32) (ix2 q n)) Z h7 hV q,
    ← tap2 _ _ (fun q => (k0_pay76 v273 w : FVec Ideal S1024x1408 .f32) (ix2 q n)) Z h6 h7 hV q, ← hV q, Cert.Up.taps,
    mul_comm _ (v375 _), mul_comm _ (v378 _), mul_comm _ (v382 _)]
  generalize rows8 = v291
  pointwise [k0_pay1, k0_pay77, k0_pay78]

theorem product_gate (v0 v1 v2 v3 v4 v5 v6 v7 : Vec Ideal S1x1024x128 .f32) (w : Vec Ideal S1024x1408 .bf16) (q : Fin 1024) (n : Fin 1408) :
    (k0_pay71 (k0_pay66 v0) (k0_pay67 v1) (k0_pay68 v2) v3 v4 v5 v6 v7 w : FVec Ideal S1024x1408 .f32) (ix2 q n)
      = ∑ k : Fin 1024, (k0_pay69 (k0_pay66 v0) (k0_pay67 v1) (k0_pay68 v2) v3 v4 v5 v6 v7 : FVec Ideal S1024x1024 .bf16) (ix2 q k) * w (ix2 k n) := by
  pointwise [k0_pay71]

theorem product_value (v : FVec Ideal S1024x1024 .bf16) (w : Vec Ideal S1024x1408 .bf16) (q : Fin 1024) (n : Fin 1408) :
    (k0_pay76 v w : FVec Ideal S1024x1408 .f32) (ix2 q n) = ∑ k : Fin 1024, v (ix2 q k) * w (ix2 k n) := by
  pointwise [k0_pay76]

/-- The run of tokens, read back from the scratch buffer. -/
theorem seq_apply {sig : RefSig} {κ : Kind} {sp : Space} (v : View sig κ sp S8x1024x128 .f32) (x0 : Vec Ideal S1024x1024 .f32) (q k : Fin 1024) :
    (k0_pay69 (k0_pay66 (v.readCov (stores x0) (Rect.unit (s := S8x1024x128) ![0, 0, 0] S1x1024x128.size inb_S8x1024x128_S1x1024x128_0_0_0).toLoadRect)) (k0_pay67 (v.readCov (stores x0) (Rect.unit (s := S8x1024x128) ![1, 0, 0] S1x1024x128.size inb_S8x1024x128_S1x1024x128_1_0_0).toLoadRect)) (k0_pay68 (v.readCov (stores x0) (Rect.unit (s := S8x1024x128) ![2, 0, 0] S1x1024x128.size inb_S8x1024x128_S1x1024x128_2_0_0).toLoadRect)) (v.readCov (stores x0) (Rect.unit (s := S8x1024x128) ![3, 0, 0] S1x1024x128.size inb_S8x1024x128_S1x1024x128_3_0_0).toLoadRect) (v.readCov (stores x0) (Rect.unit (s := S8x1024x128) ![4, 0, 0] S1x1024x128.size inb_S8x1024x128_S1x1024x128_4_0_0).toLoadRect) (v.readCov (stores x0) (Rect.unit (s := S8x1024x128) ![5, 0, 0] S1x1024x128.size inb_S8x1024x128_S1x1024x128_5_0_0).toLoadRect) (v.readCov (stores x0) (Rect.unit (s := S8x1024x128) ![6, 0, 0] S1x1024x128.size inb_S8x1024x128_S1x1024x128_6_0_0).toLoadRect) (v.readCov (stores x0) (Rect.unit (s := S8x1024x128) ![7, 0, 0] S1x1024x128.size inb_S8x1024x128_S1x1024x128_7_0_0).toLoadRect) : FVec Ideal S1024x1024 .bf16) (ix2 q k) = x0 (ix2 (tok q) k) :=
  side _ _ _ _ _ _ _ _ q (fun k => x0 (ix2 (tok q) k))
    (fun l => slab v x0 0 (by omega) _ q l)
    (fun l => slab v x0 1 (by omega) _ q l)
    (fun l => slab v x0 2 (by omega) _ q l)
    (fun l => slab v x0 3 (by omega) _ q l)
    (fun l => slab v x0 4 (by omega) _ q l)
    (fun l => slab v x0 5 (by omega) _ q l)
    (fun l => slab v x0 6 (by omega) _ q l)
    (fun l => slab v x0 7 (by omega) _ q l) k

theorem run_apply {sig : RefSig} {κ : Kind} {sp : Space} (v : View sig κ sp S8x1024x128 .f32)
    (x0 : Vec Ideal S1024x1024 .f32) (x1 : Vec Ideal S8x1024 .f32) (x2 : Vec Ideal S1024x1408 .bf16) (x3 : Vec Ideal S1024x1408 .bf16) (x4 : Vec Ideal S3x1408 .f32) (x5 : Vec Ideal S3x1408 .f32) (x6 : Vec Ideal S1x1408 .f32) (x7 : Vec Ideal S1x1408 .f32)
    (i : grid0.Coords) (b : Fin 16) (hb : (i 1 : Nat) = b) (q : Fin 1024) (n : Fin 1408) (Zg Zv : Fin 1026 → EReal)
    (g6 : ∑ k : Fin 1024, (if (b : Nat) % 4 = 0 then 0 else x1 (ix2 6 k)) * x2 (ix2 k n) = Zg ⟨0, by omega⟩)
    (g7 : ∑ k : Fin 1024, (if (b : Nat) % 4 = 0 then 0 else x1 (ix2 7 k)) * x2 (ix2 k n) = Zg ⟨1, by omega⟩)
    (gV : ∀ p : Fin 1024, ∑ k : Fin 1024, x0 (ix2 p k) * x2 (ix2 k n) = Zg ⟨(p : Nat) + 2, by omega⟩)
    (v6 : ∑ k : Fin 1024, (if (b : Nat) % 4 = 0 then 0 else x1 (ix2 6 k)) * x3 (ix2 k n) = Zv ⟨0, by omega⟩)
    (v7 : ∑ k : Fin 1024, (if (b : Nat) % 4 = 0 then 0 else x1 (ix2 7 k)) * x3 (ix2 k n) = Zv ⟨1, by omega⟩)
    (vV : ∀ p : Fin 1024, ∑ k : Fin 1024, x0 (ix2 p k) * x3 (ix2 k n) = Zv ⟨(p : Nat) + 2, by omega⟩) :
    (k0_pay1 (k0_pay75 (k0_pay72 (k0_pay70 (BitVec.ofNat 32 (i 1).val) (View.ld x1 (Rect.unit (s := S8x1024) ![0, 0] S8x1024.size inb_S8x1024_S8x1024_0_0))) rows8 (k0_pay71 (k0_pay66 (v.readCov (stores x0) (Rect.unit (s := S8x1024x128) ![0, 0, 0] S1x1024x128.size inb_S8x1024x128_S1x1024x128_0_0_0).toLoadRect)) (k0_pay67 (v.readCov (stores x0) (Rect.unit (s := S8x1024x128) ![1, 0, 0] S1x1024x128.size inb_S8x1024x128_S1x1024x128_1_0_0).toLoadRect)) (k0_pay68 (v.readCov (stores x0) (Rect.unit (s := S8x1024x128) ![2, 0, 0] S1x1024x128.size inb_S8x1024x128_S1x1024x128_2_0_0).toLoadRect)) (v.readCov (stores x0) (Rect.unit (s := S8x1024x128) ![3, 0, 0] S1x1024x128.size inb_S8x1024x128_S1x1024x128_3_0_0).toLoadRect) (v.readCov (stores x0) (Rect.unit (s := S8x1024x128) ![4, 0, 0] S1x1024x128.size inb_S8x1024x128_S1x1024x128_4_0_0).toLoadRect) (v.readCov (stores x0) (Rect.unit (s := S8x1024x128) ![5, 0, 0] S1x1024x128.size inb_S8x1024x128_S1x1024x128_5_0_0).toLoadRect) (v.readCov (stores x0) (Rect.unit (s := S8x1024x128) ![6, 0, 0] S1x1024x128.size inb_S8x1024x128_S1x1024x128_6_0_0).toLoadRect) (v.readCov (stores x0) (Rect.unit (s := S8x1024x128) ![7, 0, 0] S1x1024x128.size inb_S8x1024x128_S1x1024x128_7_0_0).toLoadRect) (View.ld x2 (Rect.unit (s := S1024x1408) ![0, 0] S1024x1408.size inb_S1024x1408_S1024x1408_0_0))) (View.ld x2 (Rect.unit (s := S1024x1408) ![0, 0] S1024x1408.size inb_S1024x1408_S1024x1408_0_0)) (View.ld x4 (Rect.unit (s := S3x1408) ![0, 0] S1x1408.size inb_S3x1408_S1x1408_0_0)) (View.ld x4 (Rect.unit (s := S3x1408) ![1, 0] S1x1408.size inb_S3x1408_S1x1408_1_0)) (View.ld x4 (Rect.unit (s := S3x1408) ![2, 0] S1x1408.size inb_S3x1408_S1x1408_2_0)) (View.ld x6 (Rect.unit (s := S1x1408) ![0, 0] S1x1408.size inb_S1x1408_S1x1408_0_0))) (k0_pay73 (k0_pay70 (BitVec.ofNat 32 (i 1).val) (View.ld x1 (Rect.unit (s := S8x1024) ![0, 0] S8x1024.size inb_S8x1024_S8x1024_0_0))) rows8 (k0_pay71 (k0_pay66 (v.readCov (stores x0) (Rect.unit (s := S8x1024x128) ![0, 0, 0] S1x1024x128.size inb_S8x1024x128_S1x1024x128_0_0_0).toLoadRect)) (k0_pay67 (v.readCov (stores x0) (Rect.unit (s := S8x1024x128) ![1, 0, 0] S1x1024x128.size inb_S8x1024x128_S1x1024x128_1_0_0).toLoadRect)) (k0_pay68 (v.readCov (stores x0) (Rect.unit (s := S8x1024x128) ![2, 0, 0] S1x1024x128.size inb_S8x1024x128_S1x1024x128_2_0_0).toLoadRect)) (v.readCov (stores x0) (Rect.unit (s := S8x1024x128) ![3, 0, 0] S1x1024x128.size inb_S8x1024x128_S1x1024x128_3_0_0).toLoadRect) (v.readCov (stores x0) (Rect.unit (s := S8x1024x128) ![4, 0, 0] S1x1024x128.size inb_S8x1024x128_S1x1024x128_4_0_0).toLoadRect) (v.readCov (stores x0) (Rect.unit (s := S8x1024x128) ![5, 0, 0] S1x1024x128.size inb_S8x1024x128_S1x1024x128_5_0_0).toLoadRect) (v.readCov (stores x0) (Rect.unit (s := S8x1024x128) ![6, 0, 0] S1x1024x128.size inb_S8x1024x128_S1x1024x128_6_0_0).toLoadRect) (v.readCov (stores x0) (Rect.unit (s := S8x1024x128) ![7, 0, 0] S1x1024x128.size inb_S8x1024x128_S1x1024x128_7_0_0).toLoadRect) (View.ld x2 (Rect.unit (s := S1024x1408) ![0, 0] S1024x1408.size inb_S1024x1408_S1024x1408_0_0))) (View.ld x2 (Rect.unit (s := S1024x1408) ![0, 0] S1024x1408.size inb_S1024x1408_S1024x1408_0_0)) (View.ld x4 (Rect.unit (s := S3x1408) ![0, 0] S1x1408.size inb_S3x1408_S1x1408_0_0)) (View.ld x4 (Rect.unit (s := S3x1408) ![1, 0] S1x1408.size inb_S3x1408_S1x1408_1_0)) (View.ld x4 (Rect.unit (s := S3x1408) ![2, 0] S1x1408.size inb_S3x1408_S1x1408_2_0)) (View.ld x6 (Rect.unit (s := S1x1408) ![0, 0] S1x1408.size inb_S1x1408_S1x1408_0_0))) k0_pay74) (k0_pay76 (k0_pay69 (k0_pay66 (v.readCov (stores x0) (Rect.unit (s := S8x1024x128) ![0, 0, 0] S1x1024x128.size inb_S8x1024x128_S1x1024x128_0_0_0).toLoadRect)) (k0_pay67 (v.readCov (stores x0) (Rect.unit (s := S8x1024x128) ![1, 0, 0] S1x1024x128.size inb_S8x1024x128_S1x1024x128_1_0_0).toLoadRect)) (k0_pay68 (v.readCov (stores x0) (Rect.unit (s := S8x1024x128) ![2, 0, 0] S1x1024x128.size inb_S8x1024x128_S1x1024x128_2_0_0).toLoadRect)) (v.readCov (stores x0) (Rect.unit (s := S8x1024x128) ![3, 0, 0] S1x1024x128.size inb_S8x1024x128_S1x1024x128_3_0_0).toLoadRect) (v.readCov (stores x0) (Rect.unit (s := S8x1024x128) ![4, 0, 0] S1x1024x128.size inb_S8x1024x128_S1x1024x128_4_0_0).toLoadRect) (v.readCov (stores x0) (Rect.unit (s := S8x1024x128) ![5, 0, 0] S1x1024x128.size inb_S8x1024x128_S1x1024x128_5_0_0).toLoadRect) (v.readCov (stores x0) (Rect.unit (s := S8x1024x128) ![6, 0, 0] S1x1024x128.size inb_S8x1024x128_S1x1024x128_6_0_0).toLoadRect) (v.readCov (stores x0) (Rect.unit (s := S8x1024x128) ![7, 0, 0] S1x1024x128.size inb_S8x1024x128_S1x1024x128_7_0_0).toLoadRect)) (View.ld x3 (Rect.unit (s := S1024x1408) ![0, 0] S1024x1408.size inb_S1024x1408_S1024x1408_0_0))) (k0_pay77 (k0_pay69 (k0_pay66 (v.readCov (stores x0) (Rect.unit (s := S8x1024x128) ![0, 0, 0] S1x1024x128.size inb_S8x1024x128_S1x1024x128_0_0_0).toLoadRect)) (k0_pay67 (v.readCov (stores x0) (Rect.unit (s := S8x1024x128) ![1, 0, 0] S1x1024x128.size inb_S8x1024x128_S1x1024x128_1_0_0).toLoadRect)) (k0_pay68 (v.readCov (stores x0) (Rect.unit (s := S8x1024x128) ![2, 0, 0] S1x1024x128.size inb_S8x1024x128_S1x1024x128_2_0_0).toLoadRect)) (v.readCov (stores x0) (Rect.unit (s := S8x1024x128) ![3, 0, 0] S1x1024x128.size inb_S8x1024x128_S1x1024x128_3_0_0).toLoadRect) (v.readCov (stores x0) (Rect.unit (s := S8x1024x128) ![4, 0, 0] S1x1024x128.size inb_S8x1024x128_S1x1024x128_4_0_0).toLoadRect) (v.readCov (stores x0) (Rect.unit (s := S8x1024x128) ![5, 0, 0] S1x1024x128.size inb_S8x1024x128_S1x1024x128_5_0_0).toLoadRect) (v.readCov (stores x0) (Rect.unit (s := S8x1024x128) ![6, 0, 0] S1x1024x128.size inb_S8x1024x128_S1x1024x128_6_0_0).toLoadRect) (v.readCov (stores x0) (Rect.unit (s := S8x1024x128) ![7, 0, 0] S1x1024x128.size inb_S8x1024x128_S1x1024x128_7_0_0).toLoadRect)) (k0_pay70 (BitVec.ofNat 32 (i 1).val) (View.ld x1 (Rect.unit (s := S8x1024) ![0, 0] S8x1024.size inb_S8x1024_S8x1024_0_0))) rows8 (View.ld x3 (Rect.unit (s := S1024x1408) ![0, 0] S1024x1408.size inb_S1024x1408_S1024x1408_0_0)) (View.ld x3 (Rect.unit (s := S1024x1408) ![0, 0] S1024x1408.size inb_S1024x1408_S1024x1408_0_0)) (View.ld x5 (Rect.unit (s := S3x1408) ![0, 0] S1x1408.size inb_S3x1408_S1x1408_0_0)) (View.ld x5 (Rect.unit (s := S3x1408) ![1, 0] S1x1408.size inb_S3x1408_S1x1408_1_0))) (k0_pay78 (View.ld x5 (Rect.unit (s := S3x1408) ![2, 0] S1x1408.size inb_S3x1408_S1x1408_2_0))) (View.ld x7 (Rect.unit (s := S1x1408) ![0, 0] S1x1408.size inb_S1x1408_S1x1408_0_0)) : FVec Ideal S1024x1408 .bf16) (ix2 q n)
      = Cert.Up.gated
          (Cert.Up.taps (Zg ⟨tok q, by omega⟩) (Zg ⟨(tok q : Nat) + 1, by omega⟩) (Zg ⟨(tok q : Nat) + 2, by omega⟩)
            (x4 (ix2 0 n)) (x4 (ix2 1 n)) (x4 (ix2 2 n)) (x6 (ix2 0 n)))
          (Cert.Up.taps (Zv ⟨tok q, by omega⟩) (Zv ⟨(tok q : Nat) + 1, by omega⟩) (Zv ⟨(tok q : Nat) + 2, by omega⟩)
            (x5 (ix2 0 n)) (x5 (ix2 1 n)) (x5 (ix2 2 n)) (x7 (ix2 0 n))) := by
  have e1 : (View.ld x1 (Rect.unit (s := S8x1024) ![0, 0] S8x1024.size inb_S8x1024_S8x1024_0_0)) = x1 := Norm.ld_full x1 _
  have e2 : (View.ld x2 (Rect.unit (s := S1024x1408) ![0, 0] S1024x1408.size inb_S1024x1408_S1024x1408_0_0)) = x2 := Norm.ld_full x2 _
  have e3 : (View.ld x3 (Rect.unit (s := S1024x1408) ![0, 0] S1024x1408.size inb_S1024x1408_S1024x1408_0_0)) = x3 := Norm.ld_full x3 _
  have e6 : (View.ld x6 (Rect.unit (s := S1x1408) ![0, 0] S1x1408.size inb_S1x1408_S1x1408_0_0)) = x6 := Norm.ld_full x6 _
  have e7 : (View.ld x7 (Rect.unit (s := S1x1408) ![0, 0] S1x1408.size inb_S1x1408_S1x1408_0_0)) = x7 := Norm.ld_full x7 _
  have r40 : (View.ld x4 (Rect.unit (s := S3x1408) ![0, 0] S1x1408.size inb_S3x1408_S1x1408_0_0)) (ix2 0 n) = x4 (ix2 0 n) := Norm.ld2 x4 0 0 1 1408 _ 0 n 0 n (by omega) (by omega)
  have r41 : (View.ld x4 (Rect.unit (s := S3x1408) ![1, 0] S1x1408.size inb_S3x1408_S1x1408_1_0)) (ix2 0 n) = x4 (ix2 1 n) := Norm.ld2 x4 1 0 1 1408 _ 0 n 1 n rfl (by omega)
  have r42 : (View.ld x4 (Rect.unit (s := S3x1408) ![2, 0] S1x1408.size inb_S3x1408_S1x1408_2_0)) (ix2 0 n) = x4 (ix2 2 n) := Norm.ld2 x4 2 0 1 1408 _ 0 n 2 n rfl (by omega)
  have r50 : (View.ld x5 (Rect.unit (s := S3x1408) ![0, 0] S1x1408.size inb_S3x1408_S1x1408_0_0)) (ix2 0 n) = x5 (ix2 0 n) := Norm.ld2 x5 0 0 1 1408 _ 0 n 0 n (by omega) (by omega)
  have r51 : (View.ld x5 (Rect.unit (s := S3x1408) ![1, 0] S1x1408.size inb_S3x1408_S1x1408_1_0)) (ix2 0 n) = x5 (ix2 1 n) := Norm.ld2 x5 1 0 1 1408 _ 0 n 1 n rfl (by omega)
  have r52 : (View.ld x5 (Rect.unit (s := S3x1408) ![2, 0] S1x1408.size inb_S3x1408_S1x1408_2_0)) (ix2 0 n) = x5 (ix2 2 n) := Norm.ld2 x5 2 0 1 1408 _ 0 n 2 n rfl (by omega)
  have hp : ∀ r k, (k0_pay70 (BitVec.ofNat 32 (i 1).val) x1 : FVec Ideal S8x1024 .bf16) (ix2 r k) = if (b : Nat) % 4 = 0 then 0 else x1 (ix2 r k) := by
    intro r k
    rw [show (i 1).val = (b : Nat) from hb]
    exact past_apply b x1 r k
  rw [e1, e2, e3, e6, e7]
  refine (value_apply _ _ _ _ _ _ _ _ q n Zv ?_ ?_ ?_).trans ?_
  · exact (Finset.sum_congr rfl fun k _ => congrArg (· * x3 (ix2 k n)) (hp 6 k)).trans v6
  · exact (Finset.sum_congr rfl fun k _ => congrArg (· * x3 (ix2 k n)) (hp 7 k)).trans v7
  · exact fun q => (product_value _ _ q n).trans ((Finset.sum_congr rfl fun k _ => congrArg (· * x3 (ix2 k n)) (seq_apply v x0 q k)).trans (vV (tok q)))
  have hg := gate_conv (k0_pay70 (BitVec.ofNat 32 (i 1).val) x1) (k0_pay71 (k0_pay66 (v.readCov (stores x0) (Rect.unit (s := S8x1024x128) ![0, 0, 0] S1x1024x128.size inb_S8x1024x128_S1x1024x128_0_0_0).toLoadRect)) (k0_pay67 (v.readCov (stores x0) (Rect.unit (s := S8x1024x128) ![1, 0, 0] S1x1024x128.size inb_S8x1024x128_S1x1024x128_1_0_0).toLoadRect)) (k0_pay68 (v.readCov (stores x0) (Rect.unit (s := S8x1024x128) ![2, 0, 0] S1x1024x128.size inb_S8x1024x128_S1x1024x128_2_0_0).toLoadRect)) (v.readCov (stores x0) (Rect.unit (s := S8x1024x128) ![3, 0, 0] S1x1024x128.size inb_S8x1024x128_S1x1024x128_3_0_0).toLoadRect) (v.readCov (stores x0) (Rect.unit (s := S8x1024x128) ![4, 0, 0] S1x1024x128.size inb_S8x1024x128_S1x1024x128_4_0_0).toLoadRect) (v.readCov (stores x0) (Rect.unit (s := S8x1024x128) ![5, 0, 0] S1x1024x128.size inb_S8x1024x128_S1x1024x128_5_0_0).toLoadRect) (v.readCov (stores x0) (Rect.unit (s := S8x1024x128) ![6, 0, 0] S1x1024x128.size inb_S8x1024x128_S1x1024x128_6_0_0).toLoadRect) (v.readCov (stores x0) (Rect.unit (s := S8x1024x128) ![7, 0, 0] S1x1024x128.size inb_S8x1024x128_S1x1024x128_7_0_0).toLoadRect) x2) x2 (View.ld x4 (Rect.unit (s := S3x1408) ![0, 0] S1x1408.size inb_S3x1408_S1x1408_0_0)) (View.ld x4 (Rect.unit (s := S3x1408) ![1, 0] S1x1408.size inb_S3x1408_S1x1408_1_0)) (View.ld x4 (Rect.unit (s := S3x1408) ![2, 0] S1x1408.size inb_S3x1408_S1x1408_2_0)) x6 q n Zg
    ((Finset.sum_congr rfl fun k _ => congrArg (· * x2 (ix2 k n)) (hp 6 k)).trans g6)
    ((Finset.sum_congr rfl fun k _ => congrArg (· * x2 (ix2 k n)) (hp 7 k)).trans g7)
    (fun q => (product_gate _ _ _ _ _ _ _ _ _ q n).trans ((Finset.sum_congr rfl fun k _ => congrArg (· * x2 (ix2 k n)) (seq_apply v x0 q k)).trans (gV (tok q))))
  rw [gate_apply, hg, r40, r41, r42, r50, r51, r52]
  rfl

/-! ## The block -/

/-- A row of a block, counted in tokens of the run. -/
theorem block (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S1x1408 .f32) (harg8 : arg8.IsWhole) (arg9 : Memref sig .tc .vmem S1x1408 .f32) (harg9 : arg9.IsWhole) (arg10 : Memref sig .tc .vmem S1024x1408 .bf16) (harg10 : arg10.IsWhole) (arg11 : Memref sig .tc .vmem S8x1024x128 .f32) (harg11 : arg11.IsWhole)
    (x0 : Vec Ideal S1024x1024 .f32) (x1 : Vec Ideal S8x1024 .f32) (x2 : Vec Ideal S1024x1408 .bf16) (x3 : Vec Ideal S1024x1408 .bf16) (x4 : Vec Ideal S3x1408 .f32) (x5 : Vec Ideal S3x1408 .f32) (x6 : Vec Ideal S1x1408 .f32) (x7 : Vec Ideal S1x1408 .f32)
    (b : Fin 16) (hb : (i 1 : Nat) = b) (q : Fin 1024) (n : Fin 1408) (Zg Zv : Fin 1026 → EReal)
    (g6 : ∑ k : Fin 1024, (if (b : Nat) % 4 = 0 then 0 else x1 (ix2 6 k)) * x2 (ix2 k n) = Zg ⟨0, by omega⟩)
    (g7 : ∑ k : Fin 1024, (if (b : Nat) % 4 = 0 then 0 else x1 (ix2 7 k)) * x2 (ix2 k n) = Zg ⟨1, by omega⟩)
    (gV : ∀ p : Fin 1024, ∑ k : Fin 1024, x0 (ix2 p k) * x2 (ix2 k n) = Zg ⟨(p : Nat) + 2, by omega⟩)
    (v6 : ∑ k : Fin 1024, (if (b : Nat) % 4 = 0 then 0 else x1 (ix2 6 k)) * x3 (ix2 k n) = Zv ⟨0, by omega⟩)
    (v7 : ∑ k : Fin 1024, (if (b : Nat) % 4 = 0 then 0 else x1 (ix2 7 k)) * x3 (ix2 k n) = Zv ⟨1, by omega⟩)
    (vV : ∀ p : Fin 1024, ∑ k : Fin 1024, x0 (ix2 p k) * x3 (ix2 k n) = Zv ⟨(p : Nat) + 2, by omega⟩) :
    out0_A_8 c i arg2 harg2 arg3 harg3 arg4 harg4 arg5 harg5 arg6 harg6 arg7 harg7 arg8 harg8 arg9 harg9 arg10 harg10 arg11 harg11 x0 x1 x2 x3 x4 x5 x6 x7 (ix2 q n)
      = Cert.Up.gated
          (Cert.Up.taps (Zg ⟨tok q, by omega⟩) (Zg ⟨(tok q : Nat) + 1, by omega⟩) (Zg ⟨(tok q : Nat) + 2, by omega⟩)
            (x4 (ix2 0 n)) (x4 (ix2 1 n)) (x4 (ix2 2 n)) (x6 (ix2 0 n)))
          (Cert.Up.taps (Zv ⟨tok q, by omega⟩) (Zv ⟨(tok q : Nat) + 1, by omega⟩) (Zv ⟨(tok q : Nat) + 2, by omega⟩)
            (x5 (ix2 0 n)) (x5 (ix2 1 n)) (x5 (ix2 2 n)) (x7 (ix2 0 n))) := by
  frame_open
  simp (disch := decide) only [View.read_writes_junk_eq_canon, View.readAt_eq_ld, harg2.read_unread, harg3.read_unread, harg4.read_unread, harg5.read_unread, harg6.read_unread, harg7.read_unread, harg8.read_unread, harg9.read_unread]
  refine (Norm.canon_hit2 0 0 1024 1408 _ _ _ q n q n (by omega) (by omega)).trans ?_
  refine (run_apply arg11.view x0 x1 x2 x3 x4 x5 x6 x7 i b hb q n Zg Zv g6 g7 gV v6 v7 vV).trans ?_
  rfl

end Cert.Kernel5Ideal.Up

end

end
-- ==== Proof.Up.Result.lean ====
/-
  The call and the reference: at the same arguments, the same array.
-/
module

public import proofs.«01_k».proof.Proof.Up.Block
public import Idealize.ShloMosaic.Lib.StableHlo.ReadAt

@[expose] public section

set_option maxRecDepth 16384

noncomputable section

namespace Cert.Kernel5Ideal.Up

open Cert.Kernel5Ideal Cert.Kernel5Ideal.Gen Idealize.ShloMosaic Idealize.ShloMosaic.TcCoe

variable (m : (ℓ : Loc nD τ sig) → Buf (Elt Ideal) ℓ) (c : Dev nD)

/-- Where each window's block stands, at every point. -/
theorem places : ∀ t : Fin grid0.N,
    (grid0.coords t 0).val < 2
    ∧ (grid0.coords t 1).val < 16
    ∧ win0_0.index t = ![(grid0.coords t 1).val, 0]
    ∧ win0_1.index t = ![(grid0.coords t 1).val * 128 - 1, 0]
    ∧ win0_2.index t = ![0, (grid0.coords t 0).val]
    ∧ win0_3.index t = ![0, (grid0.coords t 0).val + 2]
    ∧ win0_4.index t = ![0, (grid0.coords t 0).val]
    ∧ win0_5.index t = ![0, (grid0.coords t 0).val + 2]
    ∧ win0_6.index t = ![0, (grid0.coords t 0).val]
    ∧ win0_7.index t = ![0, (grid0.coords t 0).val + 2]
    ∧ win0_8.index t = ![(grid0.coords t 1).val, (grid0.coords t 0).val] := by
  decide +kernel

/-- The point's run of 1024 tokens. -/
abbrev run (t : Fin grid0.N) : Fin 16 := ⟨(grid0.coords t 1).val, (places t).2.1⟩

/-- The point's half of the columns of either part. -/
abbrev half (t : Fin grid0.N) : Fin 2 := ⟨(grid0.coords t 0).val, (places t).1⟩

/-- A column of the gate. -/
abbrev colg (t : Fin grid0.N) (n : Fin 1408) : Fin 5632 := ⟨half t * 1408 + n, by omega⟩

/-- A column of the value. -/
abbrev colv (t : Fin grid0.N) (n : Fin 1408) : Fin 5632 := ⟨(half t + 2) * 1408 + n, by omega⟩

theorem read_x (t : Fin grid0.N) (p k : Fin 1024) :
    (iblk m c 0 t : Vec Ideal S1024x1024 .f32) (ix2 p k) = m (c, main_arg0) (ix2 (⟨run t * 1024 + p, by omega⟩ : Fin 16384) k) := by
  refine Eq.trans ?_ (congrFun (V_main_arg0 m c) _)
  blk_ext [iblk, (places t).2.2.1]

theorem read_past (t : Fin grid0.N) (r : Fin 8) (k : Fin 1024) :
    (iblk m c 1 t : Vec Ideal S8x1024 .f32) (ix2 r k) = m (c, main_arg0) (ix2 (⟨(run t * 128 - 1) * 8 + r, by omega⟩ : Fin 16384) k) := by
  refine Eq.trans ?_ (congrFun (V_main_arg0 m c) _)
  blk_ext [iblk, (places t).2.2.2.1]

theorem read_wg (t : Fin grid0.N) (k : Fin 1024) (n : Fin 1408) :
    (iblk m c 2 t : Vec Ideal S1024x1408 .bf16) (ix2 k n) = m (c, main_arg1) (ix2 k (colg t n)) := by
  have e : (iblk m c 2 t : Vec Ideal S1024x1408 .bf16) (ix2 k n) = V m c main_v0 (ix2 k (colg t n)) := by
    blk_ext [iblk, (places t).2.2.2.2.1]
  refine e.trans ?_
  unfold V
  after_reads_at

theorem read_wv (t : Fin grid0.N) (k : Fin 1024) (n : Fin 1408) :
    (iblk m c 3 t : Vec Ideal S1024x1408 .bf16) (ix2 k n) = m (c, main_arg1) (ix2 k (colv t n)) := by
  have e : (iblk m c 3 t : Vec Ideal S1024x1408 .bf16) (ix2 k n) = V m c main_v0 (ix2 k (colv t n)) := by
    blk_ext [iblk, (places t).2.2.2.2.2.1]
  refine e.trans ?_
  unfold V
  after_reads_at

theorem read_cg (t : Fin grid0.N) (k : Fin 3) (n : Fin 1408) :
    (iblk m c 4 t : Vec Ideal S3x1408 .f32) (ix2 k n) = m (c, main_arg2) (ix2 k (colg t n)) := by
  refine Eq.trans ?_ (congrFun (V_main_arg2 m c) _)
  blk_ext [iblk, (places t).2.2.2.2.2.2.1]

theorem read_cv (t : Fin grid0.N) (k : Fin 3) (n : Fin 1408) :
    (iblk m c 5 t : Vec Ideal S3x1408 .f32) (ix2 k n) = m (c, main_arg2) (ix2 k (colv t n)) := by
  refine Eq.trans ?_ (congrFun (V_main_arg2 m c) _)
  blk_ext [iblk, (places t).2.2.2.2.2.2.2.1]

theorem read_bg (t : Fin grid0.N) (n : Fin 1408) :
    (iblk m c 6 t : Vec Ideal S1x1408 .f32) (ix2 0 n) = m (c, main_arg3) (ix1 (colg t n)) := by
  have e : (iblk m c 6 t : Vec Ideal S1x1408 .f32) (ix2 0 n) = V m c main_v1 (ix2 0 (colg t n)) := by
    blk_ext [iblk, (places t).2.2.2.2.2.2.2.2.1]
  refine e.trans ?_
  unfold V
  after_reads_at

theorem read_bv (t : Fin grid0.N) (n : Fin 1408) :
    (iblk m c 7 t : Vec Ideal S1x1408 .f32) (ix2 0 n) = m (c, main_arg3) (ix1 (colv t n)) := by
  have e : (iblk m c 7 t : Vec Ideal S1x1408 .f32) (ix2 0 n) = V m c main_v1 (ix2 0 (colv t n)) := by
    blk_ext [iblk, (places t).2.2.2.2.2.2.2.2.2.1]
  refine e.trans ?_
  unfold V
  after_reads_at

/-- The shifted sequence seen from a run. -/
abbrev seen (x : Fin 16384 → Fin 1024 → EReal) (w : Fin 1024 → EReal) (b : Fin 16) (z : Fin 1026) : EReal :=
  Cert.Up.shifted x w (⟨(b : Nat) / 4, by omega⟩ : Fin 4) ((b : Nat) % 4 * 1024 + z) (by omega)

theorem shifted_congr (x : Fin 16384 → Fin 1024 → EReal) (w : Fin 1024 → EReal) (b : Fin 4) (p p' : Nat) (hp : p < 4098) (hp' : p' < 4098) (h : p = p') :
    Cert.Up.shifted x w b p hp = Cert.Up.shifted x w b p' hp' := by
  subst h
  rfl

theorem taps_congr {z0 z1 z2 z0' z1' z2' : EReal} (c0 c1 c2 b : EReal) (h0 : z0 = z0') (h1 : z1 = z1') (h2 : z2 = z2') :
    Cert.Up.taps z0 z1 z2 c0 c1 c2 b = Cert.Up.taps z0' z1' z2' c0 c1 c2 b := by
  rw [h0, h1, h2]

/-- The two rows before a run. -/
theorem seen_past (x : Fin 16384 → Fin 1024 → EReal) (w : Fin 1024 → EReal) (b : Fin 16) (z : Fin 1026) (hz : (z : Nat) < 2) :
    ∑ k : Fin 1024, (if (b : Nat) % 4 = 0 then 0 else x ⟨((b : Nat) * 128 - 1) * 8 + (6 + z), by omega⟩ k) * w k = seen x w b z := by
  by_cases h : (b : Nat) % 4 = 0
  · unfold seen Cert.Up.shifted
    rw [dif_pos (by omega)]
    refine Finset.sum_eq_zero fun k _ => ?_
    rw [if_pos h, zero_mul]
  · unfold seen Cert.Up.shifted
    rw [dif_neg (by omega)]
    refine Finset.sum_congr rfl fun k _ => congrArg (· * w k) ((if_neg h).trans (congrArg (fun g => x g k) (Fin.ext ?_)))
    show ((b : Nat) * 128 - 1) * 8 + (6 + z) = (b : Nat) / 4 * 4096 + ((b : Nat) % 4 * 1024 + z - 2)
    omega

/-- The rows of the run. -/
theorem seen_run (x : Fin 16384 → Fin 1024 → EReal) (w : Fin 1024 → EReal) (b : Fin 16) (p : Fin 1024) :
    ∑ k : Fin 1024, x ⟨(b : Nat) * 1024 + p, by omega⟩ k * w k = seen x w b ⟨(p : Nat) + 2, by omega⟩ := by
  unfold seen Cert.Up.shifted
  rw [dif_neg (by simp only []; omega)]
  refine Finset.sum_congr rfl fun k _ => congrArg (· * w k) (congrArg (fun g => x g k) (Fin.ext ?_))
  show (b : Nat) * 1024 + p = (b : Nat) / 4 * 4096 + ((b : Nat) % 4 * 1024 + ((p : Nat) + 2) - 2)
  omega

/-- The reference's convolution at a token of a run. -/
theorem conv_seen (x : FVec Ideal Cert.Reference5Ideal.S16384x1024 .f32) (w : FVec Ideal Cert.Reference5Ideal.S1024x5632 .f32)
    (cw : FVec Ideal Cert.Reference5Ideal.S3x5632 .f32) (cb : FVec Ideal Cert.Reference5Ideal.S5632 .f32) (b : Fin 16) (q : Fin 1024) (P : Fin 4096)
    (hP : (P : Nat) = (b : Nat) % 4 * 1024 + tok q) (l : Fin 5632) :
    Cert.Reference5Ideal.Up.conv x w cw cb (ix3 (⟨(b : Nat) / 4, by omega⟩ : Fin 4) P l)
      = Cert.Up.taps (seen (fun g k => x (ix2 g k)) (fun k => w (ix2 k l)) b ⟨tok q, by omega⟩)
          (seen (fun g k => x (ix2 g k)) (fun k => w (ix2 k l)) b ⟨(tok q : Nat) + 1, by omega⟩)
          (seen (fun g k => x (ix2 g k)) (fun k => w (ix2 k l)) b ⟨(tok q : Nat) + 2, by omega⟩)
          (cw (ix2 0 l)) (cw (ix2 1 l)) (cw (ix2 2 l)) (cb (ix1 l)) := by
  rw [Cert.Reference5Ideal.Up.conv_apply, Cert.Reference5Ideal.Up.padded_apply, Cert.Reference5Ideal.Up.padded_apply, Cert.Reference5Ideal.Up.padded_apply]
  refine taps_congr _ _ _ _ (shifted_congr _ _ _ _ _ _ _ ?_) (shifted_congr _ _ _ _ _ _ _ ?_) (shifted_congr _ _ _ _ _ _ _ ?_)
  · exact hP
  · show (P : Nat) + 1 = (b : Nat) % 4 * 1024 + ((tok q : Nat) + 1)
    omega
  · show (P : Nat) + 2 = (b : Nat) % 4 * 1024 + ((tok q : Nat) + 2)
    omega

/-- What a point stores, in terms of the arguments. -/
theorem stored (t : Fin grid0.N) (q : Fin 1024) (n : Fin 1408) :
    (outsAt0 m c t : Vec Ideal S1024x1408 .bf16) (ix2 q n)
      = Cert.Up.gated
          (Cert.Up.taps (seen (fun g k => m (c, main_arg0) (ix2 g k)) (fun k => m (c, main_arg1) (ix2 k (colg t n))) (run t) ⟨tok q, by omega⟩)
            (seen (fun g k => m (c, main_arg0) (ix2 g k)) (fun k => m (c, main_arg1) (ix2 k (colg t n))) (run t) ⟨(tok q : Nat) + 1, by omega⟩)
            (seen (fun g k => m (c, main_arg0) (ix2 g k)) (fun k => m (c, main_arg1) (ix2 k (colg t n))) (run t) ⟨(tok q : Nat) + 2, by omega⟩)
            (m (c, main_arg2) (ix2 0 (colg t n))) (m (c, main_arg2) (ix2 1 (colg t n))) (m (c, main_arg2) (ix2 2 (colg t n))) (m (c, main_arg3) (ix1 (colg t n))))
          (Cert.Up.taps (seen (fun g k => m (c, main_arg0) (ix2 g k)) (fun k => m (c, main_arg1) (ix2 k (colv t n))) (run t) ⟨tok q, by omega⟩)
            (seen (fun g k => m (c, main_arg0) (ix2 g k)) (fun k => m (c, main_arg1) (ix2 k (colv t n))) (run t) ⟨(tok q : Nat) + 1, by omega⟩)
            (seen (fun g k => m (c, main_arg0) (ix2 g k)) (fun k => m (c, main_arg1) (ix2 k (colv t n))) (run t) ⟨(tok q : Nat) + 2, by omega⟩)
            (m (c, main_arg2) (ix2 0 (colv t n))) (m (c, main_arg2) (ix2 1 (colv t n))) (m (c, main_arg2) (ix2 2 (colv t n))) (m (c, main_arg3) (ix1 (colv t n)))) := by
  have pw : ∀ (r : Fin 8) (k : Fin 1024) (w w' : EReal), w = w' →
      (if (run t : Nat) % 4 = 0 then (0 : EReal) else ((iblk m c 1 t : Vec Ideal S8x1024 .f32) (ix2 r k) : EReal)) * w
        = (if (run t : Nat) % 4 = 0 then (0 : EReal) else (m (c, main_arg0) (ix2 (⟨(run t * 128 - 1) * 8 + r, by omega⟩ : Fin 16384) k) : EReal)) * w' := by
    intro r k w w' h
    rw [read_past, h]
  unfold outsAt0
  refine (block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    scM0_0 (Memref.isWhole_whole _) (iblk m c 0 t) (iblk m c 1 t) (iblk m c 2 t) (iblk m c 3 t) (iblk m c 4 t) (iblk m c 5 t) (iblk m c 6 t) (iblk m c 7 t) (run t) rfl q n
    (seen (fun g k => m (c, main_arg0) (ix2 g k)) (fun k => m (c, main_arg1) (ix2 k (colg t n))) (run t))
    (seen (fun g k => m (c, main_arg0) (ix2 g k)) (fun k => m (c, main_arg1) (ix2 k (colv t n))) (run t)) ?_ ?_ ?_ ?_ ?_ ?_).trans ?_
  · exact (Finset.sum_congr rfl fun k _ => pw 6 k _ _ (read_wg m c t k n)).trans
      (seen_past (fun g k => m (c, main_arg0) (ix2 g k)) (fun k => m (c, main_arg1) (ix2 k (colg t n))) (run t) ⟨0, by omega⟩ (by show 0 < 2; omega))
  · exact (Finset.sum_congr rfl fun k _ => pw 7 k _ _ (read_wg m c t k n)).trans
      (seen_past (fun g k => m (c, main_arg0) (ix2 g k)) (fun k => m (c, main_arg1) (ix2 k (colg t n))) (run t) ⟨1, by omega⟩ (by show 1 < 2; omega))
  · exact fun p => (Finset.sum_congr rfl fun k _ => congrArg₂ (fun x y : EReal => x * y) (read_x m c t p k) (read_wg m c t k n)).trans
      (seen_run (fun g k => m (c, main_arg0) (ix2 g k)) (fun k => m (c, main_arg1) (ix2 k (colg t n))) (run t) p)
  · exact (Finset.sum_congr rfl fun k _ => pw 6 k _ _ (read_wv m c t k n)).trans
      (seen_past (fun g k => m (c, main_arg0) (ix2 g k)) (fun k => m (c, main_arg1) (ix2 k (colv t n))) (run t) ⟨0, by omega⟩ (by show 0 < 2; omega))
  · exact (Finset.sum_congr rfl fun k _ => pw 7 k _ _ (read_wv m c t k n)).trans
      (seen_past (fun g k => m (c, main_arg0) (ix2 g k)) (fun k => m (c, main_arg1) (ix2 k (colv t n))) (run t) ⟨1, by omega⟩ (by show 1 < 2; omega))
  · exact fun p => (Finset.sum_congr rfl fun k _ => congrArg₂ (fun x y : EReal => x * y) (read_x m c t p k) (read_wv m c t k n)).trans
      (seen_run (fun g k => m (c, main_arg0) (ix2 g k)) (fun k => m (c, main_arg1) (ix2 k (colv t n))) (run t) p)
  rw [read_cg, read_cg, read_cg, read_cv, read_cv, read_cv, read_bg, read_bv]

/-- The result of the call is the result of the reference. -/
theorem result (m' : (ℓ : Loc Cert.Reference5Ideal.nD Cert.Reference5Ideal.τ Cert.Reference5Ideal.sig) → Buf (Elt Ideal) ℓ)
    (h0 : m' ((c.tc : Thread Cert.Reference5Ideal.nD Cert.Reference5Ideal.τ).loc Cert.Reference5Ideal.main_arg0) = m (c, main_arg0))
    (h1 : m' ((c.tc : Thread Cert.Reference5Ideal.nD Cert.Reference5Ideal.τ).loc Cert.Reference5Ideal.main_arg1) = m (c, main_arg1))
    (h2 : m' ((c.tc : Thread Cert.Reference5Ideal.nD Cert.Reference5Ideal.τ).loc Cert.Reference5Ideal.main_arg2) = m (c, main_arg2))
    (h3 : m' ((c.tc : Thread Cert.Reference5Ideal.nD Cert.Reference5Ideal.τ).loc Cert.Reference5Ideal.main_arg3) = m (c, main_arg3)) :
    (dats m 0 c).arrAt 8 cfg0.N = Cert.Reference5Ideal.Value.res_main_v33 m' c := by
  refine (dats m 0 c).arrAt_eq_of_covers 8 _ (by decide +kernel) fun t hf y => ?_
  blk_simp
  rw [after0_8]
  obtain ⟨r, s, n, rfl⟩ : ∃ (r : Fin 128) (s : Fin 8) (n : Fin 1408), y = ix2 (⟨r * 8 + s, by omega⟩ : Fin 1024) n :=
    ⟨⟨(y 0).val / 8, by have : (y 0).val < 1024 := (y 0).isLt; omega⟩, ⟨(y 0).val % 8, Nat.mod_lt _ (by decide)⟩, y 1,
      (eq_ix2 y).trans (congrArg (fun p => ix2 p (y 1)) (Fin.ext (by show (y 0).val = (y 0).val / 8 * 8 + (y 0).val % 8; omega)))⟩
  have hp : (win0_8.blk t).view.emb (ix2 (⟨r * 8 + s, by omega⟩ : Fin 1024) n)
      = ix2 (⟨run t * 1024 + r * 8 + s, by omega⟩ : Fin 16384) (⟨half t * 1408 + n, by omega⟩ : Fin 2816) := by
    blk_ext [(places t).2.2.2.2.2.2.2.2.2.2]
  rw [hp]
  refine (stored m c t (⟨r * 8 + s, by omega⟩ : Fin 1024) n).trans ?_
  have hc : Cert.Reference5Ideal.Value.res_main_v33 m' c
      = Cert.Reference5Ideal.Up.order (Cert.Reference5Ideal.Up.out (Cert.Reference5Ideal.Up.conv (m (c, main_arg0)) (m (c, main_arg1)) (m (c, main_arg2)) (m (c, main_arg3)))) :=
    (Cert.Reference5Ideal.Up.result_eq m' c).trans
      (congrArg (fun u => Cert.Reference5Ideal.Up.order (Cert.Reference5Ideal.Up.out u)) (Cert.Reference5Ideal.Up.conv_congr h0 h1 h2 h3))
  refine Eq.symm ((congrFun hc _).trans ((Cert.Reference5Ideal.Up.order_apply _ (run t) r s (⟨half t * 1408 + n, by omega⟩ : Fin 2816)).trans
    ((Cert.Reference5Ideal.Up.out_apply _ _ _ _).trans (congrArg₂ Cert.Up.gated ?_ ?_))))
  · exact conv_seen (m (c, main_arg0)) (m (c, main_arg1)) (m (c, main_arg2)) (m (c, main_arg3)) (run t) (⟨r * 8 + s, by omega⟩ : Fin 1024) _
      (by show (run t : Nat) % 4 * 1024 + ((s : Nat) * 128 + r) = (run t : Nat) % 4 * 1024 + (((r : Nat) * 8 + s) % 8 * 128 + ((r : Nat) * 8 + s) / 8); omega) (colg t n)
  · have e : (⟨2816 + (half t * 1408 + n), by omega⟩ : Fin 5632) = colv t n := Fin.ext (by show 2816 + ((half t : Nat) * 1408 + n) = ((half t : Nat) + 2) * 1408 + n; omega)
    refine (congrArg (fun l => Cert.Reference5Ideal.Up.conv (m (c, main_arg0)) (m (c, main_arg1)) (m (c, main_arg2)) (m (c, main_arg3)) (ix3 _ _ l)) e).trans ?_
    exact conv_seen (m (c, main_arg0)) (m (c, main_arg1)) (m (c, main_arg2)) (m (c, main_arg3)) (run t) (⟨r * 8 + s, by omega⟩ : Fin 1024) _
      (by show (run t : Nat) % 4 * 1024 + ((s : Nat) * 128 + r) = (run t : Nat) % 4 * 1024 + (((r : Nat) * 8 + s) % 8 * 128 + ((r : Nat) * 8 + s) / 8); omega) (colv t n)

end Cert.Kernel5Ideal.Up

end

end
-- ==== Proof.Nsa.Block.lean ====
/-
  The blocks of the five results that one point of the grid writes, entry by entry, from the product of its tokens
  with the weights and its two tables.
-/
module

public import proofs.«01_k».proof.Proof.Gen.Kernel6Ideal.Value
public import proofs.«01_k».proof.Proof.Norm.Canon
public import Idealize.ShloMosaic.Lib.Pointwise
public import Idealize.ShloMosaic.Lib.Pipeline.ValueKit

@[expose] public section

set_option maxRecDepth 16384

noncomputable section

namespace Cert.Kernel6Ideal.Nsa

open Cert.Kernel6Ideal Cert.Kernel6Ideal.Gen Idealize.ShloMosaic Idealize.ShloMosaic.TcCoe
open Cert.Norm (canon_hit canon_miss canon_hit3 ld_full)

/-- One head's vector turned with the tables of 128 entries: each entry times the first table, plus its partner times
    the second. -/
def turnTab (h cf sf : Fin 128 → EReal) (d : Fin 128) : EReal :=
  h d * cf d + Scalar.select (IntOp.cmpi .slt (BitVec.ofNat 32 d) 16#32)
    (h ⟨(d + 128 - 112) % 128, Nat.mod_lt _ (by omega)⟩) (h ⟨(d + 128 - 16) % 128, Nat.mod_lt _ (by omega)⟩) * sf d

/-- The head that stands from column `p` on, in row `r`. -/
def head (h : FVec Ideal S512x2048 .f32) (r : Fin 512) (p : Nat) (hp : p + 128 ≤ 2048) : Fin 128 → EReal :=
  fun e => h (ix2 r ⟨p + e, by omega⟩)

/-- One row of a table. -/
def row (t : FVec Ideal S512x128 .f32) (r : Fin 512) : Fin 128 → EReal := fun e => t (ix2 r e)

/-- The factor of the queries. -/
abbrev factor : EReal := Ideal.ofBits .f32 1040356334#32

/-- The row of ones below the values, and the zeros below it. -/
def onesRow (r : Nat) : EReal := Scalar.select (IntOp.cmpi .eq (BitVec.ofNat 32 (r - 128)) 0#32) 1 0

/-- One, where the token at row `r` of the point's block lies in block `d`; zero elsewhere. -/
def tag (i : Nat) (r : Fin 512) (d : Fin 128) : EReal :=
  Scalar.select (IntOp.cmpi .eq (IntOp.shrsi .vector (IntOp.addi (Scalar.muli (BitVec.ofNat 32 i) 512#32) (BitVec.ofNat 32 r)) 6#32)
    (BitVec.ofNat 32 d)) 1 0

/-- One entry of a tile of values. -/
def entry (h : FVec Ideal S512x2048 .f32) (k : Fin 512) (p : Nat) (hp : p + 128 ≤ 2048) (r : Fin 144) : EReal :=
  if hr : (r : Nat) < 128 then h (ix2 k ⟨p + r, by omega⟩) else onesRow r

/-! ## What each store writes -/

variable (h : FVec Ideal S512x2048 .f32) (cf sf : FVec Ideal S512x128 .f32)

theorem query0 (x : Vec Ideal S1x512x1024 .f32) (w : Vec Ideal S1024x2048 .bf16) (v5 v7 : Vec Ideal S512x128 .f32) (r : Fin 512) (d : Fin 128) :
    (k0_pay6 x w v5 v7 : FVec Ideal S1x128x512 .bf16) (ix3 0 d r) = turnTab (head (k0_pay2 x w) r 0 (by omega)) (row (k0_pay3 v5) r) (row (k0_pay4 v7) r) d * factor := by
  unfold turnTab head row
  generalize hh : k0_pay2 x w = h
  pointwise [k0_pay6, k0_pay3, k0_pay4, k0_pay5, hh]

theorem query1 (x : Vec Ideal S1x512x1024 .f32) (w : Vec Ideal S1024x2048 .bf16) (v5 v7 : Vec Ideal S512x128 .f32) (r : Fin 512) (d : Fin 128) :
    (k0_pay8 (k0_pay7 x w v5 v7) : FVec Ideal S1x128x512 .bf16) (ix3 0 d r) = turnTab (head (k0_pay2 x w) r 128 (by omega)) (row (k0_pay3 v5) r) (row (k0_pay4 v7) r) d * factor := by
  unfold turnTab head row
  generalize hh : k0_pay2 x w = h
  pointwise [k0_pay8, k0_pay7, k0_pay3, k0_pay4, k0_pay5, hh]

theorem query2 (r : Fin 512) (d : Fin 128) :
    (k0_pay9 h cf sf k0_pay5 : FVec Ideal S1x128x512 .bf16) (ix3 0 d r) = turnTab (head h r 256 (by omega)) (row cf r) (row sf r) d * factor := by
  unfold turnTab head row
  pointwise [k0_pay9, k0_pay5]

theorem query3 (r : Fin 512) (d : Fin 128) :
    (k0_pay10 h cf sf k0_pay5 : FVec Ideal S1x128x512 .bf16) (ix3 0 d r) = turnTab (head h r 384 (by omega)) (row cf r) (row sf r) d * factor := by
  unfold turnTab head row
  pointwise [k0_pay10, k0_pay5]

theorem query4 (r : Fin 512) (d : Fin 128) :
    (k0_pay13 (k0_pay11 h cf sf k0_pay5) k0_pay12 : FVec Ideal S1x128x512 .bf16) (ix3 0 d r) = turnTab (head h r 512 (by omega)) (row cf r) (row sf r) d * factor := by
  unfold turnTab head row
  pointwise [k0_pay13, k0_pay11, k0_pay12, k0_pay5]

theorem query5 (r : Fin 512) (d : Fin 128) :
    (k0_pay14 h cf sf k0_pay5 : FVec Ideal S1x128x512 .bf16) (ix3 0 d r) = turnTab (head h r 640 (by omega)) (row cf r) (row sf r) d * factor := by
  unfold turnTab head row
  pointwise [k0_pay14, k0_pay5]

theorem query6 (r : Fin 512) (d : Fin 128) :
    (k0_pay15 h cf sf k0_pay5 : FVec Ideal S1x128x512 .bf16) (ix3 0 d r) = turnTab (head h r 768 (by omega)) (row cf r) (row sf r) d * factor := by
  unfold turnTab head row
  pointwise [k0_pay15, k0_pay5]

theorem query7 (r : Fin 512) (d : Fin 128) :
    (k0_pay19 (k0_pay17 h cf) (k0_pay18 h sf k0_pay5) : FVec Ideal S1x128x512 .bf16) (ix3 0 d r) = turnTab (head h r 896 (by omega)) (row cf r) (row sf r) d * factor := by
  unfold turnTab head row
  pointwise [k0_pay19, k0_pay17, k0_pay18, k0_pay16, k0_pay5]

theorem selKey0 (r : Fin 512) (d : Fin 128) :
    (k0_pay21 h cf sf k0_pay5 : FVec Ideal S1x512x128 .bf16) (ix3 0 r d) = turnTab (head h r 1024 (by omega)) (row cf r) (row sf r) d := by
  unfold turnTab head row
  pointwise [k0_pay21, k0_pay5]

theorem selKey1 (r : Fin 512) (d : Fin 128) :
    (k0_pay32 h cf sf k0_pay5 : FVec Ideal S1x512x128 .bf16) (ix3 0 r d) = turnTab (head h r 1152 (by omega)) (row cf r) (row sf r) d := by
  unfold turnTab head row
  pointwise [k0_pay32, k0_pay5]

theorem winKey0 (r : Fin 512) (d : Fin 128) :
    (k0_pay26 (k0_pay24 h cf) (k0_pay25 h sf k0_pay5) : FVec Ideal S1x512x128 .bf16) (ix3 0 r d) = turnTab (head h r 1536 (by omega)) (row cf r) (row sf r) d := by
  unfold turnTab head row
  pointwise [k0_pay26, k0_pay24, k0_pay25, k0_pay23, k0_pay5]

theorem winKey1 (r : Fin 512) (d : Fin 128) :
    (k0_pay34 h cf sf k0_pay5 : FVec Ideal S1x512x128 .bf16) (ix3 0 r d) = turnTab (head h r 1664 (by omega)) (row cf r) (row sf r) d := by
  unfold turnTab head row
  pointwise [k0_pay34, k0_pay5]

theorem tag0 (i : Nat) (r : Fin 512) (d : Fin 128) :
    k0_pay22 (F := Ideal) (BitVec.ofNat 32 i) (iota .tc S512x128 32 [1] iota_S512x128_d1_w32) (ix3 0 r d) = tag i r d := by
  unfold tag
  pointwise [k0_pay22, k0_pay20]

theorem tag1 (i : Nat) (r : Fin 512) (d : Fin 128) :
    k0_pay33 (k0_pay20 (F := Ideal) (BitVec.ofNat 32 i) (iota .tc S512x128 32 [1] iota_S512x128_d1_w32)) (ix3 0 r d) = tag i r d := by
  unfold tag
  pointwise [k0_pay33, k0_pay20]

theorem selVal0 (r : Fin 144) (k : Fin 512) :
    (k0_pay27 h : FVec Ideal S1x1x1x144x512 .bf16) (ix5 0 0 0 r k) = entry h k 1280 (by omega) r := by
  unfold entry onesRow
  by_cases hr : (r : Nat) < 128
  · rw [dif_pos hr]
    pointwise [k0_pay27]
    rw [dif_pos hr]
  · rw [dif_neg hr]
    pointwise [k0_pay27]
    rw [dif_neg hr]

theorem selVal1 (r : Fin 144) (k : Fin 512) :
    (k0_pay36 (k0_pay35 h) : FVec Ideal S1x1x1x144x512 .bf16) (ix5 0 0 0 r k) = entry h k 1408 (by omega) r := by
  unfold entry onesRow
  by_cases hr : (r : Nat) < 128
  · rw [dif_pos hr]
    pointwise [k0_pay36, k0_pay35]
    rw [dif_pos hr]
  · rw [dif_neg hr]
    pointwise [k0_pay36, k0_pay35]
    rw [dif_neg hr]

theorem winVal00 (r : Fin 144) (k : Fin 256) :
    (k0_pay29 h : FVec Ideal S1x1x1x144x256 .bf16) (ix5 0 0 0 r k) = entry h ⟨0 + k, by omega⟩ 1792 (by omega) r := by
  unfold entry onesRow
  by_cases hr : (r : Nat) < 128
  · rw [dif_pos hr]
    pointwise [k0_pay29, k0_pay28]
    rw [dif_pos hr]
  · rw [dif_neg hr]
    pointwise [k0_pay29, k0_pay28]
    rw [dif_neg hr]

theorem winVal01 (r : Fin 144) (k : Fin 256) :
    (k0_pay31 (k0_pay28 h) k0_pay30 : FVec Ideal S1x1x1x144x256 .bf16) (ix5 0 0 0 r k) = entry h ⟨256 + k, by omega⟩ 1792 (by omega) r := by
  unfold entry onesRow
  by_cases hr : (r : Nat) < 128
  · rw [dif_pos hr]
    pointwise [k0_pay31, k0_pay28, k0_pay30]
    rw [dif_pos hr]
  · rw [dif_neg hr]
    pointwise [k0_pay31, k0_pay28, k0_pay30]
    rw [dif_neg hr]

theorem winVal10 (r : Fin 144) (k : Fin 256) :
    (k0_pay38 h : FVec Ideal S1x1x1x144x256 .bf16) (ix5 0 0 0 r k) = entry h ⟨0 + k, by omega⟩ 1920 (by omega) r := by
  unfold entry onesRow
  by_cases hr : (r : Nat) < 128
  · rw [dif_pos hr]
    pointwise [k0_pay38, k0_pay37]
    rw [dif_pos hr]
  · rw [dif_neg hr]
    pointwise [k0_pay38, k0_pay37]
    rw [dif_neg hr]

theorem winVal11 (r : Fin 144) (k : Fin 256) :
    (k0_pay1 (k0_pay39 h) : FVec Ideal S1x1x1x144x256 .bf16) (ix5 0 0 0 r k) = entry h ⟨256 + k, by omega⟩ 1920 (by omega) r := by
  unfold entry onesRow
  by_cases hr : (r : Nat) < 128
  · rw [dif_pos hr]
    pointwise [k0_pay1, k0_pay39, k0_pay37]
    rw [dif_pos hr]
  · rw [dif_neg hr]
    pointwise [k0_pay1, k0_pay39, k0_pay37]
    rw [dif_neg hr]

/-! ## The blocks -/

variable (i : grid0.Coords) (x : Vec Ideal S1x512x1024 .f32) (w : Vec Ideal S1024x2048 .bf16) (t5 t7 : Vec Ideal S512x128 .f32)

theorem ld_x : View.ld x r0_0 = x := by
  funext y
  refine View.ld_unit_apply_of _ _ _ _ _ _ fun q => ?_
  fin_cases q <;> simp

theorem ld_w : View.ld w r0_1 = w := ld_full w _

theorem ld_t : View.ld t5 r0_2 = t5 := ld_full t5 _

theorem tab5 (r : Fin 512) : row (k0_pay3 t5) r = fun e => t5 (ix2 r e) := by
  funext e
  unfold row
  pointwise [k0_pay3]

theorem tab7 (r : Fin 512) : row (k0_pay4 t7) r = fun e => t7 (ix2 r e) := by
  funext e
  unfold row
  pointwise [k0_pay4]

theorem queries0 (r : Fin 512) (d : Fin 128) :
    out0_4 i x w t5 t7 (ix3 0 ⟨0 + d, by omega⟩ r) = turnTab (head (k0_pay2 x w) r 0 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 0 + (d : Nat) < 896 by omega))).trans ?_
  refine (canon_miss _ _ _ _ _ _ 1 (Or.inl (show 0 + (d : Nat) < 768 by omega))).trans ?_
  refine (canon_miss _ _ _ _ _ _ 1 (Or.inl (show 0 + (d : Nat) < 640 by omega))).trans ?_
  refine (canon_miss _ _ _ _ _ _ 1 (Or.inl (show 0 + (d : Nat) < 512 by omega))).trans ?_
  refine (canon_miss _ _ _ _ _ _ 1 (Or.inl (show 0 + (d : Nat) < 384 by omega))).trans ?_
  refine (canon_miss _ _ _ _ _ _ 1 (Or.inl (show 0 + (d : Nat) < 256 by omega))).trans ?_
  refine (canon_miss _ _ _ _ _ _ 1 (Or.inl (show 0 + (d : Nat) < 128 by omega))).trans ?_
  refine (canon_hit3 _ _ _ _ _ _ _ _ _ (0 : Fin 1) _ _ (0 : Fin 1) d r rfl rfl (show (r : Nat) = 0 + r by omega)).trans ?_
  refine (query0 x w t5 t7 r d).trans ?_
  rw [tab5, tab7]

theorem queries1 (r : Fin 512) (d : Fin 128) :
    out0_4 i x w t5 t7 (ix3 0 ⟨128 + d, by omega⟩ r) = turnTab (head (k0_pay2 x w) r 128 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 128 + (d : Nat) < 896 by omega))).trans ?_
  refine (canon_miss _ _ _ _ _ _ 1 (Or.inl (show 128 + (d : Nat) < 768 by omega))).trans ?_
  refine (canon_miss _ _ _ _ _ _ 1 (Or.inl (show 128 + (d : Nat) < 640 by omega))).trans ?_
  refine (canon_miss _ _ _ _ _ _ 1 (Or.inl (show 128 + (d : Nat) < 512 by omega))).trans ?_
  refine (canon_miss _ _ _ _ _ _ 1 (Or.inl (show 128 + (d : Nat) < 384 by omega))).trans ?_
  refine (canon_miss _ _ _ _ _ _ 1 (Or.inl (show 128 + (d : Nat) < 256 by omega))).trans ?_
  refine (canon_hit3 _ _ _ _ _ _ _ _ _ (0 : Fin 1) _ _ (0 : Fin 1) d r rfl rfl (show (r : Nat) = 0 + r by omega)).trans ?_
  refine (query1 x w t5 t7 r d).trans ?_
  rw [tab5, tab7]

theorem queries2 (r : Fin 512) (d : Fin 128) :
    out0_4 i x w t5 t7 (ix3 0 ⟨256 + d, by omega⟩ r) = turnTab (head (k0_pay2 x w) r 256 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 256 + (d : Nat) < 896 by omega))).trans ?_
  refine (canon_miss _ _ _ _ _ _ 1 (Or.inl (show 256 + (d : Nat) < 768 by omega))).trans ?_
  refine (canon_miss _ _ _ _ _ _ 1 (Or.inl (show 256 + (d : Nat) < 640 by omega))).trans ?_
  refine (canon_miss _ _ _ _ _ _ 1 (Or.inl (show 256 + (d : Nat) < 512 by omega))).trans ?_
  refine (canon_miss _ _ _ _ _ _ 1 (Or.inl (show 256 + (d : Nat) < 384 by omega))).trans ?_
  refine (canon_hit3 _ _ _ _ _ _ _ _ _ (0 : Fin 1) _ _ (0 : Fin 1) d r rfl rfl (show (r : Nat) = 0 + r by omega)).trans ?_
  refine (query2 _ _ _ r d).trans ?_
  rw [tab5, tab7]

theorem queries3 (r : Fin 512) (d : Fin 128) :
    out0_4 i x w t5 t7 (ix3 0 ⟨384 + d, by omega⟩ r) = turnTab (head (k0_pay2 x w) r 384 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 384 + (d : Nat) < 896 by omega))).trans ?_
  refine (canon_miss _ _ _ _ _ _ 1 (Or.inl (show 384 + (d : Nat) < 768 by omega))).trans ?_
  refine (canon_miss _ _ _ _ _ _ 1 (Or.inl (show 384 + (d : Nat) < 640 by omega))).trans ?_
  refine (canon_miss _ _ _ _ _ _ 1 (Or.inl (show 384 + (d : Nat) < 512 by omega))).trans ?_
  refine (canon_hit3 _ _ _ _ _ _ _ _ _ (0 : Fin 1) _ _ (0 : Fin 1) d r rfl rfl (show (r : Nat) = 0 + r by omega)).trans ?_
  refine (query3 _ _ _ r d).trans ?_
  rw [tab5, tab7]

theorem queries4 (r : Fin 512) (d : Fin 128) :
    out0_4 i x w t5 t7 (ix3 0 ⟨512 + d, by omega⟩ r) = turnTab (head (k0_pay2 x w) r 512 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 512 + (d : Nat) < 896 by omega))).trans ?_
  refine (canon_miss _ _ _ _ _ _ 1 (Or.inl (show 512 + (d : Nat) < 768 by omega))).trans ?_
  refine (canon_miss _ _ _ _ _ _ 1 (Or.inl (show 512 + (d : Nat) < 640 by omega))).trans ?_
  refine (canon_hit3 _ _ _ _ _ _ _ _ _ (0 : Fin 1) _ _ (0 : Fin 1) d r rfl rfl (show (r : Nat) = 0 + r by omega)).trans ?_
  refine (query4 _ _ _ r d).trans ?_
  rw [tab5, tab7]

theorem queries5 (r : Fin 512) (d : Fin 128) :
    out0_4 i x w t5 t7 (ix3 0 ⟨640 + d, by omega⟩ r) = turnTab (head (k0_pay2 x w) r 640 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 640 + (d : Nat) < 896 by omega))).trans ?_
  refine (canon_miss _ _ _ _ _ _ 1 (Or.inl (show 640 + (d : Nat) < 768 by omega))).trans ?_
  refine (canon_hit3 _ _ _ _ _ _ _ _ _ (0 : Fin 1) _ _ (0 : Fin 1) d r rfl rfl (show (r : Nat) = 0 + r by omega)).trans ?_
  refine (query5 _ _ _ r d).trans ?_
  rw [tab5, tab7]

theorem queries6 (r : Fin 512) (d : Fin 128) :
    out0_4 i x w t5 t7 (ix3 0 ⟨768 + d, by omega⟩ r) = turnTab (head (k0_pay2 x w) r 768 (by omega)) (fun e => t5 (ix2 r e)) (fun e => t7 (ix2 r e)) d * factor := by
  simp only [out0_4, k0_pay40, k0_pay41, k0_pay42, k0_pay43, k0_pay44, ld_x, ld_w, ld_t]
  refine (canon_miss _ _ _ _ _ _ 1 (Or.inl (show 768 + (d : Nat) < 896 by omega))).trans ?_
  refine (canon_hit3 _ _ _ _ _ _ _ _ _ (0 : Fin 1) _ _ (0 : Fin 1) d r rfl rfl (show (r : Nat) = 0 + r by omega)).trans ?_
  refine (query6 _ _ _ r d).trans ?_
  rw [tab5, tab7]

theorem queries7 (r : Fin 512) (d : Fin 128) :
    out0_4 i x w t5 t7 (ix3 0 ⟨896 + d, by omega⟩ r) = turnTab (head (k0_pay2 x w) r 896 (by omega)) (fun e => t5 (ix2 r e)) (fun e => t7 (ix2 r e)) d * factor := by
  simp only [out0_4, k0_pay40, k0_pay41, k0_pay42, k0_pay43, k0_pay44, ld_x, ld_w, ld_t]
  refine (canon_hit3 _ _ _ _ _ _ _ _ _ (0 : Fin 1) _ _ (0 : Fin 1) d r rfl rfl (show (r : Nat) = 0 + r by omega)).trans ?_
  refine (query7 _ _ _ r d).trans ?_
  rw [tab5, tab7]

theorem selKeys0 (r : Fin 512) (d : Fin 128) :
    out0_5 i x w t5 t7 (ix3 0 r ⟨0 + d, by omega⟩) = turnTab (head (k0_pay2 x w) r 1024 (by omega)) (fun e => t5 (ix2 r e)) (fun e => t7 (ix2 r e)) d := by
  simp only [out0_5, k0_pay40, k0_pay41, k0_pay42, k0_pay43, k0_pay44, ld_x, ld_w, ld_t]
  refine (canon_miss _ _ _ _ _ _ 2 (Or.inl (show 0 + (d : Nat) < 384 by omega))).trans ?_
  refine (canon_miss _ _ _ _ _ _ 2 (Or.inl (show 0 + (d : Nat) < 256 by omega))).trans ?_
  refine (canon_miss _ _ _ _ _ _ 2 (Or.inl (show 0 + (d : Nat) < 128 by omega))).trans ?_
  refine (canon_hit3 _ _ _ _ _ _ _ _ _ (0 : Fin 1) _ _ (0 : Fin 1) r d rfl (show (r : Nat) = 0 + r by omega) rfl).trans ?_
  refine (selKey0 _ _ _ r d).trans ?_
  rw [tab5, tab7]

theorem selTags0 (r : Fin 512) (d : Fin 128) :
    out0_5 i x w t5 t7 (ix3 0 r ⟨128 + d, by omega⟩) = tag (i 1).val r d := by
  simp only [out0_5, k0_pay40, k0_pay41, k0_pay42, k0_pay43, k0_pay44, ld_x, ld_w, ld_t]
  refine (canon_miss _ _ _ _ _ _ 2 (Or.inl (show 128 + (d : Nat) < 384 by omega))).trans ?_
  refine (canon_miss _ _ _ _ _ _ 2 (Or.inl (show 128 + (d : Nat) < 256 by omega))).trans ?_
  refine (canon_hit3 _ _ _ _ _ _ _ _ _ (0 : Fin 1) _ _ (0 : Fin 1) r d rfl (show (r : Nat) = 0 + r by omega) rfl).trans ?_
  refine (tag0 (i 1).val r d).trans ?_
  rfl

theorem selKeys1 (r : Fin 512) (d : Fin 128) :
    out0_5 i x w t5 t7 (ix3 0 r ⟨256 + d, by omega⟩) = turnTab (head (k0_pay2 x w) r 1152 (by omega)) (fun e => t5 (ix2 r e)) (fun e => t7 (ix2 r e)) d := by
  simp only [out0_5, k0_pay40, k0_pay41, k0_pay42, k0_pay43, k0_pay44, ld_x, ld_w, ld_t]
  refine (canon_miss _ _ _ _ _ _ 2 (Or.inl (show 256 + (d : Nat) < 384 by omega))).trans ?_
  refine (canon_hit3 _ _ _ _ _ _ _ _ _ (0 : Fin 1) _ _ (0 : Fin 1) r d rfl (show (r : Nat) = 0 + r by omega) rfl).trans ?_
  refine (selKey1 _ _ _ r d).trans ?_
  rw [tab5, tab7]

theorem selTags1 (r : Fin 512) (d : Fin 128) :
    out0_5 i x w t5 t7 (ix3 0 r ⟨384 + d, by omega⟩) = tag (i 1).val r d := by
  simp only [out0_5, k0_pay40, k0_pay41, k0_pay42, k0_pay43, k0_pay44, ld_x, ld_w, ld_t]
  refine (canon_hit3 _ _ _ _ _ _ _ _ _ (0 : Fin 1) _ _ (0 : Fin 1) r d rfl (show (r : Nat) = 0 + r by omega) rfl).trans ?_
  refine (tag1 (i 1).val r d).trans ?_
  rfl

theorem winKeys0 (r : Fin 512) (d : Fin 128) :
    out0_7 i x w t5 t7 (ix3 0 r ⟨0 + d, by omega⟩) = turnTab (head (k0_pay2 x w) r 1536 (by omega)) (fun e => t5 (ix2 r e)) (fun e => t7 (ix2 r e)) d := by
  simp only [out0_7, k0_pay40, k0_pay41, k0_pay42, k0_pay43, k0_pay44, ld_x, ld_w, ld_t]
  refine (canon_miss _ _ _ _ _ _ 2 (Or.inl (show 0 + (d : Nat) < 128 by omega))).trans ?_
  refine (canon_hit3 _ _ _ _ _ _ _ _ _ (0 : Fin 1) _ _ (0 : Fin 1) r d rfl (show (r : Nat) = 0 + r by omega) rfl).trans ?_
  refine (winKey0 _ _ _ r d).trans ?_
  rw [tab5, tab7]

theorem winKeys1 (r : Fin 512) (d : Fin 128) :
    out0_7 i x w t5 t7 (ix3 0 r ⟨128 + d, by omega⟩) = turnTab (head (k0_pay2 x w) r 1664 (by omega)) (fun e => t5 (ix2 r e)) (fun e => t7 (ix2 r e)) d := by
  simp only [out0_7, k0_pay40, k0_pay41, k0_pay42, k0_pay43, k0_pay44, ld_x, ld_w, ld_t]
  refine (canon_hit3 _ _ _ _ _ _ _ _ _ (0 : Fin 1) _ _ (0 : Fin 1) r d rfl (show (r : Nat) = 0 + r by omega) rfl).trans ?_
  refine (winKey1 _ _ _ r d).trans ?_
  rw [tab5, tab7]

theorem selVals0 (r : Fin 144) (k : Fin 512) :
    out0_6 i x w t5 t7 (ix5 0 0 0 r k) = entry (k0_pay2 x w) k 1280 (by omega) r := by
  simp only [out0_6, k0_pay40, k0_pay41, k0_pay42, k0_pay43, k0_pay44, ld_x, ld_w, ld_t]
  refine (canon_miss _ _ _ _ _ _ 1 (Or.inl (show (0 : Nat) < 1 by omega))).trans ?_
  refine (canon_hit _ _ _ _ _ _ (ix5 (0 : Fin 1) (0 : Fin 1) (0 : Fin 1) r k) (fun a => by fin_cases a <;> simp)).trans ?_
  refine (selVal0 _ r k).trans ?_
  rfl

theorem selVals1 (r : Fin 144) (k : Fin 512) :
    out0_6 i x w t5 t7 (ix5 0 1 0 r k) = entry (k0_pay2 x w) k 1408 (by omega) r := by
  simp only [out0_6, k0_pay40, k0_pay41, k0_pay42, k0_pay43, k0_pay44, ld_x, ld_w, ld_t]
  refine (canon_hit _ _ _ _ _ _ (ix5 (0 : Fin 1) (0 : Fin 1) (0 : Fin 1) r k) (fun a => by fin_cases a <;> simp)).trans ?_
  refine (selVal1 _ r k).trans ?_
  rfl

theorem winVals00 (r : Fin 144) (k : Fin 256) :
    out0_8 i x w t5 t7 (ix5 0 0 0 r k) = entry (k0_pay2 x w) ⟨0 + k, by omega⟩ 1792 (by omega) r := by
  simp only [out0_8, k0_pay40, k0_pay41, k0_pay42, k0_pay43, k0_pay44, ld_x, ld_w, ld_t]
  refine (canon_miss _ _ _ _ _ _ 1 (Or.inl (show (0 : Nat) < 1 by omega))).trans ?_
  refine (canon_miss _ _ _ _ _ _ 1 (Or.inl (show (0 : Nat) < 1 by omega))).trans ?_
  refine (canon_miss _ _ _ _ _ _ 2 (Or.inl (show (0 : Nat) < 1 by omega))).trans ?_
  refine (canon_hit _ _ _ _ _ _ (ix5 (0 : Fin 1) (0 : Fin 1) (0 : Fin 1) r k) (fun a => by fin_cases a <;> simp)).trans ?_
  refine (winVal00 _ r k).trans ?_
  rfl

theorem winVals01 (r : Fin 144) (k : Fin 256) :
    out0_8 i x w t5 t7 (ix5 0 0 1 r k) = entry (k0_pay2 x w) ⟨256 + k, by omega⟩ 1792 (by omega) r := by
  simp only [out0_8, k0_pay40, k0_pay41, k0_pay42, k0_pay43, k0_pay44, ld_x, ld_w, ld_t]
  refine (canon_miss _ _ _ _ _ _ 1 (Or.inl (show (0 : Nat) < 1 by omega))).trans ?_
  refine (canon_miss _ _ _ _ _ _ 1 (Or.inl (show (0 : Nat) < 1 by omega))).trans ?_
  refine (canon_hit _ _ _ _ _ _ (ix5 (0 : Fin 1) (0 : Fin 1) (0 : Fin 1) r k) (fun a => by fin_cases a <;> simp)).trans ?_
  refine (winVal01 _ r k).trans ?_
  rfl

theorem winVals10 (r : Fin 144) (k : Fin 256) :
    out0_8 i x w t5 t7 (ix5 0 1 0 r k) = entry (k0_pay2 x w) ⟨0 + k, by omega⟩ 1920 (by omega) r := by
  simp only [out0_8, k0_pay40, k0_pay41, k0_pay42, k0_pay43, k0_pay44, ld_x, ld_w, ld_t]
  refine (canon_miss _ _ _ _ _ _ 2 (Or.inl (show (0 : Nat) < 1 by omega))).trans ?_
  refine (canon_hit _ _ _ _ _ _ (ix5 (0 : Fin 1) (0 : Fin 1) (0 : Fin 1) r k) (fun a => by fin_cases a <;> simp)).trans ?_
  refine (winVal10 _ r k).trans ?_
  rfl

theorem winVals11 (r : Fin 144) (k : Fin 256) :
    out0_8 i x w t5 t7 (ix5 0 1 1 r k) = entry (k0_pay2 x w) ⟨256 + k, by omega⟩ 1920 (by omega) r := by
  simp only [out0_8, k0_pay40, k0_pay41, k0_pay42, k0_pay43, k0_pay44, ld_x, ld_w, ld_t]
  refine (canon_hit _ _ _ _ _ _ (ix5 (0 : Fin 1) (0 : Fin 1) (0 : Fin 1) r k) (fun a => by fin_cases a <;> simp)).trans ?_
  refine (winVal11 _ r k).trans ?_
  rfl

end Cert.Kernel6Ideal.Nsa
-- ==== Proof.Nsa.Ref.lean ====
/-
  The reference's five results, read one entry at a time: a column of the projection, or a pair of columns turned
  by the rotation of its token.
-/
module

public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Reference6Ideal.Nsa

open Cert.Reference6Ideal Cert.Reference6Ideal.Gen Idealize.ShloMosaic Idealize.ShloMosaic.TcCoe

variable (m : (ℓ : Loc nD τ sig) → Buf (Elt Ideal) ℓ) (c : Dev nD)

/-- One column of one token's projection. -/
def column (x : FVec Ideal S4x4096x1024 .f32) (w : FVec Ideal S1024x2048 .bf16) (b : Fin 4) (s : Fin 4096) (n : Fin 2048) : EReal :=
  ∑ k : Fin 1024, x (ix3 b s k) * w (ix2 k n)

/-- One head's vector with its first 32 entries turned, pair by pair. -/
def turn (h : Fin 128 → EReal) (cos sin : Fin 16 → EReal) (d : Fin 128) : EReal :=
  if h1 : (d : Nat) < 16 then h d * cos ⟨d, h1⟩ - h ⟨d + 16, by omega⟩ * sin ⟨d, h1⟩
  else if h2 : (d : Nat) < 32 then h d * cos ⟨d - 16, by omega⟩ + h ⟨d - 16, by omega⟩ * sin ⟨d - 16, by omega⟩
  else h d

/-- One head of one token, standing from column `p` on, turned by the token's rotation. -/
def rotated (x : FVec Ideal S4x4096x1024 .f32) (w : FVec Ideal S1024x2048 .bf16) (cos sin : FVec Ideal S4096x16 .f32)
    (b : Fin 4) (s : Fin 4096) (p : Nat) (hp : p + 128 ≤ 2048) (d : Fin 128) : EReal :=
  turn (fun e => column x w b s ⟨p + e, by omega⟩) (fun j => cos (ix2 s j)) (fun j => sin (ix2 s j)) d

/-- The factor of the queries. -/
abbrev factor : EReal := Ideal.ofBits .f32 1040356334#32

/-- One, where the token `s` lies in block `d`; zero elsewhere. -/
def oneHot (s : Fin 4096) (d : Fin 128) : EReal :=
  Scalar.select (IntOp.cmpi .eq (IntOp.shrsi .host (BitVec.ofNat 32 s) 6#32) (BitVec.ofNat 32 d)) 1 0

/-- One, in the row 128; zero in those below. -/
def onesRow (r : Nat) : EReal := Scalar.select (IntOp.cmpi .eq (BitVec.ofNat 32 (r - 128)) 0#32) 1 0

/-- One entry of a tile of values: a value, or the row of ones and the zeros below it. -/
def tileEntry (x : FVec Ideal S4x4096x1024 .f32) (w : FVec Ideal S1024x2048 .bf16) (b : Fin 4) (s : Fin 4096)
    (p : Nat) (hp : p + 128 ≤ 2048) (r : Fin 144) : EReal :=
  if h : (r : Nat) < 128 then column x w b s ⟨p + r, by omega⟩ else onesRow r

/-- The projection. -/
def proj : FVec Ideal S4x4096x2048 .f32 := Host.dotGeneral (F := Ideal) (φ₁ := .f32) (φ₂ := .f32) dot_S4x4096x1024_S1024x2048_S4x4096x2048_2_0_01_1_n_n none (m ((c.tc : Thread nD τ).loc main_arg0)) (extf .f32 (m ((c.tc : Thread nD τ).loc main_arg1)) bitsLt_bf16_f32)

theorem proj_apply (b : Fin 4) (s : Fin 4096) (n : Fin 2048) :
    proj m c (ix3 b s n) = column (m (c, main_arg0)) (m (c, main_arg1)) b s n := by
  pointwise [proj, column]

/-- The queries, head by head. -/
def qs : FVec Ideal S4x4096x8x128 .f32 := shapeCast _ (extractStridedSlice S4x4096x1024 ![0, 0, 0] (proj m c) slices_S4x4096x2048_S4x4096x1024_0_0_0) shapeCasts_S4x4096x1024_S4x4096x8x128

theorem qs_apply (b : Fin 4) (s : Fin 4096) (g : Fin 8) (d : Fin 128) :
    qs m c (ix4 b s g d) = column (m (c, main_arg0)) (m (c, main_arg1)) b s ⟨0 + (g * 128 + d), by omega⟩ := by
  refine Eq.trans ?_ (proj_apply m c b s _)
  pointwise [qs]

/-- The selected keys. -/
def ks : FVec Ideal S4x4096x2x128 .f32 := shapeCast _ (extractStridedSlice S4x4096x256 ![0, 0, 1024] (proj m c) slices_S4x4096x2048_S4x4096x256_0_0_1024) shapeCasts_S4x4096x256_S4x4096x2x128

theorem ks_apply (b : Fin 4) (s : Fin 4096) (g : Fin 2) (d : Fin 128) :
    ks m c (ix4 b s g d) = column (m (c, main_arg0)) (m (c, main_arg1)) b s ⟨1024 + (g * 128 + d), by omega⟩ := by
  refine Eq.trans ?_ (proj_apply m c b s _)
  pointwise [ks]

/-- The selected values. -/
def vs : FVec Ideal S4x4096x2x128 .f32 := shapeCast _ (extractStridedSlice S4x4096x256 ![0, 0, 1280] (proj m c) slices_S4x4096x2048_S4x4096x256_0_0_1280) shapeCasts_S4x4096x256_S4x4096x2x128

theorem vs_apply (b : Fin 4) (s : Fin 4096) (g : Fin 2) (d : Fin 128) :
    vs m c (ix4 b s g d) = column (m (c, main_arg0)) (m (c, main_arg1)) b s ⟨1280 + (g * 128 + d), by omega⟩ := by
  refine Eq.trans ?_ (proj_apply m c b s _)
  pointwise [vs]

/-- The window keys. -/
def kw : FVec Ideal S4x4096x2x128 .f32 := shapeCast _ (extractStridedSlice S4x4096x256 ![0, 0, 1536] (proj m c) slices_S4x4096x2048_S4x4096x256_0_0_1536) shapeCasts_S4x4096x256_S4x4096x2x128

theorem kw_apply (b : Fin 4) (s : Fin 4096) (g : Fin 2) (d : Fin 128) :
    kw m c (ix4 b s g d) = column (m (c, main_arg0)) (m (c, main_arg1)) b s ⟨1536 + (g * 128 + d), by omega⟩ := by
  refine Eq.trans ?_ (proj_apply m c b s _)
  pointwise [kw]

/-- The window values. -/
def vw : FVec Ideal S4x4096x2x128 .f32 := shapeCast _ (extractStridedSlice S4x4096x256 ![0, 0, 1792] (proj m c) slices_S4x4096x2048_S4x4096x256_0_0_1792) shapeCasts_S4x4096x256_S4x4096x2x128

theorem vw_apply (b : Fin 4) (s : Fin 4096) (g : Fin 2) (d : Fin 128) :
    vw m c (ix4 b s g d) = column (m (c, main_arg0)) (m (c, main_arg1)) b s ⟨1792 + (g * 128 + d), by omega⟩ := by
  refine Eq.trans ?_ (proj_apply m c b s _)
  pointwise [vw]

/-- Each token's cosines, for eight heads. -/
def cosb8 : FVec Ideal S4x4096x8x16 .f32 := broadcastInDim S4x4096x8x16 ![0, 1, 2, 3] bcast_S1x4096x1x16_S4x4096x8x16_0_1_2_3 (broadcastInDim S1x4096x1x16 ![1, 2, 3] bcast_S4096x1x16_S1x4096x1x16_1_2_3 (broadcastInDim S4096x1x16 ![0, 2] bcast_S4096x16_S4096x1x16_0_2 (m ((c.tc : Thread nD τ).loc main_arg2))))

theorem cosb8_apply (b : Fin 4) (s : Fin 4096) (g : Fin 8) (j : Fin 16) :
    cosb8 m c (ix4 b s g j) = m (c, main_arg2) (ix2 s j) := by
  pointwise [cosb8]

/-- Each token's sines, for eight heads. -/
def sinb8 : FVec Ideal S4x4096x8x16 .f32 := broadcastInDim S4x4096x8x16 ![0, 1, 2, 3] bcast_S1x4096x1x16_S4x4096x8x16_0_1_2_3 (broadcastInDim S1x4096x1x16 ![1, 2, 3] bcast_S4096x1x16_S1x4096x1x16_1_2_3 (broadcastInDim S4096x1x16 ![0, 2] bcast_S4096x16_S4096x1x16_0_2 (m ((c.tc : Thread nD τ).loc main_arg3))))

theorem sinb8_apply (b : Fin 4) (s : Fin 4096) (g : Fin 8) (j : Fin 16) :
    sinb8 m c (ix4 b s g j) = m (c, main_arg3) (ix2 s j) := by
  pointwise [sinb8]

/-- The rotation of eight heads. -/
def turned8 (t : FVec Ideal S4x4096x8x128 .f32) : FVec Ideal S4x4096x8x128 .f32 := ((concatenate S4x4096x8x128 3 [⟨S4x4096x8x16, ((subf (mulf (extractStridedSlice S4x4096x8x16 ![0, 0, 0, 0] t slices_S4x4096x8x128_S4x4096x8x16_0_0_0_0) (cosb8 m c)) (mulf (extractStridedSlice S4x4096x8x16 ![0, 0, 0, 16] t slices_S4x4096x8x128_S4x4096x8x16_0_0_0_16) (sinb8 m c))) : (⟨S4x4096x8x16, .f32⟩ : BufTy).Contents (Elt Ideal))⟩, ⟨S4x4096x8x16, ((addf (mulf (extractStridedSlice S4x4096x8x16 ![0, 0, 0, 16] t slices_S4x4096x8x128_S4x4096x8x16_0_0_0_16) (cosb8 m c)) (mulf (extractStridedSlice S4x4096x8x16 ![0, 0, 0, 0] t slices_S4x4096x8x128_S4x4096x8x16_0_0_0_0) (sinb8 m c))) : (⟨S4x4096x8x16, .f32⟩ : BufTy).Contents (Elt Ideal))⟩, ⟨S4x4096x8x96, ((extractStridedSlice S4x4096x8x96 ![0, 0, 0, 32] t slices_S4x4096x8x128_S4x4096x8x96_0_0_0_32) : (⟨S4x4096x8x96, .f32⟩ : BufTy).Contents (Elt Ideal))⟩] concatenates_S4x4096x8x16_S4x4096x8x16_S4x4096x8x96_S4x4096x8x128_d3 : (⟨S4x4096x8x128, .f32⟩ : BufTy).Contents (Elt Ideal)))

theorem turned8_apply (t : FVec Ideal S4x4096x8x128 .f32) (b : Fin 4) (s : Fin 4096) (g : Fin 8) (d : Fin 128) :
    turned8 m c t (ix4 b s g d) = turn (fun e => t (ix4 b s g e)) (fun j => m (c, main_arg2) (ix2 s j)) (fun j => m (c, main_arg3) (ix2 s j)) d := by
  unfold turn
  by_cases h1 : (d : Nat) < 16
  · rw [dif_pos h1]
    refine Eq.trans ?_ (congrArg₂ (fun x y : EReal => t (ix4 b s g d) * x - t (ix4 b s g ⟨d + 16, by omega⟩) * y) (cosb8_apply m c b s g ⟨d, h1⟩) (sinb8_apply m c b s g ⟨d, h1⟩))
    unfold turned8
    pointwise []
    rw [dif_pos h1]
    exact congrArg (fun x : EReal => _ - x * _) (congrArg (fun e => t (ix4 b s g e)) (Fin.ext (Nat.add_comm _ _)))
  · rw [dif_neg h1]
    by_cases h2 : (d : Nat) < 32
    · rw [dif_pos h2]
      refine Eq.trans ?_ (congrArg₂ (fun x y : EReal => t (ix4 b s g d) * x + t (ix4 b s g ⟨d - 16, by omega⟩) * y) (cosb8_apply m c b s g ⟨d - 16, by omega⟩) (sinb8_apply m c b s g ⟨d - 16, by omega⟩))
      unfold turned8
      pointwise []
      rw [dif_neg h1, dif_pos (by omega)]
      exact congrArg (fun x : EReal => x * _ + _) (congrArg (fun e => t (ix4 b s g e)) (Fin.ext (show 16 + ((d : Nat) - 16) = d by omega)))
    · rw [dif_neg h2]
      unfold turned8
      pointwise []
      rw [dif_neg h1, dif_neg (by omega)]
      exact congrArg (fun e => t (ix4 b s g e)) (Fin.ext (show 32 + ((d : Nat) - 16 - 16) = d by omega))

/-- Each token's cosines, for two heads. -/
def cosb2 : FVec Ideal S4x4096x2x16 .f32 := broadcastInDim S4x4096x2x16 ![0, 1, 2, 3] bcast_S1x4096x1x16_S4x4096x2x16_0_1_2_3 (broadcastInDim S1x4096x1x16 ![1, 2, 3] bcast_S4096x1x16_S1x4096x1x16_1_2_3 (broadcastInDim S4096x1x16 ![0, 2] bcast_S4096x16_S4096x1x16_0_2 (m ((c.tc : Thread nD τ).loc main_arg2))))

theorem cosb2_apply (b : Fin 4) (s : Fin 4096) (g : Fin 2) (j : Fin 16) :
    cosb2 m c (ix4 b s g j) = m (c, main_arg2) (ix2 s j) := by
  pointwise [cosb2]

/-- Each token's sines, for two heads. -/
def sinb2 : FVec Ideal S4x4096x2x16 .f32 := broadcastInDim S4x4096x2x16 ![0, 1, 2, 3] bcast_S1x4096x1x16_S4x4096x2x16_0_1_2_3 (broadcastInDim S1x4096x1x16 ![1, 2, 3] bcast_S4096x1x16_S1x4096x1x16_1_2_3 (broadcastInDim S4096x1x16 ![0, 2] bcast_S4096x16_S4096x1x16_0_2 (m ((c.tc : Thread nD τ).loc main_arg3))))

theorem sinb2_apply (b : Fin 4) (s : Fin 4096) (g : Fin 2) (j : Fin 16) :
    sinb2 m c (ix4 b s g j) = m (c, main_arg3) (ix2 s j) := by
  pointwise [sinb2]

/-- The rotation of two heads. -/
def turned2 (t : FVec Ideal S4x4096x2x128 .f32) : FVec Ideal S4x4096x2x128 .f32 := ((concatenate S4x4096x2x128 3 [⟨S4x4096x2x16, ((subf (mulf (extractStridedSlice S4x4096x2x16 ![0, 0, 0, 0] t slices_S4x4096x2x128_S4x4096x2x16_0_0_0_0) (cosb2 m c)) (mulf (extractStridedSlice S4x4096x2x16 ![0, 0, 0, 16] t slices_S4x4096x2x128_S4x4096x2x16_0_0_0_16) (sinb2 m c))) : (⟨S4x4096x2x16, .f32⟩ : BufTy).Contents (Elt Ideal))⟩, ⟨S4x4096x2x16, ((addf (mulf (extractStridedSlice S4x4096x2x16 ![0, 0, 0, 16] t slices_S4x4096x2x128_S4x4096x2x16_0_0_0_16) (cosb2 m c)) (mulf (extractStridedSlice S4x4096x2x16 ![0, 0, 0, 0] t slices_S4x4096x2x128_S4x4096x2x16_0_0_0_0) (sinb2 m c))) : (⟨S4x4096x2x16, .f32⟩ : BufTy).Contents (Elt Ideal))⟩, ⟨S4x4096x2x96, ((extractStridedSlice S4x4096x2x96 ![0, 0, 0, 32] t slices_S4x4096x2x128_S4x4096x2x96_0_0_0_32) : (⟨S4x4096x2x96, .f32⟩ : BufTy).Contents (Elt Ideal))⟩] concatenates_S4x4096x2x16_S4x4096x2x16_S4x4096x2x96_S4x4096x2x128_d3 : (⟨S4x4096x2x128, .f32⟩ : BufTy).Contents (Elt Ideal)))

theorem turned2_apply (t : FVec Ideal S4x4096x2x128 .f32) (b : Fin 4) (s : Fin 4096) (g : Fin 2) (d : Fin 128) :
    turned2 m c t (ix4 b s g d) = turn (fun e => t (ix4 b s g e)) (fun j => m (c, main_arg2) (ix2 s j)) (fun j => m (c, main_arg3) (ix2 s j)) d := by
  unfold turn
  by_cases h1 : (d : Nat) < 16
  · rw [dif_pos h1]
    refine Eq.trans ?_ (congrArg₂ (fun x y : EReal => t (ix4 b s g d) * x - t (ix4 b s g ⟨d + 16, by omega⟩) * y) (cosb2_apply m c b s g ⟨d, h1⟩) (sinb2_apply m c b s g ⟨d, h1⟩))
    unfold turned2
    pointwise []
    rw [dif_pos h1]
    exact congrArg (fun x : EReal => _ - x * _) (congrArg (fun e => t (ix4 b s g e)) (Fin.ext (Nat.add_comm _ _)))
  · rw [dif_neg h1]
    by_cases h2 : (d : Nat) < 32
    · rw [dif_pos h2]
      refine Eq.trans ?_ (congrArg₂ (fun x y : EReal => t (ix4 b s g d) * x + t (ix4 b s g ⟨d - 16, by omega⟩) * y) (cosb2_apply m c b s g ⟨d - 16, by omega⟩) (sinb2_apply m c b s g ⟨d - 16, by omega⟩))
      unfold turned2
      pointwise []
      rw [dif_neg h1, dif_pos (by omega)]
      exact congrArg (fun x : EReal => x * _ + _) (congrArg (fun e => t (ix4 b s g e)) (Fin.ext (show 16 + ((d : Nat) - 16) = d by omega)))
    · rw [dif_neg h2]
      unfold turned2
      pointwise []
      rw [dif_neg h1, dif_neg (by omega)]
      exact congrArg (fun e => t (ix4 b s g e)) (Fin.ext (show 32 + ((d : Nat) - 16 - 16) = d by omega))

/-- The queries, turned, scaled and transposed. -/
def queries : FVec Ideal S4x1024x4096 .bf16 := truncf .bf16 (shapeCast _ (transpose S4x8x128x4096 [0, 2, 3, 1] (mulf (turned8 m c (qs m c)) (broadcastInDim S4x4096x8x128 ![] bcast_S_S4x4096x8x128 (constant (F := Ideal) S_ .f32 0x3E0293EE#32))) transposes_S4x4096x8x128_S4x8x128x4096_0_2_3_1) shapeCasts_S4x8x128x4096_S4x1024x4096) bitsLt_bf16_f32

/-- The selected keys, turned, each beside the one-hot of its block. -/
def selKeys : FVec Ideal S4x4096x512 .bf16 := shapeCast _ (concatenate S4x4096x2x256 3 [⟨S4x4096x2x128, (truncf .bf16 (turned2 m c (ks m c)) bitsLt_bf16_f32)⟩, ⟨S4x4096x2x128, (truncf .bf16 (select (cmpi .eq (Host.shrsi (iotaInDim S4x4096x2x128 32 1) (broadcastInDim S4x4096x2x128 ![] bcast_S_S4x4096x2x128 (constantI S_ 32 6#32))) (iotaInDim S4x4096x2x128 32 3)) (broadcastInDim S4x4096x2x128 ![] bcast_S_S4x4096x2x128 (constant (F := Ideal) S_ .f32 0x3F800000#32)) (broadcastInDim S4x4096x2x128 ![] bcast_S_S4x4096x2x128 (constant (F := Ideal) S_ .f32 0x00000000#32))) bitsLt_bf16_f32)⟩] concatenates_S4x4096x2x128_S4x4096x2x128_S4x4096x2x256_d3) shapeCasts_S4x4096x2x256_S4x4096x512

/-- The selected values in tiles, each above a row of ones. -/
def selVals : FVec Ideal S4x2x8x144x512 .bf16 := concatenate S4x2x8x144x512 3 [⟨S4x2x8x128x512, (truncf .bf16 (transpose S4x2x8x128x512 [0, 3, 1, 4, 2] (shapeCast _ (vs m c) shapeCasts_S4x4096x2x128_S4x8x512x2x128) transposes_S4x8x512x2x128_S4x2x8x128x512_0_3_1_4_2) bitsLt_bf16_f32)⟩, ⟨S4x2x8x16x512, (truncf .bf16 (select (cmpi .eq (iotaInDim S4x2x8x16x512 32 3) (broadcastInDim S4x2x8x16x512 ![] bcast_S_S4x2x8x16x512 (constantI S_ 32 0#32))) (broadcastInDim S4x2x8x16x512 ![] bcast_S_S4x2x8x16x512 (constant (F := Ideal) S_ .f32 0x3F800000#32)) (broadcastInDim S4x2x8x16x512 ![] bcast_S_S4x2x8x16x512 (constant (F := Ideal) S_ .f32 0x00000000#32))) bitsLt_bf16_f32)⟩] concatenates_S4x2x8x128x512_S4x2x8x16x512_S4x2x8x144x512_d3

/-- The window keys, turned. -/
def winKeys : FVec Ideal S4x4096x256 .bf16 := shapeCast _ (truncf .bf16 (turned2 m c (kw m c)) bitsLt_bf16_f32) shapeCasts_S4x4096x2x128_S4x4096x256

/-- The window values in tiles, each above a row of ones. -/
def winVals : FVec Ideal S4x2x16x144x256 .bf16 := concatenate S4x2x16x144x256 3 [⟨S4x2x16x128x256, (truncf .bf16 (transpose S4x2x16x128x256 [0, 3, 1, 4, 2] (shapeCast _ (vw m c) shapeCasts_S4x4096x2x128_S4x16x256x2x128) transposes_S4x16x256x2x128_S4x2x16x128x256_0_3_1_4_2) bitsLt_bf16_f32)⟩, ⟨S4x2x16x16x256, (truncf .bf16 (select (cmpi .eq (iotaInDim S4x2x16x16x256 32 3) (broadcastInDim S4x2x16x16x256 ![] bcast_S_S4x2x16x16x256 (constantI S_ 32 0#32))) (broadcastInDim S4x2x16x16x256 ![] bcast_S_S4x2x16x16x256 (constant (F := Ideal) S_ .f32 0x3F800000#32)) (broadcastInDim S4x2x16x16x256 ![] bcast_S_S4x2x16x16x256 (constant (F := Ideal) S_ .f32 0x00000000#32))) bitsLt_bf16_f32)⟩] concatenates_S4x2x16x128x256_S4x2x16x16x256_S4x2x16x144x256_d3

theorem queries_apply (b : Fin 4) (g : Fin 8) (d : Fin 128) (s : Fin 4096) :
    queries m c (ix3 b ⟨g * 128 + d, by omega⟩ s) = rotated (m (c, main_arg0)) (m (c, main_arg1)) (m (c, main_arg2)) (m (c, main_arg3)) b s (g * 128) (by omega) d * factor := by
  have e : turned8 m c (qs m c) (ix4 b s g d) = rotated (m (c, main_arg0)) (m (c, main_arg1)) (m (c, main_arg2)) (m (c, main_arg3)) b s (g * 128) (by omega) d := by
    rw [turned8_apply]
    exact congrArg (fun h => turn h _ _ d) (funext fun e => (qs_apply m c b s g e).trans
      (congrArg (column _ _ b s) (Fin.ext (show 0 + ((g : Nat) * 128 + e) = g * 128 + e by omega))))
  rw [← e]
  pointwise [queries]

theorem selKeys_apply (b : Fin 4) (s : Fin 4096) (g : Fin 2) (d : Fin 128) :
    selKeys m c (ix3 b s ⟨g * 256 + d, by omega⟩) = rotated (m (c, main_arg0)) (m (c, main_arg1)) (m (c, main_arg2)) (m (c, main_arg3)) b s (1024 + g * 128) (by omega) d := by
  have e : turned2 m c (ks m c) (ix4 b s g d) = rotated (m (c, main_arg0)) (m (c, main_arg1)) (m (c, main_arg2)) (m (c, main_arg3)) b s (1024 + g * 128) (by omega) d := by
    rw [turned2_apply]
    exact congrArg (fun h => turn h _ _ d) (funext fun e => (ks_apply m c b s g e).trans
      (congrArg (column _ _ b s) (Fin.ext (show 1024 + ((g : Nat) * 128 + e) = 1024 + g * 128 + e by omega))))
  rw [← e]
  pointwise [selKeys]
  rw [dif_pos (by omega)]
  exact congrArg (fun q => turned2 m c (ks m c) (ix4 b s g q)) (Fin.ext (show ((g : Nat) * 256 + d) % 256 = d by omega))

theorem selKeys_apply_tag (b : Fin 4) (s : Fin 4096) (g : Fin 2) (d : Fin 128) :
    selKeys m c (ix3 b s ⟨g * 256 + (128 + d), by omega⟩) = oneHot s d := by
  unfold oneHot
  pointwise [selKeys]
  rw [dif_neg (by omega), show ((g : Nat) * 256 + (128 + d)) % 256 - 128 = d by omega]

theorem winKeys_apply (b : Fin 4) (s : Fin 4096) (g : Fin 2) (d : Fin 128) :
    winKeys m c (ix3 b s ⟨g * 128 + d, by omega⟩) = rotated (m (c, main_arg0)) (m (c, main_arg1)) (m (c, main_arg2)) (m (c, main_arg3)) b s (1536 + g * 128) (by omega) d := by
  have e : turned2 m c (kw m c) (ix4 b s g d) = rotated (m (c, main_arg0)) (m (c, main_arg1)) (m (c, main_arg2)) (m (c, main_arg3)) b s (1536 + g * 128) (by omega) d := by
    rw [turned2_apply]
    exact congrArg (fun h => turn h _ _ d) (funext fun e => (kw_apply m c b s g e).trans
      (congrArg (column _ _ b s) (Fin.ext (show 1536 + ((g : Nat) * 128 + e) = 1536 + g * 128 + e by omega))))
  rw [← e]
  pointwise [winKeys]

theorem selVals_apply (b : Fin 4) (g : Fin 2) (q : Fin 8) (r : Fin 144) (k : Fin 512) :
    selVals m c (ix5 b g q r k) = tileEntry (m (c, main_arg0)) (m (c, main_arg1)) b ⟨q * 512 + k, by omega⟩ (1280 + g * 128) (by omega) r := by
  unfold tileEntry onesRow
  by_cases h : (r : Nat) < 128
  · rw [dif_pos h]
    refine Eq.trans ?_ ((vs_apply m c b ⟨q * 512 + k, by omega⟩ g ⟨r, h⟩).trans
      (congrArg (column _ _ b _) (Fin.ext (show 1280 + ((g : Nat) * 128 + r) = 1280 + g * 128 + r by omega))))
    pointwise [selVals]
    rw [dif_pos h]
  · rw [dif_neg h]
    pointwise [selVals]
    rw [dif_neg h]

theorem winVals_apply (b : Fin 4) (g : Fin 2) (q : Fin 16) (r : Fin 144) (k : Fin 256) :
    winVals m c (ix5 b g q r k) = tileEntry (m (c, main_arg0)) (m (c, main_arg1)) b ⟨q * 256 + k, by omega⟩ (1792 + g * 128) (by omega) r := by
  unfold tileEntry onesRow
  by_cases h : (r : Nat) < 128
  · rw [dif_pos h]
    refine Eq.trans ?_ ((vw_apply m c b ⟨q * 256 + k, by omega⟩ g ⟨r, h⟩).trans
      (congrArg (column _ _ b _) (Fin.ext (show 1792 + ((g : Nat) * 128 + r) = 1792 + g * 128 + r by omega))))
    pointwise [winVals]
    rw [dif_pos h]
  · rw [dif_neg h]
    pointwise [winVals]
    rw [dif_neg h]

end Cert.Reference6Ideal.Nsa
-- ==== Proof.Nsa.Tables.lean ====
/-
  The two tables of 128 entries that the call takes are the reference's table of 16: turning a head with them is
  turning it pair by pair.
-/
module

public import proofs.«01_k».proof.Proof.Nsa.Block
public import proofs.«01_k».proof.Proof.Nsa.Ref
public import Idealize.ShloMosaic.Lib.StableHlo.ReadAt

@[expose] public section

set_option maxRecDepth 16384

noncomputable section

namespace Cert.Kernel6Ideal.Nsa

open Cert.Kernel6Ideal Cert.Kernel6Ideal.Gen Idealize.ShloMosaic Idealize.ShloMosaic.TcCoe
open Cert.Reference6Ideal.Nsa (column turn rotated oneHot tileEntry)

variable (m : (ℓ : Loc nD τ sig) → Buf (Elt Ideal) ℓ) (c : Dev nD)

/-- The reference's cosines and sines. -/
abbrev cosines : FVec Ideal S4096x16 .f32 := m (c, main_arg2)
@[inherit_doc cosines] abbrev sines : FVec Ideal S4096x16 .f32 := m (c, main_arg3)

theorem cos_table (s : Fin 4096) (e : Fin 128) :
    (V m c main_v1 : FVec Ideal S4096x128 .f32) (ix2 s e) = (if h : (e : Nat) < 16 then cosines m c (ix2 s ⟨e, h⟩)
      else if h2 : (e : Nat) < 32 then cosines m c (ix2 s ⟨e - 16, by omega⟩) else 1 : EReal) := by
  unfold V
  after_reads_at
  by_cases h1 : (e : Nat) < 16
  · rw [dif_pos h1, dif_pos h1]
  rw [dif_neg h1, dif_neg h1]
  by_cases h2 : (e : Nat) < 32
  · rw [dif_pos h2, dif_pos (by omega)]
  rw [dif_neg h2, dif_neg (by omega)]
  after_reads_at

theorem sin_table (s : Fin 4096) (e : Fin 128) :
    (V m c main_v4 : FVec Ideal S4096x128 .f32) (ix2 s e) = (if h : (e : Nat) < 16 then - sines m c (ix2 s ⟨e, h⟩)
      else if h2 : (e : Nat) < 32 then sines m c (ix2 s ⟨e - 16, by omega⟩) else 0 : EReal) := by
  unfold V
  after_reads_at
  by_cases h1 : (e : Nat) < 16
  · rw [dif_pos h1, dif_pos h1]
    after_reads_at
  rw [dif_neg h1, dif_neg h1]
  by_cases h2 : (e : Nat) < 32
  · rw [dif_pos h2, dif_pos (by omega)]
  rw [dif_neg h2, dif_neg (by omega)]
  after_reads_at

theorem lane (d : Fin 128) (x y : EReal) :
    Scalar.select (IntOp.cmpi .slt (BitVec.ofNat 32 d) 16#32) x y = if (d : Nat) < 16 then x else y := by
  fin_cases d <;> rfl

/-- Turning with the long tables is turning pair by pair. -/
theorem turnTab_eq (h cf sf : Fin 128 → EReal) (cos sin : Fin 16 → EReal)
    (hc : ∀ e : Fin 128, cf e = if h : (e : Nat) < 16 then cos ⟨e, h⟩ else if h2 : (e : Nat) < 32 then cos ⟨e - 16, by omega⟩ else 1)
    (hs : ∀ e : Fin 128, sf e = if h : (e : Nat) < 16 then - sin ⟨e, h⟩ else if h2 : (e : Nat) < 32 then sin ⟨e - 16, by omega⟩ else 0)
    (d : Fin 128) : turnTab h cf sf d = turn h cos sin d := by
  unfold turnTab turn
  rw [lane, hc d, hs d]
  by_cases h1 : (d : Nat) < 16
  · rw [dif_pos h1, dif_pos h1, dif_pos h1, if_pos h1, mul_neg, ← sub_eq_add_neg]
    exact congrArg (fun q => h d * cos ⟨d, h1⟩ - h q * sin ⟨d, h1⟩) (Fin.ext (show ((d : Nat) + 128 - 112) % 128 = d + 16 by omega))
  · rw [dif_neg h1, dif_neg h1, dif_neg h1, if_neg h1]
    by_cases h2 : (d : Nat) < 32
    · rw [dif_pos h2, dif_pos h2, dif_pos h2]
      exact congrArg (fun q => h d * cos ⟨d - 16, by omega⟩ + h q * sin ⟨d - 16, by omega⟩) (Fin.ext (show ((d : Nat) + 128 - 16) % 128 = d - 16 by omega))
    · rw [dif_neg h2, dif_neg h2, dif_neg h2, mul_one, mul_zero, add_zero]

/-- The one-hot of the point's row is the one-hot of its token. -/
theorem tag_eq (i : Fin 8) (r : Fin 512) (d : Fin 128) :
    tag i r d = oneHot ⟨i * 512 + r, by omega⟩ d := by
  unfold tag oneHot
  have e : IntOp.addi (Scalar.muli (BitVec.ofNat 32 i) 512#32) (BitVec.ofNat 32 r) = BitVec.ofNat 32 (i * 512 + r) := by
    show BitVec.ofNat 32 i * 512#32 + BitVec.ofNat 32 r = _
    rw [BitVec.ofNat_add, BitVec.ofNat_mul]
  rw [e]
  rfl

end Cert.Kernel6Ideal.Nsa
-- ==== Proof.Nsa.Result.lean ====
/-
  The call's five results are the reference's: each point writes its token rows' share of every one.
-/
module

public import proofs.«01_k».proof.Proof.Nsa.Tables

@[expose] public section

set_option maxRecDepth 16384

noncomputable section

namespace Cert.Kernel6Ideal.Nsa

open Cert.Kernel6Ideal Cert.Kernel6Ideal.Gen Idealize.ShloMosaic Idealize.ShloMosaic.TcCoe
open Cert.Reference6Ideal.Nsa (column turn rotated oneHot tileEntry)

variable (m : (ℓ : Loc nD τ sig) → Buf (Elt Ideal) ℓ) (c : Dev nD)

/-- Where each window's block stands, at every point. -/
theorem places : ∀ t : Fin grid0.N,
    (grid0.coords t 0).val < 4 ∧ (grid0.coords t 1).val < 8
    ∧ win0_0.index t = ![(grid0.coords t 0).val, (grid0.coords t 1).val, 0]
    ∧ win0_1.index t = ![0, 0]
    ∧ win0_2.index t = ![(grid0.coords t 1).val, 0]
    ∧ win0_3.index t = ![(grid0.coords t 1).val, 0]
    ∧ win0_4.index t = ![(grid0.coords t 0).val, 0, (grid0.coords t 1).val]
    ∧ win0_5.index t = ![(grid0.coords t 0).val, (grid0.coords t 1).val, 0]
    ∧ win0_6.index t = ![(grid0.coords t 0).val, 0, (grid0.coords t 1).val, 0, 0]
    ∧ win0_7.index t = ![(grid0.coords t 0).val, (grid0.coords t 1).val, 0]
    ∧ win0_8.index t = ![(grid0.coords t 0).val, 0, (grid0.coords t 1).val, 0, 0] := by
  decide +kernel

/-- The point's batch row. -/
abbrev batch (t : Fin grid0.N) : Fin 4 := ⟨(grid0.coords t 0).val, (places t).1⟩

/-- The row of the sequence that stands at row `r` of the point's block. -/
abbrev token (t : Fin grid0.N) (r : Fin 512) : Fin 4096 :=
  ⟨(grid0.coords t 1).val * 512 + r, by have := (places t).2.1; omega⟩

/-! ## What the point reads -/

theorem read_x (t : Fin grid0.N) (r : Fin 512) (k : Fin 1024) :
    (iblk m c 0 t : Vec Ideal S1x512x1024 .f32) (ix3 0 r k) = m (c, main_arg0) (ix3 (batch t) (token t r) k) := by
  refine Eq.trans ?_ (congrFun (V_main_arg0 m c) _)
  blk_ext [iblk, (places t).2.2.1]

theorem read_w (t : Fin grid0.N) (k : Fin 1024) (n : Fin 2048) :
    (iblk m c 1 t : Vec Ideal S1024x2048 .bf16) (ix2 k n) = m (c, main_arg1) (ix2 k n) := by
  refine Eq.trans ?_ (congrFun (V_main_arg1 m c) _)
  blk_ext [iblk, (places t).2.2.2.1]

theorem read_cos (t : Fin grid0.N) (r : Fin 512) (e : Fin 128) :
    (iblk m c 2 t : Vec Ideal S512x128 .f32) (ix2 r e) = (V m c main_v1 : FVec Ideal S4096x128 .f32) (ix2 (token t r) e) := by
  blk_ext [iblk, (places t).2.2.2.2.1]

theorem read_sin (t : Fin grid0.N) (r : Fin 512) (e : Fin 128) :
    (iblk m c 3 t : Vec Ideal S512x128 .f32) (ix2 r e) = (V m c main_v4 : FVec Ideal S4096x128 .f32) (ix2 (token t r) e) := by
  blk_ext [iblk, (places t).2.2.2.2.2.1]

theorem product (x : Vec Ideal S1x512x1024 .f32) (w : Vec Ideal S1024x2048 .bf16) (r : Fin 512) (n : Fin 2048) :
    (k0_pay2 x w : FVec Ideal S512x2048 .f32) (ix2 r n) = ∑ k : Fin 1024, x (ix3 0 r k) * w (ix2 k n) := by
  pointwise [k0_pay2]

theorem product_block (t : Fin grid0.N) (r : Fin 512) (n : Fin 2048) :
    (k0_pay2 (iblk m c 0 t) (iblk m c 1 t) : FVec Ideal S512x2048 .f32) (ix2 r n)
      = column (m (c, main_arg0)) (m (c, main_arg1)) (batch t) (token t r) n :=
  (product _ _ r n).trans (Finset.sum_congr rfl fun k _ =>
    congrArg₂ (fun x y : EReal => x * y) (read_x m c t r k) (read_w m c t k n))

/-- A head of the point's block, turned with the point's tables, is the reference's turned head. -/
theorem turned_block (t : Fin grid0.N) (r : Fin 512) (p : Nat) (hp : p + 128 ≤ 2048) (d : Fin 128) :
    turnTab (head (k0_pay2 (iblk m c 0 t) (iblk m c 1 t)) r p hp) (fun e => (iblk m c 2 t : Vec Ideal S512x128 .f32) (ix2 r e))
        (fun e => (iblk m c 3 t : Vec Ideal S512x128 .f32) (ix2 r e)) d
      = rotated (m (c, main_arg0)) (m (c, main_arg1)) (m (c, main_arg2)) (m (c, main_arg3)) (batch t) (token t r) p hp d := by
  refine (turnTab_eq _ _ _ (fun j => cosines m c (ix2 (token t r) j)) (fun j => sines m c (ix2 (token t r) j))
    (fun e => (read_cos m c t r e).trans (cos_table m c (token t r) e))
    (fun e => (read_sin m c t r e).trans (sin_table m c (token t r) e)) d).trans ?_
  exact congrArg (fun h => turn h _ _ d) (funext fun e => product_block m c t r ⟨p + e, by omega⟩)

/-- An entry of a tile of values of the point's block is the reference's. -/
theorem entry_block (t : Fin grid0.N) (k : Fin 512) (p : Nat) (hp : p + 128 ≤ 2048) (r : Fin 144) :
    entry (k0_pay2 (iblk m c 0 t) (iblk m c 1 t)) k p hp r
      = tileEntry (m (c, main_arg0)) (m (c, main_arg1)) (batch t) (token t k) p hp r := by
  unfold entry tileEntry
  by_cases h : (r : Nat) < 128
  · rw [dif_pos h, dif_pos h]
    exact product_block m c t k ⟨p + r, by omega⟩
  · rw [dif_neg h, dif_neg h]
    rfl

/-! ## What the point writes -/

section blocks

variable (i : grid0.Coords) (x : Vec Ideal S1x512x1024 .f32) (w : Vec Ideal S1024x2048 .bf16) (t5 t7 : Vec Ideal S512x128 .f32)

theorem block_queries (g : Fin 8) (d : Fin 128) (r : Fin 512) :
    out0_4 i x w t5 t7 (ix3 0 ⟨g * 128 + d, by omega⟩ r)
      = turnTab (head (k0_pay2 x w) r (g * 128) (by omega)) (fun e => t5 (ix2 r e)) (fun e => t7 (ix2 r e)) d * factor := by
  fin_cases g
  · exact queries0 i x w t5 t7 r d
  · exact queries1 i x w t5 t7 r d
  · exact queries2 i x w t5 t7 r d
  · exact queries3 i x w t5 t7 r d
  · exact queries4 i x w t5 t7 r d
  · exact queries5 i x w t5 t7 r d
  · exact queries6 i x w t5 t7 r d
  · exact queries7 i x w t5 t7 r d

theorem block_selKeys (g : Fin 2) (d : Fin 128) (r : Fin 512) :
    out0_5 i x w t5 t7 (ix3 0 r ⟨g * 256 + d, by omega⟩)
      = turnTab (head (k0_pay2 x w) r (1024 + g * 128) (by omega)) (fun e => t5 (ix2 r e)) (fun e => t7 (ix2 r e)) d := by
  fin_cases g
  · exact selKeys0 i x w t5 t7 r d
  · exact selKeys1 i x w t5 t7 r d

theorem block_selTags (g : Fin 2) (d : Fin 128) (r : Fin 512) :
    out0_5 i x w t5 t7 (ix3 0 r ⟨g * 256 + (128 + d), by omega⟩) = tag (i 1).val r d := by
  fin_cases g
  · exact (congrArg (fun n => out0_5 i x w t5 t7 (ix3 0 r n)) (Fin.ext (show 0 * 256 + (128 + (d : Nat)) = 128 + d by omega))).trans (selTags0 i x w t5 t7 r d)
  · exact (congrArg (fun n => out0_5 i x w t5 t7 (ix3 0 r n)) (Fin.ext (show 1 * 256 + (128 + (d : Nat)) = 384 + d by omega))).trans (selTags1 i x w t5 t7 r d)

theorem block_winKeys (g : Fin 2) (d : Fin 128) (r : Fin 512) :
    out0_7 i x w t5 t7 (ix3 0 r ⟨g * 128 + d, by omega⟩)
      = turnTab (head (k0_pay2 x w) r (1536 + g * 128) (by omega)) (fun e => t5 (ix2 r e)) (fun e => t7 (ix2 r e)) d := by
  fin_cases g
  · exact winKeys0 i x w t5 t7 r d
  · exact winKeys1 i x w t5 t7 r d

theorem block_selVals (g : Fin 2) (r : Fin 144) (k : Fin 512) :
    out0_6 i x w t5 t7 (ix5 0 g 0 r k) = entry (k0_pay2 x w) k (1280 + g * 128) (by omega) r := by
  fin_cases g
  · exact selVals0 i x w t5 t7 r k
  · exact selVals1 i x w t5 t7 r k

theorem block_winVals (g q : Fin 2) (r : Fin 144) (k : Fin 256) :
    out0_8 i x w t5 t7 (ix5 0 g q r k) = entry (k0_pay2 x w) ⟨q * 256 + k, by omega⟩ (1792 + g * 128) (by omega) r := by
  fin_cases g <;> fin_cases q
  · exact winVals00 i x w t5 t7 r k
  · exact winVals01 i x w t5 t7 r k
  · exact winVals10 i x w t5 t7 r k
  · exact winVals11 i x w t5 t7 r k

end blocks

/-! ## The arguments the two programs share -/

theorem rotated_congr {x x' : FVec Ideal S4x4096x1024 .f32} {w w' : FVec Ideal S1024x2048 .bf16} {u u' v v' : FVec Ideal S4096x16 .f32}
    (h0 : x' = x) (h1 : w' = w) (h2 : u' = u) (h3 : v' = v) (b : Fin 4) (s : Fin 4096) (p : Nat) (hp : p + 128 ≤ 2048) (d : Fin 128) :
    rotated x w u v b s p hp d = rotated x' w' u' v' b s p hp d := by
  subst h0 h1 h2 h3; rfl

theorem tileEntry_congr {x x' : FVec Ideal S4x4096x1024 .f32} {w w' : FVec Ideal S1024x2048 .bf16}
    (h0 : x' = x) (h1 : w' = w) (b : Fin 4) (s : Fin 4096) (p : Nat) (hp : p + 128 ≤ 2048) (r : Fin 144) :
    tileEntry x w b s p hp r = tileEntry x' w' b s p hp r := by
  subst h0 h1; rfl

theorem key_lt (g : Fin 2) (d : Fin 128) : (g : Nat) * 256 + d < 512 := by omega

theorem tag_lt (g : Fin 2) (d : Fin 128) : (g : Nat) * 256 + (128 + d) < 512 := by omega

/-! ## The five results -/

variable (m' : (ℓ : Loc Cert.Reference6Ideal.nD Cert.Reference6Ideal.τ Cert.Reference6Ideal.sig) → Buf (Elt Ideal) ℓ)
    (h0 : m' ((c.tc : Thread Cert.Reference6Ideal.nD Cert.Reference6Ideal.τ).loc Cert.Reference6Ideal.main_arg0) = m (c, main_arg0))
    (h1 : m' ((c.tc : Thread Cert.Reference6Ideal.nD Cert.Reference6Ideal.τ).loc Cert.Reference6Ideal.main_arg1) = m (c, main_arg1))
    (h2 : m' ((c.tc : Thread Cert.Reference6Ideal.nD Cert.Reference6Ideal.τ).loc Cert.Reference6Ideal.main_arg2) = m (c, main_arg2))
    (h3 : m' ((c.tc : Thread Cert.Reference6Ideal.nD Cert.Reference6Ideal.τ).loc Cert.Reference6Ideal.main_arg3) = m (c, main_arg3))

include h0 h1 h2 h3

/-- The queries. -/
theorem result0 : (dats m 0 c).arrAt 4 cfg0.N = Cert.Reference6Ideal.Nsa.queries m' c := by
  refine (dats m 0 c).arrAt_eq_of_covers 4 _ (by decide +kernel) fun t hf y => ?_
  blk_simp
  rw [after0_4]
  obtain ⟨z, n, r, rfl⟩ : ∃ (z : Fin 1) (n : Fin 1024) (r : Fin 512), y = ix3 z n r := ⟨y 0, y 1, y 2, eq_ix3 y⟩
  obtain rfl : z = 0 := Subsingleton.elim _ _
  have hp : (win0_4.blk t).view.emb (ix3 0 n r) = ix3 (batch t) n (token t r) := by
    blk_ext [(places t).2.2.2.2.2.2.1]
  rw [hp]
  obtain ⟨g, d, rfl⟩ : ∃ (g : Fin 8) (d : Fin 128), n = ⟨g * 128 + d, by omega⟩ :=
    ⟨⟨n / 128, by omega⟩, ⟨n % 128, by omega⟩, Fin.ext (show (n : Nat) = n / 128 * 128 + n % 128 by omega)⟩
  refine (block_queries _ _ _ _ _ g d r).trans ((congrArg (fun q : EReal => q * factor) (turned_block m c t r _ _ d)).trans ?_)
  refine Eq.symm ((Cert.Reference6Ideal.Nsa.queries_apply m' c (batch t) g d (token t r)).trans ?_)
  exact congrArg (fun q : EReal => q * factor) (rotated_congr h0 h1 h2 h3 _ _ _ _ _).symm

/-- The selected keys, each beside the one-hot of its block. -/
theorem result1 : (dats m 0 c).arrAt 5 cfg0.N = Cert.Reference6Ideal.Nsa.selKeys m' c := by
  refine (dats m 0 c).arrAt_eq_of_covers 5 _ (by decide +kernel) fun t hf y => ?_
  blk_simp
  rw [after0_5]
  obtain ⟨z, r, n, rfl⟩ : ∃ (z : Fin 1) (r : Fin 512) (n : Fin 512), y = ix3 z r n := ⟨y 0, y 1, y 2, eq_ix3 y⟩
  obtain rfl : z = 0 := Subsingleton.elim _ _
  have hp : (win0_5.blk t).view.emb (ix3 0 r n) = ix3 (batch t) (token t r) n := by
    blk_ext [(places t).2.2.2.2.2.2.2.1]
  rw [hp]
  by_cases hn : (n : Nat) % 256 < 128
  · obtain ⟨g, d, rfl⟩ : ∃ (g : Fin 2) (d : Fin 128), n = ⟨g * 256 + d, key_lt g d⟩ :=
      ⟨⟨n / 256, by omega⟩, ⟨n % 256, hn⟩, Fin.ext (show (n : Nat) = n / 256 * 256 + n % 256 by omega)⟩
    refine (block_selKeys _ _ _ _ _ g d r).trans ((turned_block m c t r _ _ d).trans ?_)
    refine Eq.symm ((Cert.Reference6Ideal.Nsa.selKeys_apply m' c (batch t) (token t r) g d).trans ?_)
    exact (rotated_congr h0 h1 h2 h3 _ _ _ _ _).symm
  · obtain ⟨g, d, rfl⟩ : ∃ (g : Fin 2) (d : Fin 128), n = ⟨g * 256 + (128 + d), tag_lt g d⟩ :=
      ⟨⟨n / 256, by omega⟩, ⟨n % 256 - 128, by omega⟩, Fin.ext (show (n : Nat) = n / 256 * 256 + (128 + (n % 256 - 128)) by omega)⟩
    refine (block_selTags _ _ _ _ _ g d r).trans ((tag_eq ⟨_, (places t).2.1⟩ r d).trans ?_)
    exact (Cert.Reference6Ideal.Nsa.selKeys_apply_tag m' c (batch t) (token t r) g d).symm

/-- The selected values in tiles. -/
theorem result2 : (dats m 0 c).arrAt 6 cfg0.N = Cert.Reference6Ideal.Nsa.selVals m' c := by
  refine (dats m 0 c).arrAt_eq_of_covers 6 _ (by decide +kernel) fun t hf y => ?_
  blk_simp
  rw [after0_6]
  obtain ⟨z, g, q, r, k, rfl⟩ : ∃ (z : Fin 1) (g : Fin 2) (q : Fin 1) (r : Fin 144) (k : Fin 512), y = ix5 z g q r k :=
    ⟨y 0, y 1, y 2, y 3, y 4, eq_ix5 y⟩
  obtain rfl : z = 0 := Subsingleton.elim _ _
  obtain rfl : q = 0 := Subsingleton.elim _ _
  have hp : (win0_6.blk t).view.emb (ix5 0 g 0 r k) = ix5 (batch t) g ⟨(grid0.coords t 1).val, (places t).2.1⟩ r k := by
    blk_ext [(places t).2.2.2.2.2.2.2.2.1]
  rw [hp]
  refine (block_selVals _ _ _ _ _ g r k).trans ((entry_block m c t k _ _ r).trans ?_)
  refine Eq.symm ((Cert.Reference6Ideal.Nsa.selVals_apply m' c (batch t) g _ r k).trans ?_)
  exact (tileEntry_congr h0 h1 _ _ _ _ _).symm

/-- The window keys. -/
theorem result3 : (dats m 0 c).arrAt 7 cfg0.N = Cert.Reference6Ideal.Nsa.winKeys m' c := by
  refine (dats m 0 c).arrAt_eq_of_covers 7 _ (by decide +kernel) fun t hf y => ?_
  blk_simp
  rw [after0_7]
  obtain ⟨z, r, n, rfl⟩ : ∃ (z : Fin 1) (r : Fin 512) (n : Fin 256), y = ix3 z r n := ⟨y 0, y 1, y 2, eq_ix3 y⟩
  obtain rfl : z = 0 := Subsingleton.elim _ _
  have hp : (win0_7.blk t).view.emb (ix3 0 r n) = ix3 (batch t) (token t r) n := by
    blk_ext [(places t).2.2.2.2.2.2.2.2.2.1]
  rw [hp]
  obtain ⟨g, d, rfl⟩ : ∃ (g : Fin 2) (d : Fin 128), n = ⟨g * 128 + d, by omega⟩ :=
    ⟨⟨n / 128, by omega⟩, ⟨n % 128, by omega⟩, Fin.ext (show (n : Nat) = n / 128 * 128 + n % 128 by omega)⟩
  refine (block_winKeys _ _ _ _ _ g d r).trans ((turned_block m c t r _ _ d).trans ?_)
  refine Eq.symm ((Cert.Reference6Ideal.Nsa.winKeys_apply m' c (batch t) (token t r) g d).trans ?_)
  exact (rotated_congr h0 h1 h2 h3 _ _ _ _ _).symm

/-- The window values in tiles. -/
theorem result4 : (dats m 0 c).arrAt 8 cfg0.N = Cert.Reference6Ideal.Nsa.winVals m' c := by
  refine (dats m 0 c).arrAt_eq_of_covers 8 _ (by decide +kernel) fun t hf y => ?_
  blk_simp
  rw [after0_8]
  obtain ⟨z, g, q, r, k, rfl⟩ : ∃ (z : Fin 1) (g : Fin 2) (q : Fin 2) (r : Fin 144) (k : Fin 256), y = ix5 z g q r k :=
    ⟨y 0, y 1, y 2, y 3, y 4, eq_ix5 y⟩
  obtain rfl : z = 0 := Subsingleton.elim _ _
  have hp : (win0_8.blk t).view.emb (ix5 0 g q r k) = ix5 (batch t) g ⟨(grid0.coords t 1).val * 2 + q, by have := (places t).2.1; omega⟩ r k := by
    blk_ext [(places t).2.2.2.2.2.2.2.2.2.2]
  rw [hp]
  refine (block_winVals _ _ _ _ _ g q r k).trans ((entry_block m c t _ _ _ r).trans ?_)
  refine Eq.symm ((Cert.Reference6Ideal.Nsa.winVals_apply m' c (batch t) g _ r k).trans ?_)
  refine Eq.trans ?_ (tileEntry_congr h0 h1 _ _ _ _ _).symm
  exact congrArg (fun s => tileEntry _ _ (batch t) s _ _ r) (Fin.ext
    (show ((grid0.coords t 1).val * 2 + (q : Nat)) * 256 + k = (grid0.coords t 1).val * 512 + (q * 256 + k) by omega))

end Cert.Kernel6Ideal.Nsa
-- ==== Proof.lean ====
module

public import proofs.«01_k».proof.Defs
public import proofs.«01_k».proof.Proof.Attn.KernelRun.Frame
public import proofs.«01_k».proof.Proof.Attn.KernelIdealRun.Value
public import proofs.«01_k».proof.Proof.Attn.Result
public import proofs.«01_k».proof.Proof.Gen.ReferenceIdeal.Run
public import proofs.«01_k».proof.Proof.Gen.Kernel2.Frame
public import proofs.«01_k».proof.Proof.Proj.Result
public import proofs.«01_k».proof.Proof.Gen.Kernel3.Frame
public import proofs.«01_k».proof.Proof.Down.Result
public import proofs.«01_k».proof.Proof.Gen.Kernel4.Frame
public import proofs.«01_k».proof.Proof.Merge.Result
public import proofs.«01_k».proof.Proof.Gen.Kernel5.Frame
public import proofs.«01_k».proof.Proof.Up.Result
public import proofs.«01_k».proof.Proof.Gen.Kernel6.Frame
public import proofs.«01_k».proof.Proof.Nsa.Result
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- On arguments that agree the kernel and the reference end with the same two results. -/
theorem equal_results : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h0, h1, h2, h3, h4, h5, h6⟩ := hargs c
  exact ⟨(h c).1.trans (Cert.KernelIdeal.Attn.first_result m c m' h0 h1 h2 h3 h6).symm,
    (h c).2.1.trans (Cert.KernelIdeal.Attn.second_result m c m' h0 h4 h5 h6).symm, (h c).2.2⟩

/-- The reference of the projection ends with its arguments unchanged. -/
theorem frame_reference2 : Cert.quiescent_Reference2Ideal (hReference2Ideal := Cert.Reference2Ideal.Gen.facts) := by
  intro m ρ _
  exact (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- On arguments that agree the projection and its reference end with the same results. -/
theorem equal_results2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 2 Cert.Kernel2Ideal.cfg0.N, fun c => (Cert.Kernel2Ideal.Gen.dats m 0 c).arrAt 3 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨h0, h1⟩ := hargs c
  exact ⟨(h c).1.trans (Cert.Kernel2Ideal.Proj.first_result m c m' h0 h1).symm,
    (h c).2.1.trans (Cert.Kernel2Ideal.Proj.second_result m c m' h0 h1).symm,
    (h c).2.2⟩

/-- The reference of the second feed-forward product ends with its arguments unchanged. -/
theorem frame_reference3 : Cert.quiescent_Reference3Ideal (hReference3Ideal := Cert.Reference3Ideal.Gen.facts) := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- On arguments that agree the second feed-forward product and its reference end with the same results. -/
theorem equal_results3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 5 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨h0, h1, h2, h3, h4⟩ := hargs c
  exact ⟨(h c).1.trans (Cert.Kernel3Ideal.Down.result m c m' h0 h1 h2 h3 h4).symm, (h c).2⟩

/-- The reference of the merge ends with its arguments unchanged. -/
theorem frame_reference4 : Cert.quiescent_Reference4Ideal (hReference4Ideal := Cert.Reference4Ideal.Gen.facts) := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- On arguments that agree the merge and its reference end with the same results. -/
theorem equal_results4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 12 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨h0, h1, h2, h3, h4, h5, h6, h7, h8, h9, h10⟩ := hargs c
  exact ⟨(h c).1.trans (Cert.Kernel4Ideal.Merge.result m c m' h0 h1 h2 h3 h4 h5 h6 h7 h8 h9 h10).symm, (h c).2⟩

/-- The reference of the first feed-forward product ends with its arguments unchanged. -/
theorem frame_reference5 : Cert.quiescent_Reference5Ideal (hReference5Ideal := Cert.Reference5Ideal.Gen.facts) := by
  intro m ρ _
  exact (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- On arguments that agree the first feed-forward product and its reference end with the same results. -/
theorem equal_results5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 8 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  obtain ⟨h0, h1, h2, h3⟩ := hargs c
  exact ⟨(h c).1.trans (Cert.Kernel5Ideal.Up.result m c m' h0 h1 h2 h3).symm, (h c).2⟩

/-- The reference of the projection to queries, keys and values ends with its arguments unchanged. -/
theorem frame_reference6 : Cert.quiescent_Reference6Ideal (hReference6Ideal := Cert.Reference6Ideal.Gen.facts) := by
  intro m ρ _
  exact (θ_run Cert.Reference6Ideal.defs _ _).mono
    (fun r h => ⟨fun c => (h c).2.2.2.2.2, Idealize.ShloMosaic.sem_eq_zero_of_no_sems (by decide) r.2⟩)
    (Cert.Reference6Ideal.Value.run (F := Ideal) m ρ)

/-- On arguments that agree the projection to queries, keys and values and its reference end with the same results. -/
theorem equal_results6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N, fun c => (Cert.Kernel6Ideal.Gen.dats m 0 c).arrAt 8 Cert.Kernel6Ideal.cfg0.N,
    Cert.Kernel6Ideal.Value.run_blocks m g, ?_⟩
  refine (θ_run Cert.Reference6Ideal.defs _ _).mono (fun r h c => ?_) (Cert.Reference6Ideal.Value.run (F := Ideal) m' g')
  obtain ⟨h0, h1, h2, h3⟩ := hargs c
  exact ⟨(h c).1.trans (Cert.Kernel6Ideal.Nsa.result0 m c m' h0 h1 h2 h3).symm,
    (h c).2.1.trans (Cert.Kernel6Ideal.Nsa.result1 m c m' h0 h1 h2 h3).symm,
    (h c).2.2.1.trans (Cert.Kernel6Ideal.Nsa.result2 m c m' h0 h1 h2 h3).symm,
    (h c).2.2.2.1.trans (Cert.Kernel6Ideal.Nsa.result3 m c m' h0 h1 h2 h3).symm,
    (h c).2.2.2.2.1.trans (Cert.Kernel6Ideal.Nsa.result4 m c m' h0 h1 h2 h3).symm,
    (h c).2.2.2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  trivial, equal_results, trivial, equal_results2, trivial, equal_results3, trivial, equal_results4, trivial, equal_results5, trivial, equal_results6⟩

end Cert.Proof

end
